-- ==== Defs.lean ====
def Pre_Input (m : (ℓ : Loc Cert.Input.nD Cert.Input.τ Cert.Input.sig) → Buf (Elt Bits) ℓ) : Prop :=
  True

def Pre_InputIdeal (m : (ℓ : Loc Cert.InputIdeal.nD Cert.InputIdeal.τ Cert.InputIdeal.sig) → Buf (Elt Ideal) ℓ) : Prop :=
  True

def Pre_InputReferenceIdeal (m : (ℓ : Loc Cert.InputReferenceIdeal.nD Cert.InputReferenceIdeal.τ Cert.InputReferenceIdeal.sig) → Buf (Elt Ideal) ℓ) : Prop :=
  True

def Pre_Forward (m : (ℓ : Loc Cert.Forward.nD Cert.Forward.τ Cert.Forward.sig) → Buf (Elt Bits) ℓ) : Prop :=
  True

def Pre_ForwardIdeal (m : (ℓ : Loc Cert.ForwardIdeal.nD Cert.ForwardIdeal.τ Cert.ForwardIdeal.sig) → Buf (Elt Ideal) ℓ) : Prop :=
  True

def Pre_ForwardIdeal_columns_finite [hPre_columns_finite : Cert.Pre_columns_finite.Facts] (m : (ℓ : Loc Cert.ForwardIdeal.nD Cert.ForwardIdeal.τ Cert.ForwardIdeal.sig) → Buf (Elt Ideal) ℓ) : Prop :=
  ∀ c : Dev Cert.ForwardIdeal.nD,
    (Cert.Pre_columns_finite.fn (F := Ideal) (m ((c.tc : Thread Cert.ForwardIdeal.nD Cert.ForwardIdeal.τ).loc Cert.ForwardIdeal.main_arg0)) (m ((c.tc : Thread Cert.ForwardIdeal.nD Cert.ForwardIdeal.τ).loc Cert.ForwardIdeal.main_arg1)) (m ((c.tc : Thread Cert.ForwardIdeal.nD Cert.ForwardIdeal.τ).loc Cert.ForwardIdeal.main_arg2)) (m ((c.tc : Thread Cert.ForwardIdeal.nD Cert.ForwardIdeal.τ).loc Cert.ForwardIdeal.main_arg3)) (m ((c.tc : Thread Cert.ForwardIdeal.nD Cert.ForwardIdeal.τ).loc Cert.ForwardIdeal.main_arg4)) (m ((c.tc : Thread Cert.ForwardIdeal.nD Cert.ForwardIdeal.τ).loc Cert.ForwardIdeal.main_arg5)) (m ((c.tc : Thread Cert.ForwardIdeal.nD Cert.ForwardIdeal.τ).loc Cert.ForwardIdeal.main_arg6)) (m ((c.tc : Thread Cert.ForwardIdeal.nD Cert.ForwardIdeal.τ).loc Cert.ForwardIdeal.main_arg7)) (m ((c.tc : Thread Cert.ForwardIdeal.nD Cert.ForwardIdeal.τ).loc Cert.ForwardIdeal.main_arg8)) (m ((c.tc : Thread Cert.ForwardIdeal.nD Cert.ForwardIdeal.τ).loc Cert.ForwardIdeal.main_arg9)) (m ((c.tc : Thread Cert.ForwardIdeal.nD Cert.ForwardIdeal.τ).loc Cert.ForwardIdeal.main_arg10)) (m ((c.tc : Thread Cert.ForwardIdeal.nD Cert.ForwardIdeal.τ).loc Cert.ForwardIdeal.main_arg11)) (m ((c.tc : Thread Cert.ForwardIdeal.nD Cert.ForwardIdeal.τ).loc Cert.ForwardIdeal.main_arg12)) (m ((c.tc : Thread Cert.ForwardIdeal.nD Cert.ForwardIdeal.τ).loc Cert.ForwardIdeal.main_arg13)) (m ((c.tc : Thread Cert.ForwardIdeal.nD Cert.ForwardIdeal.τ).loc Cert.ForwardIdeal.main_arg14))).1 = (fun _ => 1#1)
    ∧ (Cert.Pre_columns_finite.fn (F := Ideal) (m ((c.tc : Thread Cert.ForwardIdeal.nD Cert.ForwardIdeal.τ).loc Cert.ForwardIdeal.main_arg0)) (m ((c.tc : Thread Cert.ForwardIdeal.nD Cert.ForwardIdeal.τ).loc Cert.ForwardIdeal.main_arg1)) (m ((c.tc : Thread Cert.ForwardIdeal.nD Cert.ForwardIdeal.τ).loc Cert.ForwardIdeal.main_arg2)) (m ((c.tc : Thread Cert.ForwardIdeal.nD Cert.ForwardIdeal.τ).loc Cert.ForwardIdeal.main_arg3)) (m ((c.tc : Thread Cert.ForwardIdeal.nD Cert.ForwardIdeal.τ).loc Cert.ForwardIdeal.main_arg4)) (m ((c.tc : Thread Cert.ForwardIdeal.nD Cert.ForwardIdeal.τ).loc Cert.ForwardIdeal.main_arg5)) (m ((c.tc : Thread Cert.ForwardIdeal.nD Cert.ForwardIdeal.τ).loc Cert.ForwardIdeal.main_arg6)) (m ((c.tc : Thread Cert.ForwardIdeal.nD Cert.ForwardIdeal.τ).loc Cert.ForwardIdeal.main_arg7)) (m ((c.tc : Thread Cert.ForwardIdeal.nD Cert.ForwardIdeal.τ).loc Cert.ForwardIdeal.main_arg8)) (m ((c.tc : Thread Cert.ForwardIdeal.nD Cert.ForwardIdeal.τ).loc Cert.ForwardIdeal.main_arg9)) (m ((c.tc : Thread Cert.ForwardIdeal.nD Cert.ForwardIdeal.τ).loc Cert.ForwardIdeal.main_arg10)) (m ((c.tc : Thread Cert.ForwardIdeal.nD Cert.ForwardIdeal.τ).loc Cert.ForwardIdeal.main_arg11)) (m ((c.tc : Thread Cert.ForwardIdeal.nD Cert.ForwardIdeal.τ).loc Cert.ForwardIdeal.main_arg12)) (m ((c.tc : Thread Cert.ForwardIdeal.nD Cert.ForwardIdeal.τ).loc Cert.ForwardIdeal.main_arg13)) (m ((c.tc : Thread Cert.ForwardIdeal.nD Cert.ForwardIdeal.τ).loc Cert.ForwardIdeal.main_arg14))).2 = (fun _ => 1#1)

def Pre_ForwardReferenceIdeal (m : (ℓ : Loc Cert.ForwardReferenceIdeal.nD Cert.ForwardReferenceIdeal.τ Cert.ForwardReferenceIdeal.sig) → Buf (Elt Ideal) ℓ) : Prop :=
  True

def Pre_ForwardReferenceIdeal_columns_finite [hPre_columns_finite : Cert.Pre_columns_finite.Facts] (m : (ℓ : Loc Cert.ForwardReferenceIdeal.nD Cert.ForwardReferenceIdeal.τ Cert.ForwardReferenceIdeal.sig) → Buf (Elt Ideal) ℓ) : Prop :=
  ∀ c : Dev Cert.ForwardReferenceIdeal.nD,
    (Cert.Pre_columns_finite.fn (F := Ideal) (m ((c.tc : Thread Cert.ForwardReferenceIdeal.nD Cert.ForwardReferenceIdeal.τ).loc Cert.ForwardReferenceIdeal.main_arg0)) (m ((c.tc : Thread Cert.ForwardReferenceIdeal.nD Cert.ForwardReferenceIdeal.τ).loc Cert.ForwardReferenceIdeal.main_arg1)) (m ((c.tc : Thread Cert.ForwardReferenceIdeal.nD Cert.ForwardReferenceIdeal.τ).loc Cert.ForwardReferenceIdeal.main_arg2)) (m ((c.tc : Thread Cert.ForwardReferenceIdeal.nD Cert.ForwardReferenceIdeal.τ).loc Cert.ForwardReferenceIdeal.main_arg3)) (m ((c.tc : Thread Cert.ForwardReferenceIdeal.nD Cert.ForwardReferenceIdeal.τ).loc Cert.ForwardReferenceIdeal.main_arg4)) (m ((c.tc : Thread Cert.ForwardReferenceIdeal.nD Cert.ForwardReferenceIdeal.τ).loc Cert.ForwardReferenceIdeal.main_arg5)) (m ((c.tc : Thread Cert.ForwardReferenceIdeal.nD Cert.ForwardReferenceIdeal.τ).loc Cert.ForwardReferenceIdeal.main_arg6)) (m ((c.tc : Thread Cert.ForwardReferenceIdeal.nD Cert.ForwardReferenceIdeal.τ).loc Cert.ForwardReferenceIdeal.main_arg7)) (m ((c.tc : Thread Cert.ForwardReferenceIdeal.nD Cert.ForwardReferenceIdeal.τ).loc Cert.ForwardReferenceIdeal.main_arg8)) (m ((c.tc : Thread Cert.ForwardReferenceIdeal.nD Cert.ForwardReferenceIdeal.τ).loc Cert.ForwardReferenceIdeal.main_arg9)) (m ((c.tc : Thread Cert.ForwardReferenceIdeal.nD Cert.ForwardReferenceIdeal.τ).loc Cert.ForwardReferenceIdeal.main_arg10)) (m ((c.tc : Thread Cert.ForwardReferenceIdeal.nD Cert.ForwardReferenceIdeal.τ).loc Cert.ForwardReferenceIdeal.main_arg11)) (m ((c.tc : Thread Cert.ForwardReferenceIdeal.nD Cert.ForwardReferenceIdeal.τ).loc Cert.ForwardReferenceIdeal.main_arg12)) (m ((c.tc : Thread Cert.ForwardReferenceIdeal.nD Cert.ForwardReferenceIdeal.τ).loc Cert.ForwardReferenceIdeal.main_arg13)) (m ((c.tc : Thread Cert.ForwardReferenceIdeal.nD Cert.ForwardReferenceIdeal.τ).loc Cert.ForwardReferenceIdeal.main_arg14))).1 = (fun _ => 1#1)
    ∧ (Cert.Pre_columns_finite.fn (F := Ideal) (m ((c.tc : Thread Cert.ForwardReferenceIdeal.nD Cert.ForwardReferenceIdeal.τ).loc Cert.ForwardReferenceIdeal.main_arg0)) (m ((c.tc : Thread Cert.ForwardReferenceIdeal.nD Cert.ForwardReferenceIdeal.τ).loc Cert.ForwardReferenceIdeal.main_arg1)) (m ((c.tc : Thread Cert.ForwardReferenceIdeal.nD Cert.ForwardReferenceIdeal.τ).loc Cert.ForwardReferenceIdeal.main_arg2)) (m ((c.tc : Thread Cert.ForwardReferenceIdeal.nD Cert.ForwardReferenceIdeal.τ).loc Cert.ForwardReferenceIdeal.main_arg3)) (m ((c.tc : Thread Cert.ForwardReferenceIdeal.nD Cert.ForwardReferenceIdeal.τ).loc Cert.ForwardReferenceIdeal.main_arg4)) (m ((c.tc : Thread Cert.ForwardReferenceIdeal.nD Cert.ForwardReferenceIdeal.τ).loc Cert.ForwardReferenceIdeal.main_arg5)) (m ((c.tc : Thread Cert.ForwardReferenceIdeal.nD Cert.ForwardReferenceIdeal.τ).loc Cert.ForwardReferenceIdeal.main_arg6)) (m ((c.tc : Thread Cert.ForwardReferenceIdeal.nD Cert.ForwardReferenceIdeal.τ).loc Cert.ForwardReferenceIdeal.main_arg7)) (m ((c.tc : Thread Cert.ForwardReferenceIdeal.nD Cert.ForwardReferenceIdeal.τ).loc Cert.ForwardReferenceIdeal.main_arg8)) (m ((c.tc : Thread Cert.ForwardReferenceIdeal.nD Cert.ForwardReferenceIdeal.τ).loc Cert.ForwardReferenceIdeal.main_arg9)) (m ((c.tc : Thread Cert.ForwardReferenceIdeal.nD Cert.ForwardReferenceIdeal.τ).loc Cert.ForwardReferenceIdeal.main_arg10)) (m ((c.tc : Thread Cert.ForwardReferenceIdeal.nD Cert.ForwardReferenceIdeal.τ).loc Cert.ForwardReferenceIdeal.main_arg11)) (m ((c.tc : Thread Cert.ForwardReferenceIdeal.nD Cert.ForwardReferenceIdeal.τ).loc Cert.ForwardReferenceIdeal.main_arg12)) (m ((c.tc : Thread Cert.ForwardReferenceIdeal.nD Cert.ForwardReferenceIdeal.τ).loc Cert.ForwardReferenceIdeal.main_arg13)) (m ((c.tc : Thread Cert.ForwardReferenceIdeal.nD Cert.ForwardReferenceIdeal.τ).loc Cert.ForwardReferenceIdeal.main_arg14))).2 = (fun _ => 1#1)

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_NormBackward (m : (ℓ : Loc Cert.NormBackward.nD Cert.NormBackward.τ Cert.NormBackward.sig) → Buf (Elt Bits) ℓ) : Prop :=
  True

def Pre_NormBackwardIdeal (m : (ℓ : Loc Cert.NormBackwardIdeal.nD Cert.NormBackwardIdeal.τ Cert.NormBackwardIdeal.sig) → Buf (Elt Ideal) ℓ) : Prop :=
  True

def Pre_NormBackwardIdeal_gradient_finite [hPre_gradient_finite : Cert.Pre_gradient_finite.Facts] (m : (ℓ : Loc Cert.NormBackwardIdeal.nD Cert.NormBackwardIdeal.τ Cert.NormBackwardIdeal.sig) → Buf (Elt Ideal) ℓ) : Prop :=
  ∀ c : Dev Cert.NormBackwardIdeal.nD,
    (Cert.Pre_gradient_finite.fn (F := Ideal) (m ((c.tc : Thread Cert.NormBackwardIdeal.nD Cert.NormBackwardIdeal.τ).loc Cert.NormBackwardIdeal.main_arg0)) (m ((c.tc : Thread Cert.NormBackwardIdeal.nD Cert.NormBackwardIdeal.τ).loc Cert.NormBackwardIdeal.main_arg1)) (m ((c.tc : Thread Cert.NormBackwardIdeal.nD Cert.NormBackwardIdeal.τ).loc Cert.NormBackwardIdeal.main_arg2))).1 = (fun _ => 1#1)
    ∧ (Cert.Pre_gradient_finite.fn (F := Ideal) (m ((c.tc : Thread Cert.NormBackwardIdeal.nD Cert.NormBackwardIdeal.τ).loc Cert.NormBackwardIdeal.main_arg0)) (m ((c.tc : Thread Cert.NormBackwardIdeal.nD Cert.NormBackwardIdeal.τ).loc Cert.NormBackwardIdeal.main_arg1)) (m ((c.tc : Thread Cert.NormBackwardIdeal.nD Cert.NormBackwardIdeal.τ).loc Cert.NormBackwardIdeal.main_arg2))).2 = (fun _ => 1#1)

def Pre_NormBackwardReferenceIdeal (m : (ℓ : Loc Cert.NormBackwardReferenceIdeal.nD Cert.NormBackwardReferenceIdeal.τ Cert.NormBackwardReferenceIdeal.sig) → Buf (Elt Ideal) ℓ) : Prop :=
  True

def Pre_NormBackwardReferenceIdeal_gradient_finite [hPre_gradient_finite : Cert.Pre_gradient_finite.Facts] (m : (ℓ : Loc Cert.NormBackwardReferenceIdeal.nD Cert.NormBackwardReferenceIdeal.τ Cert.NormBackwardReferenceIdeal.sig) → Buf (Elt Ideal) ℓ) : Prop :=
  ∀ c : Dev Cert.NormBackwardReferenceIdeal.nD,
    (Cert.Pre_gradient_finite.fn (F := Ideal) (m ((c.tc : Thread Cert.NormBackwardReferenceIdeal.nD Cert.NormBackwardReferenceIdeal.τ).loc Cert.NormBackwardReferenceIdeal.main_arg0)) (m ((c.tc : Thread Cert.NormBackwardReferenceIdeal.nD Cert.NormBackwardReferenceIdeal.τ).loc Cert.NormBackwardReferenceIdeal.main_arg1)) (m ((c.tc : Thread Cert.NormBackwardReferenceIdeal.nD Cert.NormBackwardReferenceIdeal.τ).loc Cert.NormBackwardReferenceIdeal.main_arg2))).1 = (fun _ => 1#1)
    ∧ (Cert.Pre_gradient_finite.fn (F := Ideal) (m ((c.tc : Thread Cert.NormBackwardReferenceIdeal.nD Cert.NormBackwardReferenceIdeal.τ).loc Cert.NormBackwardReferenceIdeal.main_arg0)) (m ((c.tc : Thread Cert.NormBackwardReferenceIdeal.nD Cert.NormBackwardReferenceIdeal.τ).loc Cert.NormBackwardReferenceIdeal.main_arg1)) (m ((c.tc : Thread Cert.NormBackwardReferenceIdeal.nD Cert.NormBackwardReferenceIdeal.τ).loc Cert.NormBackwardReferenceIdeal.main_arg2))).2 = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamReferenceIdeal (m : (ℓ : Loc Cert.AdamReferenceIdeal.nD Cert.AdamReferenceIdeal.τ Cert.AdamReferenceIdeal.sig) → Buf (Elt Ideal) ℓ) : Prop :=
  True

def Pre_AdamTwo (m : (ℓ : Loc Cert.AdamTwo.nD Cert.AdamTwo.τ Cert.AdamTwo.sig) → Buf (Elt Bits) ℓ) : Prop :=
  True

def Pre_AdamTwoIdeal (m : (ℓ : Loc Cert.AdamTwoIdeal.nD Cert.AdamTwoIdeal.τ Cert.AdamTwoIdeal.sig) → Buf (Elt Ideal) ℓ) : Prop :=
  True

def Pre_AdamTwoReferenceIdeal (m : (ℓ : Loc Cert.AdamTwoReferenceIdeal.nD Cert.AdamTwoReferenceIdeal.τ Cert.AdamTwoReferenceIdeal.sig) → Buf (Elt Ideal) ℓ) : Prop :=
  True

def Pre_AdamThree (m : (ℓ : Loc Cert.AdamThree.nD Cert.AdamThree.τ Cert.AdamThree.sig) → Buf (Elt Bits) ℓ) : Prop :=
  True

def Pre_AdamThreeIdeal (m : (ℓ : Loc Cert.AdamThreeIdeal.nD Cert.AdamThreeIdeal.τ Cert.AdamThreeIdeal.sig) → Buf (Elt Ideal) ℓ) : Prop :=
  True

def Pre_AdamThreeReferenceIdeal (m : (ℓ : Loc Cert.AdamThreeReferenceIdeal.nD Cert.AdamThreeReferenceIdeal.τ Cert.AdamThreeReferenceIdeal.sig) → Buf (Elt Ideal) ℓ) : Prop :=
  True

def Pre_AdamFour (m : (ℓ : Loc Cert.AdamFour.nD Cert.AdamFour.τ Cert.AdamFour.sig) → Buf (Elt Bits) ℓ) : Prop :=
  True

def Pre_AdamFourIdeal (m : (ℓ : Loc Cert.AdamFourIdeal.nD Cert.AdamFourIdeal.τ Cert.AdamFourIdeal.sig) → Buf (Elt Ideal) ℓ) : Prop :=
  True

def Pre_AdamFourReferenceIdeal (m : (ℓ : Loc Cert.AdamFourReferenceIdeal.nD Cert.AdamFourReferenceIdeal.τ Cert.AdamFourReferenceIdeal.sig) → Buf (Elt Ideal) ℓ) : Prop :=
  True

def quiescent_Input [hInput : Cert.Input.Facts] : Prop :=
  ∀ (m : (ℓ : Loc Cert.Input.nD Cert.Input.τ Cert.Input.sig) → Buf (Elt Bits) ℓ) (g : Dev Cert.Input.nD → PrngReg), Pre_Input m →
    θ_run (Cert.Input.defs (F := Bits)) (onTc (τ := Cert.Input.τ) (Cert.Input.main (F := Bits))) ⟨m, fun _ => 0, g⟩ (fun r => (∀ c : Dev Cert.Input.nD,
      r.2.mem ((c.tc : Thread Cert.Input.nD Cert.Input.τ).loc Cert.Input.main_arg0) = m ((c.tc : Thread Cert.Input.nD Cert.Input.τ).loc Cert.Input.main_arg0)
      ∧ r.2.mem ((c.tc : Thread Cert.Input.nD Cert.Input.τ).loc Cert.Input.main_arg1) = m ((c.tc : Thread Cert.Input.nD Cert.Input.τ).loc Cert.Input.main_arg1)
      ∧ r.2.mem ((c.tc : Thread Cert.Input.nD Cert.Input.τ).loc Cert.Input.main_arg2) = m ((c.tc : Thread Cert.Input.nD Cert.Input.τ).loc Cert.Input.main_arg2)
      ∧ r.2.mem ((c.tc : Thread Cert.Input.nD Cert.Input.τ).loc Cert.Input.main_arg3) = m ((c.tc : Thread Cert.Input.nD Cert.Input.τ).loc Cert.Input.main_arg3))
      ∧ r.2.sem = fun _ => 0)

def quiescent_InputIdeal [hInputIdeal : Cert.InputIdeal.Facts] : Prop :=
  ∀ (m : (ℓ : Loc Cert.InputIdeal.nD Cert.InputIdeal.τ Cert.InputIdeal.sig) → Buf (Elt Ideal) ℓ) (g : Dev Cert.InputIdeal.nD → PrngReg), Pre_InputIdeal m →
    θ_run (Cert.InputIdeal.defs (F := Ideal)) (onTc (τ := Cert.InputIdeal.τ) (Cert.InputIdeal.main (F := Ideal))) ⟨m, fun _ => 0, g⟩ (fun r => (∀ c : Dev Cert.InputIdeal.nD,
      r.2.mem ((c.tc : Thread Cert.InputIdeal.nD Cert.InputIdeal.τ).loc Cert.InputIdeal.main_arg0) = m ((c.tc : Thread Cert.InputIdeal.nD Cert.InputIdeal.τ).loc Cert.InputIdeal.main_arg0)
      ∧ r.2.mem ((c.tc : Thread Cert.InputIdeal.nD Cert.InputIdeal.τ).loc Cert.InputIdeal.main_arg1) = m ((c.tc : Thread Cert.InputIdeal.nD Cert.InputIdeal.τ).loc Cert.InputIdeal.main_arg1)
      ∧ r.2.mem ((c.tc : Thread Cert.InputIdeal.nD Cert.InputIdeal.τ).loc Cert.InputIdeal.main_arg2) = m ((c.tc : Thread Cert.InputIdeal.nD Cert.InputIdeal.τ).loc Cert.InputIdeal.main_arg2)
      ∧ r.2.mem ((c.tc : Thread Cert.InputIdeal.nD Cert.InputIdeal.τ).loc Cert.InputIdeal.main_arg3) = m ((c.tc : Thread Cert.InputIdeal.nD Cert.InputIdeal.τ).loc Cert.InputIdeal.main_arg3))
      ∧ r.2.sem = fun _ => 0)

def quiescent_InputReferenceIdeal [hInputReferenceIdeal : Cert.InputReferenceIdeal.Facts] : Prop :=
  ∀ (m : (ℓ : Loc Cert.InputReferenceIdeal.nD Cert.InputReferenceIdeal.τ Cert.InputReferenceIdeal.sig) → Buf (Elt Ideal) ℓ) (g : Dev Cert.InputReferenceIdeal.nD → PrngReg), Pre_InputReferenceIdeal m →
    θ_run (Cert.InputReferenceIdeal.defs (F := Ideal)) (onTc (τ := Cert.InputReferenceIdeal.τ) (Cert.InputReferenceIdeal.main (F := Ideal))) ⟨m, fun _ => 0, g⟩ (fun r => (∀ c : Dev Cert.InputReferenceIdeal.nD,
      r.2.mem ((c.tc : Thread Cert.InputReferenceIdeal.nD Cert.InputReferenceIdeal.τ).loc Cert.InputReferenceIdeal.main_arg0) = m ((c.tc : Thread Cert.InputReferenceIdeal.nD Cert.InputReferenceIdeal.τ).loc Cert.InputReferenceIdeal.main_arg0)
      ∧ r.2.mem ((c.tc : Thread Cert.InputReferenceIdeal.nD Cert.InputReferenceIdeal.τ).loc Cert.InputReferenceIdeal.main_arg1) = m ((c.tc : Thread Cert.InputReferenceIdeal.nD Cert.InputReferenceIdeal.τ).loc Cert.InputReferenceIdeal.main_arg1)
      ∧ r.2.mem ((c.tc : Thread Cert.InputReferenceIdeal.nD Cert.InputReferenceIdeal.τ).loc Cert.InputReferenceIdeal.main_arg2) = m ((c.tc : Thread Cert.InputReferenceIdeal.nD Cert.InputReferenceIdeal.τ).loc Cert.InputReferenceIdeal.main_arg2)
      ∧ r.2.mem ((c.tc : Thread Cert.InputReferenceIdeal.nD Cert.InputReferenceIdeal.τ).loc Cert.InputReferenceIdeal.main_arg3) = m ((c.tc : Thread Cert.InputReferenceIdeal.nD Cert.InputReferenceIdeal.τ).loc Cert.InputReferenceIdeal.main_arg3))
      ∧ r.2.sem = fun _ => 0)

def quiescent_Forward [hForward : Cert.Forward.Facts] : Prop :=
  ∀ (m : (ℓ : Loc Cert.Forward.nD Cert.Forward.τ Cert.Forward.sig) → Buf (Elt Bits) ℓ) (g : Dev Cert.Forward.nD → PrngReg), Pre_Forward m →
    θ_run (Cert.Forward.defs (F := Bits)) (onTc (τ := Cert.Forward.τ) (Cert.Forward.main (F := Bits))) ⟨m, fun _ => 0, g⟩ (fun r => (∀ c : Dev Cert.Forward.nD,
      r.2.mem ((c.tc : Thread Cert.Forward.nD Cert.Forward.τ).loc Cert.Forward.main_arg0) = m ((c.tc : Thread Cert.Forward.nD Cert.Forward.τ).loc Cert.Forward.main_arg0)
      ∧ r.2.mem ((c.tc : Thread Cert.Forward.nD Cert.Forward.τ).loc Cert.Forward.main_arg1) = m ((c.tc : Thread Cert.Forward.nD Cert.Forward.τ).loc Cert.Forward.main_arg1)
      ∧ r.2.mem ((c.tc : Thread Cert.Forward.nD Cert.Forward.τ).loc Cert.Forward.main_arg2) = m ((c.tc : Thread Cert.Forward.nD Cert.Forward.τ).loc Cert.Forward.main_arg2)
      ∧ r.2.mem ((c.tc : Thread Cert.Forward.nD Cert.Forward.τ).loc Cert.Forward.main_arg3) = m ((c.tc : Thread Cert.Forward.nD Cert.Forward.τ).loc Cert.Forward.main_arg3)
      ∧ r.2.mem ((c.tc : Thread Cert.Forward.nD Cert.Forward.τ).loc Cert.Forward.main_arg4) = m ((c.tc : Thread Cert.Forward.nD Cert.Forward.τ).loc Cert.Forward.main_arg4)
      ∧ r.2.mem ((c.tc : Thread Cert.Forward.nD Cert.Forward.τ).loc Cert.Forward.main_arg5) = m ((c.tc : Thread Cert.Forward.nD Cert.Forward.τ).loc Cert.Forward.main_arg5)
      ∧ r.2.mem ((c.tc : Thread Cert.Forward.nD Cert.Forward.τ).loc Cert.Forward.main_arg6) = m ((c.tc : Thread Cert.Forward.nD Cert.Forward.τ).loc Cert.Forward.main_arg6)
      ∧ r.2.mem ((c.tc : Thread Cert.Forward.nD Cert.Forward.τ).loc Cert.Forward.main_arg7) = m ((c.tc : Thread Cert.Forward.nD Cert.Forward.τ).loc Cert.Forward.main_arg7)
      ∧ r.2.mem ((c.tc : Thread Cert.Forward.nD Cert.Forward.τ).loc Cert.Forward.main_arg8) = m ((c.tc : Thread Cert.Forward.nD Cert.Forward.τ).loc Cert.Forward.main_arg8)
      ∧ r.2.mem ((c.tc : Thread Cert.Forward.nD Cert.Forward.τ).loc Cert.Forward.main_arg9) = m ((c.tc : Thread Cert.Forward.nD Cert.Forward.τ).loc Cert.Forward.main_arg9)
      ∧ r.2.mem ((c.tc : Thread Cert.Forward.nD Cert.Forward.τ).loc Cert.Forward.main_arg10) = m ((c.tc : Thread Cert.Forward.nD Cert.Forward.τ).loc Cert.Forward.main_arg10)
      ∧ r.2.mem ((c.tc : Thread Cert.Forward.nD Cert.Forward.τ).loc Cert.Forward.main_arg11) = m ((c.tc : Thread Cert.Forward.nD Cert.Forward.τ).loc Cert.Forward.main_arg11)
      ∧ r.2.mem ((c.tc : Thread Cert.Forward.nD Cert.Forward.τ).loc Cert.Forward.main_arg12) = m ((c.tc : Thread Cert.Forward.nD Cert.Forward.τ).loc Cert.Forward.main_arg12)
      ∧ r.2.mem ((c.tc : Thread Cert.Forward.nD Cert.Forward.τ).loc Cert.Forward.main_arg13) = m ((c.tc : Thread Cert.Forward.nD Cert.Forward.τ).loc Cert.Forward.main_arg13)
      ∧ r.2.mem ((c.tc : Thread Cert.Forward.nD Cert.Forward.τ).loc Cert.Forward.main_arg14) = m ((c.tc : Thread Cert.Forward.nD Cert.Forward.τ).loc Cert.Forward.main_arg14))
      ∧ r.2.sem = fun _ => 0)

def quiescent_ForwardIdeal [hForwardIdeal : Cert.ForwardIdeal.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
      ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3)
      ∧ r.2.mem ((c.tc : Thread Cert.ForwardIdeal.nD Cert.ForwardIdeal.τ).loc Cert.ForwardIdeal.main_arg4) = m ((c.tc : Thread Cert.ForwardIdeal.nD Cert.ForwardIdeal.τ).loc Cert.ForwardIdeal.main_arg4)
      ∧ r.2.mem ((c.tc : Thread Cert.ForwardIdeal.nD Cert.ForwardIdeal.τ).loc Cert.ForwardIdeal.main_arg5) = m ((c.tc : Thread Cert.ForwardIdeal.nD Cert.ForwardIdeal.τ).loc Cert.ForwardIdeal.main_arg5)
      ∧ r.2.mem ((c.tc : Thread Cert.ForwardIdeal.nD Cert.ForwardIdeal.τ).loc Cert.ForwardIdeal.main_arg6) = m ((c.tc : Thread Cert.ForwardIdeal.nD Cert.ForwardIdeal.τ).loc Cert.ForwardIdeal.main_arg6)
      ∧ r.2.mem ((c.tc : Thread Cert.ForwardIdeal.nD Cert.ForwardIdeal.τ).loc Cert.ForwardIdeal.main_arg7) = m ((c.tc : Thread Cert.ForwardIdeal.nD Cert.ForwardIdeal.τ).loc Cert.ForwardIdeal.main_arg7)
      ∧ r.2.mem ((c.tc : Thread Cert.ForwardIdeal.nD Cert.ForwardIdeal.τ).loc Cert.ForwardIdeal.main_arg8) = m ((c.tc : Thread Cert.ForwardIdeal.nD Cert.ForwardIdeal.τ).loc Cert.ForwardIdeal.main_arg8)
      ∧ r.2.mem ((c.tc : Thread Cert.ForwardIdeal.nD Cert.ForwardIdeal.τ).loc Cert.ForwardIdeal.main_arg9) = m ((c.tc : Thread Cert.ForwardIdeal.nD Cert.ForwardIdeal.τ).loc Cert.ForwardIdeal.main_arg9)
      ∧ r.2.mem ((c.tc : Thread Cert.ForwardIdeal.nD Cert.ForwardIdeal.τ).loc Cert.ForwardIdeal.main_arg10) = m ((c.tc : Thread Cert.ForwardIdeal.nD Cert.ForwardIdeal.τ).loc Cert.ForwardIdeal.main_arg10)
      ∧ r.2.mem ((c.tc : Thread Cert.ForwardIdeal.nD Cert.ForwardIdeal.τ).loc Cert.ForwardIdeal.main_arg11) = m ((c.tc : Thread Cert.ForwardIdeal.nD Cert.ForwardIdeal.τ).loc Cert.ForwardIdeal.main_arg11)
      ∧ r.2.mem ((c.tc : Thread Cert.ForwardIdeal.nD Cert.ForwardIdeal.τ).loc Cert.ForwardIdeal.main_arg12) = m ((c.tc : Thread Cert.ForwardIdeal.nD Cert.ForwardIdeal.τ).loc Cert.ForwardIdeal.main_arg12)
      ∧ r.2.mem ((c.tc : Thread Cert.ForwardIdeal.nD Cert.ForwardIdeal.τ).loc Cert.ForwardIdeal.main_arg13) = m ((c.tc : Thread Cert.ForwardIdeal.nD Cert.ForwardIdeal.τ).loc Cert.ForwardIdeal.main_arg13)
      ∧ r.2.mem ((c.tc : Thread Cert.ForwardIdeal.nD Cert.ForwardIdeal.τ).loc Cert.ForwardIdeal.main_arg14) = m ((c.tc : Thread Cert.ForwardIdeal.nD Cert.ForwardIdeal.τ).loc Cert.ForwardIdeal.main_arg14))
      ∧ r.2.sem = fun _ => 0)

def quiescent_ForwardIdeal_pre_columns_finite [hForwardIdeal : Cert.ForwardIdeal.Facts] [hPre_columns_finite : Cert.Pre_columns_finite.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal_columns_finite m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
      ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3)
      ∧ r.2.mem ((c.tc : Thread Cert.ForwardIdeal.nD Cert.ForwardIdeal.τ).loc Cert.ForwardIdeal.main_arg4) = m ((c.tc : Thread Cert.ForwardIdeal.nD Cert.ForwardIdeal.τ).loc Cert.ForwardIdeal.main_arg4)
      ∧ r.2.mem ((c.tc : Thread Cert.ForwardIdeal.nD Cert.ForwardIdeal.τ).loc Cert.ForwardIdeal.main_arg5) = m ((c.tc : Thread Cert.ForwardIdeal.nD Cert.ForwardIdeal.τ).loc Cert.ForwardIdeal.main_arg5)
      ∧ r.2.mem ((c.tc : Thread Cert.ForwardIdeal.nD Cert.ForwardIdeal.τ).loc Cert.ForwardIdeal.main_arg6) = m ((c.tc : Thread Cert.ForwardIdeal.nD Cert.ForwardIdeal.τ).loc Cert.ForwardIdeal.main_arg6)
      ∧ r.2.mem ((c.tc : Thread Cert.ForwardIdeal.nD Cert.ForwardIdeal.τ).loc Cert.ForwardIdeal.main_arg7) = m ((c.tc : Thread Cert.ForwardIdeal.nD Cert.ForwardIdeal.τ).loc Cert.ForwardIdeal.main_arg7)
      ∧ r.2.mem ((c.tc : Thread Cert.ForwardIdeal.nD Cert.ForwardIdeal.τ).loc Cert.ForwardIdeal.main_arg8) = m ((c.tc : Thread Cert.ForwardIdeal.nD Cert.ForwardIdeal.τ).loc Cert.ForwardIdeal.main_arg8)
      ∧ r.2.mem ((c.tc : Thread Cert.ForwardIdeal.nD Cert.ForwardIdeal.τ).loc Cert.ForwardIdeal.main_arg9) = m ((c.tc : Thread Cert.ForwardIdeal.nD Cert.ForwardIdeal.τ).loc Cert.ForwardIdeal.main_arg9)
      ∧ r.2.mem ((c.tc : Thread Cert.ForwardIdeal.nD Cert.ForwardIdeal.τ).loc Cert.ForwardIdeal.main_arg10) = m ((c.tc : Thread Cert.ForwardIdeal.nD Cert.ForwardIdeal.τ).loc Cert.ForwardIdeal.main_arg10)
      ∧ r.2.mem ((c.tc : Thread Cert.ForwardIdeal.nD Cert.ForwardIdeal.τ).loc Cert.ForwardIdeal.main_arg11) = m ((c.tc : Thread Cert.ForwardIdeal.nD Cert.ForwardIdeal.τ).loc Cert.ForwardIdeal.main_arg11)
      ∧ r.2.mem ((c.tc : Thread Cert.ForwardIdeal.nD Cert.ForwardIdeal.τ).loc Cert.ForwardIdeal.main_arg12) = m ((c.tc : Thread Cert.ForwardIdeal.nD Cert.ForwardIdeal.τ).loc Cert.ForwardIdeal.main_arg12)
      ∧ r.2.mem ((c.tc : Thread Cert.ForwardIdeal.nD Cert.ForwardIdeal.τ).loc Cert.ForwardIdeal.main_arg13) = m ((c.tc : Thread Cert.ForwardIdeal.nD Cert.ForwardIdeal.τ).loc Cert.ForwardIdeal.main_arg13)
      ∧ r.2.mem ((c.tc : Thread Cert.ForwardIdeal.nD Cert.ForwardIdeal.τ).loc Cert.ForwardIdeal.main_arg14) = m ((c.tc : Thread Cert.ForwardIdeal.nD Cert.ForwardIdeal.τ).loc Cert.ForwardIdeal.main_arg14))
      ∧ r.2.sem = fun _ => 0)

def quiescent_ForwardReferenceIdeal [hForwardReferenceIdeal : Cert.ForwardReferenceIdeal.Facts] : Prop :=
  ∀ (m : (ℓ : Loc Cert.ForwardReferenceIdeal.nD Cert.ForwardReferenceIdeal.τ Cert.ForwardReferenceIdeal.sig) → Buf (Elt Ideal) ℓ) (g : Dev Cert.ForwardReferenceIdeal.nD → PrngReg), Pre_ForwardReferenceIdeal m →
    θ_run (Cert.ForwardReferenceIdeal.defs (F := Ideal)) (onTc (τ := Cert.ForwardReferenceIdeal.τ) (Cert.ForwardReferenceIdeal.main (F := Ideal))) ⟨m, fun _ => 0, g⟩ (fun r => (∀ c : Dev Cert.ForwardReferenceIdeal.nD,
      r.2.mem ((c.tc : Thread Cert.ForwardReferenceIdeal.nD Cert.ForwardReferenceIdeal.τ).loc Cert.ForwardReferenceIdeal.main_arg0) = m ((c.tc : Thread Cert.ForwardReferenceIdeal.nD Cert.ForwardReferenceIdeal.τ).loc Cert.ForwardReferenceIdeal.main_arg0)
      ∧ r.2.mem ((c.tc : Thread Cert.ForwardReferenceIdeal.nD Cert.ForwardReferenceIdeal.τ).loc Cert.ForwardReferenceIdeal.main_arg1) = m ((c.tc : Thread Cert.ForwardReferenceIdeal.nD Cert.ForwardReferenceIdeal.τ).loc Cert.ForwardReferenceIdeal.main_arg1)
      ∧ r.2.mem ((c.tc : Thread Cert.ForwardReferenceIdeal.nD Cert.ForwardReferenceIdeal.τ).loc Cert.ForwardReferenceIdeal.main_arg2) = m ((c.tc : Thread Cert.ForwardReferenceIdeal.nD Cert.ForwardReferenceIdeal.τ).loc Cert.ForwardReferenceIdeal.main_arg2)
      ∧ r.2.mem ((c.tc : Thread Cert.ForwardReferenceIdeal.nD Cert.ForwardReferenceIdeal.τ).loc Cert.ForwardReferenceIdeal.main_arg3) = m ((c.tc : Thread Cert.ForwardReferenceIdeal.nD Cert.ForwardReferenceIdeal.τ).loc Cert.ForwardReferenceIdeal.main_arg3)
      ∧ r.2.mem ((c.tc : Thread Cert.ForwardReferenceIdeal.nD Cert.ForwardReferenceIdeal.τ).loc Cert.ForwardReferenceIdeal.main_arg4) = m ((c.tc : Thread Cert.ForwardReferenceIdeal.nD Cert.ForwardReferenceIdeal.τ).loc Cert.ForwardReferenceIdeal.main_arg4)
      ∧ r.2.mem ((c.tc : Thread Cert.ForwardReferenceIdeal.nD Cert.ForwardReferenceIdeal.τ).loc Cert.ForwardReferenceIdeal.main_arg5) = m ((c.tc : Thread Cert.ForwardReferenceIdeal.nD Cert.ForwardReferenceIdeal.τ).loc Cert.ForwardReferenceIdeal.main_arg5)
      ∧ r.2.mem ((c.tc : Thread Cert.ForwardReferenceIdeal.nD Cert.ForwardReferenceIdeal.τ).loc Cert.ForwardReferenceIdeal.main_arg6) = m ((c.tc : Thread Cert.ForwardReferenceIdeal.nD Cert.ForwardReferenceIdeal.τ).loc Cert.ForwardReferenceIdeal.main_arg6)
      ∧ r.2.mem ((c.tc : Thread Cert.ForwardReferenceIdeal.nD Cert.ForwardReferenceIdeal.τ).loc Cert.ForwardReferenceIdeal.main_arg7) = m ((c.tc : Thread Cert.ForwardReferenceIdeal.nD Cert.ForwardReferenceIdeal.τ).loc Cert.ForwardReferenceIdeal.main_arg7)
      ∧ r.2.mem ((c.tc : Thread Cert.ForwardReferenceIdeal.nD Cert.ForwardReferenceIdeal.τ).loc Cert.ForwardReferenceIdeal.main_arg8) = m ((c.tc : Thread Cert.ForwardReferenceIdeal.nD Cert.ForwardReferenceIdeal.τ).loc Cert.ForwardReferenceIdeal.main_arg8)
      ∧ r.2.mem ((c.tc : Thread Cert.ForwardReferenceIdeal.nD Cert.ForwardReferenceIdeal.τ).loc Cert.ForwardReferenceIdeal.main_arg9) = m ((c.tc : Thread Cert.ForwardReferenceIdeal.nD Cert.ForwardReferenceIdeal.τ).loc Cert.ForwardReferenceIdeal.main_arg9)
      ∧ r.2.mem ((c.tc : Thread Cert.ForwardReferenceIdeal.nD Cert.ForwardReferenceIdeal.τ).loc Cert.ForwardReferenceIdeal.main_arg10) = m ((c.tc : Thread Cert.ForwardReferenceIdeal.nD Cert.ForwardReferenceIdeal.τ).loc Cert.ForwardReferenceIdeal.main_arg10)
      ∧ r.2.mem ((c.tc : Thread Cert.ForwardReferenceIdeal.nD Cert.ForwardReferenceIdeal.τ).loc Cert.ForwardReferenceIdeal.main_arg11) = m ((c.tc : Thread Cert.ForwardReferenceIdeal.nD Cert.ForwardReferenceIdeal.τ).loc Cert.ForwardReferenceIdeal.main_arg11)
      ∧ r.2.mem ((c.tc : Thread Cert.ForwardReferenceIdeal.nD Cert.ForwardReferenceIdeal.τ).loc Cert.ForwardReferenceIdeal.main_arg12) = m ((c.tc : Thread Cert.ForwardReferenceIdeal.nD Cert.ForwardReferenceIdeal.τ).loc Cert.ForwardReferenceIdeal.main_arg12)
      ∧ r.2.mem ((c.tc : Thread Cert.ForwardReferenceIdeal.nD Cert.ForwardReferenceIdeal.τ).loc Cert.ForwardReferenceIdeal.main_arg13) = m ((c.tc : Thread Cert.ForwardReferenceIdeal.nD Cert.ForwardReferenceIdeal.τ).loc Cert.ForwardReferenceIdeal.main_arg13)
      ∧ r.2.mem ((c.tc : Thread Cert.ForwardReferenceIdeal.nD Cert.ForwardReferenceIdeal.τ).loc Cert.ForwardReferenceIdeal.main_arg14) = m ((c.tc : Thread Cert.ForwardReferenceIdeal.nD Cert.ForwardReferenceIdeal.τ).loc Cert.ForwardReferenceIdeal.main_arg14))
      ∧ r.2.sem = fun _ => 0)

def quiescent_ForwardReferenceIdeal_pre_columns_finite [hForwardReferenceIdeal : Cert.ForwardReferenceIdeal.Facts] [hPre_columns_finite : Cert.Pre_columns_finite.Facts] : Prop :=
  ∀ (m : (ℓ : Loc Cert.ForwardReferenceIdeal.nD Cert.ForwardReferenceIdeal.τ Cert.ForwardReferenceIdeal.sig) → Buf (Elt Ideal) ℓ) (g : Dev Cert.ForwardReferenceIdeal.nD → PrngReg), Pre_ForwardReferenceIdeal_columns_finite m →
    θ_run (Cert.ForwardReferenceIdeal.defs (F := Ideal)) (onTc (τ := Cert.ForwardReferenceIdeal.τ) (Cert.ForwardReferenceIdeal.main (F := Ideal))) ⟨m, fun _ => 0, g⟩ (fun r => (∀ c : Dev Cert.ForwardReferenceIdeal.nD,
      r.2.mem ((c.tc : Thread Cert.ForwardReferenceIdeal.nD Cert.ForwardReferenceIdeal.τ).loc Cert.ForwardReferenceIdeal.main_arg0) = m ((c.tc : Thread Cert.ForwardReferenceIdeal.nD Cert.ForwardReferenceIdeal.τ).loc Cert.ForwardReferenceIdeal.main_arg0)
      ∧ r.2.mem ((c.tc : Thread Cert.ForwardReferenceIdeal.nD Cert.ForwardReferenceIdeal.τ).loc Cert.ForwardReferenceIdeal.main_arg1) = m ((c.tc : Thread Cert.ForwardReferenceIdeal.nD Cert.ForwardReferenceIdeal.τ).loc Cert.ForwardReferenceIdeal.main_arg1)
      ∧ r.2.mem ((c.tc : Thread Cert.ForwardReferenceIdeal.nD Cert.ForwardReferenceIdeal.τ).loc Cert.ForwardReferenceIdeal.main_arg2) = m ((c.tc : Thread Cert.ForwardReferenceIdeal.nD Cert.ForwardReferenceIdeal.τ).loc Cert.ForwardReferenceIdeal.main_arg2)
      ∧ r.2.mem ((c.tc : Thread Cert.ForwardReferenceIdeal.nD Cert.ForwardReferenceIdeal.τ).loc Cert.ForwardReferenceIdeal.main_arg3) = m ((c.tc : Thread Cert.ForwardReferenceIdeal.nD Cert.ForwardReferenceIdeal.τ).loc Cert.ForwardReferenceIdeal.main_arg3)
      ∧ r.2.mem ((c.tc : Thread Cert.ForwardReferenceIdeal.nD Cert.ForwardReferenceIdeal.τ).loc Cert.ForwardReferenceIdeal.main_arg4) = m ((c.tc : Thread Cert.ForwardReferenceIdeal.nD Cert.ForwardReferenceIdeal.τ).loc Cert.ForwardReferenceIdeal.main_arg4)
      ∧ r.2.mem ((c.tc : Thread Cert.ForwardReferenceIdeal.nD Cert.ForwardReferenceIdeal.τ).loc Cert.ForwardReferenceIdeal.main_arg5) = m ((c.tc : Thread Cert.ForwardReferenceIdeal.nD Cert.ForwardReferenceIdeal.τ).loc Cert.ForwardReferenceIdeal.main_arg5)
      ∧ r.2.mem ((c.tc : Thread Cert.ForwardReferenceIdeal.nD Cert.ForwardReferenceIdeal.τ).loc Cert.ForwardReferenceIdeal.main_arg6) = m ((c.tc : Thread Cert.ForwardReferenceIdeal.nD Cert.ForwardReferenceIdeal.τ).loc Cert.ForwardReferenceIdeal.main_arg6)
      ∧ r.2.mem ((c.tc : Thread Cert.ForwardReferenceIdeal.nD Cert.ForwardReferenceIdeal.τ).loc Cert.ForwardReferenceIdeal.main_arg7) = m ((c.tc : Thread Cert.ForwardReferenceIdeal.nD Cert.ForwardReferenceIdeal.τ).loc Cert.ForwardReferenceIdeal.main_arg7)
      ∧ r.2.mem ((c.tc : Thread Cert.ForwardReferenceIdeal.nD Cert.ForwardReferenceIdeal.τ).loc Cert.ForwardReferenceIdeal.main_arg8) = m ((c.tc : Thread Cert.ForwardReferenceIdeal.nD Cert.ForwardReferenceIdeal.τ).loc Cert.ForwardReferenceIdeal.main_arg8)
      ∧ r.2.mem ((c.tc : Thread Cert.ForwardReferenceIdeal.nD Cert.ForwardReferenceIdeal.τ).loc Cert.ForwardReferenceIdeal.main_arg9) = m ((c.tc : Thread Cert.ForwardReferenceIdeal.nD Cert.ForwardReferenceIdeal.τ).loc Cert.ForwardReferenceIdeal.main_arg9)
      ∧ r.2.mem ((c.tc : Thread Cert.ForwardReferenceIdeal.nD Cert.ForwardReferenceIdeal.τ).loc Cert.ForwardReferenceIdeal.main_arg10) = m ((c.tc : Thread Cert.ForwardReferenceIdeal.nD Cert.ForwardReferenceIdeal.τ).loc Cert.ForwardReferenceIdeal.main_arg10)
      ∧ r.2.mem ((c.tc : Thread Cert.ForwardReferenceIdeal.nD Cert.ForwardReferenceIdeal.τ).loc Cert.ForwardReferenceIdeal.main_arg11) = m ((c.tc : Thread Cert.ForwardReferenceIdeal.nD Cert.ForwardReferenceIdeal.τ).loc Cert.ForwardReferenceIdeal.main_arg11)
      ∧ r.2.mem ((c.tc : Thread Cert.ForwardReferenceIdeal.nD Cert.ForwardReferenceIdeal.τ).loc Cert.ForwardReferenceIdeal.main_arg12) = m ((c.tc : Thread Cert.ForwardReferenceIdeal.nD Cert.ForwardReferenceIdeal.τ).loc Cert.ForwardReferenceIdeal.main_arg12)
      ∧ r.2.mem ((c.tc : Thread Cert.ForwardReferenceIdeal.nD Cert.ForwardReferenceIdeal.τ).loc Cert.ForwardReferenceIdeal.main_arg13) = m ((c.tc : Thread Cert.ForwardReferenceIdeal.nD Cert.ForwardReferenceIdeal.τ).loc Cert.ForwardReferenceIdeal.main_arg13)
      ∧ r.2.mem ((c.tc : Thread Cert.ForwardReferenceIdeal.nD Cert.ForwardReferenceIdeal.τ).loc Cert.ForwardReferenceIdeal.main_arg14) = m ((c.tc : Thread Cert.ForwardReferenceIdeal.nD Cert.ForwardReferenceIdeal.τ).loc Cert.ForwardReferenceIdeal.main_arg14))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2))
      ∧ r.2.sem = fun _ => 0)

def quiescent_NormBackward [hNormBackward : Cert.NormBackward.Facts] : Prop :=
  ∀ (m : (ℓ : Loc Cert.NormBackward.nD Cert.NormBackward.τ Cert.NormBackward.sig) → Buf (Elt Bits) ℓ) (g : Dev Cert.NormBackward.nD → PrngReg), Pre_NormBackward m →
    θ_run (Cert.NormBackward.defs (F := Bits)) (onTc (τ := Cert.NormBackward.τ) (Cert.NormBackward.main (F := Bits))) ⟨m, fun _ => 0, g⟩ (fun r => (∀ c : Dev Cert.NormBackward.nD,
      r.2.mem ((c.tc : Thread Cert.NormBackward.nD Cert.NormBackward.τ).loc Cert.NormBackward.main_arg0) = m ((c.tc : Thread Cert.NormBackward.nD Cert.NormBackward.τ).loc Cert.NormBackward.main_arg0)
      ∧ r.2.mem ((c.tc : Thread Cert.NormBackward.nD Cert.NormBackward.τ).loc Cert.NormBackward.main_arg1) = m ((c.tc : Thread Cert.NormBackward.nD Cert.NormBackward.τ).loc Cert.NormBackward.main_arg1)
      ∧ r.2.mem ((c.tc : Thread Cert.NormBackward.nD Cert.NormBackward.τ).loc Cert.NormBackward.main_arg2) = m ((c.tc : Thread Cert.NormBackward.nD Cert.NormBackward.τ).loc Cert.NormBackward.main_arg2))
      ∧ r.2.sem = fun _ => 0)

def quiescent_NormBackwardIdeal [hNormBackwardIdeal : Cert.NormBackwardIdeal.Facts] : Prop :=
  ∀ (m : (ℓ : Loc Cert.NormBackwardIdeal.nD Cert.NormBackwardIdeal.τ Cert.NormBackwardIdeal.sig) → Buf (Elt Ideal) ℓ) (g : Dev Cert.NormBackwardIdeal.nD → PrngReg), Pre_NormBackwardIdeal m →
    θ_run (Cert.NormBackwardIdeal.defs (F := Ideal)) (onTc (τ := Cert.NormBackwardIdeal.τ) (Cert.NormBackwardIdeal.main (F := Ideal))) ⟨m, fun _ => 0, g⟩ (fun r => (∀ c : Dev Cert.NormBackwardIdeal.nD,
      r.2.mem ((c.tc : Thread Cert.NormBackwardIdeal.nD Cert.NormBackwardIdeal.τ).loc Cert.NormBackwardIdeal.main_arg0) = m ((c.tc : Thread Cert.NormBackwardIdeal.nD Cert.NormBackwardIdeal.τ).loc Cert.NormBackwardIdeal.main_arg0)
      ∧ r.2.mem ((c.tc : Thread Cert.NormBackwardIdeal.nD Cert.NormBackwardIdeal.τ).loc Cert.NormBackwardIdeal.main_arg1) = m ((c.tc : Thread Cert.NormBackwardIdeal.nD Cert.NormBackwardIdeal.τ).loc Cert.NormBackwardIdeal.main_arg1)
      ∧ r.2.mem ((c.tc : Thread Cert.NormBackwardIdeal.nD Cert.NormBackwardIdeal.τ).loc Cert.NormBackwardIdeal.main_arg2) = m ((c.tc : Thread Cert.NormBackwardIdeal.nD Cert.NormBackwardIdeal.τ).loc Cert.NormBackwardIdeal.main_arg2))
      ∧ r.2.sem = fun _ => 0)

def quiescent_NormBackwardIdeal_pre_gradient_finite [hNormBackwardIdeal : Cert.NormBackwardIdeal.Facts] [hPre_gradient_finite : Cert.Pre_gradient_finite.Facts] : Prop :=
  ∀ (m : (ℓ : Loc Cert.NormBackwardIdeal.nD Cert.NormBackwardIdeal.τ Cert.NormBackwardIdeal.sig) → Buf (Elt Ideal) ℓ) (g : Dev Cert.NormBackwardIdeal.nD → PrngReg), Pre_NormBackwardIdeal_gradient_finite m →
    θ_run (Cert.NormBackwardIdeal.defs (F := Ideal)) (onTc (τ := Cert.NormBackwardIdeal.τ) (Cert.NormBackwardIdeal.main (F := Ideal))) ⟨m, fun _ => 0, g⟩ (fun r => (∀ c : Dev Cert.NormBackwardIdeal.nD,
      r.2.mem ((c.tc : Thread Cert.NormBackwardIdeal.nD Cert.NormBackwardIdeal.τ).loc Cert.NormBackwardIdeal.main_arg0) = m ((c.tc : Thread Cert.NormBackwardIdeal.nD Cert.NormBackwardIdeal.τ).loc Cert.NormBackwardIdeal.main_arg0)
      ∧ r.2.mem ((c.tc : Thread Cert.NormBackwardIdeal.nD Cert.NormBackwardIdeal.τ).loc Cert.NormBackwardIdeal.main_arg1) = m ((c.tc : Thread Cert.NormBackwardIdeal.nD Cert.NormBackwardIdeal.τ).loc Cert.NormBackwardIdeal.main_arg1)
      ∧ r.2.mem ((c.tc : Thread Cert.NormBackwardIdeal.nD Cert.NormBackwardIdeal.τ).loc Cert.NormBackwardIdeal.main_arg2) = m ((c.tc : Thread Cert.NormBackwardIdeal.nD Cert.NormBackwardIdeal.τ).loc Cert.NormBackwardIdeal.main_arg2))
      ∧ r.2.sem = fun _ => 0)

def quiescent_NormBackwardReferenceIdeal [hNormBackwardReferenceIdeal : Cert.NormBackwardReferenceIdeal.Facts] : Prop :=
  ∀ (m : (ℓ : Loc Cert.NormBackwardReferenceIdeal.nD Cert.NormBackwardReferenceIdeal.τ Cert.NormBackwardReferenceIdeal.sig) → Buf (Elt Ideal) ℓ) (g : Dev Cert.NormBackwardReferenceIdeal.nD → PrngReg), Pre_NormBackwardReferenceIdeal m →
    θ_run (Cert.NormBackwardReferenceIdeal.defs (F := Ideal)) (onTc (τ := Cert.NormBackwardReferenceIdeal.τ) (Cert.NormBackwardReferenceIdeal.main (F := Ideal))) ⟨m, fun _ => 0, g⟩ (fun r => (∀ c : Dev Cert.NormBackwardReferenceIdeal.nD,
      r.2.mem ((c.tc : Thread Cert.NormBackwardReferenceIdeal.nD Cert.NormBackwardReferenceIdeal.τ).loc Cert.NormBackwardReferenceIdeal.main_arg0) = m ((c.tc : Thread Cert.NormBackwardReferenceIdeal.nD Cert.NormBackwardReferenceIdeal.τ).loc Cert.NormBackwardReferenceIdeal.main_arg0)
      ∧ r.2.mem ((c.tc : Thread Cert.NormBackwardReferenceIdeal.nD Cert.NormBackwardReferenceIdeal.τ).loc Cert.NormBackwardReferenceIdeal.main_arg1) = m ((c.tc : Thread Cert.NormBackwardReferenceIdeal.nD Cert.NormBackwardReferenceIdeal.τ).loc Cert.NormBackwardReferenceIdeal.main_arg1)
      ∧ r.2.mem ((c.tc : Thread Cert.NormBackwardReferenceIdeal.nD Cert.NormBackwardReferenceIdeal.τ).loc Cert.NormBackwardReferenceIdeal.main_arg2) = m ((c.tc : Thread Cert.NormBackwardReferenceIdeal.nD Cert.NormBackwardReferenceIdeal.τ).loc Cert.NormBackwardReferenceIdeal.main_arg2))
      ∧ r.2.sem = fun _ => 0)

def quiescent_NormBackwardReferenceIdeal_pre_gradient_finite [hNormBackwardReferenceIdeal : Cert.NormBackwardReferenceIdeal.Facts] [hPre_gradient_finite : Cert.Pre_gradient_finite.Facts] : Prop :=
  ∀ (m : (ℓ : Loc Cert.NormBackwardReferenceIdeal.nD Cert.NormBackwardReferenceIdeal.τ Cert.NormBackwardReferenceIdeal.sig) → Buf (Elt Ideal) ℓ) (g : Dev Cert.NormBackwardReferenceIdeal.nD → PrngReg), Pre_NormBackwardReferenceIdeal_gradient_finite m →
    θ_run (Cert.NormBackwardReferenceIdeal.defs (F := Ideal)) (onTc (τ := Cert.NormBackwardReferenceIdeal.τ) (Cert.NormBackwardReferenceIdeal.main (F := Ideal))) ⟨m, fun _ => 0, g⟩ (fun r => (∀ c : Dev Cert.NormBackwardReferenceIdeal.nD,
      r.2.mem ((c.tc : Thread Cert.NormBackwardReferenceIdeal.nD Cert.NormBackwardReferenceIdeal.τ).loc Cert.NormBackwardReferenceIdeal.main_arg0) = m ((c.tc : Thread Cert.NormBackwardReferenceIdeal.nD Cert.NormBackwardReferenceIdeal.τ).loc Cert.NormBackwardReferenceIdeal.main_arg0)
      ∧ r.2.mem ((c.tc : Thread Cert.NormBackwardReferenceIdeal.nD Cert.NormBackwardReferenceIdeal.τ).loc Cert.NormBackwardReferenceIdeal.main_arg1) = m ((c.tc : Thread Cert.NormBackwardReferenceIdeal.nD Cert.NormBackwardReferenceIdeal.τ).loc Cert.NormBackwardReferenceIdeal.main_arg1)
      ∧ r.2.mem ((c.tc : Thread Cert.NormBackwardReferenceIdeal.nD Cert.NormBackwardReferenceIdeal.τ).loc Cert.NormBackwardReferenceIdeal.main_arg2) = m ((c.tc : Thread Cert.NormBackwardReferenceIdeal.nD Cert.NormBackwardReferenceIdeal.τ).loc Cert.NormBackwardReferenceIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3)
      ∧ r.2.mem ((c.tc : Thread Cert.Adam.nD Cert.Adam.τ).loc Cert.Adam.main_arg4) = m ((c.tc : Thread Cert.Adam.nD Cert.Adam.τ).loc Cert.Adam.main_arg4)
      ∧ r.2.mem ((c.tc : Thread Cert.Adam.nD Cert.Adam.τ).loc Cert.Adam.main_arg5) = m ((c.tc : Thread Cert.Adam.nD Cert.Adam.τ).loc Cert.Adam.main_arg5)
      ∧ r.2.mem ((c.tc : Thread Cert.Adam.nD Cert.Adam.τ).loc Cert.Adam.main_arg6) = m ((c.tc : Thread Cert.Adam.nD Cert.Adam.τ).loc Cert.Adam.main_arg6)
      ∧ r.2.mem ((c.tc : Thread Cert.Adam.nD Cert.Adam.τ).loc Cert.Adam.main_arg7) = m ((c.tc : Thread Cert.Adam.nD Cert.Adam.τ).loc Cert.Adam.main_arg7)
      ∧ r.2.mem ((c.tc : Thread Cert.Adam.nD Cert.Adam.τ).loc Cert.Adam.main_arg8) = m ((c.tc : Thread Cert.Adam.nD Cert.Adam.τ).loc Cert.Adam.main_arg8)
      ∧ r.2.mem ((c.tc : Thread Cert.Adam.nD Cert.Adam.τ).loc Cert.Adam.main_arg9) = m ((c.tc : Thread Cert.Adam.nD Cert.Adam.τ).loc Cert.Adam.main_arg9)
      ∧ r.2.mem ((c.tc : Thread Cert.Adam.nD Cert.Adam.τ).loc Cert.Adam.main_arg10) = m ((c.tc : Thread Cert.Adam.nD Cert.Adam.τ).loc Cert.Adam.main_arg10)
      ∧ r.2.mem ((c.tc : Thread Cert.Adam.nD Cert.Adam.τ).loc Cert.Adam.main_arg11) = m ((c.tc : Thread Cert.Adam.nD Cert.Adam.τ).loc Cert.Adam.main_arg11))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
      ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4)
      ∧ r.2.mem ((c.tc : Thread Cert.AdamIdeal.nD Cert.AdamIdeal.τ).loc Cert.AdamIdeal.main_arg5) = m ((c.tc : Thread Cert.AdamIdeal.nD Cert.AdamIdeal.τ).loc Cert.AdamIdeal.main_arg5)
      ∧ r.2.mem ((c.tc : Thread Cert.AdamIdeal.nD Cert.AdamIdeal.τ).loc Cert.AdamIdeal.main_arg6) = m ((c.tc : Thread Cert.AdamIdeal.nD Cert.AdamIdeal.τ).loc Cert.AdamIdeal.main_arg6)
      ∧ r.2.mem ((c.tc : Thread Cert.AdamIdeal.nD Cert.AdamIdeal.τ).loc Cert.AdamIdeal.main_arg7) = m ((c.tc : Thread Cert.AdamIdeal.nD Cert.AdamIdeal.τ).loc Cert.AdamIdeal.main_arg7)
      ∧ r.2.mem ((c.tc : Thread Cert.AdamIdeal.nD Cert.AdamIdeal.τ).loc Cert.AdamIdeal.main_arg8) = m ((c.tc : Thread Cert.AdamIdeal.nD Cert.AdamIdeal.τ).loc Cert.AdamIdeal.main_arg8)
      ∧ r.2.mem ((c.tc : Thread Cert.AdamIdeal.nD Cert.AdamIdeal.τ).loc Cert.AdamIdeal.main_arg9) = m ((c.tc : Thread Cert.AdamIdeal.nD Cert.AdamIdeal.τ).loc Cert.AdamIdeal.main_arg9)
      ∧ r.2.mem ((c.tc : Thread Cert.AdamIdeal.nD Cert.AdamIdeal.τ).loc Cert.AdamIdeal.main_arg10) = m ((c.tc : Thread Cert.AdamIdeal.nD Cert.AdamIdeal.τ).loc Cert.AdamIdeal.main_arg10)
      ∧ r.2.mem ((c.tc : Thread Cert.AdamIdeal.nD Cert.AdamIdeal.τ).loc Cert.AdamIdeal.main_arg11) = m ((c.tc : Thread Cert.AdamIdeal.nD Cert.AdamIdeal.τ).loc Cert.AdamIdeal.main_arg11))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3)
      ∧ r.2.mem ((c.tc : Thread Cert.AdamReferenceIdeal.nD Cert.AdamReferenceIdeal.τ).loc Cert.AdamReferenceIdeal.main_arg4) = m ((c.tc : Thread Cert.AdamReferenceIdeal.nD Cert.AdamReferenceIdeal.τ).loc Cert.AdamReferenceIdeal.main_arg4)
      ∧ r.2.mem ((c.tc : Thread Cert.AdamReferenceIdeal.nD Cert.AdamReferenceIdeal.τ).loc Cert.AdamReferenceIdeal.main_arg5) = m ((c.tc : Thread Cert.AdamReferenceIdeal.nD Cert.AdamReferenceIdeal.τ).loc Cert.AdamReferenceIdeal.main_arg5)
      ∧ r.2.mem ((c.tc : Thread Cert.AdamReferenceIdeal.nD Cert.AdamReferenceIdeal.τ).loc Cert.AdamReferenceIdeal.main_arg6) = m ((c.tc : Thread Cert.AdamReferenceIdeal.nD Cert.AdamReferenceIdeal.τ).loc Cert.AdamReferenceIdeal.main_arg6)
      ∧ r.2.mem ((c.tc : Thread Cert.AdamReferenceIdeal.nD Cert.AdamReferenceIdeal.τ).loc Cert.AdamReferenceIdeal.main_arg7) = m ((c.tc : Thread Cert.AdamReferenceIdeal.nD Cert.AdamReferenceIdeal.τ).loc Cert.AdamReferenceIdeal.main_arg7)
      ∧ r.2.mem ((c.tc : Thread Cert.AdamReferenceIdeal.nD Cert.AdamReferenceIdeal.τ).loc Cert.AdamReferenceIdeal.main_arg8) = m ((c.tc : Thread Cert.AdamReferenceIdeal.nD Cert.AdamReferenceIdeal.τ).loc Cert.AdamReferenceIdeal.main_arg8)
      ∧ r.2.mem ((c.tc : Thread Cert.AdamReferenceIdeal.nD Cert.AdamReferenceIdeal.τ).loc Cert.AdamReferenceIdeal.main_arg9) = m ((c.tc : Thread Cert.AdamReferenceIdeal.nD Cert.AdamReferenceIdeal.τ).loc Cert.AdamReferenceIdeal.main_arg9)
      ∧ r.2.mem ((c.tc : Thread Cert.AdamReferenceIdeal.nD Cert.AdamReferenceIdeal.τ).loc Cert.AdamReferenceIdeal.main_arg10) = m ((c.tc : Thread Cert.AdamReferenceIdeal.nD Cert.AdamReferenceIdeal.τ).loc Cert.AdamReferenceIdeal.main_arg10)
      ∧ r.2.mem ((c.tc : Thread Cert.AdamReferenceIdeal.nD Cert.AdamReferenceIdeal.τ).loc Cert.AdamReferenceIdeal.main_arg11) = m ((c.tc : Thread Cert.AdamReferenceIdeal.nD Cert.AdamReferenceIdeal.τ).loc Cert.AdamReferenceIdeal.main_arg11))
      ∧ r.2.sem = fun _ => 0)

def quiescent_AdamTwo [hAdamTwo : Cert.AdamTwo.Facts] : Prop :=
  ∀ (m : (ℓ : Loc Cert.AdamTwo.nD Cert.AdamTwo.τ Cert.AdamTwo.sig) → Buf (Elt Bits) ℓ) (g : Dev Cert.AdamTwo.nD → PrngReg), Pre_AdamTwo m →
    θ_run (Cert.AdamTwo.defs (F := Bits)) (onTc (τ := Cert.AdamTwo.τ) (Cert.AdamTwo.main (F := Bits))) ⟨m, fun _ => 0, g⟩ (fun r => (∀ c : Dev Cert.AdamTwo.nD,
      r.2.mem ((c.tc : Thread Cert.AdamTwo.nD Cert.AdamTwo.τ).loc Cert.AdamTwo.main_arg0) = m ((c.tc : Thread Cert.AdamTwo.nD Cert.AdamTwo.τ).loc Cert.AdamTwo.main_arg0)
      ∧ r.2.mem ((c.tc : Thread Cert.AdamTwo.nD Cert.AdamTwo.τ).loc Cert.AdamTwo.main_arg1) = m ((c.tc : Thread Cert.AdamTwo.nD Cert.AdamTwo.τ).loc Cert.AdamTwo.main_arg1)
      ∧ r.2.mem ((c.tc : Thread Cert.AdamTwo.nD Cert.AdamTwo.τ).loc Cert.AdamTwo.main_arg2) = m ((c.tc : Thread Cert.AdamTwo.nD Cert.AdamTwo.τ).loc Cert.AdamTwo.main_arg2)
      ∧ r.2.mem ((c.tc : Thread Cert.AdamTwo.nD Cert.AdamTwo.τ).loc Cert.AdamTwo.main_arg3) = m ((c.tc : Thread Cert.AdamTwo.nD Cert.AdamTwo.τ).loc Cert.AdamTwo.main_arg3)
      ∧ r.2.mem ((c.tc : Thread Cert.AdamTwo.nD Cert.AdamTwo.τ).loc Cert.AdamTwo.main_arg4) = m ((c.tc : Thread Cert.AdamTwo.nD Cert.AdamTwo.τ).loc Cert.AdamTwo.main_arg4)
      ∧ r.2.mem ((c.tc : Thread Cert.AdamTwo.nD Cert.AdamTwo.τ).loc Cert.AdamTwo.main_arg5) = m ((c.tc : Thread Cert.AdamTwo.nD Cert.AdamTwo.τ).loc Cert.AdamTwo.main_arg5)
      ∧ r.2.mem ((c.tc : Thread Cert.AdamTwo.nD Cert.AdamTwo.τ).loc Cert.AdamTwo.main_arg6) = m ((c.tc : Thread Cert.AdamTwo.nD Cert.AdamTwo.τ).loc Cert.AdamTwo.main_arg6)
      ∧ r.2.mem ((c.tc : Thread Cert.AdamTwo.nD Cert.AdamTwo.τ).loc Cert.AdamTwo.main_arg7) = m ((c.tc : Thread Cert.AdamTwo.nD Cert.AdamTwo.τ).loc Cert.AdamTwo.main_arg7)
      ∧ r.2.mem ((c.tc : Thread Cert.AdamTwo.nD Cert.AdamTwo.τ).loc Cert.AdamTwo.main_arg8) = m ((c.tc : Thread Cert.AdamTwo.nD Cert.AdamTwo.τ).loc Cert.AdamTwo.main_arg8)
      ∧ r.2.mem ((c.tc : Thread Cert.AdamTwo.nD Cert.AdamTwo.τ).loc Cert.AdamTwo.main_arg9) = m ((c.tc : Thread Cert.AdamTwo.nD Cert.AdamTwo.τ).loc Cert.AdamTwo.main_arg9)
      ∧ r.2.mem ((c.tc : Thread Cert.AdamTwo.nD Cert.AdamTwo.τ).loc Cert.AdamTwo.main_arg10) = m ((c.tc : Thread Cert.AdamTwo.nD Cert.AdamTwo.τ).loc Cert.AdamTwo.main_arg10)
      ∧ r.2.mem ((c.tc : Thread Cert.AdamTwo.nD Cert.AdamTwo.τ).loc Cert.AdamTwo.main_arg11) = m ((c.tc : Thread Cert.AdamTwo.nD Cert.AdamTwo.τ).loc Cert.AdamTwo.main_arg11))
      ∧ r.2.sem = fun _ => 0)

def quiescent_AdamTwoIdeal [hAdamTwoIdeal : Cert.AdamTwoIdeal.Facts] : Prop :=
  ∀ (m : (ℓ : Loc Cert.AdamTwoIdeal.nD Cert.AdamTwoIdeal.τ Cert.AdamTwoIdeal.sig) → Buf (Elt Ideal) ℓ) (g : Dev Cert.AdamTwoIdeal.nD → PrngReg), Pre_AdamTwoIdeal m →
    θ_run (Cert.AdamTwoIdeal.defs (F := Ideal)) (onTc (τ := Cert.AdamTwoIdeal.τ) (Cert.AdamTwoIdeal.main (F := Ideal))) ⟨m, fun _ => 0, g⟩ (fun r => (∀ c : Dev Cert.AdamTwoIdeal.nD,
      r.2.mem ((c.tc : Thread Cert.AdamTwoIdeal.nD Cert.AdamTwoIdeal.τ).loc Cert.AdamTwoIdeal.main_arg0) = m ((c.tc : Thread Cert.AdamTwoIdeal.nD Cert.AdamTwoIdeal.τ).loc Cert.AdamTwoIdeal.main_arg0)
      ∧ r.2.mem ((c.tc : Thread Cert.AdamTwoIdeal.nD Cert.AdamTwoIdeal.τ).loc Cert.AdamTwoIdeal.main_arg1) = m ((c.tc : Thread Cert.AdamTwoIdeal.nD Cert.AdamTwoIdeal.τ).loc Cert.AdamTwoIdeal.main_arg1)
      ∧ r.2.mem ((c.tc : Thread Cert.AdamTwoIdeal.nD Cert.AdamTwoIdeal.τ).loc Cert.AdamTwoIdeal.main_arg2) = m ((c.tc : Thread Cert.AdamTwoIdeal.nD Cert.AdamTwoIdeal.τ).loc Cert.AdamTwoIdeal.main_arg2)
      ∧ r.2.mem ((c.tc : Thread Cert.AdamTwoIdeal.nD Cert.AdamTwoIdeal.τ).loc Cert.AdamTwoIdeal.main_arg3) = m ((c.tc : Thread Cert.AdamTwoIdeal.nD Cert.AdamTwoIdeal.τ).loc Cert.AdamTwoIdeal.main_arg3)
      ∧ r.2.mem ((c.tc : Thread Cert.AdamTwoIdeal.nD Cert.AdamTwoIdeal.τ).loc Cert.AdamTwoIdeal.main_arg4) = m ((c.tc : Thread Cert.AdamTwoIdeal.nD Cert.AdamTwoIdeal.τ).loc Cert.AdamTwoIdeal.main_arg4)
      ∧ r.2.mem ((c.tc : Thread Cert.AdamTwoIdeal.nD Cert.AdamTwoIdeal.τ).loc Cert.AdamTwoIdeal.main_arg5) = m ((c.tc : Thread Cert.AdamTwoIdeal.nD Cert.AdamTwoIdeal.τ).loc Cert.AdamTwoIdeal.main_arg5)
      ∧ r.2.mem ((c.tc : Thread Cert.AdamTwoIdeal.nD Cert.AdamTwoIdeal.τ).loc Cert.AdamTwoIdeal.main_arg6) = m ((c.tc : Thread Cert.AdamTwoIdeal.nD Cert.AdamTwoIdeal.τ).loc Cert.AdamTwoIdeal.main_arg6)
      ∧ r.2.mem ((c.tc : Thread Cert.AdamTwoIdeal.nD Cert.AdamTwoIdeal.τ).loc Cert.AdamTwoIdeal.main_arg7) = m ((c.tc : Thread Cert.AdamTwoIdeal.nD Cert.AdamTwoIdeal.τ).loc Cert.AdamTwoIdeal.main_arg7)
      ∧ r.2.mem ((c.tc : Thread Cert.AdamTwoIdeal.nD Cert.AdamTwoIdeal.τ).loc Cert.AdamTwoIdeal.main_arg8) = m ((c.tc : Thread Cert.AdamTwoIdeal.nD Cert.AdamTwoIdeal.τ).loc Cert.AdamTwoIdeal.main_arg8)
      ∧ r.2.mem ((c.tc : Thread Cert.AdamTwoIdeal.nD Cert.AdamTwoIdeal.τ).loc Cert.AdamTwoIdeal.main_arg9) = m ((c.tc : Thread Cert.AdamTwoIdeal.nD Cert.AdamTwoIdeal.τ).loc Cert.AdamTwoIdeal.main_arg9)
      ∧ r.2.mem ((c.tc : Thread Cert.AdamTwoIdeal.nD Cert.AdamTwoIdeal.τ).loc Cert.AdamTwoIdeal.main_arg10) = m ((c.tc : Thread Cert.AdamTwoIdeal.nD Cert.AdamTwoIdeal.τ).loc Cert.AdamTwoIdeal.main_arg10)
      ∧ r.2.mem ((c.tc : Thread Cert.AdamTwoIdeal.nD Cert.AdamTwoIdeal.τ).loc Cert.AdamTwoIdeal.main_arg11) = m ((c.tc : Thread Cert.AdamTwoIdeal.nD Cert.AdamTwoIdeal.τ).loc Cert.AdamTwoIdeal.main_arg11))
      ∧ r.2.sem = fun _ => 0)

def quiescent_AdamTwoReferenceIdeal [hAdamTwoReferenceIdeal : Cert.AdamTwoReferenceIdeal.Facts] : Prop :=
  ∀ (m : (ℓ : Loc Cert.AdamTwoReferenceIdeal.nD Cert.AdamTwoReferenceIdeal.τ Cert.AdamTwoReferenceIdeal.sig) → Buf (Elt Ideal) ℓ) (g : Dev Cert.AdamTwoReferenceIdeal.nD → PrngReg), Pre_AdamTwoReferenceIdeal m →
    θ_run (Cert.AdamTwoReferenceIdeal.defs (F := Ideal)) (onTc (τ := Cert.AdamTwoReferenceIdeal.τ) (Cert.AdamTwoReferenceIdeal.main (F := Ideal))) ⟨m, fun _ => 0, g⟩ (fun r => (∀ c : Dev Cert.AdamTwoReferenceIdeal.nD,
      r.2.mem ((c.tc : Thread Cert.AdamTwoReferenceIdeal.nD Cert.AdamTwoReferenceIdeal.τ).loc Cert.AdamTwoReferenceIdeal.main_arg0) = m ((c.tc : Thread Cert.AdamTwoReferenceIdeal.nD Cert.AdamTwoReferenceIdeal.τ).loc Cert.AdamTwoReferenceIdeal.main_arg0)
      ∧ r.2.mem ((c.tc : Thread Cert.AdamTwoReferenceIdeal.nD Cert.AdamTwoReferenceIdeal.τ).loc Cert.AdamTwoReferenceIdeal.main_arg1) = m ((c.tc : Thread Cert.AdamTwoReferenceIdeal.nD Cert.AdamTwoReferenceIdeal.τ).loc Cert.AdamTwoReferenceIdeal.main_arg1)
      ∧ r.2.mem ((c.tc : Thread Cert.AdamTwoReferenceIdeal.nD Cert.AdamTwoReferenceIdeal.τ).loc Cert.AdamTwoReferenceIdeal.main_arg2) = m ((c.tc : Thread Cert.AdamTwoReferenceIdeal.nD Cert.AdamTwoReferenceIdeal.τ).loc Cert.AdamTwoReferenceIdeal.main_arg2)
      ∧ r.2.mem ((c.tc : Thread Cert.AdamTwoReferenceIdeal.nD Cert.AdamTwoReferenceIdeal.τ).loc Cert.AdamTwoReferenceIdeal.main_arg3) = m ((c.tc : Thread Cert.AdamTwoReferenceIdeal.nD Cert.AdamTwoReferenceIdeal.τ).loc Cert.AdamTwoReferenceIdeal.main_arg3)
      ∧ r.2.mem ((c.tc : Thread Cert.AdamTwoReferenceIdeal.nD Cert.AdamTwoReferenceIdeal.τ).loc Cert.AdamTwoReferenceIdeal.main_arg4) = m ((c.tc : Thread Cert.AdamTwoReferenceIdeal.nD Cert.AdamTwoReferenceIdeal.τ).loc Cert.AdamTwoReferenceIdeal.main_arg4)
      ∧ r.2.mem ((c.tc : Thread Cert.AdamTwoReferenceIdeal.nD Cert.AdamTwoReferenceIdeal.τ).loc Cert.AdamTwoReferenceIdeal.main_arg5) = m ((c.tc : Thread Cert.AdamTwoReferenceIdeal.nD Cert.AdamTwoReferenceIdeal.τ).loc Cert.AdamTwoReferenceIdeal.main_arg5)
      ∧ r.2.mem ((c.tc : Thread Cert.AdamTwoReferenceIdeal.nD Cert.AdamTwoReferenceIdeal.τ).loc Cert.AdamTwoReferenceIdeal.main_arg6) = m ((c.tc : Thread Cert.AdamTwoReferenceIdeal.nD Cert.AdamTwoReferenceIdeal.τ).loc Cert.AdamTwoReferenceIdeal.main_arg6)
      ∧ r.2.mem ((c.tc : Thread Cert.AdamTwoReferenceIdeal.nD Cert.AdamTwoReferenceIdeal.τ).loc Cert.AdamTwoReferenceIdeal.main_arg7) = m ((c.tc : Thread Cert.AdamTwoReferenceIdeal.nD Cert.AdamTwoReferenceIdeal.τ).loc Cert.AdamTwoReferenceIdeal.main_arg7)
      ∧ r.2.mem ((c.tc : Thread Cert.AdamTwoReferenceIdeal.nD Cert.AdamTwoReferenceIdeal.τ).loc Cert.AdamTwoReferenceIdeal.main_arg8) = m ((c.tc : Thread Cert.AdamTwoReferenceIdeal.nD Cert.AdamTwoReferenceIdeal.τ).loc Cert.AdamTwoReferenceIdeal.main_arg8)
      ∧ r.2.mem ((c.tc : Thread Cert.AdamTwoReferenceIdeal.nD Cert.AdamTwoReferenceIdeal.τ).loc Cert.AdamTwoReferenceIdeal.main_arg9) = m ((c.tc : Thread Cert.AdamTwoReferenceIdeal.nD Cert.AdamTwoReferenceIdeal.τ).loc Cert.AdamTwoReferenceIdeal.main_arg9)
      ∧ r.2.mem ((c.tc : Thread Cert.AdamTwoReferenceIdeal.nD Cert.AdamTwoReferenceIdeal.τ).loc Cert.AdamTwoReferenceIdeal.main_arg10) = m ((c.tc : Thread Cert.AdamTwoReferenceIdeal.nD Cert.AdamTwoReferenceIdeal.τ).loc Cert.AdamTwoReferenceIdeal.main_arg10)
      ∧ r.2.mem ((c.tc : Thread Cert.AdamTwoReferenceIdeal.nD Cert.AdamTwoReferenceIdeal.τ).loc Cert.AdamTwoReferenceIdeal.main_arg11) = m ((c.tc : Thread Cert.AdamTwoReferenceIdeal.nD Cert.AdamTwoReferenceIdeal.τ).loc Cert.AdamTwoReferenceIdeal.main_arg11))
      ∧ r.2.sem = fun _ => 0)

def quiescent_AdamThree [hAdamThree : Cert.AdamThree.Facts] : Prop :=
  ∀ (m : (ℓ : Loc Cert.AdamThree.nD Cert.AdamThree.τ Cert.AdamThree.sig) → Buf (Elt Bits) ℓ) (g : Dev Cert.AdamThree.nD → PrngReg), Pre_AdamThree m →
    θ_run (Cert.AdamThree.defs (F := Bits)) (onTc (τ := Cert.AdamThree.τ) (Cert.AdamThree.main (F := Bits))) ⟨m, fun _ => 0, g⟩ (fun r => (∀ c : Dev Cert.AdamThree.nD,
      r.2.mem ((c.tc : Thread Cert.AdamThree.nD Cert.AdamThree.τ).loc Cert.AdamThree.main_arg0) = m ((c.tc : Thread Cert.AdamThree.nD Cert.AdamThree.τ).loc Cert.AdamThree.main_arg0)
      ∧ r.2.mem ((c.tc : Thread Cert.AdamThree.nD Cert.AdamThree.τ).loc Cert.AdamThree.main_arg1) = m ((c.tc : Thread Cert.AdamThree.nD Cert.AdamThree.τ).loc Cert.AdamThree.main_arg1)
      ∧ r.2.mem ((c.tc : Thread Cert.AdamThree.nD Cert.AdamThree.τ).loc Cert.AdamThree.main_arg2) = m ((c.tc : Thread Cert.AdamThree.nD Cert.AdamThree.τ).loc Cert.AdamThree.main_arg2)
      ∧ r.2.mem ((c.tc : Thread Cert.AdamThree.nD Cert.AdamThree.τ).loc Cert.AdamThree.main_arg3) = m ((c.tc : Thread Cert.AdamThree.nD Cert.AdamThree.τ).loc Cert.AdamThree.main_arg3)
      ∧ r.2.mem ((c.tc : Thread Cert.AdamThree.nD Cert.AdamThree.τ).loc Cert.AdamThree.main_arg4) = m ((c.tc : Thread Cert.AdamThree.nD Cert.AdamThree.τ).loc Cert.AdamThree.main_arg4)
      ∧ r.2.mem ((c.tc : Thread Cert.AdamThree.nD Cert.AdamThree.τ).loc Cert.AdamThree.main_arg5) = m ((c.tc : Thread Cert.AdamThree.nD Cert.AdamThree.τ).loc Cert.AdamThree.main_arg5)
      ∧ r.2.mem ((c.tc : Thread Cert.AdamThree.nD Cert.AdamThree.τ).loc Cert.AdamThree.main_arg6) = m ((c.tc : Thread Cert.AdamThree.nD Cert.AdamThree.τ).loc Cert.AdamThree.main_arg6)
      ∧ r.2.mem ((c.tc : Thread Cert.AdamThree.nD Cert.AdamThree.τ).loc Cert.AdamThree.main_arg7) = m ((c.tc : Thread Cert.AdamThree.nD Cert.AdamThree.τ).loc Cert.AdamThree.main_arg7)
      ∧ r.2.mem ((c.tc : Thread Cert.AdamThree.nD Cert.AdamThree.τ).loc Cert.AdamThree.main_arg8) = m ((c.tc : Thread Cert.AdamThree.nD Cert.AdamThree.τ).loc Cert.AdamThree.main_arg8)
      ∧ r.2.mem ((c.tc : Thread Cert.AdamThree.nD Cert.AdamThree.τ).loc Cert.AdamThree.main_arg9) = m ((c.tc : Thread Cert.AdamThree.nD Cert.AdamThree.τ).loc Cert.AdamThree.main_arg9)
      ∧ r.2.mem ((c.tc : Thread Cert.AdamThree.nD Cert.AdamThree.τ).loc Cert.AdamThree.main_arg10) = m ((c.tc : Thread Cert.AdamThree.nD Cert.AdamThree.τ).loc Cert.AdamThree.main_arg10)
      ∧ r.2.mem ((c.tc : Thread Cert.AdamThree.nD Cert.AdamThree.τ).loc Cert.AdamThree.main_arg11) = m ((c.tc : Thread Cert.AdamThree.nD Cert.AdamThree.τ).loc Cert.AdamThree.main_arg11))
      ∧ r.2.sem = fun _ => 0)

def quiescent_AdamThreeIdeal [hAdamThreeIdeal : Cert.AdamThreeIdeal.Facts] : Prop :=
  ∀ (m : (ℓ : Loc Cert.AdamThreeIdeal.nD Cert.AdamThreeIdeal.τ Cert.AdamThreeIdeal.sig) → Buf (Elt Ideal) ℓ) (g : Dev Cert.AdamThreeIdeal.nD → PrngReg), Pre_AdamThreeIdeal m →
    θ_run (Cert.AdamThreeIdeal.defs (F := Ideal)) (onTc (τ := Cert.AdamThreeIdeal.τ) (Cert.AdamThreeIdeal.main (F := Ideal))) ⟨m, fun _ => 0, g⟩ (fun r => (∀ c : Dev Cert.AdamThreeIdeal.nD,
      r.2.mem ((c.tc : Thread Cert.AdamThreeIdeal.nD Cert.AdamThreeIdeal.τ).loc Cert.AdamThreeIdeal.main_arg0) = m ((c.tc : Thread Cert.AdamThreeIdeal.nD Cert.AdamThreeIdeal.τ).loc Cert.AdamThreeIdeal.main_arg0)
      ∧ r.2.mem ((c.tc : Thread Cert.AdamThreeIdeal.nD Cert.AdamThreeIdeal.τ).loc Cert.AdamThreeIdeal.main_arg1) = m ((c.tc : Thread Cert.AdamThreeIdeal.nD Cert.AdamThreeIdeal.τ).loc Cert.AdamThreeIdeal.main_arg1)
      ∧ r.2.mem ((c.tc : Thread Cert.AdamThreeIdeal.nD Cert.AdamThreeIdeal.τ).loc Cert.AdamThreeIdeal.main_arg2) = m ((c.tc : Thread Cert.AdamThreeIdeal.nD Cert.AdamThreeIdeal.τ).loc Cert.AdamThreeIdeal.main_arg2)
      ∧ r.2.mem ((c.tc : Thread Cert.AdamThreeIdeal.nD Cert.AdamThreeIdeal.τ).loc Cert.AdamThreeIdeal.main_arg3) = m ((c.tc : Thread Cert.AdamThreeIdeal.nD Cert.AdamThreeIdeal.τ).loc Cert.AdamThreeIdeal.main_arg3)
      ∧ r.2.mem ((c.tc : Thread Cert.AdamThreeIdeal.nD Cert.AdamThreeIdeal.τ).loc Cert.AdamThreeIdeal.main_arg4) = m ((c.tc : Thread Cert.AdamThreeIdeal.nD Cert.AdamThreeIdeal.τ).loc Cert.AdamThreeIdeal.main_arg4)
      ∧ r.2.mem ((c.tc : Thread Cert.AdamThreeIdeal.nD Cert.AdamThreeIdeal.τ).loc Cert.AdamThreeIdeal.main_arg5) = m ((c.tc : Thread Cert.AdamThreeIdeal.nD Cert.AdamThreeIdeal.τ).loc Cert.AdamThreeIdeal.main_arg5)
      ∧ r.2.mem ((c.tc : Thread Cert.AdamThreeIdeal.nD Cert.AdamThreeIdeal.τ).loc Cert.AdamThreeIdeal.main_arg6) = m ((c.tc : Thread Cert.AdamThreeIdeal.nD Cert.AdamThreeIdeal.τ).loc Cert.AdamThreeIdeal.main_arg6)
      ∧ r.2.mem ((c.tc : Thread Cert.AdamThreeIdeal.nD Cert.AdamThreeIdeal.τ).loc Cert.AdamThreeIdeal.main_arg7) = m ((c.tc : Thread Cert.AdamThreeIdeal.nD Cert.AdamThreeIdeal.τ).loc Cert.AdamThreeIdeal.main_arg7)
      ∧ r.2.mem ((c.tc : Thread Cert.AdamThreeIdeal.nD Cert.AdamThreeIdeal.τ).loc Cert.AdamThreeIdeal.main_arg8) = m ((c.tc : Thread Cert.AdamThreeIdeal.nD Cert.AdamThreeIdeal.τ).loc Cert.AdamThreeIdeal.main_arg8)
      ∧ r.2.mem ((c.tc : Thread Cert.AdamThreeIdeal.nD Cert.AdamThreeIdeal.τ).loc Cert.AdamThreeIdeal.main_arg9) = m ((c.tc : Thread Cert.AdamThreeIdeal.nD Cert.AdamThreeIdeal.τ).loc Cert.AdamThreeIdeal.main_arg9)
      ∧ r.2.mem ((c.tc : Thread Cert.AdamThreeIdeal.nD Cert.AdamThreeIdeal.τ).loc Cert.AdamThreeIdeal.main_arg10) = m ((c.tc : Thread Cert.AdamThreeIdeal.nD Cert.AdamThreeIdeal.τ).loc Cert.AdamThreeIdeal.main_arg10)
      ∧ r.2.mem ((c.tc : Thread Cert.AdamThreeIdeal.nD Cert.AdamThreeIdeal.τ).loc Cert.AdamThreeIdeal.main_arg11) = m ((c.tc : Thread Cert.AdamThreeIdeal.nD Cert.AdamThreeIdeal.τ).loc Cert.AdamThreeIdeal.main_arg11))
      ∧ r.2.sem = fun _ => 0)

def quiescent_AdamThreeReferenceIdeal [hAdamThreeReferenceIdeal : Cert.AdamThreeReferenceIdeal.Facts] : Prop :=
  ∀ (m : (ℓ : Loc Cert.AdamThreeReferenceIdeal.nD Cert.AdamThreeReferenceIdeal.τ Cert.AdamThreeReferenceIdeal.sig) → Buf (Elt Ideal) ℓ) (g : Dev Cert.AdamThreeReferenceIdeal.nD → PrngReg), Pre_AdamThreeReferenceIdeal m →
    θ_run (Cert.AdamThreeReferenceIdeal.defs (F := Ideal)) (onTc (τ := Cert.AdamThreeReferenceIdeal.τ) (Cert.AdamThreeReferenceIdeal.main (F := Ideal))) ⟨m, fun _ => 0, g⟩ (fun r => (∀ c : Dev Cert.AdamThreeReferenceIdeal.nD,
      r.2.mem ((c.tc : Thread Cert.AdamThreeReferenceIdeal.nD Cert.AdamThreeReferenceIdeal.τ).loc Cert.AdamThreeReferenceIdeal.main_arg0) = m ((c.tc : Thread Cert.AdamThreeReferenceIdeal.nD Cert.AdamThreeReferenceIdeal.τ).loc Cert.AdamThreeReferenceIdeal.main_arg0)
      ∧ r.2.mem ((c.tc : Thread Cert.AdamThreeReferenceIdeal.nD Cert.AdamThreeReferenceIdeal.τ).loc Cert.AdamThreeReferenceIdeal.main_arg1) = m ((c.tc : Thread Cert.AdamThreeReferenceIdeal.nD Cert.AdamThreeReferenceIdeal.τ).loc Cert.AdamThreeReferenceIdeal.main_arg1)
      ∧ r.2.mem ((c.tc : Thread Cert.AdamThreeReferenceIdeal.nD Cert.AdamThreeReferenceIdeal.τ).loc Cert.AdamThreeReferenceIdeal.main_arg2) = m ((c.tc : Thread Cert.AdamThreeReferenceIdeal.nD Cert.AdamThreeReferenceIdeal.τ).loc Cert.AdamThreeReferenceIdeal.main_arg2)
      ∧ r.2.mem ((c.tc : Thread Cert.AdamThreeReferenceIdeal.nD Cert.AdamThreeReferenceIdeal.τ).loc Cert.AdamThreeReferenceIdeal.main_arg3) = m ((c.tc : Thread Cert.AdamThreeReferenceIdeal.nD Cert.AdamThreeReferenceIdeal.τ).loc Cert.AdamThreeReferenceIdeal.main_arg3)
      ∧ r.2.mem ((c.tc : Thread Cert.AdamThreeReferenceIdeal.nD Cert.AdamThreeReferenceIdeal.τ).loc Cert.AdamThreeReferenceIdeal.main_arg4) = m ((c.tc : Thread Cert.AdamThreeReferenceIdeal.nD Cert.AdamThreeReferenceIdeal.τ).loc Cert.AdamThreeReferenceIdeal.main_arg4)
      ∧ r.2.mem ((c.tc : Thread Cert.AdamThreeReferenceIdeal.nD Cert.AdamThreeReferenceIdeal.τ).loc Cert.AdamThreeReferenceIdeal.main_arg5) = m ((c.tc : Thread Cert.AdamThreeReferenceIdeal.nD Cert.AdamThreeReferenceIdeal.τ).loc Cert.AdamThreeReferenceIdeal.main_arg5)
      ∧ r.2.mem ((c.tc : Thread Cert.AdamThreeReferenceIdeal.nD Cert.AdamThreeReferenceIdeal.τ).loc Cert.AdamThreeReferenceIdeal.main_arg6) = m ((c.tc : Thread Cert.AdamThreeReferenceIdeal.nD Cert.AdamThreeReferenceIdeal.τ).loc Cert.AdamThreeReferenceIdeal.main_arg6)
      ∧ r.2.mem ((c.tc : Thread Cert.AdamThreeReferenceIdeal.nD Cert.AdamThreeReferenceIdeal.τ).loc Cert.AdamThreeReferenceIdeal.main_arg7) = m ((c.tc : Thread Cert.AdamThreeReferenceIdeal.nD Cert.AdamThreeReferenceIdeal.τ).loc Cert.AdamThreeReferenceIdeal.main_arg7)
      ∧ r.2.mem ((c.tc : Thread Cert.AdamThreeReferenceIdeal.nD Cert.AdamThreeReferenceIdeal.τ).loc Cert.AdamThreeReferenceIdeal.main_arg8) = m ((c.tc : Thread Cert.AdamThreeReferenceIdeal.nD Cert.AdamThreeReferenceIdeal.τ).loc Cert.AdamThreeReferenceIdeal.main_arg8)
      ∧ r.2.mem ((c.tc : Thread Cert.AdamThreeReferenceIdeal.nD Cert.AdamThreeReferenceIdeal.τ).loc Cert.AdamThreeReferenceIdeal.main_arg9) = m ((c.tc : Thread Cert.AdamThreeReferenceIdeal.nD Cert.AdamThreeReferenceIdeal.τ).loc Cert.AdamThreeReferenceIdeal.main_arg9)
      ∧ r.2.mem ((c.tc : Thread Cert.AdamThreeReferenceIdeal.nD Cert.AdamThreeReferenceIdeal.τ).loc Cert.AdamThreeReferenceIdeal.main_arg10) = m ((c.tc : Thread Cert.AdamThreeReferenceIdeal.nD Cert.AdamThreeReferenceIdeal.τ).loc Cert.AdamThreeReferenceIdeal.main_arg10)
      ∧ r.2.mem ((c.tc : Thread Cert.AdamThreeReferenceIdeal.nD Cert.AdamThreeReferenceIdeal.τ).loc Cert.AdamThreeReferenceIdeal.main_arg11) = m ((c.tc : Thread Cert.AdamThreeReferenceIdeal.nD Cert.AdamThreeReferenceIdeal.τ).loc Cert.AdamThreeReferenceIdeal.main_arg11))
      ∧ r.2.sem = fun _ => 0)

def quiescent_AdamFour [hAdamFour : Cert.AdamFour.Facts] : Prop :=
  ∀ (m : (ℓ : Loc Cert.AdamFour.nD Cert.AdamFour.τ Cert.AdamFour.sig) → Buf (Elt Bits) ℓ) (g : Dev Cert.AdamFour.nD → PrngReg), Pre_AdamFour m →
    θ_run (Cert.AdamFour.defs (F := Bits)) (onTc (τ := Cert.AdamFour.τ) (Cert.AdamFour.main (F := Bits))) ⟨m, fun _ => 0, g⟩ (fun r => (∀ c : Dev Cert.AdamFour.nD,
      r.2.mem ((c.tc : Thread Cert.AdamFour.nD Cert.AdamFour.τ).loc Cert.AdamFour.main_arg0) = m ((c.tc : Thread Cert.AdamFour.nD Cert.AdamFour.τ).loc Cert.AdamFour.main_arg0)
      ∧ r.2.mem ((c.tc : Thread Cert.AdamFour.nD Cert.AdamFour.τ).loc Cert.AdamFour.main_arg1) = m ((c.tc : Thread Cert.AdamFour.nD Cert.AdamFour.τ).loc Cert.AdamFour.main_arg1)
      ∧ r.2.mem ((c.tc : Thread Cert.AdamFour.nD Cert.AdamFour.τ).loc Cert.AdamFour.main_arg2) = m ((c.tc : Thread Cert.AdamFour.nD Cert.AdamFour.τ).loc Cert.AdamFour.main_arg2)
      ∧ r.2.mem ((c.tc : Thread Cert.AdamFour.nD Cert.AdamFour.τ).loc Cert.AdamFour.main_arg3) = m ((c.tc : Thread Cert.AdamFour.nD Cert.AdamFour.τ).loc Cert.AdamFour.main_arg3)
      ∧ r.2.mem ((c.tc : Thread Cert.AdamFour.nD Cert.AdamFour.τ).loc Cert.AdamFour.main_arg4) = m ((c.tc : Thread Cert.AdamFour.nD Cert.AdamFour.τ).loc Cert.AdamFour.main_arg4)
      ∧ r.2.mem ((c.tc : Thread Cert.AdamFour.nD Cert.AdamFour.τ).loc Cert.AdamFour.main_arg5) = m ((c.tc : Thread Cert.AdamFour.nD Cert.AdamFour.τ).loc Cert.AdamFour.main_arg5)
      ∧ r.2.mem ((c.tc : Thread Cert.AdamFour.nD Cert.AdamFour.τ).loc Cert.AdamFour.main_arg6) = m ((c.tc : Thread Cert.AdamFour.nD Cert.AdamFour.τ).loc Cert.AdamFour.main_arg6)
      ∧ r.2.mem ((c.tc : Thread Cert.AdamFour.nD Cert.AdamFour.τ).loc Cert.AdamFour.main_arg7) = m ((c.tc : Thread Cert.AdamFour.nD Cert.AdamFour.τ).loc Cert.AdamFour.main_arg7))
      ∧ r.2.sem = fun _ => 0)

def quiescent_AdamFourIdeal [hAdamFourIdeal : Cert.AdamFourIdeal.Facts] : Prop :=
  ∀ (m : (ℓ : Loc Cert.AdamFourIdeal.nD Cert.AdamFourIdeal.τ Cert.AdamFourIdeal.sig) → Buf (Elt Ideal) ℓ) (g : Dev Cert.AdamFourIdeal.nD → PrngReg), Pre_AdamFourIdeal m →
    θ_run (Cert.AdamFourIdeal.defs (F := Ideal)) (onTc (τ := Cert.AdamFourIdeal.τ) (Cert.AdamFourIdeal.main (F := Ideal))) ⟨m, fun _ => 0, g⟩ (fun r => (∀ c : Dev Cert.AdamFourIdeal.nD,
      r.2.mem ((c.tc : Thread Cert.AdamFourIdeal.nD Cert.AdamFourIdeal.τ).loc Cert.AdamFourIdeal.main_arg0) = m ((c.tc : Thread Cert.AdamFourIdeal.nD Cert.AdamFourIdeal.τ).loc Cert.AdamFourIdeal.main_arg0)
      ∧ r.2.mem ((c.tc : Thread Cert.AdamFourIdeal.nD Cert.AdamFourIdeal.τ).loc Cert.AdamFourIdeal.main_arg1) = m ((c.tc : Thread Cert.AdamFourIdeal.nD Cert.AdamFourIdeal.τ).loc Cert.AdamFourIdeal.main_arg1)
      ∧ r.2.mem ((c.tc : Thread Cert.AdamFourIdeal.nD Cert.AdamFourIdeal.τ).loc Cert.AdamFourIdeal.main_arg2) = m ((c.tc : Thread Cert.AdamFourIdeal.nD Cert.AdamFourIdeal.τ).loc Cert.AdamFourIdeal.main_arg2)
      ∧ r.2.mem ((c.tc : Thread Cert.AdamFourIdeal.nD Cert.AdamFourIdeal.τ).loc Cert.AdamFourIdeal.main_arg3) = m ((c.tc : Thread Cert.AdamFourIdeal.nD Cert.AdamFourIdeal.τ).loc Cert.AdamFourIdeal.main_arg3)
      ∧ r.2.mem ((c.tc : Thread Cert.AdamFourIdeal.nD Cert.AdamFourIdeal.τ).loc Cert.AdamFourIdeal.main_arg4) = m ((c.tc : Thread Cert.AdamFourIdeal.nD Cert.AdamFourIdeal.τ).loc Cert.AdamFourIdeal.main_arg4)
      ∧ r.2.mem ((c.tc : Thread Cert.AdamFourIdeal.nD Cert.AdamFourIdeal.τ).loc Cert.AdamFourIdeal.main_arg5) = m ((c.tc : Thread Cert.AdamFourIdeal.nD Cert.AdamFourIdeal.τ).loc Cert.AdamFourIdeal.main_arg5)
      ∧ r.2.mem ((c.tc : Thread Cert.AdamFourIdeal.nD Cert.AdamFourIdeal.τ).loc Cert.AdamFourIdeal.main_arg6) = m ((c.tc : Thread Cert.AdamFourIdeal.nD Cert.AdamFourIdeal.τ).loc Cert.AdamFourIdeal.main_arg6)
      ∧ r.2.mem ((c.tc : Thread Cert.AdamFourIdeal.nD Cert.AdamFourIdeal.τ).loc Cert.AdamFourIdeal.main_arg7) = m ((c.tc : Thread Cert.AdamFourIdeal.nD Cert.AdamFourIdeal.τ).loc Cert.AdamFourIdeal.main_arg7))
      ∧ r.2.sem = fun _ => 0)

def quiescent_AdamFourReferenceIdeal [hAdamFourReferenceIdeal : Cert.AdamFourReferenceIdeal.Facts] : Prop :=
  ∀ (m : (ℓ : Loc Cert.AdamFourReferenceIdeal.nD Cert.AdamFourReferenceIdeal.τ Cert.AdamFourReferenceIdeal.sig) → Buf (Elt Ideal) ℓ) (g : Dev Cert.AdamFourReferenceIdeal.nD → PrngReg), Pre_AdamFourReferenceIdeal m →
    θ_run (Cert.AdamFourReferenceIdeal.defs (F := Ideal)) (onTc (τ := Cert.AdamFourReferenceIdeal.τ) (Cert.AdamFourReferenceIdeal.main (F := Ideal))) ⟨m, fun _ => 0, g⟩ (fun r => (∀ c : Dev Cert.AdamFourReferenceIdeal.nD,
      r.2.mem ((c.tc : Thread Cert.AdamFourReferenceIdeal.nD Cert.AdamFourReferenceIdeal.τ).loc Cert.AdamFourReferenceIdeal.main_arg0) = m ((c.tc : Thread Cert.AdamFourReferenceIdeal.nD Cert.AdamFourReferenceIdeal.τ).loc Cert.AdamFourReferenceIdeal.main_arg0)
      ∧ r.2.mem ((c.tc : Thread Cert.AdamFourReferenceIdeal.nD Cert.AdamFourReferenceIdeal.τ).loc Cert.AdamFourReferenceIdeal.main_arg1) = m ((c.tc : Thread Cert.AdamFourReferenceIdeal.nD Cert.AdamFourReferenceIdeal.τ).loc Cert.AdamFourReferenceIdeal.main_arg1)
      ∧ r.2.mem ((c.tc : Thread Cert.AdamFourReferenceIdeal.nD Cert.AdamFourReferenceIdeal.τ).loc Cert.AdamFourReferenceIdeal.main_arg2) = m ((c.tc : Thread Cert.AdamFourReferenceIdeal.nD Cert.AdamFourReferenceIdeal.τ).loc Cert.AdamFourReferenceIdeal.main_arg2)
      ∧ r.2.mem ((c.tc : Thread Cert.AdamFourReferenceIdeal.nD Cert.AdamFourReferenceIdeal.τ).loc Cert.AdamFourReferenceIdeal.main_arg3) = m ((c.tc : Thread Cert.AdamFourReferenceIdeal.nD Cert.AdamFourReferenceIdeal.τ).loc Cert.AdamFourReferenceIdeal.main_arg3)
      ∧ r.2.mem ((c.tc : Thread Cert.AdamFourReferenceIdeal.nD Cert.AdamFourReferenceIdeal.τ).loc Cert.AdamFourReferenceIdeal.main_arg4) = m ((c.tc : Thread Cert.AdamFourReferenceIdeal.nD Cert.AdamFourReferenceIdeal.τ).loc Cert.AdamFourReferenceIdeal.main_arg4)
      ∧ r.2.mem ((c.tc : Thread Cert.AdamFourReferenceIdeal.nD Cert.AdamFourReferenceIdeal.τ).loc Cert.AdamFourReferenceIdeal.main_arg5) = m ((c.tc : Thread Cert.AdamFourReferenceIdeal.nD Cert.AdamFourReferenceIdeal.τ).loc Cert.AdamFourReferenceIdeal.main_arg5)
      ∧ r.2.mem ((c.tc : Thread Cert.AdamFourReferenceIdeal.nD Cert.AdamFourReferenceIdeal.τ).loc Cert.AdamFourReferenceIdeal.main_arg6) = m ((c.tc : Thread Cert.AdamFourReferenceIdeal.nD Cert.AdamFourReferenceIdeal.τ).loc Cert.AdamFourReferenceIdeal.main_arg6)
      ∧ r.2.mem ((c.tc : Thread Cert.AdamFourReferenceIdeal.nD Cert.AdamFourReferenceIdeal.τ).loc Cert.AdamFourReferenceIdeal.main_arg7) = m ((c.tc : Thread Cert.AdamFourReferenceIdeal.nD Cert.AdamFourReferenceIdeal.τ).loc Cert.AdamFourReferenceIdeal.main_arg7))
      ∧ r.2.sem = fun _ => 0)

def preserves_Input_InputIdeal : Prop :=
  True

def algebraic_InputIdeal_InputReferenceIdeal [hInputIdeal : Cert.InputIdeal.Facts] [hInputReferenceIdeal : Cert.InputReferenceIdeal.Facts] : Prop :=
  ∀ (m : (ℓ : Loc Cert.InputIdeal.nD Cert.InputIdeal.τ Cert.InputIdeal.sig) → Buf (Elt Ideal) ℓ) (g : Dev Cert.InputIdeal.nD → PrngReg)
    (m' : (ℓ : Loc Cert.InputReferenceIdeal.nD Cert.InputReferenceIdeal.τ Cert.InputReferenceIdeal.sig) → Buf (Elt Ideal) ℓ) (g' : Dev Cert.InputReferenceIdeal.nD → PrngReg), Pre_InputIdeal m →
    (∀ c : Dev Cert.InputIdeal.nD,
      m' ((c.tc : Thread Cert.InputReferenceIdeal.nD Cert.InputReferenceIdeal.τ).loc Cert.InputReferenceIdeal.main_arg0) = m ((c.tc : Thread Cert.InputIdeal.nD Cert.InputIdeal.τ).loc Cert.InputIdeal.main_arg0)
      ∧ m' ((c.tc : Thread Cert.InputReferenceIdeal.nD Cert.InputReferenceIdeal.τ).loc Cert.InputReferenceIdeal.main_arg1) = m ((c.tc : Thread Cert.InputIdeal.nD Cert.InputIdeal.τ).loc Cert.InputIdeal.main_arg1)
      ∧ m' ((c.tc : Thread Cert.InputReferenceIdeal.nD Cert.InputReferenceIdeal.τ).loc Cert.InputReferenceIdeal.main_arg2) = m ((c.tc : Thread Cert.InputIdeal.nD Cert.InputIdeal.τ).loc Cert.InputIdeal.main_arg2)
      ∧ m' ((c.tc : Thread Cert.InputReferenceIdeal.nD Cert.InputReferenceIdeal.τ).loc Cert.InputReferenceIdeal.main_arg3) = m ((c.tc : Thread Cert.InputIdeal.nD Cert.InputIdeal.τ).loc Cert.InputIdeal.main_arg3)) →
    ∃ (v0 : (c : Dev Cert.InputIdeal.nD) → Buf (Elt Ideal) ((c.tc : Thread Cert.InputIdeal.nD Cert.InputIdeal.τ).loc Cert.InputIdeal.main_v2_0)) (v1 : (c : Dev Cert.InputIdeal.nD) → Buf (Elt Ideal) ((c.tc : Thread Cert.InputIdeal.nD Cert.InputIdeal.τ).loc Cert.InputIdeal.main_v2_1)),
      θ_run (Cert.InputIdeal.defs (F := Ideal)) (onTc (τ := Cert.InputIdeal.τ) (Cert.InputIdeal.main (F := Ideal))) ⟨m, fun _ => 0, g⟩ (fun r => ∀ c : Dev Cert.InputIdeal.nD,
          r.2.mem ((c.tc : Thread Cert.InputIdeal.nD Cert.InputIdeal.τ).loc Cert.InputIdeal.main_v2_0) = v0 c
          ∧ r.2.mem ((c.tc : Thread Cert.InputIdeal.nD Cert.InputIdeal.τ).loc Cert.InputIdeal.main_v2_1) = v1 c
          ∧ r.2.mem ((c.tc : Thread Cert.InputIdeal.nD Cert.InputIdeal.τ).loc Cert.InputIdeal.main_arg0) = m ((c.tc : Thread Cert.InputIdeal.nD Cert.InputIdeal.τ).loc Cert.InputIdeal.main_arg0)
          ∧ r.2.mem ((c.tc : Thread Cert.InputIdeal.nD Cert.InputIdeal.τ).loc Cert.InputIdeal.main_arg1) = m ((c.tc : Thread Cert.InputIdeal.nD Cert.InputIdeal.τ).loc Cert.InputIdeal.main_arg1)
          ∧ r.2.mem ((c.tc : Thread Cert.InputIdeal.nD Cert.InputIdeal.τ).loc Cert.InputIdeal.main_arg2) = m ((c.tc : Thread Cert.InputIdeal.nD Cert.InputIdeal.τ).loc Cert.InputIdeal.main_arg2)
          ∧ r.2.mem ((c.tc : Thread Cert.InputIdeal.nD Cert.InputIdeal.τ).loc Cert.InputIdeal.main_arg3) = m ((c.tc : Thread Cert.InputIdeal.nD Cert.InputIdeal.τ).loc Cert.InputIdeal.main_arg3))
      ∧ θ_run (Cert.InputReferenceIdeal.defs (F := Ideal)) (onTc (τ := Cert.InputReferenceIdeal.τ) (Cert.InputReferenceIdeal.main (F := Ideal))) ⟨m', fun _ => 0, g'⟩ (fun r => ∀ c : Dev Cert.InputReferenceIdeal.nD,
          r.2.mem ((c.tc : Thread Cert.InputReferenceIdeal.nD Cert.InputReferenceIdeal.τ).loc Cert.InputReferenceIdeal.main_v5) = v0 c
          ∧ r.2.mem ((c.tc : Thread Cert.InputReferenceIdeal.nD Cert.InputReferenceIdeal.τ).loc Cert.InputReferenceIdeal.main_v6) = v1 c
          ∧ r.2.mem ((c.tc : Thread Cert.InputReferenceIdeal.nD Cert.InputReferenceIdeal.τ).loc Cert.InputReferenceIdeal.main_arg0) = m' ((c.tc : Thread Cert.InputReferenceIdeal.nD Cert.InputReferenceIdeal.τ).loc Cert.InputReferenceIdeal.main_arg0)
          ∧ r.2.mem ((c.tc : Thread Cert.InputReferenceIdeal.nD Cert.InputReferenceIdeal.τ).loc Cert.InputReferenceIdeal.main_arg1) = m' ((c.tc : Thread Cert.InputReferenceIdeal.nD Cert.InputReferenceIdeal.τ).loc Cert.InputReferenceIdeal.main_arg1)
          ∧ r.2.mem ((c.tc : Thread Cert.InputReferenceIdeal.nD Cert.InputReferenceIdeal.τ).loc Cert.InputReferenceIdeal.main_arg2) = m' ((c.tc : Thread Cert.InputReferenceIdeal.nD Cert.InputReferenceIdeal.τ).loc Cert.InputReferenceIdeal.main_arg2)
          ∧ r.2.mem ((c.tc : Thread Cert.InputReferenceIdeal.nD Cert.InputReferenceIdeal.τ).loc Cert.InputReferenceIdeal.main_arg3) = m' ((c.tc : Thread Cert.InputReferenceIdeal.nD Cert.InputReferenceIdeal.τ).loc Cert.InputReferenceIdeal.main_arg3))

def preserves_Forward_ForwardIdeal : Prop :=
  IdealRules.named_const.Statement Cert.ForwardIdeal.κ "mask" .f32 0xFF7F0000#32 ⊥
  ∧ IdealRules.named_const.Statement Cert.ForwardIdeal.κ "gelu_ca" .f32 0x3D122279#32 ((80338380498831 / 2251799813685248 : ℝ) : EReal)

def algebraic_ForwardIdeal_ForwardReferenceIdeal_pre_columns_finite [hForwardIdeal : Cert.ForwardIdeal.Facts] [hForwardReferenceIdeal : Cert.ForwardReferenceIdeal.Facts] [hPre_columns_finite : Cert.Pre_columns_finite.Facts] : Prop :=
  ∀ (m : (ℓ : Loc Cert.ForwardIdeal.nD Cert.ForwardIdeal.τ Cert.ForwardIdeal.sig) → Buf (Elt Ideal) ℓ) (g : Dev Cert.ForwardIdeal.nD → PrngReg)
    (m' : (ℓ : Loc Cert.ForwardReferenceIdeal.nD Cert.ForwardReferenceIdeal.τ Cert.ForwardReferenceIdeal.sig) → Buf (Elt Ideal) ℓ) (g' : Dev Cert.ForwardReferenceIdeal.nD → PrngReg), Pre_ForwardIdeal_columns_finite m →
    (∀ c : Dev Cert.ForwardIdeal.nD,
      m' ((c.tc : Thread Cert.ForwardReferenceIdeal.nD Cert.ForwardReferenceIdeal.τ).loc Cert.ForwardReferenceIdeal.main_arg0) = m ((c.tc : Thread Cert.ForwardIdeal.nD Cert.ForwardIdeal.τ).loc Cert.ForwardIdeal.main_arg0)
      ∧ m' ((c.tc : Thread Cert.ForwardReferenceIdeal.nD Cert.ForwardReferenceIdeal.τ).loc Cert.ForwardReferenceIdeal.main_arg1) = m ((c.tc : Thread Cert.ForwardIdeal.nD Cert.ForwardIdeal.τ).loc Cert.ForwardIdeal.main_arg1)
      ∧ m' ((c.tc : Thread Cert.ForwardReferenceIdeal.nD Cert.ForwardReferenceIdeal.τ).loc Cert.ForwardReferenceIdeal.main_arg2) = m ((c.tc : Thread Cert.ForwardIdeal.nD Cert.ForwardIdeal.τ).loc Cert.ForwardIdeal.main_arg2)
      ∧ m' ((c.tc : Thread Cert.ForwardReferenceIdeal.nD Cert.ForwardReferenceIdeal.τ).loc Cert.ForwardReferenceIdeal.main_arg3) = m ((c.tc : Thread Cert.ForwardIdeal.nD Cert.ForwardIdeal.τ).loc Cert.ForwardIdeal.main_arg3)
      ∧ m' ((c.tc : Thread Cert.ForwardReferenceIdeal.nD Cert.ForwardReferenceIdeal.τ).loc Cert.ForwardReferenceIdeal.main_arg4) = m ((c.tc : Thread Cert.ForwardIdeal.nD Cert.ForwardIdeal.τ).loc Cert.ForwardIdeal.main_arg4)
      ∧ m' ((c.tc : Thread Cert.ForwardReferenceIdeal.nD Cert.ForwardReferenceIdeal.τ).loc Cert.ForwardReferenceIdeal.main_arg5) = m ((c.tc : Thread Cert.ForwardIdeal.nD Cert.ForwardIdeal.τ).loc Cert.ForwardIdeal.main_arg5)
      ∧ m' ((c.tc : Thread Cert.ForwardReferenceIdeal.nD Cert.ForwardReferenceIdeal.τ).loc Cert.ForwardReferenceIdeal.main_arg6) = m ((c.tc : Thread Cert.ForwardIdeal.nD Cert.ForwardIdeal.τ).loc Cert.ForwardIdeal.main_arg6)
      ∧ m' ((c.tc : Thread Cert.ForwardReferenceIdeal.nD Cert.ForwardReferenceIdeal.τ).loc Cert.ForwardReferenceIdeal.main_arg7) = m ((c.tc : Thread Cert.ForwardIdeal.nD Cert.ForwardIdeal.τ).loc Cert.ForwardIdeal.main_arg7)
      ∧ m' ((c.tc : Thread Cert.ForwardReferenceIdeal.nD Cert.ForwardReferenceIdeal.τ).loc Cert.ForwardReferenceIdeal.main_arg8) = m ((c.tc : Thread Cert.ForwardIdeal.nD Cert.ForwardIdeal.τ).loc Cert.ForwardIdeal.main_arg8)
      ∧ m' ((c.tc : Thread Cert.ForwardReferenceIdeal.nD Cert.ForwardReferenceIdeal.τ).loc Cert.ForwardReferenceIdeal.main_arg9) = m ((c.tc : Thread Cert.ForwardIdeal.nD Cert.ForwardIdeal.τ).loc Cert.ForwardIdeal.main_arg9)
      ∧ m' ((c.tc : Thread Cert.ForwardReferenceIdeal.nD Cert.ForwardReferenceIdeal.τ).loc Cert.ForwardReferenceIdeal.main_arg10) = m ((c.tc : Thread Cert.ForwardIdeal.nD Cert.ForwardIdeal.τ).loc Cert.ForwardIdeal.main_arg10)
      ∧ m' ((c.tc : Thread Cert.ForwardReferenceIdeal.nD Cert.ForwardReferenceIdeal.τ).loc Cert.ForwardReferenceIdeal.main_arg11) = m ((c.tc : Thread Cert.ForwardIdeal.nD Cert.ForwardIdeal.τ).loc Cert.ForwardIdeal.main_arg11)
      ∧ m' ((c.tc : Thread Cert.ForwardReferenceIdeal.nD Cert.ForwardReferenceIdeal.τ).loc Cert.ForwardReferenceIdeal.main_arg12) = m ((c.tc : Thread Cert.ForwardIdeal.nD Cert.ForwardIdeal.τ).loc Cert.ForwardIdeal.main_arg12)
      ∧ m' ((c.tc : Thread Cert.ForwardReferenceIdeal.nD Cert.ForwardReferenceIdeal.τ).loc Cert.ForwardReferenceIdeal.main_arg13) = m ((c.tc : Thread Cert.ForwardIdeal.nD Cert.ForwardIdeal.τ).loc Cert.ForwardIdeal.main_arg13)
      ∧ m' ((c.tc : Thread Cert.ForwardReferenceIdeal.nD Cert.ForwardReferenceIdeal.τ).loc Cert.ForwardReferenceIdeal.main_arg14) = m ((c.tc : Thread Cert.ForwardIdeal.nD Cert.ForwardIdeal.τ).loc Cert.ForwardIdeal.main_arg14)) →
    ∃ (v0 : (c : Dev Cert.ForwardIdeal.nD) → Buf (Elt Ideal) ((c.tc : Thread Cert.ForwardIdeal.nD Cert.ForwardIdeal.τ).loc Cert.ForwardIdeal.main_v14_0)) (v1 : (c : Dev Cert.ForwardIdeal.nD) → Buf (Elt Ideal) ((c.tc : Thread Cert.ForwardIdeal.nD Cert.ForwardIdeal.τ).loc Cert.ForwardIdeal.main_v14_1)),
      θ_run (Cert.ForwardIdeal.defs (F := Ideal)) (onTc (τ := Cert.ForwardIdeal.τ) (Cert.ForwardIdeal.main (F := Ideal))) ⟨m, fun _ => 0, g⟩ (fun r => ∀ c : Dev Cert.ForwardIdeal.nD,
          r.2.mem ((c.tc : Thread Cert.ForwardIdeal.nD Cert.ForwardIdeal.τ).loc Cert.ForwardIdeal.main_v14_0) = v0 c
          ∧ r.2.mem ((c.tc : Thread Cert.ForwardIdeal.nD Cert.ForwardIdeal.τ).loc Cert.ForwardIdeal.main_v14_1) = v1 c
          ∧ r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
          ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
          ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
          ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3)
          ∧ r.2.mem ((c.tc : Thread Cert.ForwardIdeal.nD Cert.ForwardIdeal.τ).loc Cert.ForwardIdeal.main_arg4) = m ((c.tc : Thread Cert.ForwardIdeal.nD Cert.ForwardIdeal.τ).loc Cert.ForwardIdeal.main_arg4)
          ∧ r.2.mem ((c.tc : Thread Cert.ForwardIdeal.nD Cert.ForwardIdeal.τ).loc Cert.ForwardIdeal.main_arg5) = m ((c.tc : Thread Cert.ForwardIdeal.nD Cert.ForwardIdeal.τ).loc Cert.ForwardIdeal.main_arg5)
          ∧ r.2.mem ((c.tc : Thread Cert.ForwardIdeal.nD Cert.ForwardIdeal.τ).loc Cert.ForwardIdeal.main_arg6) = m ((c.tc : Thread Cert.ForwardIdeal.nD Cert.ForwardIdeal.τ).loc Cert.ForwardIdeal.main_arg6)
          ∧ r.2.mem ((c.tc : Thread Cert.ForwardIdeal.nD Cert.ForwardIdeal.τ).loc Cert.ForwardIdeal.main_arg7) = m ((c.tc : Thread Cert.ForwardIdeal.nD Cert.ForwardIdeal.τ).loc Cert.ForwardIdeal.main_arg7)
          ∧ r.2.mem ((c.tc : Thread Cert.ForwardIdeal.nD Cert.ForwardIdeal.τ).loc Cert.ForwardIdeal.main_arg8) = m ((c.tc : Thread Cert.ForwardIdeal.nD Cert.ForwardIdeal.τ).loc Cert.ForwardIdeal.main_arg8)
          ∧ r.2.mem ((c.tc : Thread Cert.ForwardIdeal.nD Cert.ForwardIdeal.τ).loc Cert.ForwardIdeal.main_arg9) = m ((c.tc : Thread Cert.ForwardIdeal.nD Cert.ForwardIdeal.τ).loc Cert.ForwardIdeal.main_arg9)
          ∧ r.2.mem ((c.tc : Thread Cert.ForwardIdeal.nD Cert.ForwardIdeal.τ).loc Cert.ForwardIdeal.main_arg10) = m ((c.tc : Thread Cert.ForwardIdeal.nD Cert.ForwardIdeal.τ).loc Cert.ForwardIdeal.main_arg10)
          ∧ r.2.mem ((c.tc : Thread Cert.ForwardIdeal.nD Cert.ForwardIdeal.τ).loc Cert.ForwardIdeal.main_arg11) = m ((c.tc : Thread Cert.ForwardIdeal.nD Cert.ForwardIdeal.τ).loc Cert.ForwardIdeal.main_arg11)
          ∧ r.2.mem ((c.tc : Thread Cert.ForwardIdeal.nD Cert.ForwardIdeal.τ).loc Cert.ForwardIdeal.main_arg12) = m ((c.tc : Thread Cert.ForwardIdeal.nD Cert.ForwardIdeal.τ).loc Cert.ForwardIdeal.main_arg12)
          ∧ r.2.mem ((c.tc : Thread Cert.ForwardIdeal.nD Cert.ForwardIdeal.τ).loc Cert.ForwardIdeal.main_arg13) = m ((c.tc : Thread Cert.ForwardIdeal.nD Cert.ForwardIdeal.τ).loc Cert.ForwardIdeal.main_arg13)
          ∧ r.2.mem ((c.tc : Thread Cert.ForwardIdeal.nD Cert.ForwardIdeal.τ).loc Cert.ForwardIdeal.main_arg14) = m ((c.tc : Thread Cert.ForwardIdeal.nD Cert.ForwardIdeal.τ).loc Cert.ForwardIdeal.main_arg14))
      ∧ θ_run (Cert.ForwardReferenceIdeal.defs (F := Ideal)) (onTc (τ := Cert.ForwardReferenceIdeal.τ) (Cert.ForwardReferenceIdeal.main (F := Ideal))) ⟨m', fun _ => 0, g'⟩ (fun r => ∀ c : Dev Cert.ForwardReferenceIdeal.nD,
          r.2.mem ((c.tc : Thread Cert.ForwardReferenceIdeal.nD Cert.ForwardReferenceIdeal.τ).loc Cert.ForwardReferenceIdeal.main_v199) = v0 c
          ∧ r.2.mem ((c.tc : Thread Cert.ForwardReferenceIdeal.nD Cert.ForwardReferenceIdeal.τ).loc Cert.ForwardReferenceIdeal.main_v203) = v1 c
          ∧ r.2.mem ((c.tc : Thread Cert.ForwardReferenceIdeal.nD Cert.ForwardReferenceIdeal.τ).loc Cert.ForwardReferenceIdeal.main_arg0) = m' ((c.tc : Thread Cert.ForwardReferenceIdeal.nD Cert.ForwardReferenceIdeal.τ).loc Cert.ForwardReferenceIdeal.main_arg0)
          ∧ r.2.mem ((c.tc : Thread Cert.ForwardReferenceIdeal.nD Cert.ForwardReferenceIdeal.τ).loc Cert.ForwardReferenceIdeal.main_arg1) = m' ((c.tc : Thread Cert.ForwardReferenceIdeal.nD Cert.ForwardReferenceIdeal.τ).loc Cert.ForwardReferenceIdeal.main_arg1)
          ∧ r.2.mem ((c.tc : Thread Cert.ForwardReferenceIdeal.nD Cert.ForwardReferenceIdeal.τ).loc Cert.ForwardReferenceIdeal.main_arg2) = m' ((c.tc : Thread Cert.ForwardReferenceIdeal.nD Cert.ForwardReferenceIdeal.τ).loc Cert.ForwardReferenceIdeal.main_arg2)
          ∧ r.2.mem ((c.tc : Thread Cert.ForwardReferenceIdeal.nD Cert.ForwardReferenceIdeal.τ).loc Cert.ForwardReferenceIdeal.main_arg3) = m' ((c.tc : Thread Cert.ForwardReferenceIdeal.nD Cert.ForwardReferenceIdeal.τ).loc Cert.ForwardReferenceIdeal.main_arg3)
          ∧ r.2.mem ((c.tc : Thread Cert.ForwardReferenceIdeal.nD Cert.ForwardReferenceIdeal.τ).loc Cert.ForwardReferenceIdeal.main_arg4) = m' ((c.tc : Thread Cert.ForwardReferenceIdeal.nD Cert.ForwardReferenceIdeal.τ).loc Cert.ForwardReferenceIdeal.main_arg4)
          ∧ r.2.mem ((c.tc : Thread Cert.ForwardReferenceIdeal.nD Cert.ForwardReferenceIdeal.τ).loc Cert.ForwardReferenceIdeal.main_arg5) = m' ((c.tc : Thread Cert.ForwardReferenceIdeal.nD Cert.ForwardReferenceIdeal.τ).loc Cert.ForwardReferenceIdeal.main_arg5)
          ∧ r.2.mem ((c.tc : Thread Cert.ForwardReferenceIdeal.nD Cert.ForwardReferenceIdeal.τ).loc Cert.ForwardReferenceIdeal.main_arg6) = m' ((c.tc : Thread Cert.ForwardReferenceIdeal.nD Cert.ForwardReferenceIdeal.τ).loc Cert.ForwardReferenceIdeal.main_arg6)
          ∧ r.2.mem ((c.tc : Thread Cert.ForwardReferenceIdeal.nD Cert.ForwardReferenceIdeal.τ).loc Cert.ForwardReferenceIdeal.main_arg7) = m' ((c.tc : Thread Cert.ForwardReferenceIdeal.nD Cert.ForwardReferenceIdeal.τ).loc Cert.ForwardReferenceIdeal.main_arg7)
          ∧ r.2.mem ((c.tc : Thread Cert.ForwardReferenceIdeal.nD Cert.ForwardReferenceIdeal.τ).loc Cert.ForwardReferenceIdeal.main_arg8) = m' ((c.tc : Thread Cert.ForwardReferenceIdeal.nD Cert.ForwardReferenceIdeal.τ).loc Cert.ForwardReferenceIdeal.main_arg8)
          ∧ r.2.mem ((c.tc : Thread Cert.ForwardReferenceIdeal.nD Cert.ForwardReferenceIdeal.τ).loc Cert.ForwardReferenceIdeal.main_arg9) = m' ((c.tc : Thread Cert.ForwardReferenceIdeal.nD Cert.ForwardReferenceIdeal.τ).loc Cert.ForwardReferenceIdeal.main_arg9)
          ∧ r.2.mem ((c.tc : Thread Cert.ForwardReferenceIdeal.nD Cert.ForwardReferenceIdeal.τ).loc Cert.ForwardReferenceIdeal.main_arg10) = m' ((c.tc : Thread Cert.ForwardReferenceIdeal.nD Cert.ForwardReferenceIdeal.τ).loc Cert.ForwardReferenceIdeal.main_arg10)
          ∧ r.2.mem ((c.tc : Thread Cert.ForwardReferenceIdeal.nD Cert.ForwardReferenceIdeal.τ).loc Cert.ForwardReferenceIdeal.main_arg11) = m' ((c.tc : Thread Cert.ForwardReferenceIdeal.nD Cert.ForwardReferenceIdeal.τ).loc Cert.ForwardReferenceIdeal.main_arg11)
          ∧ r.2.mem ((c.tc : Thread Cert.ForwardReferenceIdeal.nD Cert.ForwardReferenceIdeal.τ).loc Cert.ForwardReferenceIdeal.main_arg12) = m' ((c.tc : Thread Cert.ForwardReferenceIdeal.nD Cert.ForwardReferenceIdeal.τ).loc Cert.ForwardReferenceIdeal.main_arg12)
          ∧ r.2.mem ((c.tc : Thread Cert.ForwardReferenceIdeal.nD Cert.ForwardReferenceIdeal.τ).loc Cert.ForwardReferenceIdeal.main_arg13) = m' ((c.tc : Thread Cert.ForwardReferenceIdeal.nD Cert.ForwardReferenceIdeal.τ).loc Cert.ForwardReferenceIdeal.main_arg13)
          ∧ r.2.mem ((c.tc : Thread Cert.ForwardReferenceIdeal.nD Cert.ForwardReferenceIdeal.τ).loc Cert.ForwardReferenceIdeal.main_arg14) = m' ((c.tc : Thread Cert.ForwardReferenceIdeal.nD Cert.ForwardReferenceIdeal.τ).loc Cert.ForwardReferenceIdeal.main_arg14))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)) →
    ∃ (v0 : (c : Dev Cert.ProjectIdeal.nD) → Buf (Elt Ideal) ((c.tc : Thread Cert.ProjectIdeal.nD Cert.ProjectIdeal.τ).loc Cert.ProjectIdeal.main_v3)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v3) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v3) = v0 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2))

def preserves_NormBackward_NormBackwardIdeal : Prop :=
  True

def algebraic_NormBackwardIdeal_NormBackwardReferenceIdeal_pre_gradient_finite [hNormBackwardIdeal : Cert.NormBackwardIdeal.Facts] [hNormBackwardReferenceIdeal : Cert.NormBackwardReferenceIdeal.Facts] [hPre_gradient_finite : Cert.Pre_gradient_finite.Facts] : Prop :=
  ∀ (m : (ℓ : Loc Cert.NormBackwardIdeal.nD Cert.NormBackwardIdeal.τ Cert.NormBackwardIdeal.sig) → Buf (Elt Ideal) ℓ) (g : Dev Cert.NormBackwardIdeal.nD → PrngReg)
    (m' : (ℓ : Loc Cert.NormBackwardReferenceIdeal.nD Cert.NormBackwardReferenceIdeal.τ Cert.NormBackwardReferenceIdeal.sig) → Buf (Elt Ideal) ℓ) (g' : Dev Cert.NormBackwardReferenceIdeal.nD → PrngReg), Pre_NormBackwardIdeal_gradient_finite m →
    (∀ c : Dev Cert.NormBackwardIdeal.nD,
      m' ((c.tc : Thread Cert.NormBackwardReferenceIdeal.nD Cert.NormBackwardReferenceIdeal.τ).loc Cert.NormBackwardReferenceIdeal.main_arg0) = m ((c.tc : Thread Cert.NormBackwardIdeal.nD Cert.NormBackwardIdeal.τ).loc Cert.NormBackwardIdeal.main_arg0)
      ∧ m' ((c.tc : Thread Cert.NormBackwardReferenceIdeal.nD Cert.NormBackwardReferenceIdeal.τ).loc Cert.NormBackwardReferenceIdeal.main_arg1) = m ((c.tc : Thread Cert.NormBackwardIdeal.nD Cert.NormBackwardIdeal.τ).loc Cert.NormBackwardIdeal.main_arg1)
      ∧ m' ((c.tc : Thread Cert.NormBackwardReferenceIdeal.nD Cert.NormBackwardReferenceIdeal.τ).loc Cert.NormBackwardReferenceIdeal.main_arg2) = m ((c.tc : Thread Cert.NormBackwardIdeal.nD Cert.NormBackwardIdeal.τ).loc Cert.NormBackwardIdeal.main_arg2)) →
    ∃ (v0 : (c : Dev Cert.NormBackwardIdeal.nD) → Buf (Elt Ideal) ((c.tc : Thread Cert.NormBackwardIdeal.nD Cert.NormBackwardIdeal.τ).loc Cert.NormBackwardIdeal.main_v0_0)) (v1 : (c : Dev Cert.NormBackwardIdeal.nD) → Buf (Elt Ideal) ((c.tc : Thread Cert.NormBackwardIdeal.nD Cert.NormBackwardIdeal.τ).loc Cert.NormBackwardIdeal.main_v0_1)) (v2 : (c : Dev Cert.NormBackwardIdeal.nD) → Buf (Elt Ideal) ((c.tc : Thread Cert.NormBackwardIdeal.nD Cert.NormBackwardIdeal.τ).loc Cert.NormBackwardIdeal.main_v0_2)),
      θ_run (Cert.NormBackwardIdeal.defs (F := Ideal)) (onTc (τ := Cert.NormBackwardIdeal.τ) (Cert.NormBackwardIdeal.main (F := Ideal))) ⟨m, fun _ => 0, g⟩ (fun r => ∀ c : Dev Cert.NormBackwardIdeal.nD,
          r.2.mem ((c.tc : Thread Cert.NormBackwardIdeal.nD Cert.NormBackwardIdeal.τ).loc Cert.NormBackwardIdeal.main_v0_0) = v0 c
          ∧ r.2.mem ((c.tc : Thread Cert.NormBackwardIdeal.nD Cert.NormBackwardIdeal.τ).loc Cert.NormBackwardIdeal.main_v0_1) = v1 c
          ∧ r.2.mem ((c.tc : Thread Cert.NormBackwardIdeal.nD Cert.NormBackwardIdeal.τ).loc Cert.NormBackwardIdeal.main_v0_2) = v2 c
          ∧ r.2.mem ((c.tc : Thread Cert.NormBackwardIdeal.nD Cert.NormBackwardIdeal.τ).loc Cert.NormBackwardIdeal.main_arg0) = m ((c.tc : Thread Cert.NormBackwardIdeal.nD Cert.NormBackwardIdeal.τ).loc Cert.NormBackwardIdeal.main_arg0)
          ∧ r.2.mem ((c.tc : Thread Cert.NormBackwardIdeal.nD Cert.NormBackwardIdeal.τ).loc Cert.NormBackwardIdeal.main_arg1) = m ((c.tc : Thread Cert.NormBackwardIdeal.nD Cert.NormBackwardIdeal.τ).loc Cert.NormBackwardIdeal.main_arg1)
          ∧ r.2.mem ((c.tc : Thread Cert.NormBackwardIdeal.nD Cert.NormBackwardIdeal.τ).loc Cert.NormBackwardIdeal.main_arg2) = m ((c.tc : Thread Cert.NormBackwardIdeal.nD Cert.NormBackwardIdeal.τ).loc Cert.NormBackwardIdeal.main_arg2))
      ∧ θ_run (Cert.NormBackwardReferenceIdeal.defs (F := Ideal)) (onTc (τ := Cert.NormBackwardReferenceIdeal.τ) (Cert.NormBackwardReferenceIdeal.main (F := Ideal))) ⟨m', fun _ => 0, g'⟩ (fun r => ∀ c : Dev Cert.NormBackwardReferenceIdeal.nD,
          r.2.mem ((c.tc : Thread Cert.NormBackwardReferenceIdeal.nD Cert.NormBackwardReferenceIdeal.τ).loc Cert.NormBackwardReferenceIdeal.main_v63) = v0 c
          ∧ r.2.mem ((c.tc : Thread Cert.NormBackwardReferenceIdeal.nD Cert.NormBackwardReferenceIdeal.τ).loc Cert.NormBackwardReferenceIdeal.main_v64) = v1 c
          ∧ r.2.mem ((c.tc : Thread Cert.NormBackwardReferenceIdeal.nD Cert.NormBackwardReferenceIdeal.τ).loc Cert.NormBackwardReferenceIdeal.main_v65) = v2 c
          ∧ r.2.mem ((c.tc : Thread Cert.NormBackwardReferenceIdeal.nD Cert.NormBackwardReferenceIdeal.τ).loc Cert.NormBackwardReferenceIdeal.main_arg0) = m' ((c.tc : Thread Cert.NormBackwardReferenceIdeal.nD Cert.NormBackwardReferenceIdeal.τ).loc Cert.NormBackwardReferenceIdeal.main_arg0)
          ∧ r.2.mem ((c.tc : Thread Cert.NormBackwardReferenceIdeal.nD Cert.NormBackwardReferenceIdeal.τ).loc Cert.NormBackwardReferenceIdeal.main_arg1) = m' ((c.tc : Thread Cert.NormBackwardReferenceIdeal.nD Cert.NormBackwardReferenceIdeal.τ).loc Cert.NormBackwardReferenceIdeal.main_arg1)
          ∧ r.2.mem ((c.tc : Thread Cert.NormBackwardReferenceIdeal.nD Cert.NormBackwardReferenceIdeal.τ).loc Cert.NormBackwardReferenceIdeal.main_arg2) = m' ((c.tc : Thread Cert.NormBackwardReferenceIdeal.nD Cert.NormBackwardReferenceIdeal.τ).loc Cert.NormBackwardReferenceIdeal.main_arg2))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v23) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2))

def preserves_Adam_AdamIdeal : Prop :=
  IdealRules.named_const.Statement Cert.AdamIdeal.κ "first_unbias" .f32 0x3FC48605#32 ((8388608 / 5463681 : ℝ) : EReal)
  ∧ IdealRules.named_const.Statement Cert.AdamIdeal.κ "second_unbias" .f32 0x42C8E6D3#32 ((268435456 / 2672307 : ℝ) : EReal)

def algebraic_AdamIdeal_AdamReferenceIdeal [hAdamIdeal : Cert.AdamIdeal.Facts] [hAdamReferenceIdeal : Cert.AdamReferenceIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamIdeal m →
    (∀ c : Dev Cert.AdamIdeal.nD,
      m' ((c.tc : Thread Cert.AdamReferenceIdeal.nD Cert.AdamReferenceIdeal.τ).loc Cert.AdamReferenceIdeal.main_arg0) = m ((c.tc : Thread Cert.AdamIdeal.nD Cert.AdamIdeal.τ).loc Cert.AdamIdeal.main_arg0)
      ∧ m' ((c.tc : Thread Cert.AdamReferenceIdeal.nD Cert.AdamReferenceIdeal.τ).loc Cert.AdamReferenceIdeal.main_arg1) = m ((c.tc : Thread Cert.AdamIdeal.nD Cert.AdamIdeal.τ).loc Cert.AdamIdeal.main_arg1)
      ∧ m' ((c.tc : Thread Cert.AdamReferenceIdeal.nD Cert.AdamReferenceIdeal.τ).loc Cert.AdamReferenceIdeal.main_arg2) = m ((c.tc : Thread Cert.AdamIdeal.nD Cert.AdamIdeal.τ).loc Cert.AdamIdeal.main_arg2)
      ∧ m' ((c.tc : Thread Cert.AdamReferenceIdeal.nD Cert.AdamReferenceIdeal.τ).loc Cert.AdamReferenceIdeal.main_arg3) = m ((c.tc : Thread Cert.AdamIdeal.nD Cert.AdamIdeal.τ).loc Cert.AdamIdeal.main_arg3)
      ∧ m' ((c.tc : Thread Cert.AdamReferenceIdeal.nD Cert.AdamReferenceIdeal.τ).loc Cert.AdamReferenceIdeal.main_arg4) = m ((c.tc : Thread Cert.AdamIdeal.nD Cert.AdamIdeal.τ).loc Cert.AdamIdeal.main_arg4)
      ∧ m' ((c.tc : Thread Cert.AdamReferenceIdeal.nD Cert.AdamReferenceIdeal.τ).loc Cert.AdamReferenceIdeal.main_arg5) = m ((c.tc : Thread Cert.AdamIdeal.nD Cert.AdamIdeal.τ).loc Cert.AdamIdeal.main_arg5)
      ∧ m' ((c.tc : Thread Cert.AdamReferenceIdeal.nD Cert.AdamReferenceIdeal.τ).loc Cert.AdamReferenceIdeal.main_arg6) = m ((c.tc : Thread Cert.AdamIdeal.nD Cert.AdamIdeal.τ).loc Cert.AdamIdeal.main_arg6)
      ∧ m' ((c.tc : Thread Cert.AdamReferenceIdeal.nD Cert.AdamReferenceIdeal.τ).loc Cert.AdamReferenceIdeal.main_arg7) = m ((c.tc : Thread Cert.AdamIdeal.nD Cert.AdamIdeal.τ).loc Cert.AdamIdeal.main_arg7)
      ∧ m' ((c.tc : Thread Cert.AdamReferenceIdeal.nD Cert.AdamReferenceIdeal.τ).loc Cert.AdamReferenceIdeal.main_arg8) = m ((c.tc : Thread Cert.AdamIdeal.nD Cert.AdamIdeal.τ).loc Cert.AdamIdeal.main_arg8)
      ∧ m' ((c.tc : Thread Cert.AdamReferenceIdeal.nD Cert.AdamReferenceIdeal.τ).loc Cert.AdamReferenceIdeal.main_arg9) = m ((c.tc : Thread Cert.AdamIdeal.nD Cert.AdamIdeal.τ).loc Cert.AdamIdeal.main_arg9)
      ∧ m' ((c.tc : Thread Cert.AdamReferenceIdeal.nD Cert.AdamReferenceIdeal.τ).loc Cert.AdamReferenceIdeal.main_arg10) = m ((c.tc : Thread Cert.AdamIdeal.nD Cert.AdamIdeal.τ).loc Cert.AdamIdeal.main_arg10)
      ∧ m' ((c.tc : Thread Cert.AdamReferenceIdeal.nD Cert.AdamReferenceIdeal.τ).loc Cert.AdamReferenceIdeal.main_arg11) = m ((c.tc : Thread Cert.AdamIdeal.nD Cert.AdamIdeal.τ).loc Cert.AdamIdeal.main_arg11)) →
    ∃ (v0 : (c : Dev Cert.AdamIdeal.nD) → Buf (Elt Ideal) ((c.tc : Thread Cert.AdamIdeal.nD Cert.AdamIdeal.τ).loc Cert.AdamIdeal.main_v8_0)) (v1 : (c : Dev Cert.AdamIdeal.nD) → Buf (Elt Ideal) ((c.tc : Thread Cert.AdamIdeal.nD Cert.AdamIdeal.τ).loc Cert.AdamIdeal.main_v8_1)) (v2 : (c : Dev Cert.AdamIdeal.nD) → Buf (Elt Ideal) ((c.tc : Thread Cert.AdamIdeal.nD Cert.AdamIdeal.τ).loc Cert.AdamIdeal.main_v8_2)) (v3 : (c : Dev Cert.AdamIdeal.nD) → Buf (Elt Ideal) ((c.tc : Thread Cert.AdamIdeal.nD Cert.AdamIdeal.τ).loc Cert.AdamIdeal.main_v8_3)) (v4 : (c : Dev Cert.AdamIdeal.nD) → Buf (Elt Ideal) ((c.tc : Thread Cert.AdamIdeal.nD Cert.AdamIdeal.τ).loc Cert.AdamIdeal.main_v8_4)) (v5 : (c : Dev Cert.AdamIdeal.nD) → Buf (Elt Ideal) ((c.tc : Thread Cert.AdamIdeal.nD Cert.AdamIdeal.τ).loc Cert.AdamIdeal.main_v8_5)) (v6 : (c : Dev Cert.AdamIdeal.nD) → Buf (Elt Ideal) ((c.tc : Thread Cert.AdamIdeal.nD Cert.AdamIdeal.τ).loc Cert.AdamIdeal.main_v8_6)) (v7 : (c : Dev Cert.AdamIdeal.nD) → Buf (Elt Ideal) ((c.tc : Thread Cert.AdamIdeal.nD Cert.AdamIdeal.τ).loc Cert.AdamIdeal.main_v8_7)) (v8 : (c : Dev Cert.AdamIdeal.nD) → Buf (Elt Ideal) ((c.tc : Thread Cert.AdamIdeal.nD Cert.AdamIdeal.τ).loc Cert.AdamIdeal.main_v8_8)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v8_0) = v0 c
          ∧ r.2.mem ((c.tc : Thread Cert.AdamIdeal.nD Cert.AdamIdeal.τ).loc Cert.AdamIdeal.main_v8_1) = v1 c
          ∧ r.2.mem ((c.tc : Thread Cert.AdamIdeal.nD Cert.AdamIdeal.τ).loc Cert.AdamIdeal.main_v8_2) = v2 c
          ∧ r.2.mem ((c.tc : Thread Cert.AdamIdeal.nD Cert.AdamIdeal.τ).loc Cert.AdamIdeal.main_v8_3) = v3 c
          ∧ r.2.mem ((c.tc : Thread Cert.AdamIdeal.nD Cert.AdamIdeal.τ).loc Cert.AdamIdeal.main_v8_4) = v4 c
          ∧ r.2.mem ((c.tc : Thread Cert.AdamIdeal.nD Cert.AdamIdeal.τ).loc Cert.AdamIdeal.main_v8_5) = v5 c
          ∧ r.2.mem ((c.tc : Thread Cert.AdamIdeal.nD Cert.AdamIdeal.τ).loc Cert.AdamIdeal.main_v8_6) = v6 c
          ∧ r.2.mem ((c.tc : Thread Cert.AdamIdeal.nD Cert.AdamIdeal.τ).loc Cert.AdamIdeal.main_v8_7) = v7 c
          ∧ r.2.mem ((c.tc : Thread Cert.AdamIdeal.nD Cert.AdamIdeal.τ).loc Cert.AdamIdeal.main_v8_8) = v8 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
          ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4)
          ∧ r.2.mem ((c.tc : Thread Cert.AdamIdeal.nD Cert.AdamIdeal.τ).loc Cert.AdamIdeal.main_arg5) = m ((c.tc : Thread Cert.AdamIdeal.nD Cert.AdamIdeal.τ).loc Cert.AdamIdeal.main_arg5)
          ∧ r.2.mem ((c.tc : Thread Cert.AdamIdeal.nD Cert.AdamIdeal.τ).loc Cert.AdamIdeal.main_arg6) = m ((c.tc : Thread Cert.AdamIdeal.nD Cert.AdamIdeal.τ).loc Cert.AdamIdeal.main_arg6)
          ∧ r.2.mem ((c.tc : Thread Cert.AdamIdeal.nD Cert.AdamIdeal.τ).loc Cert.AdamIdeal.main_arg7) = m ((c.tc : Thread Cert.AdamIdeal.nD Cert.AdamIdeal.τ).loc Cert.AdamIdeal.main_arg7)
          ∧ r.2.mem ((c.tc : Thread Cert.AdamIdeal.nD Cert.AdamIdeal.τ).loc Cert.AdamIdeal.main_arg8) = m ((c.tc : Thread Cert.AdamIdeal.nD Cert.AdamIdeal.τ).loc Cert.AdamIdeal.main_arg8)
          ∧ r.2.mem ((c.tc : Thread Cert.AdamIdeal.nD Cert.AdamIdeal.τ).loc Cert.AdamIdeal.main_arg9) = m ((c.tc : Thread Cert.AdamIdeal.nD Cert.AdamIdeal.τ).loc Cert.AdamIdeal.main_arg9)
          ∧ r.2.mem ((c.tc : Thread Cert.AdamIdeal.nD Cert.AdamIdeal.τ).loc Cert.AdamIdeal.main_arg10) = m ((c.tc : Thread Cert.AdamIdeal.nD Cert.AdamIdeal.τ).loc Cert.AdamIdeal.main_arg10)
          ∧ r.2.mem ((c.tc : Thread Cert.AdamIdeal.nD Cert.AdamIdeal.τ).loc Cert.AdamIdeal.main_arg11) = m ((c.tc : Thread Cert.AdamIdeal.nD Cert.AdamIdeal.τ).loc Cert.AdamIdeal.main_arg11))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_v23) = v0 c
          ∧ r.2.mem ((c.tc : Thread Cert.AdamReferenceIdeal.nD Cert.AdamReferenceIdeal.τ).loc Cert.AdamReferenceIdeal.main_v48) = v1 c
          ∧ r.2.mem ((c.tc : Thread Cert.AdamReferenceIdeal.nD Cert.AdamReferenceIdeal.τ).loc Cert.AdamReferenceIdeal.main_v75) = v2 c
          ∧ r.2.mem ((c.tc : Thread Cert.AdamReferenceIdeal.nD Cert.AdamReferenceIdeal.τ).loc Cert.AdamReferenceIdeal.main_v4) = v3 c
          ∧ r.2.mem ((c.tc : Thread Cert.AdamReferenceIdeal.nD Cert.AdamReferenceIdeal.τ).loc Cert.AdamReferenceIdeal.main_v49) = v4 c
          ∧ r.2.mem ((c.tc : Thread Cert.AdamReferenceIdeal.nD Cert.AdamReferenceIdeal.τ).loc Cert.AdamReferenceIdeal.main_v76) = v5 c
          ∧ r.2.mem ((c.tc : Thread Cert.AdamReferenceIdeal.nD Cert.AdamReferenceIdeal.τ).loc Cert.AdamReferenceIdeal.main_v10) = v6 c
          ∧ r.2.mem ((c.tc : Thread Cert.AdamReferenceIdeal.nD Cert.AdamReferenceIdeal.τ).loc Cert.AdamReferenceIdeal.main_v50) = v7 c
          ∧ r.2.mem ((c.tc : Thread Cert.AdamReferenceIdeal.nD Cert.AdamReferenceIdeal.τ).loc Cert.AdamReferenceIdeal.main_v77) = v8 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3)
          ∧ r.2.mem ((c.tc : Thread Cert.AdamReferenceIdeal.nD Cert.AdamReferenceIdeal.τ).loc Cert.AdamReferenceIdeal.main_arg4) = m' ((c.tc : Thread Cert.AdamReferenceIdeal.nD Cert.AdamReferenceIdeal.τ).loc Cert.AdamReferenceIdeal.main_arg4)
          ∧ r.2.mem ((c.tc : Thread Cert.AdamReferenceIdeal.nD Cert.AdamReferenceIdeal.τ).loc Cert.AdamReferenceIdeal.main_arg5) = m' ((c.tc : Thread Cert.AdamReferenceIdeal.nD Cert.AdamReferenceIdeal.τ).loc Cert.AdamReferenceIdeal.main_arg5)
          ∧ r.2.mem ((c.tc : Thread Cert.AdamReferenceIdeal.nD Cert.AdamReferenceIdeal.τ).loc Cert.AdamReferenceIdeal.main_arg6) = m' ((c.tc : Thread Cert.AdamReferenceIdeal.nD Cert.AdamReferenceIdeal.τ).loc Cert.AdamReferenceIdeal.main_arg6)
          ∧ r.2.mem ((c.tc : Thread Cert.AdamReferenceIdeal.nD Cert.AdamReferenceIdeal.τ).loc Cert.AdamReferenceIdeal.main_arg7) = m' ((c.tc : Thread Cert.AdamReferenceIdeal.nD Cert.AdamReferenceIdeal.τ).loc Cert.AdamReferenceIdeal.main_arg7)
          ∧ r.2.mem ((c.tc : Thread Cert.AdamReferenceIdeal.nD Cert.AdamReferenceIdeal.τ).loc Cert.AdamReferenceIdeal.main_arg8) = m' ((c.tc : Thread Cert.AdamReferenceIdeal.nD Cert.AdamReferenceIdeal.τ).loc Cert.AdamReferenceIdeal.main_arg8)
          ∧ r.2.mem ((c.tc : Thread Cert.AdamReferenceIdeal.nD Cert.AdamReferenceIdeal.τ).loc Cert.AdamReferenceIdeal.main_arg9) = m' ((c.tc : Thread Cert.AdamReferenceIdeal.nD Cert.AdamReferenceIdeal.τ).loc Cert.AdamReferenceIdeal.main_arg9)
          ∧ r.2.mem ((c.tc : Thread Cert.AdamReferenceIdeal.nD Cert.AdamReferenceIdeal.τ).loc Cert.AdamReferenceIdeal.main_arg10) = m' ((c.tc : Thread Cert.AdamReferenceIdeal.nD Cert.AdamReferenceIdeal.τ).loc Cert.AdamReferenceIdeal.main_arg10)
          ∧ r.2.mem ((c.tc : Thread Cert.AdamReferenceIdeal.nD Cert.AdamReferenceIdeal.τ).loc Cert.AdamReferenceIdeal.main_arg11) = m' ((c.tc : Thread Cert.AdamReferenceIdeal.nD Cert.AdamReferenceIdeal.τ).loc Cert.AdamReferenceIdeal.main_arg11))

def preserves_AdamTwo_AdamTwoIdeal : Prop :=
  IdealRules.named_const.Statement Cert.AdamTwoIdeal.κ "first_unbias" .f32 0x3FC48605#32 ((8388608 / 5463681 : ℝ) : EReal)
  ∧ IdealRules.named_const.Statement Cert.AdamTwoIdeal.κ "second_unbias" .f32 0x42C8E6D3#32 ((268435456 / 2672307 : ℝ) : EReal)

def algebraic_AdamTwoIdeal_AdamTwoReferenceIdeal [hAdamTwoIdeal : Cert.AdamTwoIdeal.Facts] [hAdamTwoReferenceIdeal : Cert.AdamTwoReferenceIdeal.Facts] : Prop :=
  ∀ (m : (ℓ : Loc Cert.AdamTwoIdeal.nD Cert.AdamTwoIdeal.τ Cert.AdamTwoIdeal.sig) → Buf (Elt Ideal) ℓ) (g : Dev Cert.AdamTwoIdeal.nD → PrngReg)
    (m' : (ℓ : Loc Cert.AdamTwoReferenceIdeal.nD Cert.AdamTwoReferenceIdeal.τ Cert.AdamTwoReferenceIdeal.sig) → Buf (Elt Ideal) ℓ) (g' : Dev Cert.AdamTwoReferenceIdeal.nD → PrngReg), Pre_AdamTwoIdeal m →
    (∀ c : Dev Cert.AdamTwoIdeal.nD,
      m' ((c.tc : Thread Cert.AdamTwoReferenceIdeal.nD Cert.AdamTwoReferenceIdeal.τ).loc Cert.AdamTwoReferenceIdeal.main_arg0) = m ((c.tc : Thread Cert.AdamTwoIdeal.nD Cert.AdamTwoIdeal.τ).loc Cert.AdamTwoIdeal.main_arg0)
      ∧ m' ((c.tc : Thread Cert.AdamTwoReferenceIdeal.nD Cert.AdamTwoReferenceIdeal.τ).loc Cert.AdamTwoReferenceIdeal.main_arg1) = m ((c.tc : Thread Cert.AdamTwoIdeal.nD Cert.AdamTwoIdeal.τ).loc Cert.AdamTwoIdeal.main_arg1)
      ∧ m' ((c.tc : Thread Cert.AdamTwoReferenceIdeal.nD Cert.AdamTwoReferenceIdeal.τ).loc Cert.AdamTwoReferenceIdeal.main_arg2) = m ((c.tc : Thread Cert.AdamTwoIdeal.nD Cert.AdamTwoIdeal.τ).loc Cert.AdamTwoIdeal.main_arg2)
      ∧ m' ((c.tc : Thread Cert.AdamTwoReferenceIdeal.nD Cert.AdamTwoReferenceIdeal.τ).loc Cert.AdamTwoReferenceIdeal.main_arg3) = m ((c.tc : Thread Cert.AdamTwoIdeal.nD Cert.AdamTwoIdeal.τ).loc Cert.AdamTwoIdeal.main_arg3)
      ∧ m' ((c.tc : Thread Cert.AdamTwoReferenceIdeal.nD Cert.AdamTwoReferenceIdeal.τ).loc Cert.AdamTwoReferenceIdeal.main_arg4) = m ((c.tc : Thread Cert.AdamTwoIdeal.nD Cert.AdamTwoIdeal.τ).loc Cert.AdamTwoIdeal.main_arg4)
      ∧ m' ((c.tc : Thread Cert.AdamTwoReferenceIdeal.nD Cert.AdamTwoReferenceIdeal.τ).loc Cert.AdamTwoReferenceIdeal.main_arg5) = m ((c.tc : Thread Cert.AdamTwoIdeal.nD Cert.AdamTwoIdeal.τ).loc Cert.AdamTwoIdeal.main_arg5)
      ∧ m' ((c.tc : Thread Cert.AdamTwoReferenceIdeal.nD Cert.AdamTwoReferenceIdeal.τ).loc Cert.AdamTwoReferenceIdeal.main_arg6) = m ((c.tc : Thread Cert.AdamTwoIdeal.nD Cert.AdamTwoIdeal.τ).loc Cert.AdamTwoIdeal.main_arg6)
      ∧ m' ((c.tc : Thread Cert.AdamTwoReferenceIdeal.nD Cert.AdamTwoReferenceIdeal.τ).loc Cert.AdamTwoReferenceIdeal.main_arg7) = m ((c.tc : Thread Cert.AdamTwoIdeal.nD Cert.AdamTwoIdeal.τ).loc Cert.AdamTwoIdeal.main_arg7)
      ∧ m' ((c.tc : Thread Cert.AdamTwoReferenceIdeal.nD Cert.AdamTwoReferenceIdeal.τ).loc Cert.AdamTwoReferenceIdeal.main_arg8) = m ((c.tc : Thread Cert.AdamTwoIdeal.nD Cert.AdamTwoIdeal.τ).loc Cert.AdamTwoIdeal.main_arg8)
      ∧ m' ((c.tc : Thread Cert.AdamTwoReferenceIdeal.nD Cert.AdamTwoReferenceIdeal.τ).loc Cert.AdamTwoReferenceIdeal.main_arg9) = m ((c.tc : Thread Cert.AdamTwoIdeal.nD Cert.AdamTwoIdeal.τ).loc Cert.AdamTwoIdeal.main_arg9)
      ∧ m' ((c.tc : Thread Cert.AdamTwoReferenceIdeal.nD Cert.AdamTwoReferenceIdeal.τ).loc Cert.AdamTwoReferenceIdeal.main_arg10) = m ((c.tc : Thread Cert.AdamTwoIdeal.nD Cert.AdamTwoIdeal.τ).loc Cert.AdamTwoIdeal.main_arg10)
      ∧ m' ((c.tc : Thread Cert.AdamTwoReferenceIdeal.nD Cert.AdamTwoReferenceIdeal.τ).loc Cert.AdamTwoReferenceIdeal.main_arg11) = m ((c.tc : Thread Cert.AdamTwoIdeal.nD Cert.AdamTwoIdeal.τ).loc Cert.AdamTwoIdeal.main_arg11)) →
    ∃ (v0 : (c : Dev Cert.AdamTwoIdeal.nD) → Buf (Elt Ideal) ((c.tc : Thread Cert.AdamTwoIdeal.nD Cert.AdamTwoIdeal.τ).loc Cert.AdamTwoIdeal.main_v0_0)) (v1 : (c : Dev Cert.AdamTwoIdeal.nD) → Buf (Elt Ideal) ((c.tc : Thread Cert.AdamTwoIdeal.nD Cert.AdamTwoIdeal.τ).loc Cert.AdamTwoIdeal.main_v0_1)) (v2 : (c : Dev Cert.AdamTwoIdeal.nD) → Buf (Elt Ideal) ((c.tc : Thread Cert.AdamTwoIdeal.nD Cert.AdamTwoIdeal.τ).loc Cert.AdamTwoIdeal.main_v0_2)) (v3 : (c : Dev Cert.AdamTwoIdeal.nD) → Buf (Elt Ideal) ((c.tc : Thread Cert.AdamTwoIdeal.nD Cert.AdamTwoIdeal.τ).loc Cert.AdamTwoIdeal.main_v0_3)) (v4 : (c : Dev Cert.AdamTwoIdeal.nD) → Buf (Elt Ideal) ((c.tc : Thread Cert.AdamTwoIdeal.nD Cert.AdamTwoIdeal.τ).loc Cert.AdamTwoIdeal.main_v0_4)) (v5 : (c : Dev Cert.AdamTwoIdeal.nD) → Buf (Elt Ideal) ((c.tc : Thread Cert.AdamTwoIdeal.nD Cert.AdamTwoIdeal.τ).loc Cert.AdamTwoIdeal.main_v0_5)) (v6 : (c : Dev Cert.AdamTwoIdeal.nD) → Buf (Elt Ideal) ((c.tc : Thread Cert.AdamTwoIdeal.nD Cert.AdamTwoIdeal.τ).loc Cert.AdamTwoIdeal.main_v0_6)) (v7 : (c : Dev Cert.AdamTwoIdeal.nD) → Buf (Elt Ideal) ((c.tc : Thread Cert.AdamTwoIdeal.nD Cert.AdamTwoIdeal.τ).loc Cert.AdamTwoIdeal.main_v0_7)) (v8 : (c : Dev Cert.AdamTwoIdeal.nD) → Buf (Elt Ideal) ((c.tc : Thread Cert.AdamTwoIdeal.nD Cert.AdamTwoIdeal.τ).loc Cert.AdamTwoIdeal.main_v0_8)),
      θ_run (Cert.AdamTwoIdeal.defs (F := Ideal)) (onTc (τ := Cert.AdamTwoIdeal.τ) (Cert.AdamTwoIdeal.main (F := Ideal))) ⟨m, fun _ => 0, g⟩ (fun r => ∀ c : Dev Cert.AdamTwoIdeal.nD,
          r.2.mem ((c.tc : Thread Cert.AdamTwoIdeal.nD Cert.AdamTwoIdeal.τ).loc Cert.AdamTwoIdeal.main_v0_0) = v0 c
          ∧ r.2.mem ((c.tc : Thread Cert.AdamTwoIdeal.nD Cert.AdamTwoIdeal.τ).loc Cert.AdamTwoIdeal.main_v0_1) = v1 c
          ∧ r.2.mem ((c.tc : Thread Cert.AdamTwoIdeal.nD Cert.AdamTwoIdeal.τ).loc Cert.AdamTwoIdeal.main_v0_2) = v2 c
          ∧ r.2.mem ((c.tc : Thread Cert.AdamTwoIdeal.nD Cert.AdamTwoIdeal.τ).loc Cert.AdamTwoIdeal.main_v0_3) = v3 c
          ∧ r.2.mem ((c.tc : Thread Cert.AdamTwoIdeal.nD Cert.AdamTwoIdeal.τ).loc Cert.AdamTwoIdeal.main_v0_4) = v4 c
          ∧ r.2.mem ((c.tc : Thread Cert.AdamTwoIdeal.nD Cert.AdamTwoIdeal.τ).loc Cert.AdamTwoIdeal.main_v0_5) = v5 c
          ∧ r.2.mem ((c.tc : Thread Cert.AdamTwoIdeal.nD Cert.AdamTwoIdeal.τ).loc Cert.AdamTwoIdeal.main_v0_6) = v6 c
          ∧ r.2.mem ((c.tc : Thread Cert.AdamTwoIdeal.nD Cert.AdamTwoIdeal.τ).loc Cert.AdamTwoIdeal.main_v0_7) = v7 c
          ∧ r.2.mem ((c.tc : Thread Cert.AdamTwoIdeal.nD Cert.AdamTwoIdeal.τ).loc Cert.AdamTwoIdeal.main_v0_8) = v8 c
          ∧ r.2.mem ((c.tc : Thread Cert.AdamTwoIdeal.nD Cert.AdamTwoIdeal.τ).loc Cert.AdamTwoIdeal.main_arg0) = m ((c.tc : Thread Cert.AdamTwoIdeal.nD Cert.AdamTwoIdeal.τ).loc Cert.AdamTwoIdeal.main_arg0)
          ∧ r.2.mem ((c.tc : Thread Cert.AdamTwoIdeal.nD Cert.AdamTwoIdeal.τ).loc Cert.AdamTwoIdeal.main_arg1) = m ((c.tc : Thread Cert.AdamTwoIdeal.nD Cert.AdamTwoIdeal.τ).loc Cert.AdamTwoIdeal.main_arg1)
          ∧ r.2.mem ((c.tc : Thread Cert.AdamTwoIdeal.nD Cert.AdamTwoIdeal.τ).loc Cert.AdamTwoIdeal.main_arg2) = m ((c.tc : Thread Cert.AdamTwoIdeal.nD Cert.AdamTwoIdeal.τ).loc Cert.AdamTwoIdeal.main_arg2)
          ∧ r.2.mem ((c.tc : Thread Cert.AdamTwoIdeal.nD Cert.AdamTwoIdeal.τ).loc Cert.AdamTwoIdeal.main_arg3) = m ((c.tc : Thread Cert.AdamTwoIdeal.nD Cert.AdamTwoIdeal.τ).loc Cert.AdamTwoIdeal.main_arg3)
          ∧ r.2.mem ((c.tc : Thread Cert.AdamTwoIdeal.nD Cert.AdamTwoIdeal.τ).loc Cert.AdamTwoIdeal.main_arg4) = m ((c.tc : Thread Cert.AdamTwoIdeal.nD Cert.AdamTwoIdeal.τ).loc Cert.AdamTwoIdeal.main_arg4)
          ∧ r.2.mem ((c.tc : Thread Cert.AdamTwoIdeal.nD Cert.AdamTwoIdeal.τ).loc Cert.AdamTwoIdeal.main_arg5) = m ((c.tc : Thread Cert.AdamTwoIdeal.nD Cert.AdamTwoIdeal.τ).loc Cert.AdamTwoIdeal.main_arg5)
          ∧ r.2.mem ((c.tc : Thread Cert.AdamTwoIdeal.nD Cert.AdamTwoIdeal.τ).loc Cert.AdamTwoIdeal.main_arg6) = m ((c.tc : Thread Cert.AdamTwoIdeal.nD Cert.AdamTwoIdeal.τ).loc Cert.AdamTwoIdeal.main_arg6)
          ∧ r.2.mem ((c.tc : Thread Cert.AdamTwoIdeal.nD Cert.AdamTwoIdeal.τ).loc Cert.AdamTwoIdeal.main_arg7) = m ((c.tc : Thread Cert.AdamTwoIdeal.nD Cert.AdamTwoIdeal.τ).loc Cert.AdamTwoIdeal.main_arg7)
          ∧ r.2.mem ((c.tc : Thread Cert.AdamTwoIdeal.nD Cert.AdamTwoIdeal.τ).loc Cert.AdamTwoIdeal.main_arg8) = m ((c.tc : Thread Cert.AdamTwoIdeal.nD Cert.AdamTwoIdeal.τ).loc Cert.AdamTwoIdeal.main_arg8)
          ∧ r.2.mem ((c.tc : Thread Cert.AdamTwoIdeal.nD Cert.AdamTwoIdeal.τ).loc Cert.AdamTwoIdeal.main_arg9) = m ((c.tc : Thread Cert.AdamTwoIdeal.nD Cert.AdamTwoIdeal.τ).loc Cert.AdamTwoIdeal.main_arg9)
          ∧ r.2.mem ((c.tc : Thread Cert.AdamTwoIdeal.nD Cert.AdamTwoIdeal.τ).loc Cert.AdamTwoIdeal.main_arg10) = m ((c.tc : Thread Cert.AdamTwoIdeal.nD Cert.AdamTwoIdeal.τ).loc Cert.AdamTwoIdeal.main_arg10)
          ∧ r.2.mem ((c.tc : Thread Cert.AdamTwoIdeal.nD Cert.AdamTwoIdeal.τ).loc Cert.AdamTwoIdeal.main_arg11) = m ((c.tc : Thread Cert.AdamTwoIdeal.nD Cert.AdamTwoIdeal.τ).loc Cert.AdamTwoIdeal.main_arg11))
      ∧ θ_run (Cert.AdamTwoReferenceIdeal.defs (F := Ideal)) (onTc (τ := Cert.AdamTwoReferenceIdeal.τ) (Cert.AdamTwoReferenceIdeal.main (F := Ideal))) ⟨m', fun _ => 0, g'⟩ (fun r => ∀ c : Dev Cert.AdamTwoReferenceIdeal.nD,
          r.2.mem ((c.tc : Thread Cert.AdamTwoReferenceIdeal.nD Cert.AdamTwoReferenceIdeal.τ).loc Cert.AdamTwoReferenceIdeal.main_v23) = v0 c
          ∧ r.2.mem ((c.tc : Thread Cert.AdamTwoReferenceIdeal.nD Cert.AdamTwoReferenceIdeal.τ).loc Cert.AdamTwoReferenceIdeal.main_v47) = v1 c
          ∧ r.2.mem ((c.tc : Thread Cert.AdamTwoReferenceIdeal.nD Cert.AdamTwoReferenceIdeal.τ).loc Cert.AdamTwoReferenceIdeal.main_v71) = v2 c
          ∧ r.2.mem ((c.tc : Thread Cert.AdamTwoReferenceIdeal.nD Cert.AdamTwoReferenceIdeal.τ).loc Cert.AdamTwoReferenceIdeal.main_v4) = v3 c
          ∧ r.2.mem ((c.tc : Thread Cert.AdamTwoReferenceIdeal.nD Cert.AdamTwoReferenceIdeal.τ).loc Cert.AdamTwoReferenceIdeal.main_v28) = v4 c
          ∧ r.2.mem ((c.tc : Thread Cert.AdamTwoReferenceIdeal.nD Cert.AdamTwoReferenceIdeal.τ).loc Cert.AdamTwoReferenceIdeal.main_v52) = v5 c
          ∧ r.2.mem ((c.tc : Thread Cert.AdamTwoReferenceIdeal.nD Cert.AdamTwoReferenceIdeal.τ).loc Cert.AdamTwoReferenceIdeal.main_v10) = v6 c
          ∧ r.2.mem ((c.tc : Thread Cert.AdamTwoReferenceIdeal.nD Cert.AdamTwoReferenceIdeal.τ).loc Cert.AdamTwoReferenceIdeal.main_v34) = v7 c
          ∧ r.2.mem ((c.tc : Thread Cert.AdamTwoReferenceIdeal.nD Cert.AdamTwoReferenceIdeal.τ).loc Cert.AdamTwoReferenceIdeal.main_v58) = v8 c
          ∧ r.2.mem ((c.tc : Thread Cert.AdamTwoReferenceIdeal.nD Cert.AdamTwoReferenceIdeal.τ).loc Cert.AdamTwoReferenceIdeal.main_arg0) = m' ((c.tc : Thread Cert.AdamTwoReferenceIdeal.nD Cert.AdamTwoReferenceIdeal.τ).loc Cert.AdamTwoReferenceIdeal.main_arg0)
          ∧ r.2.mem ((c.tc : Thread Cert.AdamTwoReferenceIdeal.nD Cert.AdamTwoReferenceIdeal.τ).loc Cert.AdamTwoReferenceIdeal.main_arg1) = m' ((c.tc : Thread Cert.AdamTwoReferenceIdeal.nD Cert.AdamTwoReferenceIdeal.τ).loc Cert.AdamTwoReferenceIdeal.main_arg1)
          ∧ r.2.mem ((c.tc : Thread Cert.AdamTwoReferenceIdeal.nD Cert.AdamTwoReferenceIdeal.τ).loc Cert.AdamTwoReferenceIdeal.main_arg2) = m' ((c.tc : Thread Cert.AdamTwoReferenceIdeal.nD Cert.AdamTwoReferenceIdeal.τ).loc Cert.AdamTwoReferenceIdeal.main_arg2)
          ∧ r.2.mem ((c.tc : Thread Cert.AdamTwoReferenceIdeal.nD Cert.AdamTwoReferenceIdeal.τ).loc Cert.AdamTwoReferenceIdeal.main_arg3) = m' ((c.tc : Thread Cert.AdamTwoReferenceIdeal.nD Cert.AdamTwoReferenceIdeal.τ).loc Cert.AdamTwoReferenceIdeal.main_arg3)
          ∧ r.2.mem ((c.tc : Thread Cert.AdamTwoReferenceIdeal.nD Cert.AdamTwoReferenceIdeal.τ).loc Cert.AdamTwoReferenceIdeal.main_arg4) = m' ((c.tc : Thread Cert.AdamTwoReferenceIdeal.nD Cert.AdamTwoReferenceIdeal.τ).loc Cert.AdamTwoReferenceIdeal.main_arg4)
          ∧ r.2.mem ((c.tc : Thread Cert.AdamTwoReferenceIdeal.nD Cert.AdamTwoReferenceIdeal.τ).loc Cert.AdamTwoReferenceIdeal.main_arg5) = m' ((c.tc : Thread Cert.AdamTwoReferenceIdeal.nD Cert.AdamTwoReferenceIdeal.τ).loc Cert.AdamTwoReferenceIdeal.main_arg5)
          ∧ r.2.mem ((c.tc : Thread Cert.AdamTwoReferenceIdeal.nD Cert.AdamTwoReferenceIdeal.τ).loc Cert.AdamTwoReferenceIdeal.main_arg6) = m' ((c.tc : Thread Cert.AdamTwoReferenceIdeal.nD Cert.AdamTwoReferenceIdeal.τ).loc Cert.AdamTwoReferenceIdeal.main_arg6)
          ∧ r.2.mem ((c.tc : Thread Cert.AdamTwoReferenceIdeal.nD Cert.AdamTwoReferenceIdeal.τ).loc Cert.AdamTwoReferenceIdeal.main_arg7) = m' ((c.tc : Thread Cert.AdamTwoReferenceIdeal.nD Cert.AdamTwoReferenceIdeal.τ).loc Cert.AdamTwoReferenceIdeal.main_arg7)
          ∧ r.2.mem ((c.tc : Thread Cert.AdamTwoReferenceIdeal.nD Cert.AdamTwoReferenceIdeal.τ).loc Cert.AdamTwoReferenceIdeal.main_arg8) = m' ((c.tc : Thread Cert.AdamTwoReferenceIdeal.nD Cert.AdamTwoReferenceIdeal.τ).loc Cert.AdamTwoReferenceIdeal.main_arg8)
          ∧ r.2.mem ((c.tc : Thread Cert.AdamTwoReferenceIdeal.nD Cert.AdamTwoReferenceIdeal.τ).loc Cert.AdamTwoReferenceIdeal.main_arg9) = m' ((c.tc : Thread Cert.AdamTwoReferenceIdeal.nD Cert.AdamTwoReferenceIdeal.τ).loc Cert.AdamTwoReferenceIdeal.main_arg9)
          ∧ r.2.mem ((c.tc : Thread Cert.AdamTwoReferenceIdeal.nD Cert.AdamTwoReferenceIdeal.τ).loc Cert.AdamTwoReferenceIdeal.main_arg10) = m' ((c.tc : Thread Cert.AdamTwoReferenceIdeal.nD Cert.AdamTwoReferenceIdeal.τ).loc Cert.AdamTwoReferenceIdeal.main_arg10)
          ∧ r.2.mem ((c.tc : Thread Cert.AdamTwoReferenceIdeal.nD Cert.AdamTwoReferenceIdeal.τ).loc Cert.AdamTwoReferenceIdeal.main_arg11) = m' ((c.tc : Thread Cert.AdamTwoReferenceIdeal.nD Cert.AdamTwoReferenceIdeal.τ).loc Cert.AdamTwoReferenceIdeal.main_arg11))

def preserves_AdamThree_AdamThreeIdeal : Prop :=
  IdealRules.named_const.Statement Cert.AdamThreeIdeal.κ "first_unbias" .f32 0x3FC48605#32 ((8388608 / 5463681 : ℝ) : EReal)
  ∧ IdealRules.named_const.Statement Cert.AdamThreeIdeal.κ "second_unbias" .f32 0x42C8E6D3#32 ((268435456 / 2672307 : ℝ) : EReal)

def algebraic_AdamThreeIdeal_AdamThreeReferenceIdeal [hAdamThreeIdeal : Cert.AdamThreeIdeal.Facts] [hAdamThreeReferenceIdeal : Cert.AdamThreeReferenceIdeal.Facts] : Prop :=
  ∀ (m : (ℓ : Loc Cert.AdamThreeIdeal.nD Cert.AdamThreeIdeal.τ Cert.AdamThreeIdeal.sig) → Buf (Elt Ideal) ℓ) (g : Dev Cert.AdamThreeIdeal.nD → PrngReg)
    (m' : (ℓ : Loc Cert.AdamThreeReferenceIdeal.nD Cert.AdamThreeReferenceIdeal.τ Cert.AdamThreeReferenceIdeal.sig) → Buf (Elt Ideal) ℓ) (g' : Dev Cert.AdamThreeReferenceIdeal.nD → PrngReg), Pre_AdamThreeIdeal m →
    (∀ c : Dev Cert.AdamThreeIdeal.nD,
      m' ((c.tc : Thread Cert.AdamThreeReferenceIdeal.nD Cert.AdamThreeReferenceIdeal.τ).loc Cert.AdamThreeReferenceIdeal.main_arg0) = m ((c.tc : Thread Cert.AdamThreeIdeal.nD Cert.AdamThreeIdeal.τ).loc Cert.AdamThreeIdeal.main_arg0)
      ∧ m' ((c.tc : Thread Cert.AdamThreeReferenceIdeal.nD Cert.AdamThreeReferenceIdeal.τ).loc Cert.AdamThreeReferenceIdeal.main_arg1) = m ((c.tc : Thread Cert.AdamThreeIdeal.nD Cert.AdamThreeIdeal.τ).loc Cert.AdamThreeIdeal.main_arg1)
      ∧ m' ((c.tc : Thread Cert.AdamThreeReferenceIdeal.nD Cert.AdamThreeReferenceIdeal.τ).loc Cert.AdamThreeReferenceIdeal.main_arg2) = m ((c.tc : Thread Cert.AdamThreeIdeal.nD Cert.AdamThreeIdeal.τ).loc Cert.AdamThreeIdeal.main_arg2)
      ∧ m' ((c.tc : Thread Cert.AdamThreeReferenceIdeal.nD Cert.AdamThreeReferenceIdeal.τ).loc Cert.AdamThreeReferenceIdeal.main_arg3) = m ((c.tc : Thread Cert.AdamThreeIdeal.nD Cert.AdamThreeIdeal.τ).loc Cert.AdamThreeIdeal.main_arg3)
      ∧ m' ((c.tc : Thread Cert.AdamThreeReferenceIdeal.nD Cert.AdamThreeReferenceIdeal.τ).loc Cert.AdamThreeReferenceIdeal.main_arg4) = m ((c.tc : Thread Cert.AdamThreeIdeal.nD Cert.AdamThreeIdeal.τ).loc Cert.AdamThreeIdeal.main_arg4)
      ∧ m' ((c.tc : Thread Cert.AdamThreeReferenceIdeal.nD Cert.AdamThreeReferenceIdeal.τ).loc Cert.AdamThreeReferenceIdeal.main_arg5) = m ((c.tc : Thread Cert.AdamThreeIdeal.nD Cert.AdamThreeIdeal.τ).loc Cert.AdamThreeIdeal.main_arg5)
      ∧ m' ((c.tc : Thread Cert.AdamThreeReferenceIdeal.nD Cert.AdamThreeReferenceIdeal.τ).loc Cert.AdamThreeReferenceIdeal.main_arg6) = m ((c.tc : Thread Cert.AdamThreeIdeal.nD Cert.AdamThreeIdeal.τ).loc Cert.AdamThreeIdeal.main_arg6)
      ∧ m' ((c.tc : Thread Cert.AdamThreeReferenceIdeal.nD Cert.AdamThreeReferenceIdeal.τ).loc Cert.AdamThreeReferenceIdeal.main_arg7) = m ((c.tc : Thread Cert.AdamThreeIdeal.nD Cert.AdamThreeIdeal.τ).loc Cert.AdamThreeIdeal.main_arg7)
      ∧ m' ((c.tc : Thread Cert.AdamThreeReferenceIdeal.nD Cert.AdamThreeReferenceIdeal.τ).loc Cert.AdamThreeReferenceIdeal.main_arg8) = m ((c.tc : Thread Cert.AdamThreeIdeal.nD Cert.AdamThreeIdeal.τ).loc Cert.AdamThreeIdeal.main_arg8)
      ∧ m' ((c.tc : Thread Cert.AdamThreeReferenceIdeal.nD Cert.AdamThreeReferenceIdeal.τ).loc Cert.AdamThreeReferenceIdeal.main_arg9) = m ((c.tc : Thread Cert.AdamThreeIdeal.nD Cert.AdamThreeIdeal.τ).loc Cert.AdamThreeIdeal.main_arg9)
      ∧ m' ((c.tc : Thread Cert.AdamThreeReferenceIdeal.nD Cert.AdamThreeReferenceIdeal.τ).loc Cert.AdamThreeReferenceIdeal.main_arg10) = m ((c.tc : Thread Cert.AdamThreeIdeal.nD Cert.AdamThreeIdeal.τ).loc Cert.AdamThreeIdeal.main_arg10)
      ∧ m' ((c.tc : Thread Cert.AdamThreeReferenceIdeal.nD Cert.AdamThreeReferenceIdeal.τ).loc Cert.AdamThreeReferenceIdeal.main_arg11) = m ((c.tc : Thread Cert.AdamThreeIdeal.nD Cert.AdamThreeIdeal.τ).loc Cert.AdamThreeIdeal.main_arg11)) →
    ∃ (v0 : (c : Dev Cert.AdamThreeIdeal.nD) → Buf (Elt Ideal) ((c.tc : Thread Cert.AdamThreeIdeal.nD Cert.AdamThreeIdeal.τ).loc Cert.AdamThreeIdeal.main_v0_0)) (v1 : (c : Dev Cert.AdamThreeIdeal.nD) → Buf (Elt Ideal) ((c.tc : Thread Cert.AdamThreeIdeal.nD Cert.AdamThreeIdeal.τ).loc Cert.AdamThreeIdeal.main_v0_1)) (v2 : (c : Dev Cert.AdamThreeIdeal.nD) → Buf (Elt Ideal) ((c.tc : Thread Cert.AdamThreeIdeal.nD Cert.AdamThreeIdeal.τ).loc Cert.AdamThreeIdeal.main_v0_2)) (v3 : (c : Dev Cert.AdamThreeIdeal.nD) → Buf (Elt Ideal) ((c.tc : Thread Cert.AdamThreeIdeal.nD Cert.AdamThreeIdeal.τ).loc Cert.AdamThreeIdeal.main_v0_3)) (v4 : (c : Dev Cert.AdamThreeIdeal.nD) → Buf (Elt Ideal) ((c.tc : Thread Cert.AdamThreeIdeal.nD Cert.AdamThreeIdeal.τ).loc Cert.AdamThreeIdeal.main_v0_4)) (v5 : (c : Dev Cert.AdamThreeIdeal.nD) → Buf (Elt Ideal) ((c.tc : Thread Cert.AdamThreeIdeal.nD Cert.AdamThreeIdeal.τ).loc Cert.AdamThreeIdeal.main_v0_5)) (v6 : (c : Dev Cert.AdamThreeIdeal.nD) → Buf (Elt Ideal) ((c.tc : Thread Cert.AdamThreeIdeal.nD Cert.AdamThreeIdeal.τ).loc Cert.AdamThreeIdeal.main_v0_6)) (v7 : (c : Dev Cert.AdamThreeIdeal.nD) → Buf (Elt Ideal) ((c.tc : Thread Cert.AdamThreeIdeal.nD Cert.AdamThreeIdeal.τ).loc Cert.AdamThreeIdeal.main_v0_7)) (v8 : (c : Dev Cert.AdamThreeIdeal.nD) → Buf (Elt Ideal) ((c.tc : Thread Cert.AdamThreeIdeal.nD Cert.AdamThreeIdeal.τ).loc Cert.AdamThreeIdeal.main_v0_8)),
      θ_run (Cert.AdamThreeIdeal.defs (F := Ideal)) (onTc (τ := Cert.AdamThreeIdeal.τ) (Cert.AdamThreeIdeal.main (F := Ideal))) ⟨m, fun _ => 0, g⟩ (fun r => ∀ c : Dev Cert.AdamThreeIdeal.nD,
          r.2.mem ((c.tc : Thread Cert.AdamThreeIdeal.nD Cert.AdamThreeIdeal.τ).loc Cert.AdamThreeIdeal.main_v0_0) = v0 c
          ∧ r.2.mem ((c.tc : Thread Cert.AdamThreeIdeal.nD Cert.AdamThreeIdeal.τ).loc Cert.AdamThreeIdeal.main_v0_1) = v1 c
          ∧ r.2.mem ((c.tc : Thread Cert.AdamThreeIdeal.nD Cert.AdamThreeIdeal.τ).loc Cert.AdamThreeIdeal.main_v0_2) = v2 c
          ∧ r.2.mem ((c.tc : Thread Cert.AdamThreeIdeal.nD Cert.AdamThreeIdeal.τ).loc Cert.AdamThreeIdeal.main_v0_3) = v3 c
          ∧ r.2.mem ((c.tc : Thread Cert.AdamThreeIdeal.nD Cert.AdamThreeIdeal.τ).loc Cert.AdamThreeIdeal.main_v0_4) = v4 c
          ∧ r.2.mem ((c.tc : Thread Cert.AdamThreeIdeal.nD Cert.AdamThreeIdeal.τ).loc Cert.AdamThreeIdeal.main_v0_5) = v5 c
          ∧ r.2.mem ((c.tc : Thread Cert.AdamThreeIdeal.nD Cert.AdamThreeIdeal.τ).loc Cert.AdamThreeIdeal.main_v0_6) = v6 c
          ∧ r.2.mem ((c.tc : Thread Cert.AdamThreeIdeal.nD Cert.AdamThreeIdeal.τ).loc Cert.AdamThreeIdeal.main_v0_7) = v7 c
          ∧ r.2.mem ((c.tc : Thread Cert.AdamThreeIdeal.nD Cert.AdamThreeIdeal.τ).loc Cert.AdamThreeIdeal.main_v0_8) = v8 c
          ∧ r.2.mem ((c.tc : Thread Cert.AdamThreeIdeal.nD Cert.AdamThreeIdeal.τ).loc Cert.AdamThreeIdeal.main_arg0) = m ((c.tc : Thread Cert.AdamThreeIdeal.nD Cert.AdamThreeIdeal.τ).loc Cert.AdamThreeIdeal.main_arg0)
          ∧ r.2.mem ((c.tc : Thread Cert.AdamThreeIdeal.nD Cert.AdamThreeIdeal.τ).loc Cert.AdamThreeIdeal.main_arg1) = m ((c.tc : Thread Cert.AdamThreeIdeal.nD Cert.AdamThreeIdeal.τ).loc Cert.AdamThreeIdeal.main_arg1)
          ∧ r.2.mem ((c.tc : Thread Cert.AdamThreeIdeal.nD Cert.AdamThreeIdeal.τ).loc Cert.AdamThreeIdeal.main_arg2) = m ((c.tc : Thread Cert.AdamThreeIdeal.nD Cert.AdamThreeIdeal.τ).loc Cert.AdamThreeIdeal.main_arg2)
          ∧ r.2.mem ((c.tc : Thread Cert.AdamThreeIdeal.nD Cert.AdamThreeIdeal.τ).loc Cert.AdamThreeIdeal.main_arg3) = m ((c.tc : Thread Cert.AdamThreeIdeal.nD Cert.AdamThreeIdeal.τ).loc Cert.AdamThreeIdeal.main_arg3)
          ∧ r.2.mem ((c.tc : Thread Cert.AdamThreeIdeal.nD Cert.AdamThreeIdeal.τ).loc Cert.AdamThreeIdeal.main_arg4) = m ((c.tc : Thread Cert.AdamThreeIdeal.nD Cert.AdamThreeIdeal.τ).loc Cert.AdamThreeIdeal.main_arg4)
          ∧ r.2.mem ((c.tc : Thread Cert.AdamThreeIdeal.nD Cert.AdamThreeIdeal.τ).loc Cert.AdamThreeIdeal.main_arg5) = m ((c.tc : Thread Cert.AdamThreeIdeal.nD Cert.AdamThreeIdeal.τ).loc Cert.AdamThreeIdeal.main_arg5)
          ∧ r.2.mem ((c.tc : Thread Cert.AdamThreeIdeal.nD Cert.AdamThreeIdeal.τ).loc Cert.AdamThreeIdeal.main_arg6) = m ((c.tc : Thread Cert.AdamThreeIdeal.nD Cert.AdamThreeIdeal.τ).loc Cert.AdamThreeIdeal.main_arg6)
          ∧ r.2.mem ((c.tc : Thread Cert.AdamThreeIdeal.nD Cert.AdamThreeIdeal.τ).loc Cert.AdamThreeIdeal.main_arg7) = m ((c.tc : Thread Cert.AdamThreeIdeal.nD Cert.AdamThreeIdeal.τ).loc Cert.AdamThreeIdeal.main_arg7)
          ∧ r.2.mem ((c.tc : Thread Cert.AdamThreeIdeal.nD Cert.AdamThreeIdeal.τ).loc Cert.AdamThreeIdeal.main_arg8) = m ((c.tc : Thread Cert.AdamThreeIdeal.nD Cert.AdamThreeIdeal.τ).loc Cert.AdamThreeIdeal.main_arg8)
          ∧ r.2.mem ((c.tc : Thread Cert.AdamThreeIdeal.nD Cert.AdamThreeIdeal.τ).loc Cert.AdamThreeIdeal.main_arg9) = m ((c.tc : Thread Cert.AdamThreeIdeal.nD Cert.AdamThreeIdeal.τ).loc Cert.AdamThreeIdeal.main_arg9)
          ∧ r.2.mem ((c.tc : Thread Cert.AdamThreeIdeal.nD Cert.AdamThreeIdeal.τ).loc Cert.AdamThreeIdeal.main_arg10) = m ((c.tc : Thread Cert.AdamThreeIdeal.nD Cert.AdamThreeIdeal.τ).loc Cert.AdamThreeIdeal.main_arg10)
          ∧ r.2.mem ((c.tc : Thread Cert.AdamThreeIdeal.nD Cert.AdamThreeIdeal.τ).loc Cert.AdamThreeIdeal.main_arg11) = m ((c.tc : Thread Cert.AdamThreeIdeal.nD Cert.AdamThreeIdeal.τ).loc Cert.AdamThreeIdeal.main_arg11))
      ∧ θ_run (Cert.AdamThreeReferenceIdeal.defs (F := Ideal)) (onTc (τ := Cert.AdamThreeReferenceIdeal.τ) (Cert.AdamThreeReferenceIdeal.main (F := Ideal))) ⟨m', fun _ => 0, g'⟩ (fun r => ∀ c : Dev Cert.AdamThreeReferenceIdeal.nD,
          r.2.mem ((c.tc : Thread Cert.AdamThreeReferenceIdeal.nD Cert.AdamThreeReferenceIdeal.τ).loc Cert.AdamThreeReferenceIdeal.main_v23) = v0 c
          ∧ r.2.mem ((c.tc : Thread Cert.AdamThreeReferenceIdeal.nD Cert.AdamThreeReferenceIdeal.τ).loc Cert.AdamThreeReferenceIdeal.main_v47) = v1 c
          ∧ r.2.mem ((c.tc : Thread Cert.AdamThreeReferenceIdeal.nD Cert.AdamThreeReferenceIdeal.τ).loc Cert.AdamThreeReferenceIdeal.main_v71) = v2 c
          ∧ r.2.mem ((c.tc : Thread Cert.AdamThreeReferenceIdeal.nD Cert.AdamThreeReferenceIdeal.τ).loc Cert.AdamThreeReferenceIdeal.main_v4) = v3 c
          ∧ r.2.mem ((c.tc : Thread Cert.AdamThreeReferenceIdeal.nD Cert.AdamThreeReferenceIdeal.τ).loc Cert.AdamThreeReferenceIdeal.main_v28) = v4 c
          ∧ r.2.mem ((c.tc : Thread Cert.AdamThreeReferenceIdeal.nD Cert.AdamThreeReferenceIdeal.τ).loc Cert.AdamThreeReferenceIdeal.main_v52) = v5 c
          ∧ r.2.mem ((c.tc : Thread Cert.AdamThreeReferenceIdeal.nD Cert.AdamThreeReferenceIdeal.τ).loc Cert.AdamThreeReferenceIdeal.main_v10) = v6 c
          ∧ r.2.mem ((c.tc : Thread Cert.AdamThreeReferenceIdeal.nD Cert.AdamThreeReferenceIdeal.τ).loc Cert.AdamThreeReferenceIdeal.main_v34) = v7 c
          ∧ r.2.mem ((c.tc : Thread Cert.AdamThreeReferenceIdeal.nD Cert.AdamThreeReferenceIdeal.τ).loc Cert.AdamThreeReferenceIdeal.main_v58) = v8 c
          ∧ r.2.mem ((c.tc : Thread Cert.AdamThreeReferenceIdeal.nD Cert.AdamThreeReferenceIdeal.τ).loc Cert.AdamThreeReferenceIdeal.main_arg0) = m' ((c.tc : Thread Cert.AdamThreeReferenceIdeal.nD Cert.AdamThreeReferenceIdeal.τ).loc Cert.AdamThreeReferenceIdeal.main_arg0)
          ∧ r.2.mem ((c.tc : Thread Cert.AdamThreeReferenceIdeal.nD Cert.AdamThreeReferenceIdeal.τ).loc Cert.AdamThreeReferenceIdeal.main_arg1) = m' ((c.tc : Thread Cert.AdamThreeReferenceIdeal.nD Cert.AdamThreeReferenceIdeal.τ).loc Cert.AdamThreeReferenceIdeal.main_arg1)
          ∧ r.2.mem ((c.tc : Thread Cert.AdamThreeReferenceIdeal.nD Cert.AdamThreeReferenceIdeal.τ).loc Cert.AdamThreeReferenceIdeal.main_arg2) = m' ((c.tc : Thread Cert.AdamThreeReferenceIdeal.nD Cert.AdamThreeReferenceIdeal.τ).loc Cert.AdamThreeReferenceIdeal.main_arg2)
          ∧ r.2.mem ((c.tc : Thread Cert.AdamThreeReferenceIdeal.nD Cert.AdamThreeReferenceIdeal.τ).loc Cert.AdamThreeReferenceIdeal.main_arg3) = m' ((c.tc : Thread Cert.AdamThreeReferenceIdeal.nD Cert.AdamThreeReferenceIdeal.τ).loc Cert.AdamThreeReferenceIdeal.main_arg3)
          ∧ r.2.mem ((c.tc : Thread Cert.AdamThreeReferenceIdeal.nD Cert.AdamThreeReferenceIdeal.τ).loc Cert.AdamThreeReferenceIdeal.main_arg4) = m' ((c.tc : Thread Cert.AdamThreeReferenceIdeal.nD Cert.AdamThreeReferenceIdeal.τ).loc Cert.AdamThreeReferenceIdeal.main_arg4)
          ∧ r.2.mem ((c.tc : Thread Cert.AdamThreeReferenceIdeal.nD Cert.AdamThreeReferenceIdeal.τ).loc Cert.AdamThreeReferenceIdeal.main_arg5) = m' ((c.tc : Thread Cert.AdamThreeReferenceIdeal.nD Cert.AdamThreeReferenceIdeal.τ).loc Cert.AdamThreeReferenceIdeal.main_arg5)
          ∧ r.2.mem ((c.tc : Thread Cert.AdamThreeReferenceIdeal.nD Cert.AdamThreeReferenceIdeal.τ).loc Cert.AdamThreeReferenceIdeal.main_arg6) = m' ((c.tc : Thread Cert.AdamThreeReferenceIdeal.nD Cert.AdamThreeReferenceIdeal.τ).loc Cert.AdamThreeReferenceIdeal.main_arg6)
          ∧ r.2.mem ((c.tc : Thread Cert.AdamThreeReferenceIdeal.nD Cert.AdamThreeReferenceIdeal.τ).loc Cert.AdamThreeReferenceIdeal.main_arg7) = m' ((c.tc : Thread Cert.AdamThreeReferenceIdeal.nD Cert.AdamThreeReferenceIdeal.τ).loc Cert.AdamThreeReferenceIdeal.main_arg7)
          ∧ r.2.mem ((c.tc : Thread Cert.AdamThreeReferenceIdeal.nD Cert.AdamThreeReferenceIdeal.τ).loc Cert.AdamThreeReferenceIdeal.main_arg8) = m' ((c.tc : Thread Cert.AdamThreeReferenceIdeal.nD Cert.AdamThreeReferenceIdeal.τ).loc Cert.AdamThreeReferenceIdeal.main_arg8)
          ∧ r.2.mem ((c.tc : Thread Cert.AdamThreeReferenceIdeal.nD Cert.AdamThreeReferenceIdeal.τ).loc Cert.AdamThreeReferenceIdeal.main_arg9) = m' ((c.tc : Thread Cert.AdamThreeReferenceIdeal.nD Cert.AdamThreeReferenceIdeal.τ).loc Cert.AdamThreeReferenceIdeal.main_arg9)
          ∧ r.2.mem ((c.tc : Thread Cert.AdamThreeReferenceIdeal.nD Cert.AdamThreeReferenceIdeal.τ).loc Cert.AdamThreeReferenceIdeal.main_arg10) = m' ((c.tc : Thread Cert.AdamThreeReferenceIdeal.nD Cert.AdamThreeReferenceIdeal.τ).loc Cert.AdamThreeReferenceIdeal.main_arg10)
          ∧ r.2.mem ((c.tc : Thread Cert.AdamThreeReferenceIdeal.nD Cert.AdamThreeReferenceIdeal.τ).loc Cert.AdamThreeReferenceIdeal.main_arg11) = m' ((c.tc : Thread Cert.AdamThreeReferenceIdeal.nD Cert.AdamThreeReferenceIdeal.τ).loc Cert.AdamThreeReferenceIdeal.main_arg11))

def preserves_AdamFour_AdamFourIdeal : Prop :=
  IdealRules.named_const.Statement Cert.AdamFourIdeal.κ "first_unbias" .f32 0x3FC48605#32 ((8388608 / 5463681 : ℝ) : EReal)
  ∧ IdealRules.named_const.Statement Cert.AdamFourIdeal.κ "second_unbias" .f32 0x42C8E6D3#32 ((268435456 / 2672307 : ℝ) : EReal)

def algebraic_AdamFourIdeal_AdamFourReferenceIdeal [hAdamFourIdeal : Cert.AdamFourIdeal.Facts] [hAdamFourReferenceIdeal : Cert.AdamFourReferenceIdeal.Facts] : Prop :=
  ∀ (m : (ℓ : Loc Cert.AdamFourIdeal.nD Cert.AdamFourIdeal.τ Cert.AdamFourIdeal.sig) → Buf (Elt Ideal) ℓ) (g : Dev Cert.AdamFourIdeal.nD → PrngReg)
    (m' : (ℓ : Loc Cert.AdamFourReferenceIdeal.nD Cert.AdamFourReferenceIdeal.τ Cert.AdamFourReferenceIdeal.sig) → Buf (Elt Ideal) ℓ) (g' : Dev Cert.AdamFourReferenceIdeal.nD → PrngReg), Pre_AdamFourIdeal m →
    (∀ c : Dev Cert.AdamFourIdeal.nD,
      m' ((c.tc : Thread Cert.AdamFourReferenceIdeal.nD Cert.AdamFourReferenceIdeal.τ).loc Cert.AdamFourReferenceIdeal.main_arg0) = m ((c.tc : Thread Cert.AdamFourIdeal.nD Cert.AdamFourIdeal.τ).loc Cert.AdamFourIdeal.main_arg0)
      ∧ m' ((c.tc : Thread Cert.AdamFourReferenceIdeal.nD Cert.AdamFourReferenceIdeal.τ).loc Cert.AdamFourReferenceIdeal.main_arg1) = m ((c.tc : Thread Cert.AdamFourIdeal.nD Cert.AdamFourIdeal.τ).loc Cert.AdamFourIdeal.main_arg1)
      ∧ m' ((c.tc : Thread Cert.AdamFourReferenceIdeal.nD Cert.AdamFourReferenceIdeal.τ).loc Cert.AdamFourReferenceIdeal.main_arg2) = m ((c.tc : Thread Cert.AdamFourIdeal.nD Cert.AdamFourIdeal.τ).loc Cert.AdamFourIdeal.main_arg2)
      ∧ m' ((c.tc : Thread Cert.AdamFourReferenceIdeal.nD Cert.AdamFourReferenceIdeal.τ).loc Cert.AdamFourReferenceIdeal.main_arg3) = m ((c.tc : Thread Cert.AdamFourIdeal.nD Cert.AdamFourIdeal.τ).loc Cert.AdamFourIdeal.main_arg3)
      ∧ m' ((c.tc : Thread Cert.AdamFourReferenceIdeal.nD Cert.AdamFourReferenceIdeal.τ).loc Cert.AdamFourReferenceIdeal.main_arg4) = m ((c.tc : Thread Cert.AdamFourIdeal.nD Cert.AdamFourIdeal.τ).loc Cert.AdamFourIdeal.main_arg4)
      ∧ m' ((c.tc : Thread Cert.AdamFourReferenceIdeal.nD Cert.AdamFourReferenceIdeal.τ).loc Cert.AdamFourReferenceIdeal.main_arg5) = m ((c.tc : Thread Cert.AdamFourIdeal.nD Cert.AdamFourIdeal.τ).loc Cert.AdamFourIdeal.main_arg5)
      ∧ m' ((c.tc : Thread Cert.AdamFourReferenceIdeal.nD Cert.AdamFourReferenceIdeal.τ).loc Cert.AdamFourReferenceIdeal.main_arg6) = m ((c.tc : Thread Cert.AdamFourIdeal.nD Cert.AdamFourIdeal.τ).loc Cert.AdamFourIdeal.main_arg6)
      ∧ m' ((c.tc : Thread Cert.AdamFourReferenceIdeal.nD Cert.AdamFourReferenceIdeal.τ).loc Cert.AdamFourReferenceIdeal.main_arg7) = m ((c.tc : Thread Cert.AdamFourIdeal.nD Cert.AdamFourIdeal.τ).loc Cert.AdamFourIdeal.main_arg7)) →
    ∃ (v0 : (c : Dev Cert.AdamFourIdeal.nD) → Buf (Elt Ideal) ((c.tc : Thread Cert.AdamFourIdeal.nD Cert.AdamFourIdeal.τ).loc Cert.AdamFourIdeal.main_v0_0)) (v1 : (c : Dev Cert.AdamFourIdeal.nD) → Buf (Elt Ideal) ((c.tc : Thread Cert.AdamFourIdeal.nD Cert.AdamFourIdeal.τ).loc Cert.AdamFourIdeal.main_v0_1)) (v2 : (c : Dev Cert.AdamFourIdeal.nD) → Buf (Elt Ideal) ((c.tc : Thread Cert.AdamFourIdeal.nD Cert.AdamFourIdeal.τ).loc Cert.AdamFourIdeal.main_v0_2)) (v3 : (c : Dev Cert.AdamFourIdeal.nD) → Buf (Elt Ideal) ((c.tc : Thread Cert.AdamFourIdeal.nD Cert.AdamFourIdeal.τ).loc Cert.AdamFourIdeal.main_v0_3)) (v4 : (c : Dev Cert.AdamFourIdeal.nD) → Buf (Elt Ideal) ((c.tc : Thread Cert.AdamFourIdeal.nD Cert.AdamFourIdeal.τ).loc Cert.AdamFourIdeal.main_v0_4)) (v5 : (c : Dev Cert.AdamFourIdeal.nD) → Buf (Elt Ideal) ((c.tc : Thread Cert.AdamFourIdeal.nD Cert.AdamFourIdeal.τ).loc Cert.AdamFourIdeal.main_v0_5)),
      θ_run (Cert.AdamFourIdeal.defs (F := Ideal)) (onTc (τ := Cert.AdamFourIdeal.τ) (Cert.AdamFourIdeal.main (F := Ideal))) ⟨m, fun _ => 0, g⟩ (fun r => ∀ c : Dev Cert.AdamFourIdeal.nD,
          r.2.mem ((c.tc : Thread Cert.AdamFourIdeal.nD Cert.AdamFourIdeal.τ).loc Cert.AdamFourIdeal.main_v0_0) = v0 c
          ∧ r.2.mem ((c.tc : Thread Cert.AdamFourIdeal.nD Cert.AdamFourIdeal.τ).loc Cert.AdamFourIdeal.main_v0_1) = v1 c
          ∧ r.2.mem ((c.tc : Thread Cert.AdamFourIdeal.nD Cert.AdamFourIdeal.τ).loc Cert.AdamFourIdeal.main_v0_2) = v2 c
          ∧ r.2.mem ((c.tc : Thread Cert.AdamFourIdeal.nD Cert.AdamFourIdeal.τ).loc Cert.AdamFourIdeal.main_v0_3) = v3 c
          ∧ r.2.mem ((c.tc : Thread Cert.AdamFourIdeal.nD Cert.AdamFourIdeal.τ).loc Cert.AdamFourIdeal.main_v0_4) = v4 c
          ∧ r.2.mem ((c.tc : Thread Cert.AdamFourIdeal.nD Cert.AdamFourIdeal.τ).loc Cert.AdamFourIdeal.main_v0_5) = v5 c
          ∧ r.2.mem ((c.tc : Thread Cert.AdamFourIdeal.nD Cert.AdamFourIdeal.τ).loc Cert.AdamFourIdeal.main_arg0) = m ((c.tc : Thread Cert.AdamFourIdeal.nD Cert.AdamFourIdeal.τ).loc Cert.AdamFourIdeal.main_arg0)
          ∧ r.2.mem ((c.tc : Thread Cert.AdamFourIdeal.nD Cert.AdamFourIdeal.τ).loc Cert.AdamFourIdeal.main_arg1) = m ((c.tc : Thread Cert.AdamFourIdeal.nD Cert.AdamFourIdeal.τ).loc Cert.AdamFourIdeal.main_arg1)
          ∧ r.2.mem ((c.tc : Thread Cert.AdamFourIdeal.nD Cert.AdamFourIdeal.τ).loc Cert.AdamFourIdeal.main_arg2) = m ((c.tc : Thread Cert.AdamFourIdeal.nD Cert.AdamFourIdeal.τ).loc Cert.AdamFourIdeal.main_arg2)
          ∧ r.2.mem ((c.tc : Thread Cert.AdamFourIdeal.nD Cert.AdamFourIdeal.τ).loc Cert.AdamFourIdeal.main_arg3) = m ((c.tc : Thread Cert.AdamFourIdeal.nD Cert.AdamFourIdeal.τ).loc Cert.AdamFourIdeal.main_arg3)
          ∧ r.2.mem ((c.tc : Thread Cert.AdamFourIdeal.nD Cert.AdamFourIdeal.τ).loc Cert.AdamFourIdeal.main_arg4) = m ((c.tc : Thread Cert.AdamFourIdeal.nD Cert.AdamFourIdeal.τ).loc Cert.AdamFourIdeal.main_arg4)
          ∧ r.2.mem ((c.tc : Thread Cert.AdamFourIdeal.nD Cert.AdamFourIdeal.τ).loc Cert.AdamFourIdeal.main_arg5) = m ((c.tc : Thread Cert.AdamFourIdeal.nD Cert.AdamFourIdeal.τ).loc Cert.AdamFourIdeal.main_arg5)
          ∧ r.2.mem ((c.tc : Thread Cert.AdamFourIdeal.nD Cert.AdamFourIdeal.τ).loc Cert.AdamFourIdeal.main_arg6) = m ((c.tc : Thread Cert.AdamFourIdeal.nD Cert.AdamFourIdeal.τ).loc Cert.AdamFourIdeal.main_arg6)
          ∧ r.2.mem ((c.tc : Thread Cert.AdamFourIdeal.nD Cert.AdamFourIdeal.τ).loc Cert.AdamFourIdeal.main_arg7) = m ((c.tc : Thread Cert.AdamFourIdeal.nD Cert.AdamFourIdeal.τ).loc Cert.AdamFourIdeal.main_arg7))
      ∧ θ_run (Cert.AdamFourReferenceIdeal.defs (F := Ideal)) (onTc (τ := Cert.AdamFourReferenceIdeal.τ) (Cert.AdamFourReferenceIdeal.main (F := Ideal))) ⟨m', fun _ => 0, g'⟩ (fun r => ∀ c : Dev Cert.AdamFourReferenceIdeal.nD,
          r.2.mem ((c.tc : Thread Cert.AdamFourReferenceIdeal.nD Cert.AdamFourReferenceIdeal.τ).loc Cert.AdamFourReferenceIdeal.main_v23) = v0 c
          ∧ r.2.mem ((c.tc : Thread Cert.AdamFourReferenceIdeal.nD Cert.AdamFourReferenceIdeal.τ).loc Cert.AdamFourReferenceIdeal.main_v47) = v1 c
          ∧ r.2.mem ((c.tc : Thread Cert.AdamFourReferenceIdeal.nD Cert.AdamFourReferenceIdeal.τ).loc Cert.AdamFourReferenceIdeal.main_v4) = v2 c
          ∧ r.2.mem ((c.tc : Thread Cert.AdamFourReferenceIdeal.nD Cert.AdamFourReferenceIdeal.τ).loc Cert.AdamFourReferenceIdeal.main_v28) = v3 c
          ∧ r.2.mem ((c.tc : Thread Cert.AdamFourReferenceIdeal.nD Cert.AdamFourReferenceIdeal.τ).loc Cert.AdamFourReferenceIdeal.main_v10) = v4 c
          ∧ r.2.mem ((c.tc : Thread Cert.AdamFourReferenceIdeal.nD Cert.AdamFourReferenceIdeal.τ).loc Cert.AdamFourReferenceIdeal.main_v34) = v5 c
          ∧ r.2.mem ((c.tc : Thread Cert.AdamFourReferenceIdeal.nD Cert.AdamFourReferenceIdeal.τ).loc Cert.AdamFourReferenceIdeal.main_arg0) = m' ((c.tc : Thread Cert.AdamFourReferenceIdeal.nD Cert.AdamFourReferenceIdeal.τ).loc Cert.AdamFourReferenceIdeal.main_arg0)
          ∧ r.2.mem ((c.tc : Thread Cert.AdamFourReferenceIdeal.nD Cert.AdamFourReferenceIdeal.τ).loc Cert.AdamFourReferenceIdeal.main_arg1) = m' ((c.tc : Thread Cert.AdamFourReferenceIdeal.nD Cert.AdamFourReferenceIdeal.τ).loc Cert.AdamFourReferenceIdeal.main_arg1)
          ∧ r.2.mem ((c.tc : Thread Cert.AdamFourReferenceIdeal.nD Cert.AdamFourReferenceIdeal.τ).loc Cert.AdamFourReferenceIdeal.main_arg2) = m' ((c.tc : Thread Cert.AdamFourReferenceIdeal.nD Cert.AdamFourReferenceIdeal.τ).loc Cert.AdamFourReferenceIdeal.main_arg2)
          ∧ r.2.mem ((c.tc : Thread Cert.AdamFourReferenceIdeal.nD Cert.AdamFourReferenceIdeal.τ).loc Cert.AdamFourReferenceIdeal.main_arg3) = m' ((c.tc : Thread Cert.AdamFourReferenceIdeal.nD Cert.AdamFourReferenceIdeal.τ).loc Cert.AdamFourReferenceIdeal.main_arg3)
          ∧ r.2.mem ((c.tc : Thread Cert.AdamFourReferenceIdeal.nD Cert.AdamFourReferenceIdeal.τ).loc Cert.AdamFourReferenceIdeal.main_arg4) = m' ((c.tc : Thread Cert.AdamFourReferenceIdeal.nD Cert.AdamFourReferenceIdeal.τ).loc Cert.AdamFourReferenceIdeal.main_arg4)
          ∧ r.2.mem ((c.tc : Thread Cert.AdamFourReferenceIdeal.nD Cert.AdamFourReferenceIdeal.τ).loc Cert.AdamFourReferenceIdeal.main_arg5) = m' ((c.tc : Thread Cert.AdamFourReferenceIdeal.nD Cert.AdamFourReferenceIdeal.τ).loc Cert.AdamFourReferenceIdeal.main_arg5)
          ∧ r.2.mem ((c.tc : Thread Cert.AdamFourReferenceIdeal.nD Cert.AdamFourReferenceIdeal.τ).loc Cert.AdamFourReferenceIdeal.main_arg6) = m' ((c.tc : Thread Cert.AdamFourReferenceIdeal.nD Cert.AdamFourReferenceIdeal.τ).loc Cert.AdamFourReferenceIdeal.main_arg6)
          ∧ r.2.mem ((c.tc : Thread Cert.AdamFourReferenceIdeal.nD Cert.AdamFourReferenceIdeal.τ).loc Cert.AdamFourReferenceIdeal.main_arg7) = m' ((c.tc : Thread Cert.AdamFourReferenceIdeal.nD Cert.AdamFourReferenceIdeal.τ).loc Cert.AdamFourReferenceIdeal.main_arg7))

def Claim : Prop :=
  ∃ (hInput : Cert.Input.Facts) (hInputIdeal : Cert.InputIdeal.Facts) (hInputReferenceIdeal : Cert.InputReferenceIdeal.Facts) (hForward : Cert.Forward.Facts) (hForwardIdeal : Cert.ForwardIdeal.Facts) (hForwardReferenceIdeal : Cert.ForwardReferenceIdeal.Facts) (hProject : Cert.Project.Facts) (hProjectIdeal : Cert.ProjectIdeal.Facts) (hProjectReferenceIdeal : Cert.ProjectReferenceIdeal.Facts) (hNormBackward : Cert.NormBackward.Facts) (hNormBackwardIdeal : Cert.NormBackwardIdeal.Facts) (hNormBackwardReferenceIdeal : Cert.NormBackwardReferenceIdeal.Facts) (hNorm : Cert.Norm.Facts) (hNormIdeal : Cert.NormIdeal.Facts) (hNormReferenceIdeal : Cert.NormReferenceIdeal.Facts) (hAdam : Cert.Adam.Facts) (hAdamIdeal : Cert.AdamIdeal.Facts) (hAdamReferenceIdeal : Cert.AdamReferenceIdeal.Facts) (hAdamTwo : Cert.AdamTwo.Facts) (hAdamTwoIdeal : Cert.AdamTwoIdeal.Facts) (hAdamTwoReferenceIdeal : Cert.AdamTwoReferenceIdeal.Facts) (hAdamThree : Cert.AdamThree.Facts) (hAdamThreeIdeal : Cert.AdamThreeIdeal.Facts) (hAdamThreeReferenceIdeal : Cert.AdamThreeReferenceIdeal.Facts) (hAdamFour : Cert.AdamFour.Facts) (hAdamFourIdeal : Cert.AdamFourIdeal.Facts) (hAdamFourReferenceIdeal : Cert.AdamFourReferenceIdeal.Facts) (hPre_columns_finite : Cert.Pre_columns_finite.Facts) (hPre_gradient_finite : Cert.Pre_gradient_finite.Facts),
    quiescent_Input (hInput := hInput)
    ∧ quiescent_InputIdeal (hInputIdeal := hInputIdeal)
    ∧ quiescent_InputReferenceIdeal (hInputReferenceIdeal := hInputReferenceIdeal)
    ∧ quiescent_Forward (hForward := hForward)
    ∧ quiescent_ForwardIdeal (hForwardIdeal := hForwardIdeal)
    ∧ quiescent_ForwardIdeal_pre_columns_finite (hForwardIdeal := hForwardIdeal) (hPre_columns_finite := hPre_columns_finite)
    ∧ quiescent_ForwardReferenceIdeal (hForwardReferenceIdeal := hForwardReferenceIdeal)
    ∧ quiescent_ForwardReferenceIdeal_pre_columns_finite (hForwardReferenceIdeal := hForwardReferenceIdeal) (hPre_columns_finite := hPre_columns_finite)
    ∧ quiescent_Project (hProject := hProject)
    ∧ quiescent_ProjectIdeal (hProjectIdeal := hProjectIdeal)
    ∧ quiescent_ProjectReferenceIdeal (hProjectReferenceIdeal := hProjectReferenceIdeal)
    ∧ quiescent_NormBackward (hNormBackward := hNormBackward)
    ∧ quiescent_NormBackwardIdeal (hNormBackwardIdeal := hNormBackwardIdeal)
    ∧ quiescent_NormBackwardIdeal_pre_gradient_finite (hNormBackwardIdeal := hNormBackwardIdeal) (hPre_gradient_finite := hPre_gradient_finite)
    ∧ quiescent_NormBackwardReferenceIdeal (hNormBackwardReferenceIdeal := hNormBackwardReferenceIdeal)
    ∧ quiescent_NormBackwardReferenceIdeal_pre_gradient_finite (hNormBackwardReferenceIdeal := hNormBackwardReferenceIdeal) (hPre_gradient_finite := hPre_gradient_finite)
    ∧ quiescent_Norm (hNorm := hNorm)
    ∧ quiescent_NormIdeal (hNormIdeal := hNormIdeal)
    ∧ quiescent_NormReferenceIdeal (hNormReferenceIdeal := hNormReferenceIdeal)
    ∧ quiescent_Adam (hAdam := hAdam)
    ∧ quiescent_AdamIdeal (hAdamIdeal := hAdamIdeal)
    ∧ quiescent_AdamReferenceIdeal (hAdamReferenceIdeal := hAdamReferenceIdeal)
    ∧ quiescent_AdamTwo (hAdamTwo := hAdamTwo)
    ∧ quiescent_AdamTwoIdeal (hAdamTwoIdeal := hAdamTwoIdeal)
    ∧ quiescent_AdamTwoReferenceIdeal (hAdamTwoReferenceIdeal := hAdamTwoReferenceIdeal)
    ∧ quiescent_AdamThree (hAdamThree := hAdamThree)
    ∧ quiescent_AdamThreeIdeal (hAdamThreeIdeal := hAdamThreeIdeal)
    ∧ quiescent_AdamThreeReferenceIdeal (hAdamThreeReferenceIdeal := hAdamThreeReferenceIdeal)
    ∧ quiescent_AdamFour (hAdamFour := hAdamFour)
    ∧ quiescent_AdamFourIdeal (hAdamFourIdeal := hAdamFourIdeal)
    ∧ quiescent_AdamFourReferenceIdeal (hAdamFourReferenceIdeal := hAdamFourReferenceIdeal)
    ∧ preserves_Input_InputIdeal
    ∧ algebraic_InputIdeal_InputReferenceIdeal (hInputIdeal := hInputIdeal) (hInputReferenceIdeal := hInputReferenceIdeal)
    ∧ preserves_Forward_ForwardIdeal
    ∧ algebraic_ForwardIdeal_ForwardReferenceIdeal_pre_columns_finite (hForwardIdeal := hForwardIdeal) (hForwardReferenceIdeal := hForwardReferenceIdeal) (hPre_columns_finite := hPre_columns_finite)
    ∧ preserves_Project_ProjectIdeal
    ∧ algebraic_ProjectIdeal_ProjectReferenceIdeal (hProjectIdeal := hProjectIdeal) (hProjectReferenceIdeal := hProjectReferenceIdeal)
    ∧ preserves_NormBackward_NormBackwardIdeal
    ∧ algebraic_NormBackwardIdeal_NormBackwardReferenceIdeal_pre_gradient_finite (hNormBackwardIdeal := hNormBackwardIdeal) (hNormBackwardReferenceIdeal := hNormBackwardReferenceIdeal) (hPre_gradient_finite := hPre_gradient_finite)
    ∧ preserves_Norm_NormIdeal
    ∧ algebraic_NormIdeal_NormReferenceIdeal (hNormIdeal := hNormIdeal) (hNormReferenceIdeal := hNormReferenceIdeal)
    ∧ preserves_Adam_AdamIdeal
    ∧ algebraic_AdamIdeal_AdamReferenceIdeal (hAdamIdeal := hAdamIdeal) (hAdamReferenceIdeal := hAdamReferenceIdeal)
    ∧ preserves_AdamTwo_AdamTwoIdeal
    ∧ algebraic_AdamTwoIdeal_AdamTwoReferenceIdeal (hAdamTwoIdeal := hAdamTwoIdeal) (hAdamTwoReferenceIdeal := hAdamTwoReferenceIdeal)
    ∧ preserves_AdamThree_AdamThreeIdeal
    ∧ algebraic_AdamThreeIdeal_AdamThreeReferenceIdeal (hAdamThreeIdeal := hAdamThreeIdeal) (hAdamThreeReferenceIdeal := hAdamThreeReferenceIdeal)
    ∧ preserves_AdamFour_AdamFourIdeal
    ∧ algebraic_AdamFourIdeal_AdamFourReferenceIdeal (hAdamFourIdeal := hAdamFourIdeal) (hAdamFourReferenceIdeal := hAdamFourReferenceIdeal)
-- ==== Pre_columns_finite.lean ====
abbrev S8192x1024 : Shape := ⟨2, ![8192, 1024]⟩
abbrev S8192x4864 : Shape := ⟨2, ![8192, 4864]⟩
abbrev S8 : Shape := ⟨1, ![8]⟩
abbrev S512 : Shape := ⟨1, ![512]⟩
abbrev S4x128x128 : Shape := ⟨3, ![4, 128, 128]⟩
abbrev S4x128 : Shape := ⟨2, ![4, 128]⟩
abbrev S512x1024 : Shape := ⟨2, ![512, 1024]⟩
abbrev S1024x1024 : Shape := ⟨2, ![1024, 1024]⟩
abbrev S1024 : Shape := ⟨1, ![1024]⟩
abbrev S1024x4864 : Shape := ⟨2, ![1024, 4864]⟩
abbrev S4864 : Shape := ⟨1, ![4864]⟩
abbrev S_ : Shape := ⟨0, ![]⟩

class Facts : Prop where
  bcast_S_S8192x4864 : S_.BroadcastsInDim S8192x4864 (![] : Fin 0 → Fin S8192x4864.rank)
  bcast_S_S8 : S_.BroadcastsInDim S8 (![] : Fin 0 → Fin S8.rank)

variable [Facts]

def fn {F : FTy → Type} [FloatOps F] (main_arg0 : FVec F S8192x1024 .f32) (main_arg1 : FVec F S8192x4864 .f32) (main_arg2 : FVec F S8 .f32) (main_arg3 : FVec F S512 .f32) (main_arg4 : FVec F S512 .f32) (main_arg5 : FVec F S4x128x128 .f32) (main_arg6 : FVec F S4x128 .f32) (main_arg7 : FVec F S512x1024 .f32) (main_arg8 : FVec F S512x1024 .f32) (main_arg9 : FVec F S1024x1024 .f32) (main_arg10 : FVec F S1024 .f32) (main_arg11 : FVec F S1024 .f32) (main_arg12 : FVec F S1024 .f32) (main_arg13 : FVec F S1024x4864 .f32) (main_arg14 : FVec F S4864 .f32) : IVec S8192x4864 1 × IVec S8 1 :=
  let main_v0 : FVec F S8192x4864 .f32 := Host.absf main_arg1
  let main_cst : FVec F S_ .f32 := constant S_ .f32 0x7F800000#32
  let main_v1 : FVec F S8192x4864 .f32 := broadcastInDim S8192x4864 ![] bcast_S_S8192x4864 main_cst
  let main_v2 : IVec S8192x4864 1 := cmpf .olt main_v0 main_v1
  let main_v3 : FVec F S8 .f32 := Host.absf main_arg2
  let main_cst_0 : FVec F S_ .f32 := constant S_ .f32 0x7F800000#32
  let main_v4 : FVec F S8 .f32 := broadcastInDim S8 ![] bcast_S_S8 main_cst_0
  let main_v5 : IVec S8 1 := cmpf .olt main_v3 main_v4
  (main_v2, main_v5)
-- ==== Pre_gradient_finite.lean ====
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x1024 .f32) (main_arg1 : FVec F S8192x1024 .f32) (main_arg2 : FVec F S1024 .f32) : IVec S8192x1024 1 × IVec S1024 1 :=
  let main_v0 : FVec F S8192x1024 .f32 := Host.absf main_arg1
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg2
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  (main_v2, main_v5)
-- ==== Input.lean ====
abbrev S8192x1024 : Shape := ⟨2, ![8192, 1024]⟩
abbrev S8192x4864 : Shape := ⟨2, ![8192, 4864]⟩
abbrev S1024x4864 : Shape := ⟨2, ![1024, 4864]⟩
abbrev S4864x1024 : Shape := ⟨2, ![4864, 1024]⟩
abbrev S256x1024 : Shape := ⟨2, ![256, 1024]⟩
abbrev S256x4864 : Shape := ⟨2, ![256, 4864]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x4864, .bf16⟩
  | .hbm, ⟨2, _⟩ => ⟨S8192x1024, .f32⟩
  | .hbm, ⟨3, _⟩ => ⟨S1024x4864, .f32⟩
  | .hbm, ⟨4, _⟩ => ⟨S4864x1024, .f32⟩
  | .hbm, ⟨5, _⟩ => ⟨S4864x1024, .bf16⟩
  | .hbm, ⟨6, _⟩ => ⟨S8192x1024, .f32⟩
  | .hbm, ⟨7, _⟩ => ⟨S4864x1024, .f32⟩
  | .local _ .vmem, ⟨0, _⟩ => ⟨S256x1024, .f32⟩
  | .local _ .vmem, ⟨1, _⟩ => ⟨S256x1024, .f32⟩
  | .local _ .vmem, ⟨2, _⟩ => ⟨S256x4864, .bf16⟩
  | .local _ .vmem, ⟨3, _⟩ => ⟨S256x4864, .bf16⟩
  | .local _ .vmem, ⟨4, _⟩ => ⟨S256x1024, .f32⟩
  | .local _ .vmem, ⟨5, _⟩ => ⟨S256x1024, .f32⟩
  | .local _ .vmem, ⟨6, _⟩ => ⟨S4864x1024, .bf16⟩
  | .local _ .vmem, ⟨7, _⟩ => ⟨S256x1024, .f32⟩
  | .local _ .vmem, ⟨8, _⟩ => ⟨S256x1024, .f32⟩
  | .local _ .vmem, ⟨9, _⟩ => ⟨S4864x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4864 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4864x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4864x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== InputReferenceIdeal.lean ====
abbrev S8192x1024 : Shape := ⟨2, ![8192, 1024]⟩
abbrev S8192x4864 : Shape := ⟨2, ![8192, 4864]⟩
abbrev S1024x4864 : Shape := ⟨2, ![1024, 4864]⟩
abbrev S4864x1024 : Shape := ⟨2, ![4864, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4864, .bf16⟩
  | .hbm, ⟨2, _⟩ => ⟨S8192x1024, .f32⟩
  | .hbm, ⟨3, _⟩ => ⟨S1024x4864, .f32⟩
  | .hbm, ⟨4, _⟩ => ⟨S8192x4864, .f32⟩
  | .hbm, ⟨5, _⟩ => ⟨S8192x4864, .f32⟩
  | .hbm, ⟨6, _⟩ => ⟨S4864x1024, .f32⟩
  | .hbm, ⟨7, _⟩ => ⟨S1024x4864, .f32⟩
  | .hbm, ⟨8, _⟩ => ⟨S8192x1024, .f32⟩
  | .hbm, ⟨9, _⟩ => ⟨S8192x1024, .f32⟩
  | .hbm, ⟨10, _⟩ => ⟨S4864x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Forward.lean ====
abbrev S8192x1024 : Shape := ⟨2, ![8192, 1024]⟩
abbrev S8192x4864 : Shape := ⟨2, ![8192, 4864]⟩
abbrev S8 : Shape := ⟨1, ![8]⟩
abbrev S512 : Shape := ⟨1, ![512]⟩
abbrev S4x128x128 : Shape := ⟨3, ![4, 128, 128]⟩
abbrev S4x128 : Shape := ⟨2, ![4, 128]⟩
abbrev S512x1024 : Shape := ⟨2, ![512, 1024]⟩
abbrev S1024x1024 : Shape := ⟨2, ![1024, 1024]⟩
abbrev S1024 : Shape := ⟨1, ![1024]⟩
abbrev S1024x4864 : Shape := ⟨2, ![1024, 4864]⟩
abbrev S4864 : Shape := ⟨1, ![4864]⟩
abbrev S1x512 : Shape := ⟨2, ![1, 512]⟩
abbrev S128x4 : Shape := ⟨2, ![128, 4]⟩
abbrev S128x4x128 : Shape := ⟨3, ![128, 4, 128]⟩
abbrev S128x512 : Shape := ⟨2, ![128, 512]⟩
abbrev S1x1024 : Shape := ⟨2, ![1, 1024]⟩
abbrev S4864x1024 : Shape := ⟨2, ![4864, 1024]⟩
abbrev S1x4864 : Shape := ⟨2, ![1, 4864]⟩
abbrev S256x1024 : Shape := ⟨2, ![256, 1024]⟩
abbrev S256x4864 : Shape := ⟨2, ![256, 4864]⟩
abbrev S128x256 : Shape := ⟨2, ![128, 256]⟩
abbrev S256x512 : Shape := ⟨2, ![256, 512]⟩
abbrev S128x128 : Shape := ⟨2, ![128, 128]⟩
abbrev S256x128 : Shape := ⟨2, ![256, 128]⟩
abbrev S1 : Shape := ⟨1, ![1]⟩
abbrev S512x256 : Shape := ⟨2, ![512, 256]⟩
abbrev S512x128 : Shape := ⟨2, ![512, 128]⟩
abbrev S512x1 : Shape := ⟨2, ![512, 1]⟩
abbrev S256 : Shape := ⟨1, ![256]⟩
abbrev S256x1 : Shape := ⟨2, ![256, 1]⟩
abbrev S1x128x128 : Shape := ⟨3, ![1, 128, 128]⟩
abbrev S256x256 : Shape := ⟨2, ![256, 256]⟩
abbrev S1x256 : Shape := ⟨2, ![1, 256]⟩

abbrev nBuf : Space → Nat
  | .hbm => 31
  | .vmem => 25
  | .smem => 1
  | _ => 0

abbrev bufTy : (tb : Table) → Fin (tcTables nBuf tb) → BufTy
  | .hbm, ⟨0, _⟩ => ⟨S8192x1024, .f32⟩
  | .hbm, ⟨1, _⟩ => ⟨S8192x4864, .f32⟩
  | .hbm, ⟨2, _⟩ => ⟨S8, .f32⟩
  | .hbm, ⟨3, _⟩ => ⟨S512, .f32⟩
  | .hbm, ⟨4, _⟩ => ⟨S512, .f32⟩
  | .hbm, ⟨5, _⟩ => ⟨S4x128x128, .f32⟩
  | .hbm, ⟨6, _⟩ => ⟨S4x128, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024x4864, .f32⟩
  | .hbm, ⟨14, _⟩ => ⟨S4864, .f32⟩
  | .hbm, ⟨15, _⟩ => ⟨S1x512, .f32⟩
  | .hbm, ⟨16, _⟩ => ⟨S1x512, .f32⟩
  | .hbm, ⟨17, _⟩ => ⟨S128x4, .f32⟩
  | .hbm, ⟨18, _⟩ => ⟨S128x4x128, .f32⟩
  | .hbm, ⟨19, _⟩ => ⟨S128x512, .f32⟩
  | .hbm, ⟨20, _⟩ => ⟨S512x1024, .bf16⟩
  | .hbm, ⟨21, _⟩ => ⟨S512x1024, .bf16⟩
  | .hbm, ⟨22, _⟩ => ⟨S1024x1024, .bf16⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S4864x1024, .f32⟩
  | .hbm, ⟨27, _⟩ => ⟨S4864x1024, .bf16⟩
  | .hbm, ⟨28, _⟩ => ⟨S1x4864, .f32⟩
  | .hbm, ⟨29, _⟩ => ⟨S8192x1024, .f32⟩
  | .hbm, ⟨30, _⟩ => ⟨S8192x4864, .f32⟩
  | .local _ .vmem, ⟨0, _⟩ => ⟨S256x1024, .f32⟩
  | .local _ .vmem, ⟨1, _⟩ => ⟨S256x1024, .f32⟩
  | .local _ .vmem, ⟨2, _⟩ => ⟨S256x4864, .f32⟩
  | .local _ .vmem, ⟨3, _⟩ => ⟨S256x4864, .f32⟩
  | .local _ .vmem, ⟨4, _⟩ => ⟨S128x256, .f32⟩
  | .local _ .vmem, ⟨5, _⟩ => ⟨S128x256, .f32⟩
  | .local _ .vmem, ⟨6, _⟩ => ⟨S4864x1024, .bf16⟩
  | .local _ .vmem, ⟨7, _⟩ => ⟨S1x4864, .f32⟩
  | .local _ .vmem, ⟨8, _⟩ => ⟨S1x512, .f32⟩
  | .local _ .vmem, ⟨9, _⟩ => ⟨S1x512, .f32⟩
  | .local _ .vmem, ⟨10, _⟩ => ⟨S4x128x128, .f32⟩
  | .local _ .vmem, ⟨11, _⟩ => ⟨S128x512, .f32⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S256x1024, .f32⟩
  | .local _ .vmem, ⟨19, _⟩ => ⟨S256x1024, .f32⟩
  | .local _ .vmem, ⟨20, _⟩ => ⟨S256x4864, .f32⟩
  | .local _ .vmem, ⟨21, _⟩ => ⟨S256x4864, .f32⟩
  | .local _ .vmem, ⟨22, _⟩ => ⟨S256x512, .f32⟩
  | .local _ .vmem, ⟨23, _⟩ => ⟨S256x512, .f32⟩
  | .local _ .vmem, ⟨24, _⟩ => ⟨S256x1024, .bf16⟩
  | .local _ .smem, ⟨0, _⟩ => ⟨S8, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14_0 : Ref sig .tc := ⟨.hbm, 29, rfl⟩
abbrev main_v14_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg17_0 : Ref sig .tc := ⟨.vmem, 20, rfl⟩
abbrev cc0_stg17_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem16_1 : DmaSem sig := 20
abbrev cc0_sem17_0 : DmaSem sig := 21
abbrev cc0_sem17_1 : DmaSem sig := 22

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c2_i32 : BitVec 32 := 2#32
  let v1 : BitVec 32 := Scalar.muli v0 c2_i32
  let c1_i32 : BitVec 32 := 1#32
  let v2 : BitVec 32 := Scalar.subi v1 c1_i32
  let c0_i32 : BitVec 32 := 0#32
  let v3 : BitVec 32 := Scalar.maxsi v2 c0_i32
  let c2_i32_0 : BitVec 32 := 2#32
  let c0_i32_1 : BitVec 32 := 0#32
  ![v3.toNat, c2_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4864 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4864x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4864 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x4864 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ForwardIdeal.lean ====
variable {F : FTy → Type} [FloatOps F] [Named F]
def κ : String → Option EReal := fun
  | "gelu_ca" => some ((80338380498831 / 2251799813685248 : ℝ) : EReal)
  | "mask" => some ⊥
  | _ => none
-- ==== ForwardReferenceIdeal.lean ====
abbrev S8192x1024 : Shape := ⟨2, ![8192, 1024]⟩
abbrev S8192x4864 : Shape := ⟨2, ![8192, 4864]⟩
abbrev S8 : Shape := ⟨1, ![8]⟩
abbrev S512 : Shape := ⟨1, ![512]⟩
abbrev S4x128x128 : Shape := ⟨3, ![4, 128, 128]⟩
abbrev S4x128 : Shape := ⟨2, ![4, 128]⟩
abbrev S512x1024 : Shape := ⟨2, ![512, 1024]⟩
abbrev S1024x1024 : Shape := ⟨2, ![1024, 1024]⟩
abbrev S1024 : Shape := ⟨1, ![1024]⟩
abbrev S1024x4864 : Shape := ⟨2, ![1024, 4864]⟩
abbrev S4864 : Shape := ⟨1, ![4864]⟩
abbrev S8192x512 : Shape := ⟨2, ![8192, 512]⟩
abbrev S8192x128 : Shape := ⟨2, ![8192, 128]⟩
abbrev S64x128x8x64 : Shape := ⟨4, ![64, 128, 8, 64]⟩
abbrev S64x128x128 : Shape := ⟨3, ![64, 128, 128]⟩
abbrev S1x128x128 : Shape := ⟨3, ![1, 128, 128]⟩
abbrev S_ : Shape := ⟨0, ![]⟩
abbrev S63x128x128 : Shape := ⟨3, ![63, 128, 128]⟩
abbrev S64x256x128 : Shape := ⟨3, ![64, 256, 128]⟩
abbrev S64x256x2x1x64 : Shape := ⟨5, ![64, 256, 2, 1, 64]⟩
abbrev S64x256x2x4x64 : Shape := ⟨5, ![64, 256, 2, 4, 64]⟩
abbrev S64x256x8x64 : Shape := ⟨4, ![64, 256, 8, 64]⟩
abbrev S64x8x128x256 : Shape := ⟨4, ![64, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S1x32 : Shape := ⟨2, ![1, 32]⟩
abbrev S2x32 : Shape := ⟨2, ![2, 32]⟩
abbrev S64 : Shape := ⟨1, ![64]⟩
abbrev S64x1x1 : Shape := ⟨3, ![64, 1, 1]⟩
abbrev S1x128x256 : Shape := ⟨3, ![1, 128, 256]⟩
abbrev S1x1x256 : Shape := ⟨3, ![1, 1, 256]⟩
abbrev S64x1x256 : Shape := ⟨3, ![64, 1, 256]⟩
abbrev S64x128x256 : Shape := ⟨3, ![64, 128, 256]⟩
abbrev S64x1x128x256 : Shape := ⟨4, ![64, 1, 128, 256]⟩
abbrev S1x8x1x1 : Shape := ⟨4, ![1, 8, 1, 1]⟩
abbrev S64x8x128 : Shape := ⟨3, ![64, 8, 128]⟩
abbrev S64x8x128x1 : Shape := ⟨4, ![64, 8, 128, 1]⟩
abbrev S64x8x64x128 : Shape := ⟨4, ![64, 8, 64, 128]⟩
abbrev S8192 : Shape := ⟨1, ![8192]⟩
abbrev S8192x1 : Shape := ⟨2, ![8192, 1]⟩
abbrev S1x512 : Shape := ⟨2, ![1, 512]⟩
abbrev S64x128x4x128 : Shape := ⟨4, ![64, 128, 4, 128]⟩
abbrev S128x128 : Shape := ⟨2, ![128, 128]⟩
abbrev S4x64x128x128 : Shape := ⟨4, ![4, 64, 128, 128]⟩
abbrev S128x4 : Shape := ⟨2, ![128, 4]⟩
abbrev S1x128x4x1 : Shape := ⟨4, ![1, 128, 4, 1]⟩
abbrev S1x1024 : Shape := ⟨2, ![1, 1024]⟩
abbrev S1x4864 : Shape := ⟨2, ![1, 4864]⟩

abbrev nBuf : Space → Nat
  | .hbm => 280
  | .vmem => 0
  | .smem => 0
  | _ => 0

abbrev hbmTy0_0 (i : Nat) : BufTy := match i % 128 with
  | 0 => ⟨S8192x1024, .f32⟩
  | 1 => ⟨S8192x4864, .f32⟩
  | 2 => ⟨S8, .f32⟩
  | 3 => ⟨S512, .f32⟩
  | 4 => ⟨S512, .f32⟩
  | 5 => ⟨S4x128x128, .f32⟩
  | 6 => ⟨S4x128, .f32⟩
  | 7 => ⟨S512x1024, .f32⟩
  | 8 => ⟨S512x1024, .f32⟩
  | 9 => ⟨S1024x1024, .f32⟩
  | 10 => ⟨S1024, .f32⟩
  | 11 => ⟨S1024, .f32⟩
  | 12 => ⟨S1024, .f32⟩
  | 13 => ⟨S1024x4864, .f32⟩
  | 14 => ⟨S4864, .f32⟩
  | 15 => ⟨S8192x512, .f32⟩
  | 16 => ⟨S8192x128, .f32⟩
  | 17 => ⟨S8192x128, .f32⟩
  | 18 => ⟨S8192x512, .f32⟩
  | 19 => ⟨S8192x512, .f32⟩
  | 20 => ⟨S8192x512, .f32⟩
  | 21 => ⟨S8192x512, .f32⟩
  | 22 => ⟨S8192x1024, .f32⟩
  | 23 => ⟨S8192x1024, .f32⟩
  | 24 => ⟨S64x128x8x64, .f32⟩
  | 25 => ⟨S64x128x128, .f32⟩
  | 26 => ⟨S1x128x128, .f32⟩
  | 27 => ⟨S_, .f32⟩
  | 28 => ⟨S1x128x128, .f32⟩
  | 29 => ⟨S63x128x128, .f32⟩
  | 30 => ⟨S64x128x128, .f32⟩
  | 31 => ⟨S64x256x128, .f32⟩
  | 32 => ⟨S64x256x2x1x64, .f32⟩
  | 33 => ⟨S64x256x2x4x64, .f32⟩
  | 34 => ⟨S64x256x8x64, .f32⟩
  | 35 => ⟨S64x128x128, .f32⟩
  | 36 => ⟨S1x128x128, .f32⟩
  | 37 => ⟨S_, .f32⟩
  | 38 => ⟨S1x128x128, .f32⟩
  | 39 => ⟨S63x128x128, .f32⟩
  | 40 => ⟨S64x128x128, .f32⟩
  | 41 => ⟨S64x256x128, .f32⟩
  | 42 => ⟨S64x256x2x1x64, .f32⟩
  | 43 => ⟨S64x256x2x4x64, .f32⟩
  | 44 => ⟨S64x256x8x64, .f32⟩
  | 45 => ⟨S64x8x128x256, .f32⟩
  | 46 => ⟨S_, .f32⟩
  | 47 => ⟨S64x8x128x256, .f32⟩
  | 48 => ⟨S64x8x128x256, .f32⟩
  | 49 => ⟨S128, .i32⟩
  | 50 => ⟨S128x1, .i32⟩
  | 51 => ⟨S_, .i32⟩
  | 52 => ⟨S128x1, .i32⟩
  | 53 => ⟨S128x1, .i32⟩
  | 54 => ⟨S256, .i32⟩
  | 55 => ⟨S1x256, .i32⟩
  | 56 => ⟨S128x256, .i32⟩
  | 57 => ⟨S128x256, .i32⟩
  | 58 => ⟨S128x256, .i1⟩
  | 59 => ⟨S_, .i32⟩
  | 60 => ⟨S128x1, .i32⟩
  | 61 => ⟨S128x1, .i32⟩
  | 62 => ⟨S128x256, .i32⟩
  | 63 => ⟨S128x256, .i32⟩
  | 64 => ⟨S128x256, .i1⟩
  | 65 => ⟨S128x256, .i1⟩
  | 66 => ⟨S32, .i32⟩
  | 67 => ⟨S1x32, .i32⟩
  | 68 => ⟨S2x32, .i32⟩
  | 69 => ⟨S64, .i32⟩
  | 70 => ⟨S64x1x1, .i32⟩
  | 71 => ⟨S1x128x256, .i1⟩
  | 72 => ⟨S_, .i32⟩
  | 73 => ⟨S64x1x1, .i32⟩
  | 74 => ⟨S64x1x1, .i1⟩
  | 75 => ⟨S1x1x256, .i32⟩
  | 76 => ⟨S_, .i32⟩
  | 77 => ⟨S1x1x256, .i32⟩
  | 78 => ⟨S1x1x256, .i1⟩
  | 79 => ⟨S64x1x256, .i1⟩
  | 80 => ⟨S64x1x256, .i1⟩
  | 81 => ⟨S64x1x256, .i1⟩
  | 82 => ⟨S64x128x256, .i1⟩
  | 83 => ⟨S64x128x256, .i1⟩
  | 84 => ⟨S64x128x256, .i1⟩
  | 85 => ⟨S64x1x128x256, .i1⟩
  | 86 => ⟨S_, .f32⟩
  | 87 => ⟨S_, .f32⟩
  | 88 => ⟨S64x8x128x256, .i1⟩
  | 89 => ⟨S64x8x128x256, .f32⟩
  | 90 => ⟨S64x8x128x256, .f32⟩
  | 91 => ⟨S1x8x1x1, .f32⟩
  | 92 => ⟨S_, .f32⟩
  | 93 => ⟨S64x8x128, .f32⟩
  | 94 => ⟨S64x8x128x1, .f32⟩
  | 95 => ⟨S64x8x128x1, .f32⟩
  | 96 => ⟨S64x8x128x1, .f32⟩
  | 97 => ⟨S64x8x128x256, .f32⟩
  | 98 => ⟨S64x8x128x256, .f32⟩
  | 99 => ⟨S64x8x128x256, .f32⟩
  | 100 => ⟨S_, .f32⟩
  | 101 => ⟨S64x8x128, .f32⟩
  | 102 => ⟨S64x8x128x1, .f32⟩
  | 103 => ⟨S64x8x128x1, .f32⟩
  | 104 => ⟨S64x8x128x1, .f32⟩
  | 105 => ⟨S64x8x128x1, .f32⟩
  | 106 => ⟨S64x8x128x1, .f32⟩
  | 107 => ⟨S64x8x128x256, .f32⟩
  | 108 => ⟨S64x8x128x256, .f32⟩
  | 109 => ⟨S64x8x64x128, .f32⟩
  | 110 => ⟨S64x128x8x64, .f32⟩
  | 111 => ⟨S8192x512, .f32⟩
  | 112 => ⟨S8192x512, .f32⟩
  | 113 => ⟨S8192x512, .f32⟩
  | 114 => ⟨S_, .f32⟩
  | 115 => ⟨S8192x512, .f32⟩
  | 116 => ⟨S8192x512, .f32⟩
  | 117 => ⟨S_, .f32⟩
  | 118 => ⟨S8192x512, .f32⟩
  | 119 => ⟨S8192x512, .f32⟩
  | 120 => ⟨S8192x512, .f32⟩
  | 121 => ⟨S8192x512, .f32⟩
  | 122 => ⟨S8192x512, .f32⟩
  | 123 => ⟨S8192x512, .f32⟩
  | 124 => ⟨S_, .f32⟩
  | 125 => ⟨S8192x512, .f32⟩
  | 126 => ⟨S8192x512, .f32⟩
  | 127 => ⟨S8192x512, .f32⟩
  | _ => ⟨S8192x1024, .f32⟩

abbrev hbmTy0_1 (i : Nat) : BufTy := match i % 128 with
  | 0 => ⟨S_, .f32⟩
  | 1 => ⟨S8192x512, .f32⟩
  | 2 => ⟨S8192x512, .f32⟩
  | 3 => ⟨S8192x512, .f32⟩
  | 4 => ⟨S_, .f32⟩
  | 5 => ⟨S8192x512, .f32⟩
  | 6 => ⟨S8192x512, .f32⟩
  | 7 => ⟨S_, .f32⟩
  | 8 => ⟨S8192x512, .f32⟩
  | 9 => ⟨S8192x512, .f32⟩
  | 10 => ⟨S8192x512, .f32⟩
  | 11 => ⟨S8192x512, .f32⟩
  | 12 => ⟨S8192x512, .f32⟩
  | 13 => ⟨S_, .f32⟩
  | 14 => ⟨S8192x512, .f32⟩
  | 15 => ⟨S8192x512, .f32⟩
  | 16 => ⟨S8192x512, .f32⟩
  | 17 => ⟨S_, .f32⟩
  | 18 => ⟨S8192x512, .f32⟩
  | 19 => ⟨S8192x512, .f32⟩
  | 20 => ⟨S8192x512, .f32⟩
  | 21 => ⟨S_, .f32⟩
  | 22 => ⟨S8192x512, .f32⟩
  | 23 => ⟨S8192x512, .f32⟩
  | 24 => ⟨S_, .f32⟩
  | 25 => ⟨S8192x512, .f32⟩
  | 26 => ⟨S8192x512, .f32⟩
  | 27 => ⟨S8192x512, .f32⟩
  | 28 => ⟨S_, .f32⟩
  | 29 => ⟨S8192, .f32⟩
  | 30 => ⟨S8192x1, .f32⟩
  | 31 => ⟨S_, .f32⟩
  | 32 => ⟨S8192x1, .f32⟩
  | 33 => ⟨S8192x1, .f32⟩
  | 34 => ⟨S8192x512, .f32⟩
  | 35 => ⟨S8192x512, .f32⟩
  | 36 => ⟨S8192x512, .f32⟩
  | 37 => ⟨S_, .f32⟩
  | 38 => ⟨S8192, .f32⟩
  | 39 => ⟨S8192x1, .f32⟩
  | 40 => ⟨S_, .f32⟩
  | 41 => ⟨S8192x1, .f32⟩
  | 42 => ⟨S8192x1, .f32⟩
  | 43 => ⟨S8192x512, .f32⟩
  | 44 => ⟨S8192x512, .f32⟩
  | 45 => ⟨S_, .f32⟩
  | 46 => ⟨S8192x1, .f32⟩
  | 47 => ⟨S8192x1, .f32⟩
  | 48 => ⟨S8192x1, .f32⟩
  | 49 => ⟨S8192x512, .f32⟩
  | 50 => ⟨S8192x512, .f32⟩
  | 51 => ⟨S1x512, .f32⟩
  | 52 => ⟨S8192x512, .f32⟩
  | 53 => ⟨S8192x512, .f32⟩
  | 54 => ⟨S1x512, .f32⟩
  | 55 => ⟨S8192x512, .f32⟩
  | 56 => ⟨S8192x512, .f32⟩
  | 57 => ⟨S64x128x4x128, .f32⟩
  | 58 => ⟨S_, .f32⟩
  | 59 => ⟨S128x128, .f32⟩
  | 60 => ⟨S128x128, .i32⟩
  | 61 => ⟨S_, .i32⟩
  | 62 => ⟨S128x128, .i32⟩
  | 63 => ⟨S128x128, .i32⟩
  | 64 => ⟨S128x128, .i32⟩
  | 65 => ⟨S128x128, .i1⟩
  | 66 => ⟨S_, .f32⟩
  | 67 => ⟨S128x128, .f32⟩
  | 68 => ⟨S128x128, .f32⟩
  | 69 => ⟨S1x128x128, .f32⟩
  | 70 => ⟨S4x128x128, .f32⟩
  | 71 => ⟨S4x128x128, .f32⟩
  | 72 => ⟨S4x64x128x128, .f32⟩
  | 73 => ⟨S64x128x4x128, .f32⟩
  | 74 => ⟨S128x4, .f32⟩
  | 75 => ⟨S1x128x4x1, .f32⟩
  | 76 => ⟨S64x128x4x128, .f32⟩
  | 77 => ⟨S64x128x4x128, .f32⟩
  | 78 => ⟨S8192x512, .f32⟩
  | 79 => ⟨S8192x512, .f32⟩
  | 80 => ⟨S8192x512, .f32⟩
  | 81 => ⟨S8192x512, .f32⟩
  | 82 => ⟨S_, .f32⟩
  | 83 => ⟨S8192x512, .f32⟩
  | 84 => ⟨S8192x512, .f32⟩
  | 85 => ⟨S_, .f32⟩
  | 86 => ⟨S8192x512, .f32⟩
  | 87 => ⟨S8192x512, .f32⟩
  | 88 => ⟨S8192x512, .f32⟩
  | 89 => ⟨S8192x512, .f32⟩
  | 90 => ⟨S8192x1024, .f32⟩
  | 91 => ⟨S8192x1024, .f32⟩
  | 92 => ⟨S_, .f32⟩
  | 93 => ⟨S8192x1024, .f32⟩
  | 94 => ⟨S8192x1024, .f32⟩
  | 95 => ⟨S_, .f32⟩
  | 96 => ⟨S8192x1024, .f32⟩
  | 97 => ⟨S8192x1024, .f32⟩
  | 98 => ⟨S8192x1024, .f32⟩
  | 99 => ⟨S8192x1024, .f32⟩
  | 100 => ⟨S8192x1024, .f32⟩
  | 101 => ⟨S8192x1024, .f32⟩
  | 102 => ⟨S_, .f32⟩
  | 103 => ⟨S8192x1024, .f32⟩
  | 104 => ⟨S8192x1024, .f32⟩
  | 105 => ⟨S_, .f32⟩
  | 106 => ⟨S8192x1024, .f32⟩
  | 107 => ⟨S8192x1024, .f32⟩
  | 108 => ⟨S8192x1024, .f32⟩
  | 109 => ⟨S8192x1024, .f32⟩
  | 110 => ⟨S8192x1024, .f32⟩
  | 111 => ⟨S8192x1024, .f32⟩
  | 112 => ⟨S1x1024, .f32⟩
  | 113 => ⟨S8192x1024, .f32⟩
  | 114 => ⟨S8192x1024, .f32⟩
  | 115 => ⟨S_, .f32⟩
  | 116 => ⟨S8192x1024, .f32⟩
  | 117 => ⟨S8192x1024, .f32⟩
  | 118 => ⟨S8192x1024, .f32⟩
  | 119 => ⟨S_, .f32⟩
  | 120 => ⟨S8192, .f32⟩
  | 121 => ⟨S8192x1, .f32⟩
  | 122 => ⟨S_, .f32⟩
  | 123 => ⟨S8192x1, .f32⟩
  | 124 => ⟨S8192x1, .f32⟩
  | 125 => ⟨S8192x1024, .f32⟩
  | 126 => ⟨S8192x1024, .f32⟩
  | 127 => ⟨S8192x1024, .f32⟩
  | _ => ⟨S8192x1024, .f32⟩

abbrev hbmTy0_2 (i : Nat) : BufTy := match i % 128 with
  | 0 => ⟨S_, .f32⟩
  | 1 => ⟨S8192, .f32⟩
  | 2 => ⟨S8192x1, .f32⟩
  | 3 => ⟨S_, .f32⟩
  | 4 => ⟨S8192x1, .f32⟩
  | 5 => ⟨S8192x1, .f32⟩
  | 6 => ⟨S8192x1024, .f32⟩
  | 7 => ⟨S8192x1024, .f32⟩
  | 8 => ⟨S_, .f32⟩
  | 9 => ⟨S8192x1, .f32⟩
  | 10 => ⟨S8192x1, .f32⟩
  | 11 => ⟨S8192x1, .f32⟩
  | 12 => ⟨S8192x1024, .f32⟩
  | 13 => ⟨S8192x1024, .f32⟩
  | 14 => ⟨S1x1024, .f32⟩
  | 15 => ⟨S8192x1024, .f32⟩
  | 16 => ⟨S8192x1024, .f32⟩
  | 17 => ⟨S1x1024, .f32⟩
  | 18 => ⟨S8192x1024, .f32⟩
  | 19 => ⟨S8192x1024, .f32⟩
  | 20 => ⟨S8192x4864, .f32⟩
  | 21 => ⟨S1x4864, .f32⟩
  | 22 => ⟨S8192x4864, .f32⟩
  | 23 => ⟨S8192x4864, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_0 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_1 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_2 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_3 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_4 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_5 : Ref sig .tc := ⟨.hbm, 86, rfl⟩
abbrev main_call0_v0 : Ref sig .tc := ⟨.hbm, 87, rfl⟩
abbrev main_call0_v1 : Ref sig .tc := ⟨.hbm, 88, rfl⟩
abbrev main_call0_v2 : Ref sig .tc := ⟨.hbm, 89, rfl⟩
abbrev main_v64 : Ref sig .tc := ⟨.hbm, 90, rfl⟩
abbrev main_v65 : Ref sig .tc := ⟨.hbm, 91, rfl⟩
abbrev main_cst_6 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_7 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_call1_v0 : Ref sig .tc := ⟨.hbm, 112, rfl⟩
abbrev main_call1_v1 : Ref sig .tc := ⟨.hbm, 113, rfl⟩
abbrev main_call1_cst : Ref sig .tc := ⟨.hbm, 114, rfl⟩
abbrev main_call1_v2 : Ref sig .tc := ⟨.hbm, 115, rfl⟩
abbrev main_call1_v3 : Ref sig .tc := ⟨.hbm, 116, rfl⟩
abbrev main_call1_cst_0 : Ref sig .tc := ⟨.hbm, 117, rfl⟩
abbrev main_call1_v4 : Ref sig .tc := ⟨.hbm, 118, rfl⟩
abbrev main_call1_v5 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_8 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_9 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_10 : Ref sig .tc := ⟨.hbm, 132, rfl⟩
abbrev main_v94 : Ref sig .tc := ⟨.hbm, 133, rfl⟩
abbrev main_v95 : Ref sig .tc := ⟨.hbm, 134, rfl⟩
abbrev main_cst_11 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_cst_12 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_cst_13 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_cst_14 : Ref sig .tc := ⟨.hbm, 149, rfl⟩
abbrev main_v107 : Ref sig .tc := ⟨.hbm, 150, rfl⟩
abbrev main_v108 : Ref sig .tc := ⟨.hbm, 151, rfl⟩
abbrev main_cst_15 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_cst_16 : Ref sig .tc := ⟨.hbm, 156, rfl⟩
abbrev main_v112 : Ref sig .tc := ⟨.hbm, 157, rfl⟩
abbrev main_v113 : Ref sig .tc := ⟨.hbm, 158, rfl⟩
abbrev main_cst_17 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_cst_18 : Ref sig .tc := ⟨.hbm, 165, rfl⟩
abbrev main_v119 : Ref sig .tc := ⟨.hbm, 166, rfl⟩
abbrev main_v120 : Ref sig .tc := ⟨.hbm, 167, rfl⟩
abbrev main_cst_19 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_cst_20 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_cst_21 : Ref sig .tc := ⟨.hbm, 186, rfl⟩
abbrev main_v137 : Ref sig .tc := ⟨.hbm, 187, rfl⟩
abbrev main_call2_v0 : Ref sig .tc := ⟨.hbm, 188, rfl⟩
abbrev main_call2_c : Ref sig .tc := ⟨.hbm, 189, rfl⟩
abbrev main_call2_v1 : Ref sig .tc := ⟨.hbm, 190, rfl⟩
abbrev main_call2_v2 : Ref sig .tc := ⟨.hbm, 191, rfl⟩
abbrev main_call2_v3 : Ref sig .tc := ⟨.hbm, 192, rfl⟩
abbrev main_call2_v4 : Ref sig .tc := ⟨.hbm, 193, rfl⟩
abbrev main_call2_cst : Ref sig .tc := ⟨.hbm, 194, rfl⟩
abbrev main_call2_v5 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_call3_v0 : Ref sig .tc := ⟨.hbm, 208, rfl⟩
abbrev main_call3_v1 : Ref sig .tc := ⟨.hbm, 209, rfl⟩
abbrev main_call3_cst : Ref sig .tc := ⟨.hbm, 210, rfl⟩
abbrev main_call3_v2 : Ref sig .tc := ⟨.hbm, 211, rfl⟩
abbrev main_call3_v3 : Ref sig .tc := ⟨.hbm, 212, rfl⟩
abbrev main_call3_cst_0 : Ref sig .tc := ⟨.hbm, 213, rfl⟩
abbrev main_call3_v4 : Ref sig .tc := ⟨.hbm, 214, rfl⟩
abbrev main_call3_v5 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_cst_22 : Ref sig .tc := ⟨.hbm, 220, rfl⟩
abbrev main_v154 : Ref sig .tc := ⟨.hbm, 221, rfl⟩
abbrev main_v155 : Ref sig .tc := ⟨.hbm, 222, rfl⟩
abbrev main_cst_23 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_cst_24 : Ref sig .tc := ⟨.hbm, 230, rfl⟩
abbrev main_v162 : Ref sig .tc := ⟨.hbm, 231, rfl⟩
abbrev main_v163 : Ref sig .tc := ⟨.hbm, 232, rfl⟩
abbrev main_cst_25 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_cst_26 : Ref sig .tc := ⟨.hbm, 243, rfl⟩
abbrev main_v173 : Ref sig .tc := ⟨.hbm, 244, rfl⟩
abbrev main_v174 : Ref sig .tc := ⟨.hbm, 245, rfl⟩
abbrev main_v175 : Ref sig .tc := ⟨.hbm, 246, rfl⟩
abbrev main_cst_27 : Ref sig .tc := ⟨.hbm, 247, rfl⟩
abbrev main_v176 : Ref sig .tc := ⟨.hbm, 248, rfl⟩
abbrev main_v177 : Ref sig .tc := ⟨.hbm, 249, rfl⟩
abbrev main_cst_28 : Ref sig .tc := ⟨.hbm, 250, rfl⟩
abbrev main_v178 : Ref sig .tc := ⟨.hbm, 251, rfl⟩
abbrev main_v179 : Ref sig .tc := ⟨.hbm, 252, rfl⟩
abbrev main_v180 : Ref sig .tc := ⟨.hbm, 253, rfl⟩
abbrev main_v181 : Ref sig .tc := ⟨.hbm, 254, rfl⟩
abbrev main_v182 : Ref sig .tc := ⟨.hbm, 255, rfl⟩
abbrev main_cst_29 : Ref sig .tc := ⟨.hbm, 256, rfl⟩
abbrev main_v183 : Ref sig .tc := ⟨.hbm, 257, rfl⟩
abbrev main_v184 : Ref sig .tc := ⟨.hbm, 258, rfl⟩
abbrev main_cst_30 : Ref sig .tc := ⟨.hbm, 259, rfl⟩
abbrev main_v185 : Ref sig .tc := ⟨.hbm, 260, rfl⟩
abbrev main_v186 : Ref sig .tc := ⟨.hbm, 261, rfl⟩
abbrev main_v187 : Ref sig .tc := ⟨.hbm, 262, rfl⟩
abbrev main_v188 : Ref sig .tc := ⟨.hbm, 263, rfl⟩
abbrev main_cst_31 : Ref sig .tc := ⟨.hbm, 264, rfl⟩
abbrev main_v189 : Ref sig .tc := ⟨.hbm, 265, rfl⟩
abbrev main_v190 : Ref sig .tc := ⟨.hbm, 266, rfl⟩
abbrev main_v191 : Ref sig .tc := ⟨.hbm, 267, rfl⟩
abbrev main_v192 : Ref sig .tc := ⟨.hbm, 268, rfl⟩
abbrev main_v193 : Ref sig .tc := ⟨.hbm, 269, rfl⟩
abbrev main_v194 : Ref sig .tc := ⟨.hbm, 270, rfl⟩
abbrev main_v195 : Ref sig .tc := ⟨.hbm, 271, rfl⟩
abbrev main_v196 : Ref sig .tc := ⟨.hbm, 272, rfl⟩
abbrev main_v197 : Ref sig .tc := ⟨.hbm, 273, rfl⟩
abbrev main_v198 : Ref sig .tc := ⟨.hbm, 274, rfl⟩
abbrev main_v199 : Ref sig .tc := ⟨.hbm, 275, rfl⟩
abbrev main_v200 : Ref sig .tc := ⟨.hbm, 276, rfl⟩
abbrev main_v201 : Ref sig .tc := ⟨.hbm, 277, rfl⟩
abbrev main_v202 : Ref sig .tc := ⟨.hbm, 278, rfl⟩
abbrev main_v203 : Ref sig .tc := ⟨.hbm, 279, rfl⟩

abbrev nD : Nat := 1
abbrev τ : Topo := Topo.v7x

variable {F : FTy → Type} [FloatOps F]
-- ==== Project.lean ====
abbrev S8192x1024 : Shape := ⟨2, ![8192, 1024]⟩
abbrev S1024x4864 : Shape := ⟨2, ![1024, 4864]⟩
abbrev S4864 : Shape := ⟨1, ![4864]⟩
abbrev S4864x1024 : Shape := ⟨2, ![4864, 1024]⟩
abbrev S1x4864 : Shape := ⟨2, ![1, 4864]⟩
abbrev S8192x4864 : Shape := ⟨2, ![8192, 4864]⟩
abbrev S512x1024 : Shape := ⟨2, ![512, 1024]⟩
abbrev S512x4864 : Shape := ⟨2, ![512, 4864]⟩
abbrev S512x512 : Shape := ⟨2, ![512, 512]⟩
abbrev S1x512 : Shape := ⟨2, ![1, 512]⟩
abbrev S256x1024 : Shape := ⟨2, ![256, 1024]⟩
abbrev S512x256 : Shape := ⟨2, ![512, 256]⟩
abbrev S1x256 : Shape := ⟨2, ![1, 256]⟩

abbrev nBuf : Space → Nat
  | .hbm => 7
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x4864, .f32⟩
  | .hbm, ⟨2, _⟩ => ⟨S4864, .f32⟩
  | .hbm, ⟨3, _⟩ => ⟨S4864x1024, .f32⟩
  | .hbm, ⟨4, _⟩ => ⟨S4864x1024, .bf16⟩
  | .hbm, ⟨5, _⟩ => ⟨S1x4864, .f32⟩
  | .hbm, ⟨6, _⟩ => ⟨S8192x4864, .f32⟩
  | .local _ .vmem, ⟨0, _⟩ => ⟨S512x1024, .f32⟩
  | .local _ .vmem, ⟨1, _⟩ => ⟨S512x1024, .f32⟩
  | .local _ .vmem, ⟨2, _⟩ => ⟨S4864x1024, .bf16⟩
  | .local _ .vmem, ⟨3, _⟩ => ⟨S1x4864, .f32⟩
  | .local _ .vmem, ⟨4, _⟩ => ⟨S512x4864, .f32⟩
  | .local _ .vmem, ⟨5, _⟩ => ⟨S512x4864, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4864x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4864 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4864 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjectReferenceIdeal.lean ====
abbrev S8192x1024 : Shape := ⟨2, ![8192, 1024]⟩
abbrev S1024x4864 : Shape := ⟨2, ![1024, 4864]⟩
abbrev S4864 : Shape := ⟨1, ![4864]⟩
abbrev S8192x4864 : Shape := ⟨2, ![8192, 4864]⟩
abbrev S1x4864 : Shape := ⟨2, ![1, 4864]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4864, .f32⟩
  | .hbm, ⟨2, _⟩ => ⟨S4864, .f32⟩
  | .hbm, ⟨3, _⟩ => ⟨S8192x4864, .f32⟩
  | .hbm, ⟨4, _⟩ => ⟨S1x4864, .f32⟩
  | .hbm, ⟨5, _⟩ => ⟨S8192x4864, .f32⟩
  | .hbm, ⟨6, _⟩ => ⟨S8192x4864, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== NormBackward.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S8192x1024, .f32⟩
  | .hbm, ⟨4, _⟩ => ⟨S1x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormBackwardReferenceIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 88
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S_, .f32⟩
  | .hbm, ⟨4, _⟩ => ⟨S1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S_, .f32⟩
  | .hbm, ⟨46, _⟩ => ⟨S1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1, .f32⟩
  | .hbm, ⟨62, _⟩ => ⟨S8192x1024, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S8192, .f32⟩
  | .hbm, ⟨76, _⟩ => ⟨S8192x1, .f32⟩
  | .hbm, ⟨77, _⟩ => ⟨S8192x1024, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S_, .f32⟩
  | .hbm, ⟨83, _⟩ => ⟨S8192, .f32⟩
  | .hbm, ⟨84, _⟩ => ⟨S8192x1024, .f32⟩
  | .hbm, ⟨85, _⟩ => ⟨S8192x1024, .f32⟩
  | .hbm, ⟨86, _⟩ => ⟨S1x1024, .f32⟩
  | .hbm, ⟨87, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_10 : Ref sig .tc := ⟨.hbm, 53, rfl⟩
abbrev main_v39 : Ref sig .tc := ⟨.hbm, 54, rfl⟩
abbrev main_v40 : Ref sig .tc := ⟨.hbm, 55, rfl⟩
abbrev main_cst_11 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_12 : Ref sig .tc := ⟨.hbm, 63, rfl⟩
abbrev main_v47 : Ref sig .tc := ⟨.hbm, 64, rfl⟩
abbrev main_v48 : Ref sig .tc := ⟨.hbm, 65, rfl⟩
abbrev main_cst_13 : Ref sig .tc := ⟨.hbm, 66, rfl⟩
abbrev main_v49 : Ref sig .tc := ⟨.hbm, 67, rfl⟩
abbrev main_v50 : Ref sig .tc := ⟨.hbm, 68, rfl⟩
abbrev main_cst_14 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_15 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_16 : Ref sig .tc := ⟨.hbm, 79, rfl⟩
abbrev main_v59 : Ref sig .tc := ⟨.hbm, 80, rfl⟩
abbrev main_v60 : Ref sig .tc := ⟨.hbm, 81, rfl⟩
abbrev main_cst_17 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩

abbrev nD : Nat := 1
abbrev τ : Topo := Topo.v7x

variable {F : FTy → Type} [FloatOps F]
-- ==== Norm.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1x1024, .f32⟩
  | .hbm, ⟨4, _⟩ => ⟨S1x1024, .f32⟩
  | .hbm, ⟨5, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormReferenceIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Adam.lean ====
abbrev S2x4x128x128 : Shape := ⟨4, ![2, 4, 128, 128]⟩
abbrev S1024 : Shape := ⟨1, ![1024]⟩
abbrev S1x1024 : Shape := ⟨2, ![1, 1024]⟩

abbrev nBuf : Space → Nat
  | .hbm => 29
  | .vmem => 21
  | .smem => 0
  | _ => 0

abbrev bufTy : (tb : Table) → Fin (tcTables nBuf tb) → BufTy
  | .hbm, ⟨0, _⟩ => ⟨S2x4x128x128, .f32⟩
  | .hbm, ⟨1, _⟩ => ⟨S1024, .f32⟩
  | .hbm, ⟨2, _⟩ => ⟨S1024, .f32⟩
  | .hbm, ⟨3, _⟩ => ⟨S2x4x128x128, .f32⟩
  | .hbm, ⟨4, _⟩ => ⟨S1024, .f32⟩
  | .hbm, ⟨5, _⟩ => ⟨S1024, .f32⟩
  | .hbm, ⟨6, _⟩ => ⟨S2x4x128x128, .f32⟩
  | .hbm, ⟨7, _⟩ => ⟨S1024, .f32⟩
  | .hbm, ⟨8, _⟩ => ⟨S1024, .f32⟩
  | .hbm, ⟨9, _⟩ => ⟨S2x4x128x128, .f32⟩
  | .hbm, ⟨10, _⟩ => ⟨S1024, .f32⟩
  | .hbm, ⟨11, _⟩ => ⟨S1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S2x4x128x128, .f32⟩
  | .hbm, ⟨21, _⟩ => ⟨S1x1024, .f32⟩
  | .hbm, ⟨22, _⟩ => ⟨S1x1024, .f32⟩
  | .hbm, ⟨23, _⟩ => ⟨S2x4x128x128, .f32⟩
  | .hbm, ⟨24, _⟩ => ⟨S1x1024, .f32⟩
  | .hbm, ⟨25, _⟩ => ⟨S1x1024, .f32⟩
  | .hbm, ⟨26, _⟩ => ⟨S2x4x128x128, .f32⟩
  | .hbm, ⟨27, _⟩ => ⟨S1x1024, .f32⟩
  | .hbm, ⟨28, _⟩ => ⟨S1x1024, .f32⟩
  | .local _ .vmem, ⟨0, _⟩ => ⟨S2x4x128x128, .f32⟩
  | .local _ .vmem, ⟨1, _⟩ => ⟨S1x1024, .f32⟩
  | .local _ .vmem, ⟨2, _⟩ => ⟨S1x1024, .f32⟩
  | .local _ .vmem, ⟨3, _⟩ => ⟨S2x4x128x128, .f32⟩
  | .local _ .vmem, ⟨4, _⟩ => ⟨S1x1024, .f32⟩
  | .local _ .vmem, ⟨5, _⟩ => ⟨S1x1024, .f32⟩
  | .local _ .vmem, ⟨6, _⟩ => ⟨S2x4x128x128, .f32⟩
  | .local _ .vmem, ⟨7, _⟩ => ⟨S1x1024, .f32⟩
  | .local _ .vmem, ⟨8, _⟩ => ⟨S1x1024, .f32⟩
  | .local _ .vmem, ⟨9, _⟩ => ⟨S2x4x128x128, .f32⟩
  | .local _ .vmem, ⟨10, _⟩ => ⟨S1x1024, .f32⟩
  | .local _ .vmem, ⟨11, _⟩ => ⟨S1x1024, .f32⟩
  | .local _ .vmem, ⟨12, _⟩ => ⟨S2x4x128x128, .f32⟩
  | .local _ .vmem, ⟨13, _⟩ => ⟨S1x1024, .f32⟩
  | .local _ .vmem, ⟨14, _⟩ => ⟨S1x1024, .f32⟩
  | .local _ .vmem, ⟨15, _⟩ => ⟨S2x4x128x128, .f32⟩
  | .local _ .vmem, ⟨16, _⟩ => ⟨S1x1024, .f32⟩
  | .local _ .vmem, ⟨17, _⟩ => ⟨S1x1024, .f32⟩
  | .local _ .vmem, ⟨18, _⟩ => ⟨S2x4x128x128, .f32⟩
  | .local _ .vmem, ⟨19, _⟩ => ⟨S1x1024, .f32⟩
  | .local _ .vmem, ⟨20, _⟩ => ⟨S1x1024, .f32⟩
  | _, _ => ⟨S2x4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev main_v8_3 : Ref sig .tc := ⟨.hbm, 23, rfl⟩
abbrev main_v8_4 : Ref sig .tc := ⟨.hbm, 24, rfl⟩
abbrev main_v8_5 : Ref sig .tc := ⟨.hbm, 25, rfl⟩
abbrev main_v8_6 : Ref sig .tc := ⟨.hbm, 26, rfl⟩
abbrev main_v8_7 : Ref sig .tc := ⟨.hbm, 27, rfl⟩
abbrev main_v8_8 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := ⟨1, ![1], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x4x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x4x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2x4x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S2x4x128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== AdamIdeal.lean ====
abbrev S2x4x128x128 : Shape := ⟨4, ![2, 4, 128, 128]⟩
abbrev S1024 : Shape := ⟨1, ![1024]⟩
abbrev S1x1024 : Shape := ⟨2, ![1, 1024]⟩

abbrev nBuf : Space → Nat
  | .hbm => 29
  | .vmem => 21
  | .smem => 0
  | _ => 0

abbrev bufTy : (tb : Table) → Fin (tcTables nBuf tb) → BufTy
  | .hbm, ⟨0, _⟩ => ⟨S2x4x128x128, .f32⟩
  | .hbm, ⟨1, _⟩ => ⟨S1024, .f32⟩
  | .hbm, ⟨2, _⟩ => ⟨S1024, .f32⟩
  | .hbm, ⟨3, _⟩ => ⟨S2x4x128x128, .f32⟩
  | .hbm, ⟨4, _⟩ => ⟨S1024, .f32⟩
  | .hbm, ⟨5, _⟩ => ⟨S1024, .f32⟩
  | .hbm, ⟨6, _⟩ => ⟨S2x4x128x128, .f32⟩
  | .hbm, ⟨7, _⟩ => ⟨S1024, .f32⟩
  | .hbm, ⟨8, _⟩ => ⟨S1024, .f32⟩
  | .hbm, ⟨9, _⟩ => ⟨S2x4x128x128, .f32⟩
  | .hbm, ⟨10, _⟩ => ⟨S1024, .f32⟩
  | .hbm, ⟨11, _⟩ => ⟨S1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S2x4x128x128, .f32⟩
  | .hbm, ⟨21, _⟩ => ⟨S1x1024, .f32⟩
  | .hbm, ⟨22, _⟩ => ⟨S1x1024, .f32⟩
  | .hbm, ⟨23, _⟩ => ⟨S2x4x128x128, .f32⟩
  | .hbm, ⟨24, _⟩ => ⟨S1x1024, .f32⟩
  | .hbm, ⟨25, _⟩ => ⟨S1x1024, .f32⟩
  | .hbm, ⟨26, _⟩ => ⟨S2x4x128x128, .f32⟩
  | .hbm, ⟨27, _⟩ => ⟨S1x1024, .f32⟩
  | .hbm, ⟨28, _⟩ => ⟨S1x1024, .f32⟩
  | .local _ .vmem, ⟨0, _⟩ => ⟨S2x4x128x128, .f32⟩
  | .local _ .vmem, ⟨1, _⟩ => ⟨S1x1024, .f32⟩
  | .local _ .vmem, ⟨2, _⟩ => ⟨S1x1024, .f32⟩
  | .local _ .vmem, ⟨3, _⟩ => ⟨S2x4x128x128, .f32⟩
  | .local _ .vmem, ⟨4, _⟩ => ⟨S1x1024, .f32⟩
  | .local _ .vmem, ⟨5, _⟩ => ⟨S1x1024, .f32⟩
  | .local _ .vmem, ⟨6, _⟩ => ⟨S2x4x128x128, .f32⟩
  | .local _ .vmem, ⟨7, _⟩ => ⟨S1x1024, .f32⟩
  | .local _ .vmem, ⟨8, _⟩ => ⟨S1x1024, .f32⟩
  | .local _ .vmem, ⟨9, _⟩ => ⟨S2x4x128x128, .f32⟩
  | .local _ .vmem, ⟨10, _⟩ => ⟨S1x1024, .f32⟩
  | .local _ .vmem, ⟨11, _⟩ => ⟨S1x1024, .f32⟩
  | .local _ .vmem, ⟨12, _⟩ => ⟨S2x4x128x128, .f32⟩
  | .local _ .vmem, ⟨13, _⟩ => ⟨S1x1024, .f32⟩
  | .local _ .vmem, ⟨14, _⟩ => ⟨S1x1024, .f32⟩
  | .local _ .vmem, ⟨15, _⟩ => ⟨S2x4x128x128, .f32⟩
  | .local _ .vmem, ⟨16, _⟩ => ⟨S1x1024, .f32⟩
  | .local _ .vmem, ⟨17, _⟩ => ⟨S1x1024, .f32⟩
  | .local _ .vmem, ⟨18, _⟩ => ⟨S2x4x128x128, .f32⟩
  | .local _ .vmem, ⟨19, _⟩ => ⟨S1x1024, .f32⟩
  | .local _ .vmem, ⟨20, _⟩ => ⟨S1x1024, .f32⟩
  | _, _ => ⟨S2x4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev main_v8_3 : Ref sig .tc := ⟨.hbm, 23, rfl⟩
abbrev main_v8_4 : Ref sig .tc := ⟨.hbm, 24, rfl⟩
abbrev main_v8_5 : Ref sig .tc := ⟨.hbm, 25, rfl⟩
abbrev main_v8_6 : Ref sig .tc := ⟨.hbm, 26, rfl⟩
abbrev main_v8_7 : Ref sig .tc := ⟨.hbm, 27, rfl⟩
abbrev main_v8_8 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F] [Named F]

def κ : String → Option EReal := fun
  | "first_unbias" => some ((8388608 / 5463681 : ℝ) : EReal)
  | "second_unbias" => some ((268435456 / 2672307 : ℝ) : EReal)
  | _ => none

abbrev grid0 : Pipeline.Grid := ⟨1, ![1], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x4x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x4x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2x4x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S2x4x128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== AdamReferenceIdeal.lean ====
abbrev S2x4x128x128 : Shape := ⟨4, ![2, 4, 128, 128]⟩
abbrev S1024 : Shape := ⟨1, ![1024]⟩
abbrev S_ : Shape := ⟨0, ![]⟩
abbrev S1x1024 : Shape := ⟨2, ![1, 1024]⟩

abbrev nBuf : Space → Nat
  | .hbm => 117
  | .vmem => 0
  | .smem => 0
  | _ => 0

abbrev bufTy : (tb : Table) → Fin (tcTables nBuf tb) → BufTy
  | .hbm, ⟨0, _⟩ => ⟨S2x4x128x128, .f32⟩
  | .hbm, ⟨1, _⟩ => ⟨S1024, .f32⟩
  | .hbm, ⟨2, _⟩ => ⟨S1024, .f32⟩
  | .hbm, ⟨3, _⟩ => ⟨S2x4x128x128, .f32⟩
  | .hbm, ⟨4, _⟩ => ⟨S1024, .f32⟩
  | .hbm, ⟨5, _⟩ => ⟨S1024, .f32⟩
  | .hbm, ⟨6, _⟩ => ⟨S2x4x128x128, .f32⟩
  | .hbm, ⟨7, _⟩ => ⟨S1024, .f32⟩
  | .hbm, ⟨8, _⟩ => ⟨S1024, .f32⟩
  | .hbm, ⟨9, _⟩ => ⟨S2x4x128x128, .f32⟩
  | .hbm, ⟨10, _⟩ => ⟨S1024, .f32⟩
  | .hbm, ⟨11, _⟩ => ⟨S1024, .f32⟩
  | .hbm, ⟨12, _⟩ => ⟨S_, .f32⟩
  | .hbm, ⟨13, _⟩ => ⟨S2x4x128x128, .f32⟩
  | .hbm, ⟨14, _⟩ => ⟨S2x4x128x128, .f32⟩
  | .hbm, ⟨15, _⟩ => ⟨S_, .f32⟩
  | .hbm, ⟨16, _⟩ => ⟨S2x4x128x128, .f32⟩
  | .hbm, ⟨17, _⟩ => ⟨S2x4x128x128, .f32⟩
  | .hbm, ⟨18, _⟩ => ⟨S2x4x128x128, .f32⟩
  | .hbm, ⟨19, _⟩ => ⟨S_, .f32⟩
  | .hbm, ⟨20, _⟩ => ⟨S2x4x128x128, .f32⟩
  | .hbm, ⟨21, _⟩ => ⟨S2x4x128x128, .f32⟩
  | .hbm, ⟨22, _⟩ => ⟨S2x4x128x128, .f32⟩
  | .hbm, ⟨23, _⟩ => ⟨S_, .f32⟩
  | .hbm, ⟨24, _⟩ => ⟨S2x4x128x128, .f32⟩
  | .hbm, ⟨25, _⟩ => ⟨S2x4x128x128, .f32⟩
  | .hbm, ⟨26, _⟩ => ⟨S2x4x128x128, .f32⟩
  | .hbm, ⟨27, _⟩ => ⟨S_, .f32⟩
  | .hbm, ⟨28, _⟩ => ⟨S2x4x128x128, .f32⟩
  | .hbm, ⟨29, _⟩ => ⟨S2x4x128x128, .f32⟩
  | .hbm, ⟨30, _⟩ => ⟨S_, .f32⟩
  | .hbm, ⟨31, _⟩ => ⟨S2x4x128x128, .f32⟩
  | .hbm, ⟨32, _⟩ => ⟨S2x4x128x128, .f32⟩
  | .hbm, ⟨33, _⟩ => ⟨S2x4x128x128, .f32⟩
  | .hbm, ⟨34, _⟩ => ⟨S_, .f32⟩
  | .hbm, ⟨35, _⟩ => ⟨S2x4x128x128, .f32⟩
  | .hbm, ⟨36, _⟩ => ⟨S2x4x128x128, .f32⟩
  | .hbm, ⟨37, _⟩ => ⟨S2x4x128x128, .f32⟩
  | .hbm, ⟨38, _⟩ => ⟨S_, .f32⟩
  | .hbm, ⟨39, _⟩ => ⟨S2x4x128x128, .f32⟩
  | .hbm, ⟨40, _⟩ => ⟨S2x4x128x128, .f32⟩
  | .hbm, ⟨41, _⟩ => ⟨S2x4x128x128, .f32⟩
  | .hbm, ⟨42, _⟩ => ⟨S_, .f32⟩
  | .hbm, ⟨43, _⟩ => ⟨S2x4x128x128, .f32⟩
  | .hbm, ⟨44, _⟩ => ⟨S2x4x128x128, .f32⟩
  | .hbm, ⟨45, _⟩ => ⟨S_, .f32⟩
  | .hbm, ⟨46, _⟩ => ⟨S1024, .f32⟩
  | .hbm, ⟨47, _⟩ => ⟨S1024, .f32⟩
  | .hbm, ⟨48, _⟩ => ⟨S_, .f32⟩
  | .hbm, ⟨49, _⟩ => ⟨S1024, .f32⟩
  | .hbm, ⟨50, _⟩ => ⟨S1024, .f32⟩
  | .hbm, ⟨51, _⟩ => ⟨S1024, .f32⟩
  | .hbm, ⟨52, _⟩ => ⟨S_, .f32⟩
  | .hbm, ⟨53, _⟩ => ⟨S1024, .f32⟩
  | .hbm, ⟨54, _⟩ => ⟨S1024, .f32⟩
  | .hbm, ⟨55, _⟩ => ⟨S1024, .f32⟩
  | .hbm, ⟨56, _⟩ => ⟨S_, .f32⟩
  | .hbm, ⟨57, _⟩ => ⟨S1024, .f32⟩
  | .hbm, ⟨58, _⟩ => ⟨S1024, .f32⟩
  | .hbm, ⟨59, _⟩ => ⟨S1024, .f32⟩
  | .hbm, ⟨60, _⟩ => ⟨S_, .f32⟩
  | .hbm, ⟨61, _⟩ => ⟨S1024, .f32⟩
  | .hbm, ⟨62, _⟩ => ⟨S1024, .f32⟩
  | .hbm, ⟨63, _⟩ => ⟨S_, .f32⟩
  | .hbm, ⟨64, _⟩ => ⟨S1024, .f32⟩
  | .hbm, ⟨65, _⟩ => ⟨S1024, .f32⟩
  | .hbm, ⟨66, _⟩ => ⟨S1024, .f32⟩
  | .hbm, ⟨67, _⟩ => ⟨S_, .f32⟩
  | .hbm, ⟨68, _⟩ => ⟨S1024, .f32⟩
  | .hbm, ⟨69, _⟩ => ⟨S1024, .f32⟩
  | .hbm, ⟨70, _⟩ => ⟨S1024, .f32⟩
  | .hbm, ⟨71, _⟩ => ⟨S_, .f32⟩
  | .hbm, ⟨72, _⟩ => ⟨S1024, .f32⟩
  | .hbm, ⟨73, _⟩ => ⟨S1024, .f32⟩
  | .hbm, ⟨74, _⟩ => ⟨S1024, .f32⟩
  | .hbm, ⟨75, _⟩ => ⟨S_, .f32⟩
  | .hbm, ⟨76, _⟩ => ⟨S1024, .f32⟩
  | .hbm, ⟨77, _⟩ => ⟨S1024, .f32⟩
  | .hbm, ⟨78, _⟩ => ⟨S1x1024, .f32⟩
  | .hbm, ⟨79, _⟩ => ⟨S1x1024, .f32⟩
  | .hbm, ⟨80, _⟩ => ⟨S1x1024, .f32⟩
  | .hbm, ⟨81, _⟩ => ⟨S_, .f32⟩
  | .hbm, ⟨82, _⟩ => ⟨S1024, .f32⟩
  | .hbm, ⟨83, _⟩ => ⟨S1024, .f32⟩
  | .hbm, ⟨84, _⟩ => ⟨S_, .f32⟩
  | .hbm, ⟨85, _⟩ => ⟨S1024, .f32⟩
  | .hbm, ⟨86, _⟩ => ⟨S1024, .f32⟩
  | .hbm, ⟨87, _⟩ => ⟨S1024, .f32⟩
  | .hbm, ⟨88, _⟩ => ⟨S_, .f32⟩
  | .hbm, ⟨89, _⟩ => ⟨S1024, .f32⟩
  | .hbm, ⟨90, _⟩ => ⟨S1024, .f32⟩
  | .hbm, ⟨91, _⟩ => ⟨S1024, .f32⟩
  | .hbm, ⟨92, _⟩ => ⟨S_, .f32⟩
  | .hbm, ⟨93, _⟩ => ⟨S1024, .f32⟩
  | .hbm, ⟨94, _⟩ => ⟨S1024, .f32⟩
  | .hbm, ⟨95, _⟩ => ⟨S1024, .f32⟩
  | .hbm, ⟨96, _⟩ => ⟨S_, .f32⟩
  | .hbm, ⟨97, _⟩ => ⟨S1024, .f32⟩
  | .hbm, ⟨98, _⟩ => ⟨S1024, .f32⟩
  | .hbm, ⟨99, _⟩ => ⟨S_, .f32⟩
  | .hbm, ⟨100, _⟩ => ⟨S1024, .f32⟩
  | .hbm, ⟨101, _⟩ => ⟨S1024, .f32⟩
  | .hbm, ⟨102, _⟩ => ⟨S1024, .f32⟩
  | .hbm, ⟨103, _⟩ => ⟨S_, .f32⟩
  | .hbm, ⟨104, _⟩ => ⟨S1024, .f32⟩
  | .hbm, ⟨105, _⟩ => ⟨S1024, .f32⟩
  | .hbm, ⟨106, _⟩ => ⟨S1024, .f32⟩
  | .hbm, ⟨107, _⟩ => ⟨S_, .f32⟩
  | .hbm, ⟨108, _⟩ => ⟨S1024, .f32⟩
  | .hbm, ⟨109, _⟩ => ⟨S1024, .f32⟩
  | .hbm, ⟨110, _⟩ => ⟨S1024, .f32⟩
  | .hbm, ⟨111, _⟩ => ⟨S_, .f32⟩
  | .hbm, ⟨112, _⟩ => ⟨S1024, .f32⟩
  | .hbm, ⟨113, _⟩ => ⟨S1024, .f32⟩
  | .hbm, ⟨114, _⟩ => ⟨S1x1024, .f32⟩
  | .hbm, ⟨115, _⟩ => ⟨S1x1024, .f32⟩
  | .hbm, ⟨116, _⟩ => ⟨S1x1024, .f32⟩
  | _, _ => ⟨S2x4x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_17 : Ref sig .tc := ⟨.hbm, 81, rfl⟩
abbrev main_v51 : Ref sig .tc := ⟨.hbm, 82, rfl⟩
abbrev main_v52 : Ref sig .tc := ⟨.hbm, 83, rfl⟩
abbrev main_cst_18 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_19 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_20 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_21 : Ref sig .tc := ⟨.hbm, 96, rfl⟩
abbrev main_v62 : Ref sig .tc := ⟨.hbm, 97, rfl⟩
abbrev main_v63 : Ref sig .tc := ⟨.hbm, 98, rfl⟩
abbrev main_cst_22 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_23 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_24 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_25 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩

abbrev nD : Nat := 1
abbrev τ : Topo := Topo.v7x

variable {F : FTy → Type} [FloatOps F]
-- ==== AdamTwo.lean ====
abbrev S2x4864 : Shape := ⟨2, ![2, 4864]⟩
abbrev S2x8 : Shape := ⟨2, ![2, 8]⟩
abbrev S2x512 : Shape := ⟨2, ![2, 512]⟩

abbrev nBuf : Space → Nat
  | .hbm => 21
  | .vmem => 21
  | .smem => 0
  | _ => 0

abbrev bufTy : (tb : Table) → Fin (tcTables nBuf tb) → BufTy
  | .hbm, ⟨0, _⟩ => ⟨S2x4864, .f32⟩
  | .hbm, ⟨1, _⟩ => ⟨S2x8, .f32⟩
  | .hbm, ⟨2, _⟩ => ⟨S2x512, .f32⟩
  | .hbm, ⟨3, _⟩ => ⟨S2x4864, .f32⟩
  | .hbm, ⟨4, _⟩ => ⟨S2x8, .f32⟩
  | .hbm, ⟨5, _⟩ => ⟨S2x512, .f32⟩
  | .hbm, ⟨6, _⟩ => ⟨S2x4864, .f32⟩
  | .hbm, ⟨7, _⟩ => ⟨S2x8, .f32⟩
  | .hbm, ⟨8, _⟩ => ⟨S2x512, .f32⟩
  | .hbm, ⟨9, _⟩ => ⟨S2x4864, .f32⟩
  | .hbm, ⟨10, _⟩ => ⟨S2x8, .f32⟩
  | .hbm, ⟨11, _⟩ => ⟨S2x512, .f32⟩
  | .hbm, ⟨12, _⟩ => ⟨S2x4864, .f32⟩
  | .hbm, ⟨13, _⟩ => ⟨S2x8, .f32⟩
  | .hbm, ⟨14, _⟩ => ⟨S2x512, .f32⟩
  | .hbm, ⟨15, _⟩ => ⟨S2x4864, .f32⟩
  | .hbm, ⟨16, _⟩ => ⟨S2x8, .f32⟩
  | .hbm, ⟨17, _⟩ => ⟨S2x512, .f32⟩
  | .hbm, ⟨18, _⟩ => ⟨S2x4864, .f32⟩
  | .hbm, ⟨19, _⟩ => ⟨S2x8, .f32⟩
  | .hbm, ⟨20, _⟩ => ⟨S2x512, .f32⟩
  | .local _ .vmem, ⟨0, _⟩ => ⟨S2x4864, .f32⟩
  | .local _ .vmem, ⟨1, _⟩ => ⟨S2x8, .f32⟩
  | .local _ .vmem, ⟨2, _⟩ => ⟨S2x512, .f32⟩
  | .local _ .vmem, ⟨3, _⟩ => ⟨S2x4864, .f32⟩
  | .local _ .vmem, ⟨4, _⟩ => ⟨S2x8, .f32⟩
  | .local _ .vmem, ⟨5, _⟩ => ⟨S2x512, .f32⟩
  | .local _ .vmem, ⟨6, _⟩ => ⟨S2x4864, .f32⟩
  | .local _ .vmem, ⟨7, _⟩ => ⟨S2x8, .f32⟩
  | .local _ .vmem, ⟨8, _⟩ => ⟨S2x512, .f32⟩
  | .local _ .vmem, ⟨9, _⟩ => ⟨S2x4864, .f32⟩
  | .local _ .vmem, ⟨10, _⟩ => ⟨S2x8, .f32⟩
  | .local _ .vmem, ⟨11, _⟩ => ⟨S2x512, .f32⟩
  | .local _ .vmem, ⟨12, _⟩ => ⟨S2x4864, .f32⟩
  | .local _ .vmem, ⟨13, _⟩ => ⟨S2x8, .f32⟩
  | .local _ .vmem, ⟨14, _⟩ => ⟨S2x512, .f32⟩
  | .local _ .vmem, ⟨15, _⟩ => ⟨S2x4864, .f32⟩
  | .local _ .vmem, ⟨16, _⟩ => ⟨S2x8, .f32⟩
  | .local _ .vmem, ⟨17, _⟩ => ⟨S2x512, .f32⟩
  | .local _ .vmem, ⟨18, _⟩ => ⟨S2x4864, .f32⟩
  | .local _ .vmem, ⟨19, _⟩ => ⟨S2x8, .f32⟩
  | .local _ .vmem, ⟨20, _⟩ => ⟨S2x512, .f32⟩
  | _, _ => ⟨S2x4864, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x4864 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x4864 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x4864 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x4864 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x4864 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2x4864 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2x8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S2x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S2x4864 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S2x8 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S2x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== AdamTwoIdeal.lean ====
abbrev S2x4864 : Shape := ⟨2, ![2, 4864]⟩
abbrev S2x8 : Shape := ⟨2, ![2, 8]⟩
abbrev S2x512 : Shape := ⟨2, ![2, 512]⟩

abbrev nBuf : Space → Nat
  | .hbm => 21
  | .vmem => 21
  | .smem => 0
  | _ => 0

abbrev bufTy : (tb : Table) → Fin (tcTables nBuf tb) → BufTy
  | .hbm, ⟨0, _⟩ => ⟨S2x4864, .f32⟩
  | .hbm, ⟨1, _⟩ => ⟨S2x8, .f32⟩
  | .hbm, ⟨2, _⟩ => ⟨S2x512, .f32⟩
  | .hbm, ⟨3, _⟩ => ⟨S2x4864, .f32⟩
  | .hbm, ⟨4, _⟩ => ⟨S2x8, .f32⟩
  | .hbm, ⟨5, _⟩ => ⟨S2x512, .f32⟩
  | .hbm, ⟨6, _⟩ => ⟨S2x4864, .f32⟩
  | .hbm, ⟨7, _⟩ => ⟨S2x8, .f32⟩
  | .hbm, ⟨8, _⟩ => ⟨S2x512, .f32⟩
  | .hbm, ⟨9, _⟩ => ⟨S2x4864, .f32⟩
  | .hbm, ⟨10, _⟩ => ⟨S2x8, .f32⟩
  | .hbm, ⟨11, _⟩ => ⟨S2x512, .f32⟩
  | .hbm, ⟨12, _⟩ => ⟨S2x4864, .f32⟩
  | .hbm, ⟨13, _⟩ => ⟨S2x8, .f32⟩
  | .hbm, ⟨14, _⟩ => ⟨S2x512, .f32⟩
  | .hbm, ⟨15, _⟩ => ⟨S2x4864, .f32⟩
  | .hbm, ⟨16, _⟩ => ⟨S2x8, .f32⟩
  | .hbm, ⟨17, _⟩ => ⟨S2x512, .f32⟩
  | .hbm, ⟨18, _⟩ => ⟨S2x4864, .f32⟩
  | .hbm, ⟨19, _⟩ => ⟨S2x8, .f32⟩
  | .hbm, ⟨20, _⟩ => ⟨S2x512, .f32⟩
  | .local _ .vmem, ⟨0, _⟩ => ⟨S2x4864, .f32⟩
  | .local _ .vmem, ⟨1, _⟩ => ⟨S2x8, .f32⟩
  | .local _ .vmem, ⟨2, _⟩ => ⟨S2x512, .f32⟩
  | .local _ .vmem, ⟨3, _⟩ => ⟨S2x4864, .f32⟩
  | .local _ .vmem, ⟨4, _⟩ => ⟨S2x8, .f32⟩
  | .local _ .vmem, ⟨5, _⟩ => ⟨S2x512, .f32⟩
  | .local _ .vmem, ⟨6, _⟩ => ⟨S2x4864, .f32⟩
  | .local _ .vmem, ⟨7, _⟩ => ⟨S2x8, .f32⟩
  | .local _ .vmem, ⟨8, _⟩ => ⟨S2x512, .f32⟩
  | .local _ .vmem, ⟨9, _⟩ => ⟨S2x4864, .f32⟩
  | .local _ .vmem, ⟨10, _⟩ => ⟨S2x8, .f32⟩
  | .local _ .vmem, ⟨11, _⟩ => ⟨S2x512, .f32⟩
  | .local _ .vmem, ⟨12, _⟩ => ⟨S2x4864, .f32⟩
  | .local _ .vmem, ⟨13, _⟩ => ⟨S2x8, .f32⟩
  | .local _ .vmem, ⟨14, _⟩ => ⟨S2x512, .f32⟩
  | .local _ .vmem, ⟨15, _⟩ => ⟨S2x4864, .f32⟩
  | .local _ .vmem, ⟨16, _⟩ => ⟨S2x8, .f32⟩
  | .local _ .vmem, ⟨17, _⟩ => ⟨S2x512, .f32⟩
  | .local _ .vmem, ⟨18, _⟩ => ⟨S2x4864, .f32⟩
  | .local _ .vmem, ⟨19, _⟩ => ⟨S2x8, .f32⟩
  | .local _ .vmem, ⟨20, _⟩ => ⟨S2x512, .f32⟩
  | _, _ => ⟨S2x4864, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F] [Named F]

def κ : String → Option EReal := fun
  | "first_unbias" => some ((8388608 / 5463681 : ℝ) : EReal)
  | "second_unbias" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x4864 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x4864 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x4864 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x4864 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x4864 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2x4864 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2x8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S2x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S2x4864 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S2x8 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S2x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== AdamTwoReferenceIdeal.lean ====
abbrev S2x4864 : Shape := ⟨2, ![2, 4864]⟩
abbrev S2x8 : Shape := ⟨2, ![2, 8]⟩
abbrev S2x512 : Shape := ⟨2, ![2, 512]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S2x4864, .f32⟩
  | .hbm, ⟨1, _⟩ => ⟨S2x8, .f32⟩
  | .hbm, ⟨2, _⟩ => ⟨S2x512, .f32⟩
  | .hbm, ⟨3, _⟩ => ⟨S2x4864, .f32⟩
  | .hbm, ⟨4, _⟩ => ⟨S2x8, .f32⟩
  | .hbm, ⟨5, _⟩ => ⟨S2x512, .f32⟩
  | .hbm, ⟨6, _⟩ => ⟨S2x4864, .f32⟩
  | .hbm, ⟨7, _⟩ => ⟨S2x8, .f32⟩
  | .hbm, ⟨8, _⟩ => ⟨S2x512, .f32⟩
  | .hbm, ⟨9, _⟩ => ⟨S2x4864, .f32⟩
  | .hbm, ⟨10, _⟩ => ⟨S2x8, .f32⟩
  | .hbm, ⟨11, _⟩ => ⟨S2x512, .f32⟩
  | .hbm, ⟨12, _⟩ => ⟨S_, .f32⟩
  | .hbm, ⟨13, _⟩ => ⟨S2x4864, .f32⟩
  | .hbm, ⟨14, _⟩ => ⟨S2x4864, .f32⟩
  | .hbm, ⟨15, _⟩ => ⟨S_, .f32⟩
  | .hbm, ⟨16, _⟩ => ⟨S2x4864, .f32⟩
  | .hbm, ⟨17, _⟩ => ⟨S2x4864, .f32⟩
  | .hbm, ⟨18, _⟩ => ⟨S2x4864, .f32⟩
  | .hbm, ⟨19, _⟩ => ⟨S_, .f32⟩
  | .hbm, ⟨20, _⟩ => ⟨S2x4864, .f32⟩
  | .hbm, ⟨21, _⟩ => ⟨S2x4864, .f32⟩
  | .hbm, ⟨22, _⟩ => ⟨S2x4864, .f32⟩
  | .hbm, ⟨23, _⟩ => ⟨S_, .f32⟩
  | .hbm, ⟨24, _⟩ => ⟨S2x4864, .f32⟩
  | .hbm, ⟨25, _⟩ => ⟨S2x4864, .f32⟩
  | .hbm, ⟨26, _⟩ => ⟨S2x4864, .f32⟩
  | .hbm, ⟨27, _⟩ => ⟨S_, .f32⟩
  | .hbm, ⟨28, _⟩ => ⟨S2x4864, .f32⟩
  | .hbm, ⟨29, _⟩ => ⟨S2x4864, .f32⟩
  | .hbm, ⟨30, _⟩ => ⟨S_, .f32⟩
  | .hbm, ⟨31, _⟩ => ⟨S2x4864, .f32⟩
  | .hbm, ⟨32, _⟩ => ⟨S2x4864, .f32⟩
  | .hbm, ⟨33, _⟩ => ⟨S2x4864, .f32⟩
  | .hbm, ⟨34, _⟩ => ⟨S_, .f32⟩
  | .hbm, ⟨35, _⟩ => ⟨S2x4864, .f32⟩
  | .hbm, ⟨36, _⟩ => ⟨S2x4864, .f32⟩
  | .hbm, ⟨37, _⟩ => ⟨S2x4864, .f32⟩
  | .hbm, ⟨38, _⟩ => ⟨S_, .f32⟩
  | .hbm, ⟨39, _⟩ => ⟨S2x4864, .f32⟩
  | .hbm, ⟨40, _⟩ => ⟨S2x4864, .f32⟩
  | .hbm, ⟨41, _⟩ => ⟨S2x4864, .f32⟩
  | .hbm, ⟨42, _⟩ => ⟨S_, .f32⟩
  | .hbm, ⟨43, _⟩ => ⟨S2x4864, .f32⟩
  | .hbm, ⟨44, _⟩ => ⟨S2x4864, .f32⟩
  | .hbm, ⟨45, _⟩ => ⟨S_, .f32⟩
  | .hbm, ⟨46, _⟩ => ⟨S2x8, .f32⟩
  | .hbm, ⟨47, _⟩ => ⟨S2x8, .f32⟩
  | .hbm, ⟨48, _⟩ => ⟨S_, .f32⟩
  | .hbm, ⟨49, _⟩ => ⟨S2x8, .f32⟩
  | .hbm, ⟨50, _⟩ => ⟨S2x8, .f32⟩
  | .hbm, ⟨51, _⟩ => ⟨S2x8, .f32⟩
  | .hbm, ⟨52, _⟩ => ⟨S_, .f32⟩
  | .hbm, ⟨53, _⟩ => ⟨S2x8, .f32⟩
  | .hbm, ⟨54, _⟩ => ⟨S2x8, .f32⟩
  | .hbm, ⟨55, _⟩ => ⟨S2x8, .f32⟩
  | .hbm, ⟨56, _⟩ => ⟨S_, .f32⟩
  | .hbm, ⟨57, _⟩ => ⟨S2x8, .f32⟩
  | .hbm, ⟨58, _⟩ => ⟨S2x8, .f32⟩
  | .hbm, ⟨59, _⟩ => ⟨S2x8, .f32⟩
  | .hbm, ⟨60, _⟩ => ⟨S_, .f32⟩
  | .hbm, ⟨61, _⟩ => ⟨S2x8, .f32⟩
  | .hbm, ⟨62, _⟩ => ⟨S2x8, .f32⟩
  | .hbm, ⟨63, _⟩ => ⟨S_, .f32⟩
  | .hbm, ⟨64, _⟩ => ⟨S2x8, .f32⟩
  | .hbm, ⟨65, _⟩ => ⟨S2x8, .f32⟩
  | .hbm, ⟨66, _⟩ => ⟨S2x8, .f32⟩
  | .hbm, ⟨67, _⟩ => ⟨S_, .f32⟩
  | .hbm, ⟨68, _⟩ => ⟨S2x8, .f32⟩
  | .hbm, ⟨69, _⟩ => ⟨S2x8, .f32⟩
  | .hbm, ⟨70, _⟩ => ⟨S2x8, .f32⟩
  | .hbm, ⟨71, _⟩ => ⟨S_, .f32⟩
  | .hbm, ⟨72, _⟩ => ⟨S2x8, .f32⟩
  | .hbm, ⟨73, _⟩ => ⟨S2x8, .f32⟩
  | .hbm, ⟨74, _⟩ => ⟨S2x8, .f32⟩
  | .hbm, ⟨75, _⟩ => ⟨S_, .f32⟩
  | .hbm, ⟨76, _⟩ => ⟨S2x8, .f32⟩
  | .hbm, ⟨77, _⟩ => ⟨S2x8, .f32⟩
  | .hbm, ⟨78, _⟩ => ⟨S_, .f32⟩
  | .hbm, ⟨79, _⟩ => ⟨S2x512, .f32⟩
  | .hbm, ⟨80, _⟩ => ⟨S2x512, .f32⟩
  | .hbm, ⟨81, _⟩ => ⟨S_, .f32⟩
  | .hbm, ⟨82, _⟩ => ⟨S2x512, .f32⟩
  | .hbm, ⟨83, _⟩ => ⟨S2x512, .f32⟩
  | .hbm, ⟨84, _⟩ => ⟨S2x512, .f32⟩
  | .hbm, ⟨85, _⟩ => ⟨S_, .f32⟩
  | .hbm, ⟨86, _⟩ => ⟨S2x512, .f32⟩
  | .hbm, ⟨87, _⟩ => ⟨S2x512, .f32⟩
  | .hbm, ⟨88, _⟩ => ⟨S2x512, .f32⟩
  | .hbm, ⟨89, _⟩ => ⟨S_, .f32⟩
  | .hbm, ⟨90, _⟩ => ⟨S2x512, .f32⟩
  | .hbm, ⟨91, _⟩ => ⟨S2x512, .f32⟩
  | .hbm, ⟨92, _⟩ => ⟨S2x512, .f32⟩
  | .hbm, ⟨93, _⟩ => ⟨S_, .f32⟩
  | .hbm, ⟨94, _⟩ => ⟨S2x512, .f32⟩
  | .hbm, ⟨95, _⟩ => ⟨S2x512, .f32⟩
  | .hbm, ⟨96, _⟩ => ⟨S_, .f32⟩
  | .hbm, ⟨97, _⟩ => ⟨S2x512, .f32⟩
  | .hbm, ⟨98, _⟩ => ⟨S2x512, .f32⟩
  | .hbm, ⟨99, _⟩ => ⟨S2x512, .f32⟩
  | .hbm, ⟨100, _⟩ => ⟨S_, .f32⟩
  | .hbm, ⟨101, _⟩ => ⟨S2x512, .f32⟩
  | .hbm, ⟨102, _⟩ => ⟨S2x512, .f32⟩
  | .hbm, ⟨103, _⟩ => ⟨S2x512, .f32⟩
  | .hbm, ⟨104, _⟩ => ⟨S_, .f32⟩
  | .hbm, ⟨105, _⟩ => ⟨S2x512, .f32⟩
  | .hbm, ⟨106, _⟩ => ⟨S2x512, .f32⟩
  | .hbm, ⟨107, _⟩ => ⟨S2x512, .f32⟩
  | .hbm, ⟨108, _⟩ => ⟨S_, .f32⟩
  | .hbm, ⟨109, _⟩ => ⟨S2x512, .f32⟩
  | .hbm, ⟨110, _⟩ => ⟨S2x512, .f32⟩
  | _, _ => ⟨S2x4864, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== AdamThree.lean ====
abbrev S2x512 : Shape := ⟨2, ![2, 512]⟩
abbrev S2x4x128 : Shape := ⟨3, ![2, 4, 128]⟩
abbrev S2x1024 : Shape := ⟨2, ![2, 1024]⟩

abbrev nBuf : Space → Nat
  | .hbm => 21
  | .vmem => 21
  | .smem => 0
  | _ => 0

abbrev bufTy : (tb : Table) → Fin (tcTables nBuf tb) → BufTy
  | .hbm, ⟨0, _⟩ => ⟨S2x512, .f32⟩
  | .hbm, ⟨1, _⟩ => ⟨S2x4x128, .f32⟩
  | .hbm, ⟨2, _⟩ => ⟨S2x1024, .f32⟩
  | .hbm, ⟨3, _⟩ => ⟨S2x512, .f32⟩
  | .hbm, ⟨4, _⟩ => ⟨S2x4x128, .f32⟩
  | .hbm, ⟨5, _⟩ => ⟨S2x1024, .f32⟩
  | .hbm, ⟨6, _⟩ => ⟨S2x512, .f32⟩
  | .hbm, ⟨7, _⟩ => ⟨S2x4x128, .f32⟩
  | .hbm, ⟨8, _⟩ => ⟨S2x1024, .f32⟩
  | .hbm, ⟨9, _⟩ => ⟨S2x512, .f32⟩
  | .hbm, ⟨10, _⟩ => ⟨S2x4x128, .f32⟩
  | .hbm, ⟨11, _⟩ => ⟨S2x1024, .f32⟩
  | .hbm, ⟨12, _⟩ => ⟨S2x512, .f32⟩
  | .hbm, ⟨13, _⟩ => ⟨S2x4x128, .f32⟩
  | .hbm, ⟨14, _⟩ => ⟨S2x1024, .f32⟩
  | .hbm, ⟨15, _⟩ => ⟨S2x512, .f32⟩
  | .hbm, ⟨16, _⟩ => ⟨S2x4x128, .f32⟩
  | .hbm, ⟨17, _⟩ => ⟨S2x1024, .f32⟩
  | .hbm, ⟨18, _⟩ => ⟨S2x512, .f32⟩
  | .hbm, ⟨19, _⟩ => ⟨S2x4x128, .f32⟩
  | .hbm, ⟨20, _⟩ => ⟨S2x1024, .f32⟩
  | .local _ .vmem, ⟨0, _⟩ => ⟨S2x512, .f32⟩
  | .local _ .vmem, ⟨1, _⟩ => ⟨S2x4x128, .f32⟩
  | .local _ .vmem, ⟨2, _⟩ => ⟨S2x1024, .f32⟩
  | .local _ .vmem, ⟨3, _⟩ => ⟨S2x512, .f32⟩
  | .local _ .vmem, ⟨4, _⟩ => ⟨S2x4x128, .f32⟩
  | .local _ .vmem, ⟨5, _⟩ => ⟨S2x1024, .f32⟩
  | .local _ .vmem, ⟨6, _⟩ => ⟨S2x512, .f32⟩
  | .local _ .vmem, ⟨7, _⟩ => ⟨S2x4x128, .f32⟩
  | .local _ .vmem, ⟨8, _⟩ => ⟨S2x1024, .f32⟩
  | .local _ .vmem, ⟨9, _⟩ => ⟨S2x512, .f32⟩
  | .local _ .vmem, ⟨10, _⟩ => ⟨S2x4x128, .f32⟩
  | .local _ .vmem, ⟨11, _⟩ => ⟨S2x1024, .f32⟩
  | .local _ .vmem, ⟨12, _⟩ => ⟨S2x512, .f32⟩
  | .local _ .vmem, ⟨13, _⟩ => ⟨S2x4x128, .f32⟩
  | .local _ .vmem, ⟨14, _⟩ => ⟨S2x1024, .f32⟩
  | .local _ .vmem, ⟨15, _⟩ => ⟨S2x512, .f32⟩
  | .local _ .vmem, ⟨16, _⟩ => ⟨S2x4x128, .f32⟩
  | .local _ .vmem, ⟨17, _⟩ => ⟨S2x1024, .f32⟩
  | .local _ .vmem, ⟨18, _⟩ => ⟨S2x512, .f32⟩
  | .local _ .vmem, ⟨19, _⟩ => ⟨S2x4x128, .f32⟩
  | .local _ .vmem, ⟨20, _⟩ => ⟨S2x1024, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x4x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x4x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2x4x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S2x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S2x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S2x4x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S2x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== AdamThreeIdeal.lean ====
abbrev S2x512 : Shape := ⟨2, ![2, 512]⟩
abbrev S2x4x128 : Shape := ⟨3, ![2, 4, 128]⟩
abbrev S2x1024 : Shape := ⟨2, ![2, 1024]⟩

abbrev nBuf : Space → Nat
  | .hbm => 21
  | .vmem => 21
  | .smem => 0
  | _ => 0

abbrev bufTy : (tb : Table) → Fin (tcTables nBuf tb) → BufTy
  | .hbm, ⟨0, _⟩ => ⟨S2x512, .f32⟩
  | .hbm, ⟨1, _⟩ => ⟨S2x4x128, .f32⟩
  | .hbm, ⟨2, _⟩ => ⟨S2x1024, .f32⟩
  | .hbm, ⟨3, _⟩ => ⟨S2x512, .f32⟩
  | .hbm, ⟨4, _⟩ => ⟨S2x4x128, .f32⟩
  | .hbm, ⟨5, _⟩ => ⟨S2x1024, .f32⟩
  | .hbm, ⟨6, _⟩ => ⟨S2x512, .f32⟩
  | .hbm, ⟨7, _⟩ => ⟨S2x4x128, .f32⟩
  | .hbm, ⟨8, _⟩ => ⟨S2x1024, .f32⟩
  | .hbm, ⟨9, _⟩ => ⟨S2x512, .f32⟩
  | .hbm, ⟨10, _⟩ => ⟨S2x4x128, .f32⟩
  | .hbm, ⟨11, _⟩ => ⟨S2x1024, .f32⟩
  | .hbm, ⟨12, _⟩ => ⟨S2x512, .f32⟩
  | .hbm, ⟨13, _⟩ => ⟨S2x4x128, .f32⟩
  | .hbm, ⟨14, _⟩ => ⟨S2x1024, .f32⟩
  | .hbm, ⟨15, _⟩ => ⟨S2x512, .f32⟩
  | .hbm, ⟨16, _⟩ => ⟨S2x4x128, .f32⟩
  | .hbm, ⟨17, _⟩ => ⟨S2x1024, .f32⟩
  | .hbm, ⟨18, _⟩ => ⟨S2x512, .f32⟩
  | .hbm, ⟨19, _⟩ => ⟨S2x4x128, .f32⟩
  | .hbm, ⟨20, _⟩ => ⟨S2x1024, .f32⟩
  | .local _ .vmem, ⟨0, _⟩ => ⟨S2x512, .f32⟩
  | .local _ .vmem, ⟨1, _⟩ => ⟨S2x4x128, .f32⟩
  | .local _ .vmem, ⟨2, _⟩ => ⟨S2x1024, .f32⟩
  | .local _ .vmem, ⟨3, _⟩ => ⟨S2x512, .f32⟩
  | .local _ .vmem, ⟨4, _⟩ => ⟨S2x4x128, .f32⟩
  | .local _ .vmem, ⟨5, _⟩ => ⟨S2x1024, .f32⟩
  | .local _ .vmem, ⟨6, _⟩ => ⟨S2x512, .f32⟩
  | .local _ .vmem, ⟨7, _⟩ => ⟨S2x4x128, .f32⟩
  | .local _ .vmem, ⟨8, _⟩ => ⟨S2x1024, .f32⟩
  | .local _ .vmem, ⟨9, _⟩ => ⟨S2x512, .f32⟩
  | .local _ .vmem, ⟨10, _⟩ => ⟨S2x4x128, .f32⟩
  | .local _ .vmem, ⟨11, _⟩ => ⟨S2x1024, .f32⟩
  | .local _ .vmem, ⟨12, _⟩ => ⟨S2x512, .f32⟩
  | .local _ .vmem, ⟨13, _⟩ => ⟨S2x4x128, .f32⟩
  | .local _ .vmem, ⟨14, _⟩ => ⟨S2x1024, .f32⟩
  | .local _ .vmem, ⟨15, _⟩ => ⟨S2x512, .f32⟩
  | .local _ .vmem, ⟨16, _⟩ => ⟨S2x4x128, .f32⟩
  | .local _ .vmem, ⟨17, _⟩ => ⟨S2x1024, .f32⟩
  | .local _ .vmem, ⟨18, _⟩ => ⟨S2x512, .f32⟩
  | .local _ .vmem, ⟨19, _⟩ => ⟨S2x4x128, .f32⟩
  | .local _ .vmem, ⟨20, _⟩ => ⟨S2x1024, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F] [Named F]

def κ : String → Option EReal := fun
  | "first_unbias" => some ((8388608 / 5463681 : ℝ) : EReal)
  | "second_unbias" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x4x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x4x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2x4x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S2x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S2x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S2x4x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S2x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== AdamThreeReferenceIdeal.lean ====
abbrev S2x512 : Shape := ⟨2, ![2, 512]⟩
abbrev S2x4x128 : Shape := ⟨3, ![2, 4, 128]⟩
abbrev S2x1024 : Shape := ⟨2, ![2, 1024]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S2x512, .f32⟩
  | .hbm, ⟨1, _⟩ => ⟨S2x4x128, .f32⟩
  | .hbm, ⟨2, _⟩ => ⟨S2x1024, .f32⟩
  | .hbm, ⟨3, _⟩ => ⟨S2x512, .f32⟩
  | .hbm, ⟨4, _⟩ => ⟨S2x4x128, .f32⟩
  | .hbm, ⟨5, _⟩ => ⟨S2x1024, .f32⟩
  | .hbm, ⟨6, _⟩ => ⟨S2x512, .f32⟩
  | .hbm, ⟨7, _⟩ => ⟨S2x4x128, .f32⟩
  | .hbm, ⟨8, _⟩ => ⟨S2x1024, .f32⟩
  | .hbm, ⟨9, _⟩ => ⟨S2x512, .f32⟩
  | .hbm, ⟨10, _⟩ => ⟨S2x4x128, .f32⟩
  | .hbm, ⟨11, _⟩ => ⟨S2x1024, .f32⟩
  | .hbm, ⟨12, _⟩ => ⟨S_, .f32⟩
  | .hbm, ⟨13, _⟩ => ⟨S2x512, .f32⟩
  | .hbm, ⟨14, _⟩ => ⟨S2x512, .f32⟩
  | .hbm, ⟨15, _⟩ => ⟨S_, .f32⟩
  | .hbm, ⟨16, _⟩ => ⟨S2x512, .f32⟩
  | .hbm, ⟨17, _⟩ => ⟨S2x512, .f32⟩
  | .hbm, ⟨18, _⟩ => ⟨S2x512, .f32⟩
  | .hbm, ⟨19, _⟩ => ⟨S_, .f32⟩
  | .hbm, ⟨20, _⟩ => ⟨S2x512, .f32⟩
  | .hbm, ⟨21, _⟩ => ⟨S2x512, .f32⟩
  | .hbm, ⟨22, _⟩ => ⟨S2x512, .f32⟩
  | .hbm, ⟨23, _⟩ => ⟨S_, .f32⟩
  | .hbm, ⟨24, _⟩ => ⟨S2x512, .f32⟩
  | .hbm, ⟨25, _⟩ => ⟨S2x512, .f32⟩
  | .hbm, ⟨26, _⟩ => ⟨S2x512, .f32⟩
  | .hbm, ⟨27, _⟩ => ⟨S_, .f32⟩
  | .hbm, ⟨28, _⟩ => ⟨S2x512, .f32⟩
  | .hbm, ⟨29, _⟩ => ⟨S2x512, .f32⟩
  | .hbm, ⟨30, _⟩ => ⟨S_, .f32⟩
  | .hbm, ⟨31, _⟩ => ⟨S2x512, .f32⟩
  | .hbm, ⟨32, _⟩ => ⟨S2x512, .f32⟩
  | .hbm, ⟨33, _⟩ => ⟨S2x512, .f32⟩
  | .hbm, ⟨34, _⟩ => ⟨S_, .f32⟩
  | .hbm, ⟨35, _⟩ => ⟨S2x512, .f32⟩
  | .hbm, ⟨36, _⟩ => ⟨S2x512, .f32⟩
  | .hbm, ⟨37, _⟩ => ⟨S2x512, .f32⟩
  | .hbm, ⟨38, _⟩ => ⟨S_, .f32⟩
  | .hbm, ⟨39, _⟩ => ⟨S2x512, .f32⟩
  | .hbm, ⟨40, _⟩ => ⟨S2x512, .f32⟩
  | .hbm, ⟨41, _⟩ => ⟨S2x512, .f32⟩
  | .hbm, ⟨42, _⟩ => ⟨S_, .f32⟩
  | .hbm, ⟨43, _⟩ => ⟨S2x512, .f32⟩
  | .hbm, ⟨44, _⟩ => ⟨S2x512, .f32⟩
  | .hbm, ⟨45, _⟩ => ⟨S_, .f32⟩
  | .hbm, ⟨46, _⟩ => ⟨S2x4x128, .f32⟩
  | .hbm, ⟨47, _⟩ => ⟨S2x4x128, .f32⟩
  | .hbm, ⟨48, _⟩ => ⟨S_, .f32⟩
  | .hbm, ⟨49, _⟩ => ⟨S2x4x128, .f32⟩
  | .hbm, ⟨50, _⟩ => ⟨S2x4x128, .f32⟩
  | .hbm, ⟨51, _⟩ => ⟨S2x4x128, .f32⟩
  | .hbm, ⟨52, _⟩ => ⟨S_, .f32⟩
  | .hbm, ⟨53, _⟩ => ⟨S2x4x128, .f32⟩
  | .hbm, ⟨54, _⟩ => ⟨S2x4x128, .f32⟩
  | .hbm, ⟨55, _⟩ => ⟨S2x4x128, .f32⟩
  | .hbm, ⟨56, _⟩ => ⟨S_, .f32⟩
  | .hbm, ⟨57, _⟩ => ⟨S2x4x128, .f32⟩
  | .hbm, ⟨58, _⟩ => ⟨S2x4x128, .f32⟩
  | .hbm, ⟨59, _⟩ => ⟨S2x4x128, .f32⟩
  | .hbm, ⟨60, _⟩ => ⟨S_, .f32⟩
  | .hbm, ⟨61, _⟩ => ⟨S2x4x128, .f32⟩
  | .hbm, ⟨62, _⟩ => ⟨S2x4x128, .f32⟩
  | .hbm, ⟨63, _⟩ => ⟨S_, .f32⟩
  | .hbm, ⟨64, _⟩ => ⟨S2x4x128, .f32⟩
  | .hbm, ⟨65, _⟩ => ⟨S2x4x128, .f32⟩
  | .hbm, ⟨66, _⟩ => ⟨S2x4x128, .f32⟩
  | .hbm, ⟨67, _⟩ => ⟨S_, .f32⟩
  | .hbm, ⟨68, _⟩ => ⟨S2x4x128, .f32⟩
  | .hbm, ⟨69, _⟩ => ⟨S2x4x128, .f32⟩
  | .hbm, ⟨70, _⟩ => ⟨S2x4x128, .f32⟩
  | .hbm, ⟨71, _⟩ => ⟨S_, .f32⟩
  | .hbm, ⟨72, _⟩ => ⟨S2x4x128, .f32⟩
  | .hbm, ⟨73, _⟩ => ⟨S2x4x128, .f32⟩
  | .hbm, ⟨74, _⟩ => ⟨S2x4x128, .f32⟩
  | .hbm, ⟨75, _⟩ => ⟨S_, .f32⟩
  | .hbm, ⟨76, _⟩ => ⟨S2x4x128, .f32⟩
  | .hbm, ⟨77, _⟩ => ⟨S2x4x128, .f32⟩
  | .hbm, ⟨78, _⟩ => ⟨S_, .f32⟩
  | .hbm, ⟨79, _⟩ => ⟨S2x1024, .f32⟩
  | .hbm, ⟨80, _⟩ => ⟨S2x1024, .f32⟩
  | .hbm, ⟨81, _⟩ => ⟨S_, .f32⟩
  | .hbm, ⟨82, _⟩ => ⟨S2x1024, .f32⟩
  | .hbm, ⟨83, _⟩ => ⟨S2x1024, .f32⟩
  | .hbm, ⟨84, _⟩ => ⟨S2x1024, .f32⟩
  | .hbm, ⟨85, _⟩ => ⟨S_, .f32⟩
  | .hbm, ⟨86, _⟩ => ⟨S2x1024, .f32⟩
  | .hbm, ⟨87, _⟩ => ⟨S2x1024, .f32⟩
  | .hbm, ⟨88, _⟩ => ⟨S2x1024, .f32⟩
  | .hbm, ⟨89, _⟩ => ⟨S_, .f32⟩
  | .hbm, ⟨90, _⟩ => ⟨S2x1024, .f32⟩
  | .hbm, ⟨91, _⟩ => ⟨S2x1024, .f32⟩
  | .hbm, ⟨92, _⟩ => ⟨S2x1024, .f32⟩
  | .hbm, ⟨93, _⟩ => ⟨S_, .f32⟩
  | .hbm, ⟨94, _⟩ => ⟨S2x1024, .f32⟩
  | .hbm, ⟨95, _⟩ => ⟨S2x1024, .f32⟩
  | .hbm, ⟨96, _⟩ => ⟨S_, .f32⟩
  | .hbm, ⟨97, _⟩ => ⟨S2x1024, .f32⟩
  | .hbm, ⟨98, _⟩ => ⟨S2x1024, .f32⟩
  | .hbm, ⟨99, _⟩ => ⟨S2x1024, .f32⟩
  | .hbm, ⟨100, _⟩ => ⟨S_, .f32⟩
  | .hbm, ⟨101, _⟩ => ⟨S2x1024, .f32⟩
  | .hbm, ⟨102, _⟩ => ⟨S2x1024, .f32⟩
  | .hbm, ⟨103, _⟩ => ⟨S2x1024, .f32⟩
  | .hbm, ⟨104, _⟩ => ⟨S_, .f32⟩
  | .hbm, ⟨105, _⟩ => ⟨S2x1024, .f32⟩
  | .hbm, ⟨106, _⟩ => ⟨S2x1024, .f32⟩
  | .hbm, ⟨107, _⟩ => ⟨S2x1024, .f32⟩
  | .hbm, ⟨108, _⟩ => ⟨S_, .f32⟩
  | .hbm, ⟨109, _⟩ => ⟨S2x1024, .f32⟩
  | .hbm, ⟨110, _⟩ => ⟨S2x1024, .f32⟩
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== AdamFour.lean ====
abbrev S2x1024 : Shape := ⟨2, ![2, 1024]⟩

abbrev nBuf : Space → Nat
  | .hbm => 14
  | .vmem => 14
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | .local _ .vmem, ⟨7, _⟩ => ⟨S2x1024, .f32⟩
  | .local _ .vmem, ⟨8, _⟩ => ⟨S2x1024, .f32⟩
  | .local _ .vmem, ⟨9, _⟩ => ⟨S2x1024, .f32⟩
  | .local _ .vmem, ⟨10, _⟩ => ⟨S2x1024, .f32⟩
  | .local _ .vmem, ⟨11, _⟩ => ⟨S2x1024, .f32⟩
  | .local _ .vmem, ⟨12, _⟩ => ⟨S2x1024, .f32⟩
  | .local _ .vmem, ⟨13, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== AdamFourIdeal.lean ====
variable {F : FTy → Type} [FloatOps F] [Named F]
def κ : String → Option EReal := fun
  | "first_unbias" => some ((8388608 / 5463681 : ℝ) : EReal)
  | "second_unbias" => some ((268435456 / 2672307 : ℝ) : EReal)
  | _ => none
-- ==== AdamFourReferenceIdeal.lean ====
abbrev S2x1024 : Shape := ⟨2, ![2, 1024]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S_, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S2x1024, .f32⟩
  | .hbm, ⟨23, _⟩ => ⟨S_, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | .hbm, ⟨37, _⟩ => ⟨S2x1024, .f32⟩
  | .hbm, ⟨38, _⟩ => ⟨S_, .f32⟩
  | .hbm, ⟨39, _⟩ => ⟨S2x1024, .f32⟩
  | .hbm, ⟨40, _⟩ => ⟨S2x1024, .f32⟩
  | .hbm, ⟨41, _⟩ => ⟨S_, .f32⟩
  | .hbm, ⟨42, _⟩ => ⟨S2x1024, .f32⟩
  | .hbm, ⟨43, _⟩ => ⟨S2x1024, .f32⟩
  | .hbm, ⟨44, _⟩ => ⟨S_, .f32⟩
  | .hbm, ⟨45, _⟩ => ⟨S2x1024, .f32⟩
  | .hbm, ⟨46, _⟩ => ⟨S2x1024, .f32⟩
  | .hbm, ⟨47, _⟩ => ⟨S2x1024, .f32⟩
  | .hbm, ⟨48, _⟩ => ⟨S_, .f32⟩
  | .hbm, ⟨49, _⟩ => ⟨S2x1024, .f32⟩
  | .hbm, ⟨50, _⟩ => ⟨S2x1024, .f32⟩
  | .hbm, ⟨51, _⟩ => ⟨S2x1024, .f32⟩
  | .hbm, ⟨52, _⟩ => ⟨S_, .f32⟩
  | .hbm, ⟨53, _⟩ => ⟨S2x1024, .f32⟩
  | .hbm, ⟨54, _⟩ => ⟨S2x1024, .f32⟩
  | .hbm, ⟨55, _⟩ => ⟨S2x1024, .f32⟩
  | .hbm, ⟨56, _⟩ => ⟨S_, .f32⟩
  | .hbm, ⟨57, _⟩ => ⟨S2x1024, .f32⟩
  | .hbm, ⟨58, _⟩ => ⟨S2x1024, .f32⟩
  | .hbm, ⟨59, _⟩ => ⟨S_, .f32⟩
  | .hbm, ⟨60, _⟩ => ⟨S2x1024, .f32⟩
  | .hbm, ⟨61, _⟩ => ⟨S2x1024, .f32⟩
  | .hbm, ⟨62, _⟩ => ⟨S2x1024, .f32⟩
  | .hbm, ⟨63, _⟩ => ⟨S_, .f32⟩
  | .hbm, ⟨64, _⟩ => ⟨S2x1024, .f32⟩
  | .hbm, ⟨65, _⟩ => ⟨S2x1024, .f32⟩
  | .hbm, ⟨66, _⟩ => ⟨S2x1024, .f32⟩
  | .hbm, ⟨67, _⟩ => ⟨S_, .f32⟩
  | .hbm, ⟨68, _⟩ => ⟨S2x1024, .f32⟩
  | .hbm, ⟨69, _⟩ => ⟨S2x1024, .f32⟩
  | .hbm, ⟨70, _⟩ => ⟨S2x1024, .f32⟩
  | .hbm, ⟨71, _⟩ => ⟨S_, .f32⟩
  | .hbm, ⟨72, _⟩ => ⟨S2x1024, .f32⟩
  | .hbm, ⟨73, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== Proof.InputValue.lean ====
/- What the call that takes the gradient through the input projection computes, against the gradient of the reference:
   the two results of `input_grads` at an index, as sums of products of the arguments' elements. -/
module

public import proofs.«01_k».proof.Defs
public import proofs.«01_k».proof.Proof.Gen.InputIdeal
public import proofs.«01_k».proof.Proof.Gen.InputIdeal.Frame
public import proofs.«01_k».proof.Proof.Gen.InputIdeal.Value
public import proofs.«01_k».proof.Proof.Gen.InputReferenceIdeal
public import proofs.«01_k».proof.Proof.Gen.InputReferenceIdeal.Run
public import proofs.«01_k».proof.Proof.Gen.InputReferenceIdeal.Read
public import Idealize.ShloMosaic.Lib.Pipeline.Value
public import Idealize.ShloMosaic.Lib.Pipeline.ValueKit
public import Idealize.ShloMosaic.Lib.Pointwise
public import Idealize.ShloMosaic.Lib.StableHlo.Run
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.InputIdeal.Grads

open Cert.InputIdeal Cert.InputIdeal.Gen

variable (m : (ℓ : Loc nD τ sig) → Buf (Elt Ideal) ℓ) (ρ : Dev nD → PrngReg)

/-- What a point adds to the gradient of the weights: the product of its rows of `dh`, transposed, and of `x`. -/
theorem weights_step (x1 : Vec Ideal S256x4864 .bf16) (xo : Vec Ideal S4864x1024 .f32) (x2 : Vec Ideal S256x1024 .f32) (j : S4864x1024.Idx) :
    k0_pay3 x1 xo x2 j = xo j + ∑ r : Fin 256, x1 (ix2 r (j 0)) * x2 (ix2 r (j 1)) := by
  idx_vars j
  pointwise [k0_pay3]

/-- What a point writes of the gradient of the layer's input: `dres` plus the product of its rows of `dh` and the weights. -/
theorem input_step (x1 : Vec Ideal S256x4864 .bf16) (x0 : Vec Ideal S256x1024 .f32) (x3 : Vec Ideal S4864x1024 .bf16) (j : S256x1024.Idx) :
    k0_pay2 x1 x0 x3 j = x0 j + ∑ k : Fin 4864, x1 (ix2 (j 0) k) * x3 (ix2 k (j 1)) := by
  idx_vars j
  pointwise [k0_pay2]

theorem zero_block (j : S4864x1024.Idx) : k0_pay1 (F := Ideal) j = 0 := by
  pointwise [k0_pay1]

/-- The block indices of the five windows that move along the rows. -/
theorem rows0 : ∀ t : Fin cfg0.N, win0_0.index t = ![t.val, 0] := (by decide +kernel : ∀ t : Fin grid0.N, _)
theorem rows1 : ∀ t : Fin cfg0.N, win0_1.index t = ![t.val, 0] := (by decide +kernel : ∀ t : Fin grid0.N, _)
theorem rows2 : ∀ t : Fin cfg0.N, win0_2.index t = ![t.val, 0] := (by decide +kernel : ∀ t : Fin grid0.N, _)
theorem rows3 : ∀ t : Fin cfg0.N, win0_3.index t = ![0, 0] := (by decide +kernel : ∀ t : Fin grid0.N, _)
theorem rows4 : ∀ t : Fin cfg0.N, win0_4.index t = ![t.val, 0] := (by decide +kernel : ∀ t : Fin grid0.N, _)

/-- The last point of the grid. -/
def lastPt : Fin cfg0.N := ⟨31, by rw [show cfg0.N = 32 from N_0]; decide⟩

/-- The gradient of the weights, transposed: at `(a, b)` the sum over the 8192 rows of `dh (r, a) * x (r, b)`. -/
def weightsGrad (dh : Vec Ideal S8192x4864 .bf16) (x : Vec Ideal S8192x1024 .f32) : Vec Ideal S4864x1024 .f32 :=
  fun j => ∑ r : Fin 8192, dh (ix2 r (j 0)) * x (ix2 r (j 1))

theorem final_weights (c : Dev nD) :
    (dats m 0 c).arrAt 5 cfg0.N = weightsGrad (m (c.tc.loc main_arg1)) (m (c.tc.loc main_arg2)) := by
  funext j
  refine ((dats m 0 c).arrAt_emb_eq_after_last 5 lastPt (by decide +kernel) j).trans ?_
  blk_simp
  rw [after0_5, Pipeline.eq_sum_fin_of_reset_step_apply_last (fun n h => (outsAt0 m c n h).2) 32 (fun _ => (0 : EReal)) _
    (fun t h j => by rw [outsAt0_A m c t h]; frame_out; rw [weights_step, zero_block])
    (fun t h j => by rw [outsAt0_B m c t h]; frame_out; rw [weights_step])
    (le_of_eq N_0) lastPt rfl j, zero_add]
  refine Fin.sum_mul_add_congr (fun t k hl => ?_) (by rw [show cfg0.N = 32 from N_0])
  congr 1 <;> blk_ext [iblk, V, rows1 t, rows2 t]

/-- The gradient of the layer's input: at `(r, b)` `dres (r, b)` plus the sum over the 4864 channels of `dh (r, k) * w_in (b, k)`. -/
def inputGrad (dres : Vec Ideal S8192x1024 .f32) (dh : Vec Ideal S8192x4864 .bf16) (w : Vec Ideal S1024x4864 .f32) : Vec Ideal S8192x1024 .f32 :=
  fun j => dres j + ∑ k : Fin 4864, dh (ix2 (j 0) k) * w (ix2 (j 1) k)

theorem final_input (c : Dev nD) :
    (dats m 0 c).arrAt 4 cfg0.N = inputGrad (m (c.tc.loc main_arg0)) (m (c.tc.loc main_arg1)) (m (c.tc.loc main_arg3)) := by
  refine (dats m 0 c).arrAt_eq_of_covers 4 _ (by decide +kernel) fun t hf y => ?_
  blk_simp
  rw [after0_4]
  have e : (outsAt0 m c t.val t.isLt).1 = k0_pay2 (iblk m c 1 t) (iblk m c 0 t) (iblk m c 3 t) := by
    by_cases h : t.val % 32 = 0
    · rw [outsAt0_A m c t h]; frame_out
    · rw [outsAt0_B m c t h]; frame_out
  rw [e, input_step]
  unfold inputGrad
  blk_point [iblk, V, rows0 t, rows1 t, rows3 t, rows4 t]

end Cert.InputIdeal.Grads

namespace Cert.InputReferenceIdeal.Grads

open Cert.InputReferenceIdeal Cert.InputReferenceIdeal.Gen Cert.InputReferenceIdeal.Read

/-- The reference's first result is the gradient of the layer's input … -/
theorem input_eq (x0 : Vec Ideal S8192x1024 .f32) (x1 : Vec Ideal S8192x4864 .bf16) (x3 : Vec Ideal S1024x4864 .f32) :
    val_main_v5 x0 x1 x3 = Cert.InputIdeal.Grads.inputGrad x0 x1 x3 := by
  funext j
  unfold Cert.InputIdeal.Grads.inputGrad
  idx_vars j
  pointwise [val_main_v5, val_main_v4, val_main_v1]

/-- … and its second the gradient of the weights, transposed. -/
theorem weights_eq (x1 : Vec Ideal S8192x4864 .bf16) (x2 : Vec Ideal S8192x1024 .f32) :
    val_main_v6 x1 x2 = Cert.InputIdeal.Grads.weightsGrad x1 x2 := by
  funext j
  unfold Cert.InputIdeal.Grads.weightsGrad
  idx_vars j
  pointwise [val_main_v6, val_main_v3, val_main_v2, val_main_v1]

end Cert.InputReferenceIdeal.Grads
end
-- ==== Proof.LayerSpec.lean ====
/- The mathematics of one layer on extended reals: local attention, the gated mixing of a block's rows, the two gates, the
   output projection and the normalisation, each as a function of a block's rows and of the layer's parameters; and the
   identities that a kernel's other way of writing the same thing needs. -/
module

public import Idealize.ShloMosaic.PureOps.Ideal
public import Idealize.ShloMosaic.Lib.Pointwise
public import Idealize.ShloMosaic.Lib.Tactic

@[expose] public section

noncomputable section

open Idealize.ShloMosaic

namespace Layer

/-! ## The constants of the program text -/

/-- One eighth, the scale of the scores. -/
def eighth : EReal := Ideal.ofBits .f32 0x3E000000#32
def half : EReal := Ideal.ofBits .f32 0x3F000000#32
/-- The factor outside the cubic of the smooth rectifier, and the one inside. -/
def outer : EReal := Ideal.ofBits .f32 0x3F4C422A#32
def cubic : EReal := Ideal.ofBits .f32 0x3D372713#32
/-- The weight of the layer's input in its sum with the layer's output. -/
def alpha : EReal := Ideal.ofBits .f32 0x3FB504F3#32
def eps : EReal := Ideal.ofBits .f32 0x3727C5AC#32
def wide : EReal := Ideal.ofBits .f32 0x44000000#32
def full : EReal := Ideal.ofBits .f32 0x44800000#32

/-! ## The gates -/

def silu (x : EReal) : EReal := x * Ideal.logistic x

/-- The smooth rectifier. -/
def gelu (x : EReal) : EReal := x * (half * (1 + Ideal.tanh (outer * (x + cubic * (x * x * x)))))

/-- A row shifted to mean nought, divided by its standard deviation, scaled and shifted. -/
def norm {n : ℕ} (len : EReal) (z g b : Fin n → EReal) (j : Fin n) : EReal :=
  (z j - Ideal.div (∑ k, z k) len)
      * Ideal.rsqrt (Ideal.div (∑ k, (z k - Ideal.div (∑ l, z l) len) * (z k - Ideal.div (∑ l, z l) len)) len + eps)
      * g j + b j

/-! ## Attention -/

/-- The largest of the scores and the sink. -/
def peak (s : Fin 256 → EReal) (sink : EReal) : EReal := max (Finset.univ.fold max (Ideal.ofBits .f32 0xFF800000#32) s) sink

/-- What the weights are divided by. -/
def mass (s : Fin 256 → EReal) (sink : EReal) : EReal := (∑ k, Ideal.exp (s k - peak s sink)) + Ideal.exp (sink - peak s sink)

def weight (s : Fin 256 → EReal) (sink : EReal) (k : Fin 256) : EReal := Ideal.div (Ideal.exp (s k - peak s sink)) (mass s sink)

/-! ## A block of 128 rows -/

/-- The layer's parameters, at coordinates. -/
structure Params where
  sinks : Fin 8 → EReal
  vnG : Fin 512 → EReal
  vnB : Fin 512 → EReal
  ws : Fin 4 → Fin 128 → Fin 128 → EReal
  bs : Fin 128 → Fin 512 → EReal
  pa : Fin 512 → Fin 1024 → EReal
  pb : Fin 512 → Fin 1024 → EReal
  wout : Fin 1024 → Fin 1024 → EReal
  bout : Fin 1024 → EReal
  lnG : Fin 1024 → EReal
  lnB : Fin 1024 → EReal

/-- What a block computes from: its rows of the layer's input and of the projected input, the key and value columns of the block
    before it, and whether it is the first of its sequence. -/
structure Block where
  x : Fin 128 → Fin 1024 → EReal
  h : Fin 128 → Fin 4864 → EReal
  before : Fin 128 → Fin 256 → EReal
  first : Prop

variable (P : Params) (B : Block)

/-- The key and value columns of the 256 rows a block's rows attend to. -/
def keys (k : Fin 256) (c : Fin 256) : EReal :=
  if hk : k.val < 128 then B.before ⟨k.val, hk⟩ c else B.h ⟨k.val - 128, by omega⟩ ⟨512 + c.val, by omega⟩

/-- Row `i` sees key `k`: no further than 128 rows behind, not ahead, and not before the sequence's start. -/
def sees (i : Fin 128) (k : Fin 256) : Prop := (i.val < k.val ∧ k.val ≤ i.val + 128) ∧ (B.first → 128 ≤ k.val)

open Classical in
def score (hd : Fin 8) (i : Fin 128) (k : Fin 256) : EReal :=
  if sees B i k then (∑ d : Fin 64, B.h i ⟨hd.val * 64 + d.val, by omega⟩ * keys B k ⟨hd.val / 4 * 64 + d.val, by omega⟩) * eighth else ⊥

def attend (hd : Fin 8) (i : Fin 128) (d : Fin 64) : EReal :=
  ∑ k : Fin 256, keys B k ⟨128 + (hd.val / 4 * 64 + d.val), by omega⟩ * weight (score B hd i) (P.sinks hd) k

def branchA (i : Fin 128) (c : Fin 512) : EReal :=
  attend P B ⟨c.val / 64, by omega⟩ i ⟨c.val % 64, by omega⟩ * silu (B.h i ⟨768 + c.val, by omega⟩)

def mixIn (i : Fin 128) (c : Fin 512) : EReal := norm wide (fun c => gelu (B.h i ⟨1792 + c.val, by omega⟩)) P.vnG P.vnB c

/-- A block's rows mixed by the lower triangle of one of four matrices. -/
def mixed (i : Fin 128) (c : Fin 512) : EReal :=
  (∑ k : Fin 128, (if k.val ≤ i.val then P.ws ⟨c.val / 128, by omega⟩ i k else 0) * mixIn P B k c) + P.bs i c

def branchB (i : Fin 128) (c : Fin 512) : EReal :=
  gelu (B.h i ⟨1280 + c.val, by omega⟩) * mixed P B i c * silu (B.h i ⟨2304 + c.val, by omega⟩)

def merged (i : Fin 128) (c : Fin 1024) : EReal :=
  Ideal.logistic (B.h i ⟨2816 + c.val, by omega⟩) * (∑ k : Fin 512, branchA P B i k * P.pa k c)
    + Ideal.logistic (B.h i ⟨3840 + c.val, by omega⟩) * (∑ k : Fin 512, branchB P B i k * P.pb k c)

/-- A row of the layer's result. -/
def result (i : Fin 128) (c : Fin 1024) : EReal :=
  norm full (fun c => alpha * B.x i c + ((∑ k : Fin 1024, merged P B i k * P.wout k c) + P.bout c)) P.lnG P.lnB c

/-! ## The identities -/

theorem half_eq : half = ((1 / 2 : ℝ) : EReal) := by
  unfold half
  simp only [Ideal.ofBits, Ideal.ieee]
  rw [if_neg (by decide), if_neg (by decide), if_neg (by decide)]
  norm_num [Nat.shiftRight_eq_div_pow]

theorem eighth_eq : eighth = ((1 / 8 : ℝ) : EReal) := by
  unfold eighth
  simp only [Ideal.ofBits, Ideal.ieee]
  rw [if_neg (by decide), if_neg (by decide), if_neg (by decide)]
  norm_num [Nat.shiftRight_eq_div_pow]

theorem outer_eq : outer = ((6693141 / 8388608 : ℝ) : EReal) := by
  unfold outer
  simp only [Ideal.ofBits, Ideal.ieee]
  rw [if_neg (by decide), if_neg (by decide), if_neg (by decide)]
  norm_num [Nat.shiftRight_eq_div_pow]

theorem cubic_eq : cubic = ((12003091 / 268435456 : ℝ) : EReal) := by
  unfold cubic
  simp only [Ideal.ofBits, Ideal.ieee]
  rw [if_neg (by decide), if_neg (by decide), if_neg (by decide)]
  norm_num [Nat.shiftRight_eq_div_pow]

theorem lowest_eq : Ideal.ofBits .f32 0xFF800000#32 = (⊥ : EReal) := by
  simp only [Ideal.ofBits, Ideal.ieee]
  rw [if_pos (by decide), if_pos (by decide), if_pos (by decide)]

/-- The logistic function by the hyperbolic tangent of half the argument. -/
theorem logistic_tanh (x : EReal) : half * Ideal.tanh (half * x) + half = Ideal.logistic x := by
  rw [half_eq]
  induction x using EReal.rec with
  | bot =>
    rw [EReal.coe_mul_bot_of_pos (by norm_num)]
    unfold Ideal.logistic
    rw [Ideal.tanh_bot, EReal.neg_bot, Ideal.exp_top, EReal.add_top_of_ne_bot (by decide), Ideal.div, if_neg (by simp)]
    rw [EReal.inv_top, mul_zero, mul_neg, mul_one, ← EReal.coe_neg, ← EReal.coe_add]
    norm_num
  | top =>
    rw [EReal.coe_mul_top_of_pos (by norm_num)]
    unfold Ideal.logistic
    rw [Ideal.tanh_top, EReal.neg_top, Ideal.exp_bot, add_zero, Ideal.div, if_neg one_ne_zero]
    norm_cast; norm_num
  | coe r =>
    rw [Ideal.logistic_coe, ← EReal.coe_mul, Ideal.tanh_coe, ← EReal.coe_mul, ← EReal.coe_add]
    congr 1
    rw [Real.tanh_eq_sinh_div_cosh, Real.sinh_eq, Real.cosh_eq]
    have e : Real.exp (-r) = Real.exp (-(1 / 2 * r)) * Real.exp (-(1 / 2 * r)) := by rw [← Real.exp_add]; congr 1; ring
    have e' : Real.exp (1 / 2 * r) * Real.exp (-(1 / 2 * r)) = 1 := by rw [← Real.exp_add]; simp
    rw [e]
    have p := Real.exp_pos (-(1 / 2 * r))
    have p' := Real.exp_pos (1 / 2 * r)
    set u := Real.exp (-(1 / 2 * r))
    set v := Real.exp (1 / 2 * r)
    field_simp
    nlinarith

/-- The cubic with its factor taken inside. -/
theorem gelu_alt (r : ℝ) :
    (r : EReal) * (half * Ideal.tanh ((r : EReal) * (outer + ((80338380498831 / 2251799813685248 : ℝ) : EReal) * ((r : EReal) * (r : EReal)))) + half)
      = gelu r := by
  unfold gelu
  rw [half_eq, outer_eq, cubic_eq]
  simp only [← EReal.coe_mul, ← EReal.coe_add, Ideal.tanh_coe, ← EReal.coe_one]
  congr 1
  rw [show r * (6693141 / 8388608 + 80338380498831 / 2251799813685248 * (r * r))
    = 6693141 / 8388608 * (r + 12003091 / 268435456 * (r * r * r)) by ring]
  ring

/-- A key no row sees has no weight. -/
theorem weight_eq_zero (s : Fin 256 → EReal) (sink : EReal) (k : Fin 256) (hk : s k = ⊥) (hm : mass s sink ≠ 0) : weight s sink k = 0 := by
  unfold weight
  rw [hk, show (⊥ : EReal) - peak s sink = ⊥ by rw [sub_eq_add_neg, EReal.bot_add], Ideal.div, if_neg hm]
  rw [Ideal.exp_bot, zero_mul]

theorem weight_alt (s : Fin 256 → EReal) (sink : EReal) (k : Fin 256) (hm : mass s sink ≠ 0) :
    Ideal.exp (s k - peak s sink) * Ideal.div 1 (mass s sink) = weight s sink k := by
  unfold weight
  rw [Ideal.div, if_neg hm, Ideal.div, if_neg hm, one_mul]

/-- With a real sink and no score at the top, the mass is not nought. -/
theorem mass_ne_zero (s : Fin 256 → EReal) (sink : ℝ) (hs : ∀ k, s k ≠ ⊤) : mass s sink ≠ 0 := by
  have hp : ∃ p : ℝ, peak s sink = p := by
    have h1 : peak s sink ≠ ⊥ := by
      intro h
      have : ((sink : ℝ) : EReal) ≤ ⊥ := h ▸ le_max_right _ _
      simp at this
    have h2 : peak s sink ≠ ⊤ := by
      have : peak s sink < ⊤ := by
        unfold peak
        rw [max_lt_iff, Finset.fold_max_lt, lowest_eq]
        exact ⟨⟨by simp, fun k _ => lt_top_iff_ne_top.mpr (hs k)⟩, EReal.coe_lt_top _⟩
      exact this.ne
    exact ⟨_, (EReal.coe_toReal h2 h1).symm⟩
  obtain ⟨p, hp⟩ := hp
  have hn : ∀ x : EReal, 0 ≤ Ideal.exp x := by
    intro x
    induction x using EReal.rec with
    | bot => rw [Ideal.exp_bot]
    | top => rw [Ideal.exp_top]; exact le_top
    | coe r => rw [Ideal.exp_coe]; exact_mod_cast (Real.exp_pos r).le
  have : 0 < mass s sink := by
    unfold mass
    rw [hp, ← EReal.coe_sub, Ideal.exp_coe]
    refine lt_of_lt_of_le ?_ (le_add_of_nonneg_left (Finset.sum_nonneg fun k _ => hn _))
    exact_mod_cast Real.exp_pos _
  exact this.ne'

end Layer

end
-- ==== Proof.LayerFinite.lean ====
/- Of finite entries the scores are finite, so that the weights of a row have a mass. -/
module

public import proofs.«01_k».proof.Proof.LayerSpec

@[expose] public section

noncomputable section

open Idealize.ShloMosaic

namespace Layer

theorem real_mul {x y : EReal} (hx : ∃ q : ℝ, x = q) (hy : ∃ q : ℝ, y = q) : ∃ q : ℝ, x * y = q := by
  obtain ⟨p, rfl⟩ := hx
  obtain ⟨q, rfl⟩ := hy
  exact ⟨p * q, (EReal.coe_mul p q).symm⟩

theorem real_sum {n : ℕ} (f : Fin n → EReal) (h : ∀ i, ∃ q : ℝ, f i = q) : ∃ q : ℝ, ∑ i, f i = q := by
  choose g hg using h
  refine ⟨∑ i, g i, ?_⟩
  simp only [hg]
  induction (Finset.univ : Finset (Fin n)) using Finset.induction_on with
  | empty => simp
  | insert a s ha ih => rw [Finset.sum_insert ha, Finset.sum_insert ha, ih, EReal.coe_add]

variable (P : Params) (B : Block)

theorem keys_real (hh : ∀ i c, ∃ q : ℝ, B.h i c = q) (hb : ∀ i c, ∃ q : ℝ, B.before i c = q) (k c : Fin 256) : ∃ q : ℝ, keys B k c = q := by
  unfold keys
  split
  · exact hb _ _
  · exact hh _ _

theorem score_ne_top (hh : ∀ i c, ∃ q : ℝ, B.h i c = q) (hb : ∀ i c, ∃ q : ℝ, B.before i c = q) (hd : Fin 8) (i : Fin 128) (k : Fin 256) :
    score B hd i k ≠ ⊤ := by
  unfold score
  split
  · obtain ⟨q, hq⟩ := real_mul (real_sum _ fun d : Fin 64 => real_mul (hh i ⟨hd.val * 64 + d.val, by omega⟩)
      (keys_real B hh hb k ⟨hd.val / 4 * 64 + d.val, by omega⟩)) ⟨1 / 8, eighth_eq⟩
    rw [hq]
    exact EReal.coe_ne_top q
  · exact bot_ne_top

theorem mass_ne (hh : ∀ i c, ∃ q : ℝ, B.h i c = q) (hb : ∀ i c, ∃ q : ℝ, B.before i c = q) (hs : ∀ h, ∃ q : ℝ, P.sinks h = q)
    (hd : Fin 8) (i : Fin 128) : mass (score B hd i) (P.sinks hd) ≠ 0 := by
  obtain ⟨q, hq⟩ := hs hd
  rw [hq]
  exact mass_ne_zero _ q fun k => score_ne_top B hh hb hd i k

end Layer

end
-- ==== Proof.ForwardRows.lean ====
/- The gates, the mixing of a block's rows, the output projection and the normalisation as the forward kernel computes them on 256 rows,
   and that with the attention they make the rows of the layer's result. -/
module

public import proofs.«01_k».proof.Defs
public import proofs.«01_k».proof.Proof.LayerSpec
public import proofs.«01_k».proof.Proof.Gen.ForwardIdeal
public import proofs.«01_k».proof.Proof.Gen.ForwardIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ForwardIdeal.Rows

open Cert.ForwardIdeal Cert.ForwardIdeal.Gen

set_option maxHeartbeats 1000000

theorem gelu_ca : (Named.named (F := Ideal) κ "gelu_ca" (φ := .f32) 0x3D122279#32 : EReal) = ((80338380498831 / 2251799813685248 : ℝ) : EReal) :=
  IdealRules.named_const.ideal_named_scalar _ _ _ _ rfl

/-- A row that is neither infinity anywhere. -/
def Finite {s : Shape} (x : s.Idx → EReal) : Prop := ∀ j, ∃ q : ℝ, x j = q

theorem gelu_word (x : EReal) (hx : ∃ q : ℝ, x = q) :
    x * (Ideal.ofBits FTy.f32 1056964608#32 * Ideal.tanh (x * (Ideal.ofBits FTy.f32 1061962282#32 + Named.named (F := Ideal) κ "gelu_ca" (φ := .f32) 1024598649#32 * (x * x)))
      + Ideal.ofBits FTy.f32 1056964608#32) = Layer.gelu x := by
  obtain ⟨q, rfl⟩ := hx
  rw [← Layer.gelu_alt q, ← gelu_ca]
  rfl

theorem silu_word (x : EReal) :
    x * (Ideal.ofBits FTy.f32 1056964608#32 * Ideal.tanh (Ideal.ofBits FTy.f32 1056964608#32 * x) + Ideal.ofBits FTy.f32 1056964608#32) = Layer.silu x :=
  congrArg (x * ·) (Layer.logistic_tanh x)

theorem logistic_word (x : EReal) :
    Ideal.ofBits FTy.f32 1056964608#32 * Ideal.tanh (Ideal.ofBits FTy.f32 1056964608#32 * x) + Ideal.ofBits FTy.f32 1056964608#32 = Ideal.logistic x :=
  Layer.logistic_tanh x

theorem gated (g A : Vec Ideal S256x512 .f32) (r : Fin 256) (c : Fin 512) :
    k0_pay57 (F := Ideal) g A (k0_pay56 g) (ix2 r c) = A (ix2 r c) * Layer.silu (g (ix2 r c)) := by
  pointwise [k0_pay57, k0_pay56]
  rw [silu_word]

theorem rectified (x : Vec Ideal S256x512 .f32) (hx : Finite x) (r : Fin 256) (c : Fin 512) :
    k0_pay59 (F := Ideal) x (ix2 r c) = Layer.gelu (x (ix2 r c)) := by
  pointwise [k0_pay59]
  exact gelu_word _ (hx _)

theorem normed (x : Vec Ideal S256x512 .f32) (g b : Vec Ideal S1x512 .f32) (hx : Finite x) (r : Fin 256) (c : Fin 512) :
    k0_pay63 (F := Ideal) x g b (ix2 r c)
      = Layer.norm Layer.wide (fun c => Layer.gelu (x (ix2 r c))) (fun c => g (ix2 0 c)) (fun c => b (ix2 0 c)) c := by
  pointwise [k0_pay63]
  simp only [gelu_word _ (hx _)]
  rfl

theorem projectA (A : Vec Ideal S256x512 .f32) (w : Vec Ideal S512x1024 .bf16) (r : Fin 256) (c : Fin 1024) :
    k0_pay88 (F := Ideal) A w (ix2 r c) = ∑ k, A (ix2 r k) * w (ix2 k c) := by
  pointwise [k0_pay88]

theorem projectB (u g M : Vec Ideal S256x512 .f32) (w : Vec Ideal S512x1024 .bf16) (r : Fin 256) (c : Fin 1024) :
    k0_pay89 (F := Ideal) u g M w (ix2 r c) = ∑ k, (u (ix2 r k) * M (ix2 r k) * Layer.silu (g (ix2 r k))) * w (ix2 k c) := by
  pointwise [k0_pay89]
  simp only [silu_word]

theorem merged (a b ga gb : Vec Ideal S256x1024 .f32) (r : Fin 256) (c : Fin 1024) :
    k0_pay92 (F := Ideal) a b ga gb (ix2 r c)
      = Ideal.logistic (ga (ix2 r c)) * a (ix2 r c) + Ideal.logistic (gb (ix2 r c)) * b (ix2 r c) := by
  pointwise [k0_pay92]
  simp only [logistic_word]

theorem output (x m : Vec Ideal S256x1024 .f32) (w : Vec Ideal S1024x1024 .bf16) (b g d : Vec Ideal S1x1024 .f32) (r : Fin 256) (c : Fin 1024) :
    k0_pay94 (F := Ideal) x m w b g d (ix2 r c)
      = Layer.norm Layer.full (fun c => Layer.alpha * x (ix2 r c) + ((∑ k, m (ix2 r k) * w (ix2 k c)) + b (ix2 0 c)))
          (fun c => g (ix2 0 c)) (fun c => d (ix2 0 c)) c := by
  pointwise [k0_pay94]
  rfl

/-! ## The mixing -/

/-- Rows `o` to `o + 127` of the columns `q` to `q + 127`, mixed by a lower triangle, with a bias. -/
def IsMix (o q : ℕ) (ho : o ≤ 128) (hq : q ≤ 384) (N : Vec Ideal S256x512 .f32) (w : Vec Ideal S1x128x128 .f32) (b T : Vec Ideal S128x128 .f32) : Prop :=
  ∀ i l : Fin 128, T (ix2 i l)
    = (∑ k : Fin 128, (if k.val ≤ i.val then w (ix3 0 i k) else 0) * N (ix2 ⟨o + k.val, by omega⟩ ⟨q + l.val, by omega⟩)) + b (ix2 i l)

theorem triangle (i k : Fin 128) (a n : EReal) :
    Scalar.select (IntOp.cmpi CmpIPredicate.sge (BitVec.ofNat 32 i.val) (BitVec.ofNat 32 k.val)) (a * n) 0 = (if k.val ≤ i.val then a else 0) * n := by
  rw [WordCmp.cmpi_sge_ofNat (by omega) (by omega)]
  by_cases h : k.val ≤ i.val
  · simp only [h, decide_true, BitVec.ofBool_true, if_true]; rfl
  · simp only [h, decide_false, BitVec.ofBool_false, if_false, zero_mul]; rfl

variable (N : Vec Ideal S256x512 .f32) (w : Vec Ideal S1x128x128 .f32) (b : Vec Ideal S128x128 .f32)

theorem mix78 : IsMix 0 0 (by omega) (by omega) N w b (k0_pay78 (F := Ideal) (k0_pay70 N w) b) := by
  intro i l; pointwise [k0_pay78, k0_pay70, k0_pay66, k0_pay65]; simp only [triangle]
theorem mix79 : IsMix 0 128 (by omega) (by omega) N w b (k0_pay79 (F := Ideal) (k0_pay71 w) (k0_pay72 N) b) := by
  intro i l; pointwise [k0_pay79, k0_pay71, k0_pay72, k0_pay67, k0_pay65]; simp only [triangle]
theorem mix81 : IsMix 0 256 (by omega) (by omega) N w b (k0_pay81 (F := Ideal) (k0_pay80 N (k0_pay68 w) b)) := by
  intro i l; pointwise [k0_pay81, k0_pay80, k0_pay68, k0_pay65]; simp only [triangle]
theorem mix82 : IsMix 0 384 (by omega) (by omega) N w b (k0_pay82 (F := Ideal) (k0_pay73 N (k0_pay69 w)) b) := by
  intro i l; pointwise [k0_pay82, k0_pay73, k0_pay69, k0_pay65]; simp only [triangle]
theorem mix83 : IsMix 128 0 (by omega) (by omega) N w b (k0_pay83 (F := Ideal) (k0_pay74 N (k0_pay66 w)) b) := by
  intro i l; pointwise [k0_pay83, k0_pay74, k0_pay66, k0_pay65]; simp only [triangle]
theorem mix84 : IsMix 128 128 (by omega) (by omega) N w b (k0_pay84 (F := Ideal) (k0_pay75 N (k0_pay67 w)) b) := by
  intro i l; pointwise [k0_pay84, k0_pay75, k0_pay67, k0_pay65]; simp only [triangle]
theorem mix85 : IsMix 128 256 (by omega) (by omega) N w b (k0_pay85 (F := Ideal) (k0_pay76 N (k0_pay68 w)) b) := by
  intro i l; pointwise [k0_pay85, k0_pay76, k0_pay68, k0_pay65]; simp only [triangle]
theorem mix86 : IsMix 128 384 (by omega) (by omega) N w b (k0_pay86 (F := Ideal) (k0_pay77 N (k0_pay69 w)) b) := by
  intro i l; pointwise [k0_pay86, k0_pay77, k0_pay69, k0_pay65]; simp only [triangle]

/-! ## The same of a block of the layer -/

variable (P : Layer.Params) (B : Layer.Block)

/-- Row `i` of the first (`o = 0`) or the second (`o = 1`) block of 128 rows. -/
abbrev rowOf (o : Fin 2) (i : Fin 128) : Fin 256 := ⟨128 * o.val + i.val, by omega⟩

theorem mixed_of (o : Fin 2) (q : Fin 4) (x : Vec Ideal S256x512 .f32) (g d : Vec Ideal S1x512 .f32) (hx : Finite x)
    (hB : ∀ i c, x (ix2 (rowOf o i) c) = B.h i ⟨1792 + c.val, by omega⟩) (hg : ∀ c, g (ix2 0 c) = P.vnG c) (hd : ∀ c, d (ix2 0 c) = P.vnB c)
    (hw : ∀ i k, w (ix3 0 i k) = P.ws q i k) (hb : ∀ i l, b (ix2 i l) = P.bs i ⟨128 * q.val + l.val, by omega⟩)
    (T : Vec Ideal S128x128 .f32) (hT : IsMix (128 * o.val) (128 * q.val) (by omega) (by omega) (k0_pay63 (F := Ideal) x g d) w b T) (i l : Fin 128) :
    T (ix2 i l) = Layer.mixed P B i ⟨128 * q.val + l.val, by omega⟩ := by
  rw [hT, hb]
  unfold Layer.mixed
  refine congrArg (· + _) (Finset.sum_congr rfl fun k _ => ?_)
  rw [normed x g d hx, hw, show (⟨(128 * q.val + l.val) / 128, by omega⟩ : Fin 4) = q from Fin.ext (by simp only; omega)]
  congr 1
  unfold Layer.mixIn
  rw [show (fun c => g (ix2 0 c)) = P.vnG from funext hg, show (fun c => d (ix2 0 c)) = P.vnB from funext hd]
  rw [show (fun c => Layer.gelu (x (ix2 (rowOf o k) c))) = fun c : Fin 512 => Layer.gelu (B.h k ⟨1792 + c.val, by omega⟩) from funext fun c => by rw [hB]]

theorem result_of (o : Fin 2) (x : Vec Ideal S256x1024 .f32) (g0 u g1 A M : Vec Ideal S256x512 .f32) (la lb : Vec Ideal S256x1024 .f32)
    (pa pb : Vec Ideal S512x1024 .bf16) (wout : Vec Ideal S1024x1024 .bf16) (bout lnG lnB : Vec Ideal S1x1024 .f32) (hu : Finite u)
    (hx : ∀ i c, x (ix2 (rowOf o i) c) = B.x i c)
    (hg0 : ∀ i c, g0 (ix2 (rowOf o i) c) = B.h i ⟨768 + c.val, by omega⟩)
    (hu' : ∀ i c, u (ix2 (rowOf o i) c) = B.h i ⟨1280 + c.val, by omega⟩)
    (hg1 : ∀ i c, g1 (ix2 (rowOf o i) c) = B.h i ⟨2304 + c.val, by omega⟩)
    (hla : ∀ i c, la (ix2 (rowOf o i) c) = B.h i ⟨2816 + c.val, by omega⟩)
    (hlb : ∀ i c, lb (ix2 (rowOf o i) c) = B.h i ⟨3840 + c.val, by omega⟩)
    (hA : ∀ i c, A (ix2 (rowOf o i) c) = Layer.attend P B ⟨c.val / 64, by omega⟩ i ⟨c.val % 64, by omega⟩)
    (hM : ∀ i c, M (ix2 (rowOf o i) c) = Layer.mixed P B i c)
    (hpa : ∀ k c, pa (ix2 k c) = P.pa k c) (hpb : ∀ k c, pb (ix2 k c) = P.pb k c) (hwout : ∀ k c, wout (ix2 k c) = P.wout k c)
    (hbout : ∀ c, bout (ix2 0 c) = P.bout c) (hlnG : ∀ c, lnG (ix2 0 c) = P.lnG c) (hlnB : ∀ c, lnB (ix2 0 c) = P.lnB c)
    (i : Fin 128) (c : Fin 1024) :
    k0_pay94 (F := Ideal) x (k0_pay92 (k0_pay88 (k0_pay57 g0 A (k0_pay56 g0)) pa) (k0_pay89 (k0_pay59 u) g1 M pb) la lb) wout bout lnG lnB (ix2 (rowOf o i) c)
      = Layer.result P B i c := by
  rw [output]
  simp only [merged, projectA, projectB, gated, rectified u hu, hx, hg0, hu', hg1, hla, hlb, hA, hM, hpa, hpb, hwout, hbout, hlnG, hlnB]
  rfl

end Cert.ForwardIdeal.Rows

end
-- ==== Proof.ForwardTile.lean ====
/- What the forward kernel's operations compute on one block of 256 rows, read at an index: each named value as a formula in the
   elements of the values it is computed from. -/
module

public import proofs.«01_k».proof.Defs
public import proofs.«01_k».proof.Proof.LayerSpec
public import proofs.«01_k».proof.Proof.Gen.ForwardIdeal
public import proofs.«01_k».proof.Proof.Gen.ForwardIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ForwardIdeal.Tile

open Cert.ForwardIdeal Cert.ForwardIdeal.Gen WordCmp

set_option maxHeartbeats 1000000

/-! ## Choices by words -/

theorem sel_bool {α : Type} (p : Prop) [Decidable p] (a b : α) : Scalar.select (BitVec.ofBool (decide p)) a b = if p then a else b := by
  by_cases h : p
  · simp only [h, decide_true, BitVec.ofBool_true, if_true]; rfl
  · simp only [h, decide_false, BitVec.ofBool_false, if_false]; rfl

theorem sel_lt {α : Type} (r n : ℕ) (hr : r < 2 ^ 31) (hn : n < 2 ^ 31) (a b : α) :
    Scalar.select (IntOp.cmpi .slt (BitVec.ofNat 32 r) (BitVec.ofNat 32 n)) a b = if r < n then a else b := by
  rw [cmpi_slt_ofNat (by omega) (by omega), sel_bool]

theorem and127 (r : ℕ) (hr : r < 2 ^ 31) : IntOp.andi (BitVec.ofNat 32 r) 127#32 = BitVec.ofNat 32 (r % 128) := by
  unfold IntOp.andi
  apply BitVec.eq_of_toNat_eq
  rw [BitVec.toNat_and, BitVec.toNat_ofNat, BitVec.toNat_ofNat, BitVec.toNat_ofNat, Nat.mod_eq_of_lt (by omega), Nat.mod_eq_of_lt (by omega : 127 < 2 ^ 32)]
  rw [Nat.mod_eq_of_lt (by omega : r % 128 < 2 ^ 32)]
  exact Nat.and_two_pow_sub_one_eq_mod r 7

/-! ## Attention: the four stacked heads of one key head -/

/-- Row `i` of the `a`-th of the four 128-row parts that stack the heads of one key head. -/
abbrev at4 (a : Fin 4) (i : Fin 128) : Fin 512 := ⟨a.val * 128 + i.val, by omega⟩

/-- The rows of two tiles one below the other. -/
def cat (A B : Vec Ideal S128x128 .f32) (k : Fin 256) (c : Fin 128) : EReal :=
  if h : k.val < 128 then A (ix2 ⟨k.val, h⟩ c) else B (ix2 ⟨k.val - 128, by omega⟩ c)

/-- Column `d` of the left half (`e = 0`) or the right half (`e = 1`) of 128 columns. -/
abbrev inHalf (e : Fin 2) (d : Fin 64) : Fin 128 := ⟨e.val * 64 + d.val, by omega⟩
abbrev low (l : Fin 128) : Fin 64 := ⟨l.val % 64, by omega⟩

/-- Both halves of a row hold the one half of the two tiles' row. -/
def IsDup (e : Fin 2) (A B : Vec Ideal S128x128 .f32) (D : Vec Ideal S256x128 .f32) : Prop :=
  ∀ k l, D (ix2 k l) = cat A B k (inHalf e (low l))

/-- The four parts hold the four halves of two tiles, each in its own half of the columns, and nought in the other half. -/
def IsStack (Q : Fin 2 → Vec Ideal S128x128 .f32) (D : Vec Ideal S512x128 .f32) : Prop :=
  ∀ (a : Fin 4) (i l : Fin 128),
    D (ix2 (at4 a i) l) = if l.val / 64 = a.val % 2 then Q ⟨a.val / 2, by omega⟩ (ix2 i l) else 0

theorem dup_low (A B : Vec Ideal S128x128 .f32) (k : Fin 256) (l : Fin 128) :
    Scalar.select (IntOp.cmpi CmpIPredicate.slt (BitVec.ofNat 32 l.val) 64#32)
      (if h : k.val < 128 then A (ix2 ⟨k.val, h⟩ l) else B (ix2 ⟨k.val - 128, by omega⟩ l))
      (if h : k.val < 128 then A (ix2 ⟨k.val, h⟩ ⟨(l.val + 128 - 64) % 128, by omega⟩)
        else B (ix2 ⟨k.val - 128, by omega⟩ ⟨(l.val + 128 - 64) % 128, by omega⟩)) = cat A B k (inHalf 0 (low l)) := by
  rw [sel_lt _ _ (by omega) (by omega)]
  by_cases hl : l.val < 64
  · have e : inHalf 0 (low l) = l := Fin.ext (by simp [inHalf, low]; omega)
    rw [if_pos hl, e]; rfl
  · have e : (⟨(l.val + 128 - 64) % 128, by omega⟩ : Fin 128) = inHalf 0 (low l) := Fin.ext (by simp [inHalf, low]; omega)
    rw [if_neg hl, e]; rfl

theorem dup_high (A B : Vec Ideal S128x128 .f32) (k : Fin 256) (l : Fin 128) :
    Scalar.select (IntOp.cmpi CmpIPredicate.slt (BitVec.ofNat 32 l.val) 64#32)
      (if h : k.val < 128 then A (ix2 ⟨k.val, h⟩ ⟨(l.val + 128 - 64) % 128, by omega⟩)
        else B (ix2 ⟨k.val - 128, by omega⟩ ⟨(l.val + 128 - 64) % 128, by omega⟩))
      (if h : k.val < 128 then A (ix2 ⟨k.val, h⟩ l) else B (ix2 ⟨k.val - 128, by omega⟩ l)) = cat A B k (inHalf 1 (low l)) := by
  rw [sel_lt _ _ (by omega) (by omega)]
  by_cases hl : l.val < 64
  · have e : (⟨(l.val + 128 - 64) % 128, by omega⟩ : Fin 128) = inHalf 1 (low l) := Fin.ext (by simp [inHalf, low]; omega)
    rw [if_pos hl, e]; rfl
  · have e : inHalf 1 (low l) = l := Fin.ext (by simp [inHalf, low]; omega)
    rw [if_neg hl, e]; rfl

theorem dup8 (A B : Vec Ideal S128x128 .f32) : IsDup 0 A B (k0_pay8 k0_pay3 A B) := by
  intro k l; pointwise [k0_pay8, k0_pay3]; exact dup_low A B k l
theorem dup9 (A B : Vec Ideal S128x128 .f32) : IsDup 0 A B (k0_pay9 k0_pay3 A B) := by
  intro k l; pointwise [k0_pay9, k0_pay3]; exact dup_low A B k l
theorem dup14 (A B : Vec Ideal S128x128 .f32) : IsDup 0 A B (k0_pay14 k0_pay3 A B) := by
  intro k l; pointwise [k0_pay14, k0_pay3]; exact dup_low A B k l
theorem dup15 (A B : Vec Ideal S128x128 .f32) : IsDup 0 A B (k0_pay15 k0_pay3 A B) := by
  intro k l; pointwise [k0_pay15, k0_pay3]; exact dup_low A B k l
theorem dup11 (A B : Vec Ideal S128x128 .f32) : IsDup 1 A B (k0_pay11 k0_pay3 A B) := by
  intro k l; pointwise [k0_pay11, k0_pay3]; exact dup_high A B k l
theorem dup12 (A B : Vec Ideal S128x128 .f32) : IsDup 1 A B (k0_pay12 k0_pay3 A B) := by
  intro k l; pointwise [k0_pay12, k0_pay3]; exact dup_high A B k l
theorem dup17 (A B : Vec Ideal S128x128 .f32) : IsDup 1 A B (k0_pay17 k0_pay3 A B) := by
  intro k l; pointwise [k0_pay17, k0_pay3]; exact dup_high A B k l
theorem dup19 (A B : Vec Ideal S128x128 .f32) : IsDup 1 A B (k0_pay19 k0_pay3 (k0_pay18 A B) 64#32) := by
  intro k l; pointwise [k0_pay19, k0_pay18, k0_pay3]; exact dup_high A B k l

/-- The sum over a stacked row against a row with both halves alike. -/
theorem stack_dup (e : Fin 2) (A B : Vec Ideal S128x128 .f32) (D : Vec Ideal S256x128 .f32) (hD : IsDup e A B D)
    (Q : Fin 2 → Vec Ideal S128x128 .f32) (S : Vec Ideal S512x128 .f32) (hS : IsStack Q S) (a : Fin 4) (i : Fin 128) (k : Fin 256) :
    ∑ l, S (ix2 (at4 a i) l) * D (ix2 k l)
      = ∑ d : Fin 64, Q ⟨a.val / 2, by omega⟩ (ix2 i (inHalf ⟨a.val % 2, by omega⟩ d)) * cat A B k (inHalf e d) := by
  simp only [hS a i, hD k]
  rw [show (∑ l : Fin 128, (if l.val / 64 = a.val % 2 then Q ⟨a.val / 2, by omega⟩ (ix2 i l) else 0) * cat A B k (inHalf e (low l)))
    = ∑ l : Fin (64 + 64), (fun l : Fin 128 => (if l.val / 64 = a.val % 2 then Q ⟨a.val / 2, by omega⟩ (ix2 i l) else 0) * cat A B k (inHalf e (low l))) l from rfl]
  rw [Fin.sum_univ_add]
  have l0 : ∀ d : Fin 64, (Fin.castAdd 64 d : Fin 128) = inHalf 0 d := fun d => Fin.ext (by simp)
  have l1 : ∀ d : Fin 64, (Fin.natAdd 64 d : Fin 128) = inHalf 1 d := fun d => Fin.ext (by simp; omega)
  have h0 : ∀ d : Fin 64, low (inHalf 0 d) = d := fun d => Fin.ext (by simp [low])
  have h1 : ∀ d : Fin 64, low (inHalf 1 d) = d := fun d => Fin.ext (by simp [low])
  have d0 : ∀ d : Fin 64, (inHalf 0 d).val / 64 = 0 := fun d => by simp
  have d1 : ∀ d : Fin 64, (inHalf 1 d).val / 64 = 1 := fun d => by simp
  simp only [l0, l1, h0, h1, d0, d1]
  rcases (show a.val % 2 = 0 ∨ a.val % 2 = 1 by omega) with h | h
  · have ea : (⟨a.val % 2, by omega⟩ : Fin 2) = 0 := Fin.ext h
    rw [ea]; simp [h]
  · have ea : (⟨a.val % 2, by omega⟩ : Fin 2) = 1 := Fin.ext h
    rw [ea]; simp [h]

theorem stack_shape (Q0 Q1 : Vec Ideal S128x128 .f32) (a : Fin 4) (i l : Fin 128) :
    (if h : (at4 a i).val < 128 then Scalar.select (IntOp.cmpi CmpIPredicate.slt (BitVec.ofNat 32 l.val) 64#32) (Q0 (ix2 ⟨(at4 a i).val, h⟩ l)) 0
     else if h' : (at4 a i).val - 128 < 128 then
        Scalar.select (IntOp.cmpi CmpIPredicate.slt (BitVec.ofNat 32 l.val) 64#32) 0 (Q0 (ix2 ⟨(at4 a i).val - 128, h'⟩ l))
      else if h'' : (at4 a i).val - 128 - 128 < 128 then
          Scalar.select (IntOp.cmpi CmpIPredicate.slt (BitVec.ofNat 32 l.val) 64#32) (Q1 (ix2 ⟨(at4 a i).val - 128 - 128, h''⟩ l)) 0
        else
          Scalar.select (IntOp.cmpi CmpIPredicate.slt (BitVec.ofNat 32 l.val) 64#32) 0
            (Q1 (ix2 ⟨(at4 a i).val - 128 - 128 - 128, by omega⟩ l)))
      = if l.val / 64 = a.val % 2 then (![Q0, Q1] : Fin 2 → Vec Ideal S128x128 .f32) ⟨a.val / 2, by omega⟩ (ix2 i l) else 0 := by
  simp only [sel_lt l.val 64 (by omega) (by omega)]
  obtain ⟨a, ha⟩ := a
  have c : a = 0 ∨ a = 1 ∨ a = 2 ∨ a = 3 := by omega
  have hl : l.val / 64 = 0 ↔ l.val < 64 := by omega
  have hl' : l.val / 64 = 1 ↔ ¬ l.val < 64 := by omega
  rcases c with rfl | rfl | rfl | rfl
  · rw [dif_pos (by simp)]
    simp only [show (⟨(at4 ⟨0, ha⟩ i).val, by simp⟩ : Fin 128) = i from Fin.ext (by simp)]
    simp [hl]
  · rw [dif_neg (by simp), dif_pos (by simp)]
    simp only [show (⟨(at4 ⟨1, ha⟩ i).val - 128, by simp⟩ : Fin 128) = i from Fin.ext (by simp)]
    simp only [Nat.reduceDiv, Nat.reduceMod, hl', ite_not]; rfl
  · rw [dif_neg (by simp; try omega), dif_neg (by simp; try omega), dif_pos (by simp; try omega)]
    simp only [show (⟨(at4 ⟨2, ha⟩ i).val - 128 - 128, by simp; try omega⟩ : Fin 128) = i from Fin.ext (by simp; omega)]
    simp [hl]
  · rw [dif_neg (by simp; omega), dif_neg (by simp; omega), dif_neg (by simp; omega)]
    simp only [show (⟨(at4 ⟨3, ha⟩ i).val - 128 - 128 - 128, by simp; omega⟩ : Fin 128) = i from Fin.ext (by simp; omega)]
    simp only [Nat.reduceDiv, Nat.reduceMod, hl', ite_not]; rfl

theorem stack10 (Q0 Q1 : Vec Ideal S128x128 .f32) : IsStack ![Q0, Q1] (k0_pay10 k0_pay2 Q0 Q1) := by
  intro a i l; pointwise [k0_pay10, k0_pay2]; exact stack_shape Q0 Q1 a i l
theorem stack13 (Q0 Q1 : Vec Ideal S128x128 .f32) : IsStack ![Q0, Q1] (k0_pay13 k0_pay2 Q0 Q1) := by
  intro a i l; pointwise [k0_pay13, k0_pay2]; exact stack_shape Q0 Q1 a i l
theorem stack16 (Q0 Q1 : Vec Ideal S128x128 .f32) : IsStack ![Q0, Q1] (k0_pay16 k0_pay2 Q0 Q1) := by
  intro a i l; pointwise [k0_pay16, k0_pay2]; exact stack_shape Q0 Q1 a i l

theorem product (S : Vec Ideal S512x128 .f32) (D : Vec Ideal S256x128 .f32) (r : Fin 512) (k : Fin 256) :
    k0_pay20 (F := Ideal) D S (ix2 r k) = ∑ l, S (ix2 r l) * D (ix2 k l) := by pointwise [k0_pay20]
theorem product21 (S : Vec Ideal S512x128 .f32) (D : Vec Ideal S256x128 .f32) (r : Fin 512) (k : Fin 256) :
    k0_pay21 (F := Ideal) D S (ix2 r k) = ∑ l, S (ix2 r l) * D (ix2 k l) := by pointwise [k0_pay21]
theorem product22 (Q0 Q1 : Vec Ideal S128x128 .f32) (D : Vec Ideal S256x128 .f32) (r : Fin 512) (k : Fin 256) :
    k0_pay22 k0_pay2 D Q0 Q1 (ix2 r k) = ∑ l, k0_pay16 k0_pay2 Q0 Q1 (ix2 r l) * D (ix2 k l) := by pointwise [k0_pay22, k0_pay16, k0_pay2]

/-! ## The scores and their weights -/

theorem mask_bot : (Named.named (F := Ideal) κ "mask" (φ := .f32) 0xFF7F0000#32 : EReal) = ⊥ :=
  IdealRules.named_const.ideal_named_scalar _ _ _ _ rfl

/-- The bias is nought where row `i` sees key `k`, and the mask elsewhere. -/
def IsBias (sees : Fin 128 → Fin 256 → Prop) (D : Vec Ideal S512x256 .f32) : Prop :=
  ∀ (a : Fin 4) (i : Fin 128) (k : Fin 256), (sees i k → D (ix2 (at4 a i) k) = 0) ∧ (¬ sees i k → D (ix2 (at4 a i) k) = ⊥)

theorem bias7 : IsBias (fun i k => i.val < k.val ∧ k.val ≤ i.val + 128) (k0_pay7 (F := Ideal)) := by
  intro a i k
  have e : k0_pay7 (F := Ideal) (ix2 (at4 a i) k) = if i.val < k.val ∧ k.val ≤ i.val + 128 then 0 else (⊥ : EReal) := by
    pointwise [k0_pay7]
    rw [mask_bot, and127 _ (by simp; omega), show (at4 a i).val % 128 = i.val by simp]
    rw [show IntOp.addi (BitVec.ofNat 32 i.val) 128#32 = BitVec.ofNat 32 (i.val + 128) from (BitVec.ofNat_add ..).symm]
    rw [cmpi_sgt_ofNat (by omega) (by omega), cmpi_sle_ofNat (by omega) (by omega)]
    by_cases h1 : i.val < k.val <;> by_cases h2 : k.val ≤ i.val + 128 <;> simp [h1, h2] <;> rfl
  rw [e]
  exact ⟨fun h => if_pos h, fun h => if_neg h⟩

theorem bias6 (b : BitVec 1) :
    IsBias (fun i k => (i.val < k.val ∧ k.val ≤ i.val + 128) ∧ (b = 1#1 → 128 ≤ k.val)) (k0_pay6 (F := Ideal) b) := by
  intro a i k
  have e : k0_pay6 (F := Ideal) b (ix2 (at4 a i) k) = if (i.val < k.val ∧ k.val ≤ i.val + 128) ∧ (b = 1#1 → 128 ≤ k.val) then 0 else (⊥ : EReal) := by
    pointwise [k0_pay6]
    rw [mask_bot, and127 _ (by simp; omega), show (at4 a i).val % 128 = i.val by simp]
    rw [show IntOp.addi (BitVec.ofNat 32 i.val) 128#32 = BitVec.ofNat 32 (i.val + 128) from (BitVec.ofNat_add ..).symm]
    rw [cmpi_sgt_ofNat (by omega) (by omega), cmpi_sle_ofNat (by omega) (by omega), cmpi_sge_ofNat (by omega) (by omega)]
    rcases (by revert b; decide : ∀ b : BitVec 1, b = 0#1 ∨ b = 1#1) b with rfl | rfl <;>
    by_cases h1 : i.val < k.val <;> by_cases h2 : k.val ≤ i.val + 128 <;> by_cases h3 : 128 ≤ k.val <;> simp [h1, h2, h3] <;> rfl
  rw [e]
  exact ⟨fun h => if_pos h, fun h => if_neg h⟩

/-- The four sinks down the four parts. -/
theorem sinks_at (s : Fin 4 → EReal) (a : Fin 4) (i : Fin 128) :
    Scalar.select (IntOp.cmpi CmpIPredicate.slt (BitVec.ofNat 32 (at4 a i).val) 128#32) (s 0)
      (Scalar.select (IntOp.cmpi CmpIPredicate.slt (BitVec.ofNat 32 (at4 a i).val) 256#32) (s 1)
        (Scalar.select (IntOp.cmpi CmpIPredicate.slt (BitVec.ofNat 32 (at4 a i).val) 384#32) (s 2) (s 3))) = s a := by
  rw [sel_lt _ 128 (by simp; omega) (by omega), sel_lt _ 256 (by simp; omega) (by omega), sel_lt _ 384 (by simp; omega) (by omega)]
  obtain ⟨a, ha⟩ := a
  have c : a = 0 ∨ a = 1 ∨ a = 2 ∨ a = 3 := by omega
  rcases c with rfl | rfl | rfl | rfl
  · rw [if_pos (by simp)]; rfl
  · rw [if_neg (by simp), if_pos (by simp; omega)]; rfl
  · rw [if_neg (by simp; omega), if_neg (by simp), if_pos (by simp; omega)]; rfl
  · rw [if_neg (by simp; omega), if_neg (by simp; omega), if_neg (by simp)]; rfl

/-- The scaled products with the bias are the scores. -/
def IsScore (sc : Fin 4 → Fin 128 → Fin 256 → EReal) (X B : Vec Ideal S512x256 .f32) : Prop :=
  ∀ a i k, X (ix2 (at4 a i) k) * Layer.eighth + B (ix2 (at4 a i) k) = sc a i k

/-- The rows of the weights of four heads. -/
def IsWeight (sc : Fin 4 → Fin 128 → Fin 256 → EReal) (s : Fin 4 → EReal) (W : Vec Ideal S512x256 .f32) : Prop :=
  ∀ a i k, W (ix2 (at4 a i) k) = Layer.weight (sc a i) (s a) k

theorem softmax (sc : Fin 256 → EReal) (s : EReal) (hm : Layer.mass sc s ≠ 0) (z : Fin 256 → EReal) (hz : ∀ k, z k = sc k) (k : Fin 256) :
    Ideal.exp (z k - max (Finset.fold max (Ideal.ofBits FTy.f32 4286578688#32) (fun x => z x) Finset.univ) s)
      * Ideal.div 1 ((∑ x, Ideal.exp (z x - max (Finset.fold max (Ideal.ofBits FTy.f32 4286578688#32) (fun x => z x) Finset.univ) s))
        + Ideal.exp (s - max (Finset.fold max (Ideal.ofBits FTy.f32 4286578688#32) (fun x => z x) Finset.univ) s)) = Layer.weight sc s k := by
  obtain rfl : z = sc := funext hz
  exact Layer.weight_alt z s k hm

variable (sc : Fin 4 → Fin 128 → Fin 256 → EReal) (s : Fin 4 → EReal) (hm : ∀ a i, Layer.mass (sc a i) (s a) ≠ 0)

include hm in
theorem weight28 (B : Vec Ideal S512x256 .f32) (D : Vec Ideal S256x128 .f32) (S : Vec Ideal S512x128 .f32) (h : IsScore sc (k0_pay20 (F := Ideal) D S) B) :
    IsWeight sc s (k0_pay28 (k0_pay26 (F := Ideal) (s 0) (s 1) (s 2) (s 3) B D S) (k0_pay27 (F := Ideal) (s 0) (s 1) (s 2) (s 3) B D S)) := by
  intro a i k
  have e : ∀ r k, k0_pay23 (F := Ideal) B D S (ix2 r k) = k0_pay20 (F := Ideal) D S (ix2 r k) * Layer.eighth + B (ix2 r k) := by
    intro r k; rw [product]; pointwise [k0_pay23]; rfl
  pointwise [k0_pay28, k0_pay27, k0_pay26, k0_pay25, k0_pay24]
  simp only [sinks_at s a i]
  exact softmax (sc a i) (s a) (hm a i) (fun k => k0_pay23 (F := Ideal) B D S (ix2 (at4 a i) k)) (fun k => (e _ _).trans (h a i k)) k

include hm in
theorem weight29 (B X : Vec Ideal S512x256 .f32) (h : IsScore sc X B) :
    IsWeight sc s (k0_pay29 (F := Ideal) (s 0) (s 1) (s 2) (s 3) B X) := by
  intro a i k
  pointwise [k0_pay29]
  simp only [sinks_at s a i]
  exact softmax (sc a i) (s a) (hm a i) (fun k => X (ix2 (at4 a i) k) * Layer.eighth + B (ix2 (at4 a i) k)) (fun k => h a i k) k

include hm in
theorem weight33 (B X : Vec Ideal S512x256 .f32) (h : IsScore sc X B) :
    IsWeight sc s (k0_pay33 (F := Ideal) (s 0) (s 1) (s 2) (s 3) (k0_pay30 B X) (iota Kind.tc S512x1 32 [0] (by decide)) k0_pay31 k0_pay32) := by
  intro a i k
  pointwise [k0_pay33, k0_pay30, k0_pay31, k0_pay32]
  simp only [sinks_at s a i]
  exact softmax (sc a i) (s a) (hm a i) (fun k => X (ix2 (at4 a i) k) * Layer.eighth + B (ix2 (at4 a i) k)) (fun k => h a i k) k

/-! ## A tile of two heads -/

theorem two_heads (f : Fin 512 → EReal) (j : Fin 2) (i l : Fin 128) (r0 r1 : Fin 512) (h0 : r0.val = (2 * j.val) * 128 + i.val)
    (h1 : r1.val = (2 * j.val + 1) * 128 + i.val) :
    Scalar.select (IntOp.cmpi CmpIPredicate.slt (BitVec.ofNat 32 l.val) 64#32) (f r0) (f r1) = f (at4 ⟨2 * j.val + l.val / 64, by omega⟩ i) := by
  rw [sel_lt _ _ (by omega) (by omega)]
  by_cases hl : l.val < 64
  · rw [if_pos hl]; congr 1; exact Fin.ext (by simp only [h0]; omega)
  · rw [if_neg hl]; congr 1; exact Fin.ext (by simp only [h1]; omega)

/-- The weighted sums of two heads, one in the left half of the columns and one in the right half. -/
def IsTile (j : Fin 2) (V : Vec Ideal S256x128 .f32) (W : Vec Ideal S512x256 .f32) (T : Vec Ideal S128x128 .f32) : Prop :=
  ∀ i l, T (ix2 i l) = ∑ k, W (ix2 (at4 ⟨2 * j.val + l.val / 64, by omega⟩ i) k) * V (ix2 k l)

variable (V : Vec Ideal S256x128 .f32) (W : Vec Ideal S512x256 .f32)

theorem tile44 : IsTile 0 V W (k0_pay44 (F := Ideal) k0_pay2 V W) := by
  intro i l
  refine Eq.trans ?_ (two_heads (fun r => ∑ k, W (ix2 r k) * V (ix2 k l)) 0 i l ⟨i.val, by omega⟩ ⟨128 + i.val, by omega⟩ (by simp) (by simp))
  pointwise [k0_pay44, k0_pay40, k0_pay2]
theorem tile45 : IsTile 1 V W (k0_pay45 (F := Ideal) k0_pay2 V W) := by
  intro i l
  refine Eq.trans ?_ (two_heads (fun r => ∑ k, W (ix2 r k) * V (ix2 k l)) 1 i l ⟨256 + i.val, by omega⟩ ⟨384 + i.val, by omega⟩ (by simp) (by simp))
  pointwise [k0_pay45, k0_pay40, k0_pay2]
theorem tile47 : IsTile 0 V W (k0_pay47 (F := Ideal) k0_pay2 (k0_pay41 V W)) := by
  intro i l
  refine Eq.trans ?_ (two_heads (fun r => ∑ k, W (ix2 r k) * V (ix2 k l)) 0 i l ⟨i.val, by omega⟩ ⟨128 + i.val, by omega⟩ (by simp) (by simp))
  pointwise [k0_pay47, k0_pay41, k0_pay2]
theorem tile48 : IsTile 1 V W (k0_pay48 (F := Ideal) k0_pay2 (k0_pay41 V W)) := by
  intro i l
  refine Eq.trans ?_ (two_heads (fun r => ∑ k, W (ix2 r k) * V (ix2 k l)) 1 i l ⟨256 + i.val, by omega⟩ ⟨384 + i.val, by omega⟩ (by simp) (by simp))
  pointwise [k0_pay48, k0_pay41, k0_pay2]
theorem tile50 : IsTile 0 V W (k0_pay50 (F := Ideal) k0_pay2 (k0_pay42 V W)) := by
  intro i l
  refine Eq.trans ?_ (two_heads (fun r => ∑ k, W (ix2 r k) * V (ix2 k l)) 0 i l ⟨i.val, by omega⟩ ⟨128 + i.val, by omega⟩ (by simp) (by simp))
  pointwise [k0_pay50, k0_pay42, k0_pay2]
theorem tile51 : IsTile 1 V W (k0_pay51 (F := Ideal) k0_pay2 (k0_pay42 V W)) := by
  intro i l
  refine Eq.trans ?_ (two_heads (fun r => ∑ k, W (ix2 r k) * V (ix2 k l)) 1 i l ⟨256 + i.val, by omega⟩ ⟨384 + i.val, by omega⟩ (by simp) (by simp))
  pointwise [k0_pay51, k0_pay42, k0_pay2]

/-- The fourth key head's weighted sums, its weights spelled in three pieces. -/
abbrev last (s0 s1 s2 s3 : EReal) (B X : Vec Ideal S512x256 .f32) : Vec Ideal S512x128 .f32 :=
  k0_pay43 (F := Ideal) V (k0_pay37 s0 s1 s2 s3 B X) (k0_pay38 s0 s1 s2 s3 B X) (k0_pay39 s0 s1 s2 s3 B X)

theorem last_apply (s0 s1 s2 s3 : EReal) (B X : Vec Ideal S512x256 .f32) (r : Fin 512) (l : Fin 128) :
    last V s0 s1 s2 s3 B X (ix2 r l) = ∑ k, k0_pay29 (F := Ideal) s0 s1 s2 s3 B X (ix2 r k) * V (ix2 k l) := by
  unfold last
  pointwise [k0_pay43, k0_pay37, k0_pay38, k0_pay39, k0_pay36, k0_pay35, k0_pay34, k0_pay29]

theorem tile53 (s0 s1 s2 s3 : EReal) (B X : Vec Ideal S512x256 .f32) :
    IsTile 0 V (k0_pay29 (F := Ideal) s0 s1 s2 s3 B X) (k0_pay53 (F := Ideal) k0_pay2 (last V s0 s1 s2 s3 B X)) := by
  intro i l
  have e := two_heads (fun r => last V s0 s1 s2 s3 B X (ix2 r l)) 0 i l ⟨i.val, by omega⟩ ⟨128 + i.val, by omega⟩ (by simp) (by simp)
  simp only [last_apply] at e
  rw [← e, ← last_apply, ← last_apply]
  generalize last V s0 s1 s2 s3 B X = z
  pointwise [k0_pay53, k0_pay2]
theorem tile54 (s0 s1 s2 s3 : EReal) (B X : Vec Ideal S512x256 .f32) :
    IsTile 1 V (k0_pay29 (F := Ideal) s0 s1 s2 s3 B X) (k0_pay54 (F := Ideal) k0_pay2 (last V s0 s1 s2 s3 B X)) := by
  intro i l
  have e := two_heads (fun r => last V s0 s1 s2 s3 B X (ix2 r l)) 1 i l ⟨256 + i.val, by omega⟩ ⟨384 + i.val, by omega⟩ (by simp) (by simp)
  simp only [last_apply] at e
  rw [← e, ← last_apply, ← last_apply]
  generalize last V s0 s1 s2 s3 B X = z
  pointwise [k0_pay54, k0_pay2]

/-! ## The same of a block of the layer -/

variable (P : Layer.Params) (B : Layer.Block)

/-- Head `a` of key head `e`. -/
abbrev hd (e : Fin 2) (a : Fin 4) : Fin 8 := ⟨e.val * 4 + a.val, by omega⟩

theorem score_of (e : Fin 2) (K0 K1 : Vec Ideal S128x128 .f32) (D : Vec Ideal S256x128 .f32) (hD : IsDup e K0 K1 D)
    (hK : ∀ k c, cat K0 K1 k c = Layer.keys B k ⟨c.val, by omega⟩)
    (Q0 Q1 : Vec Ideal S128x128 .f32) (S : Vec Ideal S512x128 .f32) (hS : IsStack ![Q0, Q1] S)
    (hQ0 : ∀ i c, Q0 (ix2 i c) = B.h i ⟨e.val * 256 + c.val, by omega⟩) (hQ1 : ∀ i c, Q1 (ix2 i c) = B.h i ⟨e.val * 256 + 128 + c.val, by omega⟩)
    (X M : Vec Ideal S512x256 .f32) (hX : ∀ r k, X (ix2 r k) = ∑ l, S (ix2 r l) * D (ix2 k l)) (hM : IsBias (Layer.sees B) M) :
    IsScore (fun a => Layer.score B (hd e a)) X M := by
  intro a i k
  rw [hX, stack_dup e K0 K1 D hD _ S hS]
  unfold Layer.score
  have hq : ∀ d : Fin 64, (![Q0, Q1] : Fin 2 → Vec Ideal S128x128 .f32) ⟨a.val / 2, by omega⟩ (ix2 i (inHalf ⟨a.val % 2, by omega⟩ d))
      = B.h i ⟨(hd e a).val * 64 + d.val, by omega⟩ := by
    intro d
    rcases (show a.val / 2 = 0 ∨ a.val / 2 = 1 by omega) with h | h
    · rw [show (⟨a.val / 2, by omega⟩ : Fin 2) = 0 from Fin.ext h]
      refine (hQ0 i _).trans (congrArg _ (Fin.ext ?_))
      simp; omega
    · rw [show (⟨a.val / 2, by omega⟩ : Fin 2) = 1 from Fin.ext h]
      refine (hQ1 i _).trans (congrArg _ (Fin.ext ?_))
      simp; omega
  have hk : ∀ d : Fin 64, cat K0 K1 k (inHalf e d) = Layer.keys B k ⟨(hd e a).val / 4 * 64 + d.val, by simp; omega⟩ := by
    intro d
    refine (hK k _).trans (congrArg _ (Fin.ext ?_))
    simp; omega
  simp only [hq, hk]
  by_cases hs : Layer.sees B i k
  · rw [(hM a i k).1 hs, if_pos hs, add_zero]
  · rw [(hM a i k).2 hs, if_neg hs, EReal.add_bot]

theorem attend_of (e j : Fin 2) (V0 V1 : Vec Ideal S128x128 .f32) (hD : IsDup e V0 V1 V)
    (hV : ∀ k c, cat V0 V1 k c = Layer.keys B k ⟨128 + c.val, by omega⟩)
    (hW : IsWeight (fun a => Layer.score B (hd e a)) (fun a => P.sinks (hd e a)) W) (T : Vec Ideal S128x128 .f32) (hT : IsTile j V W T) (i l : Fin 128) :
    T (ix2 i l) = Layer.attend P B (hd e ⟨2 * j.val + l.val / 64, by omega⟩) i (low l) := by
  rw [hT]
  unfold Layer.attend
  refine Finset.sum_congr rfl fun k _ => ?_
  rw [hW, hD, hV, mul_comm]
  refine congrArg (· * _) (congrArg _ (Fin.ext ?_))
  simp; omega

end Cert.ForwardIdeal.Tile

end
-- ==== Proof.ForwardPoint.lean ====
/- One grid point of the forward kernel as a formula in its blocks. -/
module

public import proofs.«01_k».proof.Defs
public import proofs.«01_k».proof.Proof.LayerSpec
public import proofs.«01_k».proof.Proof.ForwardTile
public import proofs.«01_k».proof.Proof.ForwardRows
public import proofs.«01_k».proof.Proof.Gen.ForwardIdeal
public import proofs.«01_k».proof.Proof.Gen.ForwardIdeal.Frame
public import proofs.«01_k».proof.Proof.Gen.ForwardIdeal.Value
public import Idealize.ShloMosaic.Lib.Pipeline.Value
public import Idealize.ShloMosaic.Lib.Pipeline.ValueKit
public import Idealize.ShloMosaic.Lib.Pointwise

@[expose] public section

set_option maxRecDepth 16384
set_option maxHeartbeats 2000000

noncomputable section

open Idealize.ShloMosaic Idealize.ShloMosaic.TcCoe Idealize.SL.Sem

namespace Cert.ForwardIdeal.Block

open Cert.ForwardIdeal Cert.ForwardIdeal.Gen Tile Rows

/-! ## Eight tiles put together -/

abbrev tilesOf (T00 T01 T02 T03 T10 T11 T12 T13 : Vec Ideal S128x128 .f32) : List (View.Piece (Elt Ideal) S256x512 .f32) :=
  [⟨Rect.unit ![128, 384] ![128, 128] inb_S256x512_S128x128_128_384, T13⟩,
   ⟨Rect.unit ![128, 256] ![128, 128] inb_S256x512_S128x128_128_256, T12⟩,
   ⟨Rect.unit ![128, 128] ![128, 128] inb_S256x512_S128x128_128_128, T11⟩,
   ⟨Rect.unit ![128, 0] ![128, 128] inb_S256x512_S128x128_128_0, T10⟩,
   ⟨Rect.unit ![0, 384] ![128, 128] inb_S256x512_S128x128_0_384, T03⟩,
   ⟨Rect.unit ![0, 256] ![128, 128] inb_S256x512_S128x128_0_256, T02⟩,
   ⟨Rect.unit ![0, 128] ![128, 128] inb_S256x512_S128x128_0_128, T01⟩,
   ⟨Rect.unit ![0, 0] ![128, 128] inb_S256x512_S128x128_0_0, T00⟩]

abbrev allRect : Rect S256x512 := Rect.unit ![0, 0] ![256, 512] inb_S256x512_S256x512_0_0

/-- A buffer's contents after the eight stores. -/
abbrev together (v : View sig .tc .vmem S256x512 .f32) (T00 T01 T02 T03 T10 T11 T12 T13 : Vec Ideal S128x128 .f32) : Vec Ideal S256x512 .f32 :=
  v.readCov (tilesOf T00 T01 T02 T03 T10 T11 T12 T13) allRect.toLoadRect

theorem assemble (v : View sig .tc .vmem S256x512 .f32) (G : Fin 2 → Fin 128 → Fin 512 → EReal) (T00 T01 T02 T03 T10 T11 T12 T13 : Vec Ideal S128x128 .f32)
    (h00 : ∀ i l, T00 (ix2 i l) = G 0 i ⟨l.val, by omega⟩) (h01 : ∀ i l, T01 (ix2 i l) = G 0 i ⟨128 + l.val, by omega⟩)
    (h02 : ∀ i l, T02 (ix2 i l) = G 0 i ⟨256 + l.val, by omega⟩) (h03 : ∀ i l, T03 (ix2 i l) = G 0 i ⟨384 + l.val, by omega⟩)
    (h10 : ∀ i l, T10 (ix2 i l) = G 1 i ⟨l.val, by omega⟩) (h11 : ∀ i l, T11 (ix2 i l) = G 1 i ⟨128 + l.val, by omega⟩)
    (h12 : ∀ i l, T12 (ix2 i l) = G 1 i ⟨256 + l.val, by omega⟩) (h13 : ∀ i l, T13 (ix2 i l) = G 1 i ⟨384 + l.val, by omega⟩)
    (o : Fin 2) (i : Fin 128) (c : Fin 512) :
    together v T00 T01 T02 T03 T10 T11 T12 T13 (ix2 (rowOf o i) c) = G o i c := by
  have hcov : ∀ y : S256x512.Idx, ∃ p ∈ tilesOf T00 T01 T02 T03 T10 T11 T12 T13, y ∈ p.1.set :=
    View.cover_of_tiledBy _ ![128, 128] (by sl_kernel_rfl)
  unfold together allRect
  rw [View.readCov_eq_canon_ld _ _ _ hcov, View.ld_unit_lit _ _ (by decide)]
  generalize hy : (ix2 (rowOf o i) c : S256x512.Idx) = y
  have hr : (y 0).val = 128 * o.val + i.val := by rw [← hy]; rfl
  have hc : (y 1).val = c.val := by rw [← hy]; rfl
  clear hy
  canon_tiles x h using (hcov _)
  all_goals
    idx_vars x
    obtain rfl : i = x0 := by
      apply Fin.ext
      omega
    rcases (by omega : o.val = 0 ∨ o.val = 1) with ho | ho
  all_goals
    first
      | (exfalso; omega)
      | obtain rfl : o = 0 := Fin.ext ho
        first
          | (rw [h00]; congr 1; apply Fin.ext; dsimp only; omega)
          | (rw [h01]; congr 1; apply Fin.ext; dsimp only; omega)
          | (rw [h02]; congr 1; apply Fin.ext; dsimp only; omega)
          | (rw [h03]; congr 1; apply Fin.ext; dsimp only; omega)
      | obtain rfl : o = 1 := Fin.ext ho
        first
          | (rw [h10]; congr 1; apply Fin.ext; dsimp only; omega)
          | (rw [h11]; congr 1; apply Fin.ext; dsimp only; omega)
          | (rw [h12]; congr 1; apply Fin.ext; dsimp only; omega)
          | (rw [h13]; congr 1; apply Fin.ext; dsimp only; omega)

/-! ## A grid point as a formula -/

abbrev cut {S : Shape} {e : EltTy} (x : Vec Ideal S e) (off : Fin S.rank → ℕ) (size : Fin S.rank → ℕ)
    (h : ∀ a, off a + size a ≤ S.size a) : (⟨S.rank, size⟩ : Shape).Idx → Elt Ideal e :=
  View.ld x (Rect.unit off size h)

/-- The sink of head `k`. -/
abbrev sink (x : Vec Ideal S8 .f32) (k : ℕ) (h : ∀ a, (![k] : Fin 1 → ℕ) a + S1.size a ≤ S8.size a) : EReal :=
  View.ld x (Rect.unit ![k] S1.size h) (Shape.Idx.first (numel1_S1 ▸ Nat.one_pos))

variable (x0 : Vec Ideal S256x1024 .f32) (x1 : Vec Ideal S256x4864 .f32) (x2 : Vec Ideal S128x256 .f32) (x5 : Vec Ideal S8 .f32)
  (x6 x7 : Vec Ideal S1x512 .f32) (x8 : Vec Ideal S4x128x128 .f32) (x9 : Vec Ideal S128x512 .f32) (x10 x11 : Vec Ideal S512x1024 .bf16)
  (x12 : Vec Ideal S1024x1024 .bf16) (x13 x14 x15 : Vec Ideal S1x1024 .f32) (start : BitVec 1)

/-- The weights of the first four heads and of the last four, of the first block and of the second. -/
def weights00 : Vec Ideal S512x256 .f32 :=
  k0_pay28
    (k0_pay26 (sink x5 0 inb_S8_S1_0) (sink x5 1 inb_S8_S1_1) (sink x5 2 inb_S8_S1_2) (sink x5 3 inb_S8_S1_3)
      (k0_pay6 start) (k0_pay8 k0_pay3 (k0_pay4 x2) (cut x1 ![0, 512] S128x128.size inb_S256x4864_S128x128_0_512)) (k0_pay10 k0_pay2 (cut x1 ![0, 0] S128x128.size inb_S256x4864_S128x128_0_0) (cut x1 ![0, 128] S128x128.size inb_S256x4864_S128x128_0_128)))
    (k0_pay27 (sink x5 0 inb_S8_S1_0) (sink x5 1 inb_S8_S1_1) (sink x5 2 inb_S8_S1_2) (sink x5 3 inb_S8_S1_3)
      (k0_pay6 start) (k0_pay8 k0_pay3 (k0_pay4 x2) (cut x1 ![0, 512] S128x128.size inb_S256x4864_S128x128_0_512)) (k0_pay10 k0_pay2 (cut x1 ![0, 0] S128x128.size inb_S256x4864_S128x128_0_0) (cut x1 ![0, 128] S128x128.size inb_S256x4864_S128x128_0_128)))
def weights01 : Vec Ideal S512x256 .f32 :=
  k0_pay29 (sink x5 4 inb_S8_S1_4) (sink x5 5 inb_S8_S1_5) (sink x5 6 inb_S8_S1_6) (sink x5 7 inb_S8_S1_7) (k0_pay6 start)
    (k0_pay20 (k0_pay11 k0_pay3 (k0_pay4 x2) (cut x1 ![0, 512] S128x128.size inb_S256x4864_S128x128_0_512)) (k0_pay13 k0_pay2 (cut x1 ![0, 256] S128x128.size inb_S256x4864_S128x128_0_256) (cut x1 ![0, 384] S128x128.size inb_S256x4864_S128x128_0_384)))
def weights10 : Vec Ideal S512x256 .f32 :=
  k0_pay33 (sink x5 0 inb_S8_S1_0) (sink x5 1 inb_S8_S1_1) (sink x5 2 inb_S8_S1_2) (sink x5 3 inb_S8_S1_3)
    (k0_pay30 (k0_pay7 (F := Ideal)) (k0_pay21 (k0_pay14 k0_pay3 (cut x1 ![0, 512] S128x128.size inb_S256x4864_S128x128_0_512) (cut x1 ![128, 512] S128x128.size inb_S256x4864_S128x128_128_512)) (k0_pay16 k0_pay2 (cut x1 ![128, 0] S128x128.size inb_S256x4864_S128x128_128_0) (cut x1 ![128, 128] S128x128.size inb_S256x4864_S128x128_128_128))))
    (iota Kind.tc S512x1 32 [0] iota_S512x1_d0_w32) k0_pay31 k0_pay32
def sums11 : Vec Ideal S512x128 .f32 :=
  last (k0_pay19 k0_pay3 (k0_pay18 (cut x1 ![0, 640] S128x128.size inb_S256x4864_S128x128_0_640) (cut x1 ![128, 640] S128x128.size inb_S256x4864_S128x128_128_640)) 64#32) (sink x5 4 inb_S8_S1_4) (sink x5 5 inb_S8_S1_5) (sink x5 6 inb_S8_S1_6) (sink x5 7 inb_S8_S1_7) (k0_pay7 (F := Ideal))
    (k0_pay22 k0_pay2 (k0_pay17 k0_pay3 (cut x1 ![0, 512] S128x128.size inb_S256x4864_S128x128_0_512) (cut x1 ![128, 512] S128x128.size inb_S256x4864_S128x128_128_512)) (cut x1 ![128, 256] S128x128.size inb_S256x4864_S128x128_128_256) (cut x1 ![128, 384] S128x128.size inb_S256x4864_S128x128_128_384))

/-- The attention of 256 rows. -/
def attention : Vec Ideal S256x512 .f32 :=
  together (View.whole cc0_scratch0)
    (k0_pay44 k0_pay2 (k0_pay9 k0_pay3 (k0_pay5 x2) (cut x1 ![0, 640] S128x128.size inb_S256x4864_S128x128_0_640)) (weights00 x1 x2 x5 start))
    (k0_pay45 k0_pay2 (k0_pay9 k0_pay3 (k0_pay5 x2) (cut x1 ![0, 640] S128x128.size inb_S256x4864_S128x128_0_640)) (weights00 x1 x2 x5 start))
    (k0_pay47 k0_pay2 (k0_pay41 (k0_pay12 k0_pay3 (k0_pay5 x2) (cut x1 ![0, 640] S128x128.size inb_S256x4864_S128x128_0_640)) (weights01 x1 x2 x5 start)))
    (k0_pay48 k0_pay2 (k0_pay41 (k0_pay12 k0_pay3 (k0_pay5 x2) (cut x1 ![0, 640] S128x128.size inb_S256x4864_S128x128_0_640)) (weights01 x1 x2 x5 start)))
    (k0_pay50 k0_pay2 (k0_pay42 (k0_pay15 k0_pay3 (cut x1 ![0, 640] S128x128.size inb_S256x4864_S128x128_0_640) (cut x1 ![128, 640] S128x128.size inb_S256x4864_S128x128_128_640)) (weights10 x1 x5)))
    (k0_pay51 k0_pay2 (k0_pay42 (k0_pay15 k0_pay3 (cut x1 ![0, 640] S128x128.size inb_S256x4864_S128x128_0_640) (cut x1 ![128, 640] S128x128.size inb_S256x4864_S128x128_128_640)) (weights10 x1 x5)))
    (k0_pay53 (F := Ideal) k0_pay2 (sums11 x1 x5))
    (k0_pay54 (F := Ideal) k0_pay2 (sums11 x1 x5))

/-- The mixing of 256 rows. -/
def mixing : Vec Ideal S256x512 .f32 :=
  together (View.whole cc0_scratch1)
    (k0_pay78 (k0_pay70 (k0_pay63 (cut x1 ![0, 1792] S256x512.size inb_S256x4864_S256x512_0_1792) x6 x7) (cut x8 ![0, 0, 0] S1x128x128.size inb_S4x128x128_S1x128x128_0_0_0)) (cut x9 ![0, 0] S128x128.size inb_S128x512_S128x128_0_0))
    (k0_pay79 (k0_pay71 (cut x8 ![1, 0, 0] S1x128x128.size inb_S4x128x128_S1x128x128_1_0_0)) (k0_pay72 (k0_pay63 (cut x1 ![0, 1792] S256x512.size inb_S256x4864_S256x512_0_1792) x6 x7)) (cut x9 ![0, 128] S128x128.size inb_S128x512_S128x128_0_128))
    (k0_pay81 (k0_pay80 (k0_pay63 (cut x1 ![0, 1792] S256x512.size inb_S256x4864_S256x512_0_1792) x6 x7) (k0_pay68 (cut x8 ![2, 0, 0] S1x128x128.size inb_S4x128x128_S1x128x128_2_0_0)) (cut x9 ![0, 256] S128x128.size inb_S128x512_S128x128_0_256)))
    (k0_pay82 (k0_pay73 (k0_pay63 (cut x1 ![0, 1792] S256x512.size inb_S256x4864_S256x512_0_1792) x6 x7) (k0_pay69 (cut x8 ![3, 0, 0] S1x128x128.size inb_S4x128x128_S1x128x128_3_0_0))) (cut x9 ![0, 384] S128x128.size inb_S128x512_S128x128_0_384))
    (k0_pay83 (k0_pay74 (k0_pay63 (cut x1 ![0, 1792] S256x512.size inb_S256x4864_S256x512_0_1792) x6 x7) (k0_pay66 (cut x8 ![0, 0, 0] S1x128x128.size inb_S4x128x128_S1x128x128_0_0_0))) (cut x9 ![0, 0] S128x128.size inb_S128x512_S128x128_0_0))
    (k0_pay84 (k0_pay75 (k0_pay63 (cut x1 ![0, 1792] S256x512.size inb_S256x4864_S256x512_0_1792) x6 x7) (k0_pay67 (cut x8 ![1, 0, 0] S1x128x128.size inb_S4x128x128_S1x128x128_1_0_0))) (cut x9 ![0, 128] S128x128.size inb_S128x512_S128x128_0_128))
    (k0_pay85 (k0_pay76 (k0_pay63 (cut x1 ![0, 1792] S256x512.size inb_S256x4864_S256x512_0_1792) x6 x7) (k0_pay68 (cut x8 ![2, 0, 0] S1x128x128.size inb_S4x128x128_S1x128x128_2_0_0))) (cut x9 ![0, 256] S128x128.size inb_S128x512_S128x128_0_256))
    (k0_pay86 (k0_pay77 (k0_pay63 (cut x1 ![0, 1792] S256x512.size inb_S256x4864_S256x512_0_1792) x6 x7) (k0_pay69 (cut x8 ![3, 0, 0] S1x128x128.size inb_S4x128x128_S1x128x128_3_0_0))) (cut x9 ![0, 384] S128x128.size inb_S128x512_S128x128_0_384))

/-- What a point writes to its rows of the layer's result. -/
def rows : Vec Ideal S256x1024 .f32 :=
  k0_pay94 x0
    (k0_pay92 (k0_pay88 (k0_pay57 (cut x1 ![0, 768] S256x512.size inb_S256x4864_S256x512_0_768) (attention x1 x2 x5 start) (k0_pay56 (cut x1 ![0, 768] S256x512.size inb_S256x4864_S256x512_0_768))) x10)
      (k0_pay89 (k0_pay59 (cut x1 ![0, 1280] S256x512.size inb_S256x4864_S256x512_0_1280)) (cut x1 ![0, 2304] S256x512.size inb_S256x4864_S256x512_0_2304) (mixing x1 x6 x7 x8 x9) x11)
      (cut x1 ![0, 2816] S256x1024.size inb_S256x4864_S256x1024_0_2816) (cut x1 ![0, 3840] S256x1024.size inb_S256x4864_S256x1024_0_3840))
    x12 x13 x14 x15

/-- Whether a point's rows begin a sequence, as the kernel works it out. -/
def startAt (t : Fin cfg0.N) : BitVec 1 :=
  Scalar.cmpi CmpIPredicate.eq
    (Scalar.select
      (Scalar.andi
        (Scalar.xori
          (Scalar.cmpi CmpIPredicate.slt (Scalar.remsi (Scalar.minsi (BitVec.ofNat 32 (grid0.coords t 0).val) 31#32) 16#32) 0#32) 0#1)
        (Scalar.cmpi CmpIPredicate.ne (Scalar.remsi (Scalar.minsi (BitVec.ofNat 32 (grid0.coords t 0).val) 31#32) 16#32) 0#32))
      (Scalar.addi (Scalar.remsi (Scalar.minsi (BitVec.ofNat 32 (grid0.coords t 0).val) 31#32) 16#32) 16#32)
      (Scalar.remsi (Scalar.minsi (BitVec.ofNat 32 (grid0.coords t 0).val) 31#32) 16#32))
    0#32

theorem startAt_iff : ∀ t : Fin cfg0.N, startAt t = 1#1 ↔ min t.val 31 % 16 = 0 :=
  (by decide +kernel : ∀ t : Fin grid0.N, _)

section
variable (m : (ℓ : Loc nD τ sig) → Buf (Elt Ideal) ℓ) (c : Dev nD) (t : Fin cfg0.N)

/-- The formula at a point's blocks. -/
def rowsAt : Vec Ideal S256x1024 .f32 :=
  rows (iblk m c 0 t) (iblk m c 1 t) (iblk m c 2 t) (iblk m c 5 t) (iblk m c 6 t) (iblk m c 7 t) (iblk m c 8 t) (iblk m c 9 t) (iblk m c 10 t)
    (iblk m c 11 t) (iblk m c 12 t) (iblk m c 13 t) (iblk m c 14 t) (iblk m c 15 t) (startAt t)

theorem result_at : (outsAt0 m c t.val t.isLt).1 = rowsAt m c t := by
  by_cases h : t.val % 33 = 0
  · rw [outsAt0_A m c t h]
    dsimp only
    frame_out
    rfl
  · rw [outsAt0_B m c t h]
    dsimp only
    frame_out
    rfl

theorem narrowed (a : Vec Ideal S256x1024 .f32) (b : Vec Ideal S256x1024 .f32) (w : Vec Ideal S1024x1024 .bf16) (d e f : Vec Ideal S1x1024 .f32) :
    (k0_pay95 (F := Ideal) a b w d e f : S256x1024.Idx → EReal) = k0_pay94 (F := Ideal) a b w d e f := by
  funext j
  idx_vars j
  unfold k0_pay95
  generalize k0_pay94 (F := Ideal) a b w d e f = z
  pointwise!

theorem carried_at : (outsAt0 m c t.val t.isLt).2.2 = rowsAt m c t := by
  by_cases h : t.val % 33 = 0
  · rw [outsAt0_A m c t h]
    dsimp only
    frame_out
    refine (narrowed _ _ _ _ _ _).trans ?_
    rfl
  · rw [outsAt0_B m c t h]
    dsimp only
    frame_out
    refine (narrowed _ _ _ _ _ _).trans ?_
    rfl
end

end Cert.ForwardIdeal.Block

end
-- ==== Proof.ForwardBlock.lean ====
/- The formula of a grid point of the forward kernel is the rows of the layer's result. -/
module

public import proofs.«01_k».proof.Defs
public import proofs.«01_k».proof.Proof.LayerSpec
public import proofs.«01_k».proof.Proof.LayerFinite
public import proofs.«01_k».proof.Proof.ForwardTile
public import proofs.«01_k».proof.Proof.ForwardRows
public import proofs.«01_k».proof.Proof.ForwardPoint

@[expose] public section

set_option maxRecDepth 16384
set_option maxHeartbeats 2000000

noncomputable section

open Idealize.ShloMosaic Idealize.ShloMosaic.TcCoe Idealize.SL.Sem

namespace Cert.ForwardIdeal.Block

open Cert.ForwardIdeal Cert.ForwardIdeal.Gen Tile Rows

variable (x0 : Vec Ideal S256x1024 .f32) (x1 : Vec Ideal S256x4864 .f32) (x2 : Vec Ideal S128x256 .f32) (x5 : Vec Ideal S8 .f32)
  (x6 x7 : Vec Ideal S1x512 .f32) (x8 : Vec Ideal S4x128x128 .f32) (x9 : Vec Ideal S128x512 .f32) (x10 x11 : Vec Ideal S512x1024 .bf16)
  (x12 : Vec Ideal S1024x1024 .bf16) (x13 x14 x15 : Vec Ideal S1x1024 .f32) (start : BitVec 1)

/-- The layer's parameters, read off the kernel's operands. -/
def params : Layer.Params where
  sinks k := x5 (ix1 k)
  vnG c := x6 (ix2 0 c)
  vnB c := x7 (ix2 0 c)
  ws q i k := x8 (ix3 q i k)
  bs i c := x9 (ix2 i c)
  pa k c := x10 (ix2 k c)
  pb k c := x11 (ix2 k c)
  wout k c := x12 (ix2 k c)
  bout c := x13 (ix2 0 c)
  lnG c := x14 (ix2 0 c)
  lnB c := x15 (ix2 0 c)

/-- The first (`o = 0`) and the second (`o = 1`) block of a point's rows. -/
def blk (o : Fin 2) : Layer.Block where
  x i c := x0 (ix2 (rowOf o i) c)
  h i c := x1 (ix2 (rowOf o i) c)
  before i c := if o = 0 then x2 (ix2 i c) else x1 (ix2 ⟨i.val, by omega⟩ ⟨512 + c.val, by omega⟩)
  first := o = 0 ∧ start = 1#1

theorem cut2 {a b h w : ℕ} {e : EltTy} (x : Vec Ideal ⟨2, ![a, b]⟩ e) (r c : ℕ)
    (inb : ∀ d, (![r, c] : Fin 2 → ℕ) d + (![h, w] : Fin 2 → ℕ) d ≤ (![a, b] : Fin 2 → ℕ) d) (i : Fin h) (j : Fin w) :
    cut x ![r, c] ![h, w] inb (ix2 i j) = x (ix2 ⟨r + i.val, by have := inb 0; simp at this; omega⟩ ⟨c + j.val, by have := inb 1; simp at this; omega⟩) := by
  refine congrArg x (funext fun d => ?_)
  refine Fin.ext ?_
  match d with
  | 0 => simp [LoadRect.idx]
  | 1 => simp [LoadRect.idx]

theorem sink_at (k : ℕ) (hk : k < 8) (h : ∀ a, (![k] : Fin 1 → ℕ) a + S1.size a ≤ S8.size a) : sink x5 k h = x5 (ix1 ⟨k, hk⟩) := by
  refine congrArg x5 (funext fun d => ?_)
  refine Fin.ext ?_
  match d with
  | 0 => simp [LoadRect.idx]

/-- A block of finite rows is finite. -/
theorem blk_h_real (hx1 : Finite x1) (o : Fin 2) (i : Fin 128) (c : Fin 4864) : ∃ q : ℝ, (blk x0 x1 x2 start o).h i c = q := hx1 _

theorem blk_before_real (hx1 : Finite x1) (hx2 : Finite x2) (o : Fin 2) (i : Fin 128) (c : Fin 256) :
    ∃ q : ℝ, (blk x0 x1 x2 start o).before i c = q := by
  unfold blk
  dsimp only
  split
  · exact hx2 _
  · exact hx1 _

theorem keys_first (c0 : ℕ) (hc : c0 ≤ 128) (A C : Vec Ideal S128x128 .f32) (hA : ∀ i l, A (ix2 i l) = x2 (ix2 i ⟨c0 + l.val, by omega⟩))
    (hC : ∀ i l, C (ix2 i l) = x1 (ix2 ⟨i.val, by omega⟩ ⟨512 + c0 + l.val, by omega⟩)) (k : Fin 256) (l : Fin 128) :
    cat A C k l = Layer.keys (blk x0 x1 x2 start 0) k ⟨c0 + l.val, by omega⟩ := by
  unfold cat Layer.keys
  split
  · exact hA _ _
  · refine (hC _ _).trans ?_
    refine congrArg x1 ?_
    congr 1 <;> apply Fin.ext <;> simp <;> omega

theorem keys_second (c0 : ℕ) (hc : c0 ≤ 128) (A C : Vec Ideal S128x128 .f32)
    (hA : ∀ i l, A (ix2 i l) = x1 (ix2 ⟨i.val, by omega⟩ ⟨512 + c0 + l.val, by omega⟩))
    (hC : ∀ i l, C (ix2 i l) = x1 (ix2 ⟨128 + i.val, by omega⟩ ⟨512 + c0 + l.val, by omega⟩)) (k : Fin 256) (l : Fin 128) :
    cat A C k l = Layer.keys (blk x0 x1 x2 start 1) k ⟨c0 + l.val, by omega⟩ := by
  unfold cat Layer.keys
  split
  · refine (hA _ _).trans (congrArg x1 ?_)
    congr 1 <;> apply Fin.ext <;> simp <;> omega
  · refine (hC _ _).trans (congrArg x1 ?_)
    congr 1 <;> apply Fin.ext <;> simp <;> omega

/-- A tile's column is a head and a place in it. -/
theorem at_column (P : Layer.Params) (B : Layer.Block) (e j : Fin 2) (T : Vec Ideal S128x128 .f32) (c : Fin 512) (i l : Fin 128)
    (hc : c.val = 128 * (2 * e.val + j.val) + l.val)
    (h : T (ix2 i l) = Layer.attend P B (hd e ⟨2 * j.val + l.val / 64, by omega⟩) i (low l)) :
    T (ix2 i l) = Layer.attend P B ⟨c.val / 64, by omega⟩ i ⟨c.val % 64, by omega⟩ := by
  rw [h, show (⟨c.val / 64, by omega⟩ : Fin 8) = hd e ⟨2 * j.val + l.val / 64, by omega⟩ from Fin.ext (by simp; omega),
    show (⟨c.val % 64, by omega⟩ : Fin 64) = low l from Fin.ext (by simp; omega)]

theorem sees_first : (fun (i : Fin 128) (k : Fin 256) => (i.val < k.val ∧ k.val ≤ i.val + 128) ∧ (start = 1#1 → 128 ≤ k.val))
    = Layer.sees (blk x0 x1 x2 start 0) := by
  funext i k
  simp [Layer.sees, blk]

theorem sees_second : (fun (i : Fin 128) (k : Fin 256) => i.val < k.val ∧ k.val ≤ i.val + 128) = Layer.sees (blk x0 x1 x2 start 1) := by
  funext i k
  simp [Layer.sees, blk]

theorem sinks0 : (![sink x5 0 inb_S8_S1_0, sink x5 1 inb_S8_S1_1, sink x5 2 inb_S8_S1_2, sink x5 3 inb_S8_S1_3] : Fin 4 → EReal)
    = fun a => (params x5 x6 x7 x8 x9 x10 x11 x12 x13 x14 x15).sinks (hd 0 a) := by
  funext a
  have h : ∀ k : Fin 8, x5 (ix1 k) = (params x5 x6 x7 x8 x9 x10 x11 x12 x13 x14 x15).sinks k := fun _ => rfl
  match a with
  | 0 => exact sink_at x5 _ (by omega) _
  | 1 => exact sink_at x5 _ (by omega) _
  | 2 => exact sink_at x5 _ (by omega) _
  | 3 => exact sink_at x5 _ (by omega) _

theorem sinks1 : (![sink x5 4 inb_S8_S1_4, sink x5 5 inb_S8_S1_5, sink x5 6 inb_S8_S1_6, sink x5 7 inb_S8_S1_7] : Fin 4 → EReal)
    = fun a => (params x5 x6 x7 x8 x9 x10 x11 x12 x13 x14 x15).sinks (hd 1 a) := by
  funext a
  have h : ∀ k : Fin 8, x5 (ix1 k) = (params x5 x6 x7 x8 x9 x10 x11 x12 x13 x14 x15).sinks k := fun _ => rfl
  match a with
  | 0 => exact sink_at x5 _ (by omega) _
  | 1 => exact sink_at x5 _ (by omega) _
  | 2 => exact sink_at x5 _ (by omega) _
  | 3 => exact sink_at x5 _ (by omega) _

theorem plane (x : Vec Ideal S4x128x128 .f32) (q : ℕ) (h : ∀ d, (![q, 0, 0] : Fin 3 → ℕ) d + S1x128x128.size d ≤ S4x128x128.size d) (i k : Fin 128) :
    cut x ![q, 0, 0] S1x128x128.size h (ix3 0 i k) = x (ix3 ⟨q, by have := h 0; simp at this; omega⟩ i k) := by
  refine congrArg x (funext fun d => Fin.ext ?_)
  match d with
  | 0 => simp [LoadRect.idx]
  | 1 => simp [LoadRect.idx]
  | 2 => simp [LoadRect.idx]

theorem at_eq (x : Vec Ideal S256x4864 .f32) {r r' : Fin 256} {c c' : Fin 4864} (hr : r.val = r'.val) (hc : c.val = c'.val) :
    x (ix2 r c) = x (ix2 r' c') := by
  rw [Fin.ext hr, Fin.ext hc]

theorem halo_key (i l : Fin 128) : k0_pay4 (F := Ideal) x2 (ix2 i l) = x2 (ix2 i ⟨0 + l.val, by omega⟩) := by
  pointwise [k0_pay4]
theorem halo_value (i l : Fin 128) : k0_pay5 (F := Ideal) x2 (ix2 i l) = x2 (ix2 i ⟨128 + l.val, by omega⟩) := by
  pointwise [k0_pay5]

theorem score00 : IsScore (fun a => Layer.score (blk x0 x1 x2 start 0) (hd 0 a))
    (k0_pay20 (F := Ideal) (k0_pay8 k0_pay3 (k0_pay4 x2) (cut x1 ![0, 512] S128x128.size inb_S256x4864_S128x128_0_512)) (k0_pay10 k0_pay2 (cut x1 ![0, 0] S128x128.size inb_S256x4864_S128x128_0_0) (cut x1 ![0, 128] S128x128.size inb_S256x4864_S128x128_0_128))) (k0_pay6 (F := Ideal) start) :=
  score_of (blk x0 x1 x2 start 0) 0 (k0_pay4 x2) (cut x1 ![0, 512] S128x128.size inb_S256x4864_S128x128_0_512) _ (dup8 _ _)
    (fun k c => ((keys_first x0 x1 x2 start 0 (by omega) (k0_pay4 x2) (cut x1 ![0, 512] S128x128.size inb_S256x4864_S128x128_0_512) (halo_key x2) (fun i l => (cut2 x1 _ _ _ i l).trans (at_eq x1 (by simp) (by simp)))) k c).trans (congrArg _ (Fin.ext (by simp))))
    (cut x1 ![0, 0] S128x128.size inb_S256x4864_S128x128_0_0) (cut x1 ![0, 128] S128x128.size inb_S256x4864_S128x128_0_128) _ (stack10 _ _)
    (fun i c => (cut2 x1 _ _ _ i c).trans (at_eq x1 (by simp) (by simp)))
    (fun i c => (cut2 x1 _ _ _ i c).trans (at_eq x1 (by simp) (by simp)))
    _ _ (product _ _) (sees_first x0 x1 x2 start ▸ bias6 start)

theorem score01 : IsScore (fun a => Layer.score (blk x0 x1 x2 start 0) (hd 1 a))
    (k0_pay20 (F := Ideal) (k0_pay11 k0_pay3 (k0_pay4 x2) (cut x1 ![0, 512] S128x128.size inb_S256x4864_S128x128_0_512)) (k0_pay13 k0_pay2 (cut x1 ![0, 256] S128x128.size inb_S256x4864_S128x128_0_256) (cut x1 ![0, 384] S128x128.size inb_S256x4864_S128x128_0_384))) (k0_pay6 (F := Ideal) start) :=
  score_of (blk x0 x1 x2 start 0) 1 (k0_pay4 x2) (cut x1 ![0, 512] S128x128.size inb_S256x4864_S128x128_0_512) _ (dup11 _ _)
    (fun k c => ((keys_first x0 x1 x2 start 0 (by omega) (k0_pay4 x2) (cut x1 ![0, 512] S128x128.size inb_S256x4864_S128x128_0_512) (halo_key x2) (fun i l => (cut2 x1 _ _ _ i l).trans (at_eq x1 (by simp) (by simp)))) k c).trans (congrArg _ (Fin.ext (by simp))))
    (cut x1 ![0, 256] S128x128.size inb_S256x4864_S128x128_0_256) (cut x1 ![0, 384] S128x128.size inb_S256x4864_S128x128_0_384) _ (stack13 _ _)
    (fun i c => (cut2 x1 _ _ _ i c).trans (at_eq x1 (by simp) (by simp)))
    (fun i c => (cut2 x1 _ _ _ i c).trans (at_eq x1 (by simp) (by simp)))
    _ _ (product _ _) (sees_first x0 x1 x2 start ▸ bias6 start)

theorem score10 : IsScore (fun a => Layer.score (blk x0 x1 x2 start 1) (hd 0 a))
    (k0_pay21 (F := Ideal) (k0_pay14 k0_pay3 (cut x1 ![0, 512] S128x128.size inb_S256x4864_S128x128_0_512) (cut x1 ![128, 512] S128x128.size inb_S256x4864_S128x128_128_512)) (k0_pay16 k0_pay2 (cut x1 ![128, 0] S128x128.size inb_S256x4864_S128x128_128_0) (cut x1 ![128, 128] S128x128.size inb_S256x4864_S128x128_128_128))) (k0_pay7 (F := Ideal)) :=
  score_of (blk x0 x1 x2 start 1) 0 (cut x1 ![0, 512] S128x128.size inb_S256x4864_S128x128_0_512) (cut x1 ![128, 512] S128x128.size inb_S256x4864_S128x128_128_512) _ (dup14 _ _)
    (fun k c => ((keys_second x0 x1 x2 start 0 (by omega) (cut x1 ![0, 512] S128x128.size inb_S256x4864_S128x128_0_512) (cut x1 ![128, 512] S128x128.size inb_S256x4864_S128x128_128_512) (fun i l => (cut2 x1 _ _ _ i l).trans (at_eq x1 (by simp) (by simp))) (fun i l => (cut2 x1 _ _ _ i l).trans (at_eq x1 (by simp) (by simp)))) k c).trans (congrArg _ (Fin.ext (by simp))))
    (cut x1 ![128, 0] S128x128.size inb_S256x4864_S128x128_128_0) (cut x1 ![128, 128] S128x128.size inb_S256x4864_S128x128_128_128) _ (stack16 _ _)
    (fun i c => (cut2 x1 _ _ _ i c).trans (at_eq x1 (by simp) (by simp)))
    (fun i c => (cut2 x1 _ _ _ i c).trans (at_eq x1 (by simp) (by simp)))
    _ _ (product21 _ _) (sees_second x0 x1 x2 start ▸ bias7)

theorem score11 : IsScore (fun a => Layer.score (blk x0 x1 x2 start 1) (hd 1 a))
    (k0_pay22 (F := Ideal) k0_pay2 (k0_pay17 k0_pay3 (cut x1 ![0, 512] S128x128.size inb_S256x4864_S128x128_0_512) (cut x1 ![128, 512] S128x128.size inb_S256x4864_S128x128_128_512)) (cut x1 ![128, 256] S128x128.size inb_S256x4864_S128x128_128_256) (cut x1 ![128, 384] S128x128.size inb_S256x4864_S128x128_128_384)) (k0_pay7 (F := Ideal)) :=
  score_of (blk x0 x1 x2 start 1) 1 (cut x1 ![0, 512] S128x128.size inb_S256x4864_S128x128_0_512) (cut x1 ![128, 512] S128x128.size inb_S256x4864_S128x128_128_512) _ (dup17 _ _)
    (fun k c => ((keys_second x0 x1 x2 start 0 (by omega) (cut x1 ![0, 512] S128x128.size inb_S256x4864_S128x128_0_512) (cut x1 ![128, 512] S128x128.size inb_S256x4864_S128x128_128_512) (fun i l => (cut2 x1 _ _ _ i l).trans (at_eq x1 (by simp) (by simp))) (fun i l => (cut2 x1 _ _ _ i l).trans (at_eq x1 (by simp) (by simp)))) k c).trans (congrArg _ (Fin.ext (by simp))))
    (cut x1 ![128, 256] S128x128.size inb_S256x4864_S128x128_128_256) (cut x1 ![128, 384] S128x128.size inb_S256x4864_S128x128_128_384) _ (stack16 _ _)
    (fun i c => (cut2 x1 _ _ _ i c).trans (at_eq x1 (by simp) (by simp)))
    (fun i c => (cut2 x1 _ _ _ i c).trans (at_eq x1 (by simp) (by simp)))
    _ _ (product22 _ _ _) (sees_second x0 x1 x2 start ▸ bias7)

section
variable (hx1 : Finite x1) (hx2 : Finite x2) (hx5 : Finite x5)
include hx1 hx2 hx5

theorem mass_at (o e : Fin 2) (a : Fin 4) (i : Fin 128) :
    Layer.mass (Layer.score (blk x0 x1 x2 start o) (hd e a) i) ((params x5 x6 x7 x8 x9 x10 x11 x12 x13 x14 x15).sinks (hd e a)) ≠ 0 :=
  Layer.mass_ne (params x5 x6 x7 x8 x9 x10 x11 x12 x13 x14 x15) (blk x0 x1 x2 start o) (blk_h_real x0 x1 x2 start hx1 o) (blk_before_real x0 x1 x2 start hx1 hx2 o) (fun _ => hx5 _) _ _

theorem isWeight00 : IsWeight (fun a => Layer.score (blk x0 x1 x2 start 0) (hd 0 a)) (fun a => (params x5 x6 x7 x8 x9 x10 x11 x12 x13 x14 x15).sinks (hd 0 a))
    (weights00 x1 x2 x5 start) := by
  rw [← sinks0 x5 x6 x7 x8 x9 x10 x11 x12 x13 x14 x15]
  have hm := mass_at x0 x1 x2 x5 x6 x7 x8 x9 x10 x11 x12 x13 x14 x15 start hx1 hx2 hx5 0 0
  have hm' : ∀ a i, Layer.mass (Layer.score (blk x0 x1 x2 start 0) (hd 0 a) i)
      ((![sink x5 0 inb_S8_S1_0, sink x5 1 inb_S8_S1_1, sink x5 2 inb_S8_S1_2, sink x5 3 inb_S8_S1_3] : Fin 4 → EReal) a) ≠ 0 := by
    rw [sinks0 x5 x6 x7 x8 x9 x10 x11 x12 x13 x14 x15]
    exact hm
  exact weight28 _ _ hm' _ _ _ (score00 x0 x1 x2 start)

theorem isWeight01 : IsWeight (fun a => Layer.score (blk x0 x1 x2 start 0) (hd 1 a)) (fun a => (params x5 x6 x7 x8 x9 x10 x11 x12 x13 x14 x15).sinks (hd 1 a))
    (weights01 x1 x2 x5 start) := by
  rw [← sinks1 x5 x6 x7 x8 x9 x10 x11 x12 x13 x14 x15]
  have hm := mass_at x0 x1 x2 x5 x6 x7 x8 x9 x10 x11 x12 x13 x14 x15 start hx1 hx2 hx5 0 1
  have hm' : ∀ a i, Layer.mass (Layer.score (blk x0 x1 x2 start 0) (hd 1 a) i)
      ((![sink x5 4 inb_S8_S1_4, sink x5 5 inb_S8_S1_5, sink x5 6 inb_S8_S1_6, sink x5 7 inb_S8_S1_7] : Fin 4 → EReal) a) ≠ 0 := by
    rw [sinks1 x5 x6 x7 x8 x9 x10 x11 x12 x13 x14 x15]
    exact hm
  exact weight29 _ _ hm' _ _ (score01 x0 x1 x2 start)

theorem isWeight10 : IsWeight (fun a => Layer.score (blk x0 x1 x2 start 1) (hd 0 a)) (fun a => (params x5 x6 x7 x8 x9 x10 x11 x12 x13 x14 x15).sinks (hd 0 a))
    (weights10 x1 x5) := by
  rw [← sinks0 x5 x6 x7 x8 x9 x10 x11 x12 x13 x14 x15]
  have hm := mass_at x0 x1 x2 x5 x6 x7 x8 x9 x10 x11 x12 x13 x14 x15 start hx1 hx2 hx5 1 0
  have hm' : ∀ a i, Layer.mass (Layer.score (blk x0 x1 x2 start 1) (hd 0 a) i)
      ((![sink x5 0 inb_S8_S1_0, sink x5 1 inb_S8_S1_1, sink x5 2 inb_S8_S1_2, sink x5 3 inb_S8_S1_3] : Fin 4 → EReal) a) ≠ 0 := by
    rw [sinks0 x5 x6 x7 x8 x9 x10 x11 x12 x13 x14 x15]
    exact hm
  exact weight33 _ _ hm' _ _ (score10 x0 x1 x2 start)

theorem isWeight11 : IsWeight (fun a => Layer.score (blk x0 x1 x2 start 1) (hd 1 a)) (fun a => (params x5 x6 x7 x8 x9 x10 x11 x12 x13 x14 x15).sinks (hd 1 a))
    (k0_pay29 (F := Ideal) (sink x5 4 inb_S8_S1_4) (sink x5 5 inb_S8_S1_5) (sink x5 6 inb_S8_S1_6) (sink x5 7 inb_S8_S1_7) (k0_pay7 (F := Ideal)) (k0_pay22 (F := Ideal) k0_pay2 (k0_pay17 k0_pay3 (cut x1 ![0, 512] S128x128.size inb_S256x4864_S128x128_0_512) (cut x1 ![128, 512] S128x128.size inb_S256x4864_S128x128_128_512)) (cut x1 ![128, 256] S128x128.size inb_S256x4864_S128x128_128_256) (cut x1 ![128, 384] S128x128.size inb_S256x4864_S128x128_128_384))) := by
  rw [← sinks1 x5 x6 x7 x8 x9 x10 x11 x12 x13 x14 x15]
  have hm := mass_at x0 x1 x2 x5 x6 x7 x8 x9 x10 x11 x12 x13 x14 x15 start hx1 hx2 hx5 1 1
  have hm' : ∀ a i, Layer.mass (Layer.score (blk x0 x1 x2 start 1) (hd 1 a) i)
      ((![sink x5 4 inb_S8_S1_4, sink x5 5 inb_S8_S1_5, sink x5 6 inb_S8_S1_6, sink x5 7 inb_S8_S1_7] : Fin 4 → EReal) a) ≠ 0 := by
    rw [sinks1 x5 x6 x7 x8 x9 x10 x11 x12 x13 x14 x15]
    exact hm
  exact weight29 _ _ hm' _ _ (score11 x0 x1 x2 start)

theorem attention_apply (o : Fin 2) (i : Fin 128) (c : Fin 512) : attention x1 x2 x5 start (ix2 (rowOf o i) c)
    = Layer.attend (params x5 x6 x7 x8 x9 x10 x11 x12 x13 x14 x15) (blk x0 x1 x2 start o) ⟨c.val / 64, by omega⟩ i ⟨c.val % 64, by omega⟩ :=
  assemble _ (fun o i c => Layer.attend (params x5 x6 x7 x8 x9 x10 x11 x12 x13 x14 x15) (blk x0 x1 x2 start o) ⟨c.val / 64, by omega⟩ i ⟨c.val % 64, by omega⟩) _ _ _ _ _ _ _ _
    (fun i l => at_column (params x5 x6 x7 x8 x9 x10 x11 x12 x13 x14 x15) (blk x0 x1 x2 start 0) 0 0 _ _ i l (by simp; try omega) (attend_of _ _ (params x5 x6 x7 x8 x9 x10 x11 x12 x13 x14 x15) (blk x0 x1 x2 start 0) 0 0 (k0_pay5 x2) (cut x1 ![0, 640] S128x128.size inb_S256x4864_S128x128_0_640) (dup9 _ _)
      (fun k c => (keys_first x0 x1 x2 start 128 (by omega) (k0_pay5 x2) (cut x1 ![0, 640] S128x128.size inb_S256x4864_S128x128_0_640) (halo_value x2) (fun i l => (cut2 x1 _ _ _ i l).trans (at_eq x1 (by simp) (by simp))) k c))
      (isWeight00 x0 x1 x2 x5 x6 x7 x8 x9 x10 x11 x12 x13 x14 x15 start hx1 hx2 hx5) _ (tile44 _ _) i l))
    (fun i l => at_column (params x5 x6 x7 x8 x9 x10 x11 x12 x13 x14 x15) (blk x0 x1 x2 start 0) 0 1 _ _ i l (by simp; try omega) (attend_of _ _ (params x5 x6 x7 x8 x9 x10 x11 x12 x13 x14 x15) (blk x0 x1 x2 start 0) 0 1 (k0_pay5 x2) (cut x1 ![0, 640] S128x128.size inb_S256x4864_S128x128_0_640) (dup9 _ _)
      (fun k c => (keys_first x0 x1 x2 start 128 (by omega) (k0_pay5 x2) (cut x1 ![0, 640] S128x128.size inb_S256x4864_S128x128_0_640) (halo_value x2) (fun i l => (cut2 x1 _ _ _ i l).trans (at_eq x1 (by simp) (by simp))) k c))
      (isWeight00 x0 x1 x2 x5 x6 x7 x8 x9 x10 x11 x12 x13 x14 x15 start hx1 hx2 hx5) _ (tile45 _ _) i l))
    (fun i l => at_column (params x5 x6 x7 x8 x9 x10 x11 x12 x13 x14 x15) (blk x0 x1 x2 start 0) 1 0 _ _ i l (by simp; try omega) (attend_of _ _ (params x5 x6 x7 x8 x9 x10 x11 x12 x13 x14 x15) (blk x0 x1 x2 start 0) 1 0 (k0_pay5 x2) (cut x1 ![0, 640] S128x128.size inb_S256x4864_S128x128_0_640) (dup12 _ _)
      (fun k c => (keys_first x0 x1 x2 start 128 (by omega) (k0_pay5 x2) (cut x1 ![0, 640] S128x128.size inb_S256x4864_S128x128_0_640) (halo_value x2) (fun i l => (cut2 x1 _ _ _ i l).trans (at_eq x1 (by simp) (by simp))) k c))
      (isWeight01 x0 x1 x2 x5 x6 x7 x8 x9 x10 x11 x12 x13 x14 x15 start hx1 hx2 hx5) _ (tile47 _ _) i l))
    (fun i l => at_column (params x5 x6 x7 x8 x9 x10 x11 x12 x13 x14 x15) (blk x0 x1 x2 start 0) 1 1 _ _ i l (by simp; try omega) (attend_of _ _ (params x5 x6 x7 x8 x9 x10 x11 x12 x13 x14 x15) (blk x0 x1 x2 start 0) 1 1 (k0_pay5 x2) (cut x1 ![0, 640] S128x128.size inb_S256x4864_S128x128_0_640) (dup12 _ _)
      (fun k c => (keys_first x0 x1 x2 start 128 (by omega) (k0_pay5 x2) (cut x1 ![0, 640] S128x128.size inb_S256x4864_S128x128_0_640) (halo_value x2) (fun i l => (cut2 x1 _ _ _ i l).trans (at_eq x1 (by simp) (by simp))) k c))
      (isWeight01 x0 x1 x2 x5 x6 x7 x8 x9 x10 x11 x12 x13 x14 x15 start hx1 hx2 hx5) _ (tile48 _ _) i l))
    (fun i l => at_column (params x5 x6 x7 x8 x9 x10 x11 x12 x13 x14 x15) (blk x0 x1 x2 start 1) 0 0 _ _ i l (by simp; try omega) (attend_of _ _ (params x5 x6 x7 x8 x9 x10 x11 x12 x13 x14 x15) (blk x0 x1 x2 start 1) 0 0 (cut x1 ![0, 640] S128x128.size inb_S256x4864_S128x128_0_640) (cut x1 ![128, 640] S128x128.size inb_S256x4864_S128x128_128_640) (dup15 _ _)
      (fun k c => (keys_second x0 x1 x2 start 128 (by omega) (cut x1 ![0, 640] S128x128.size inb_S256x4864_S128x128_0_640) (cut x1 ![128, 640] S128x128.size inb_S256x4864_S128x128_128_640) (fun i l => (cut2 x1 _ _ _ i l).trans (at_eq x1 (by simp) (by simp))) (fun i l => (cut2 x1 _ _ _ i l).trans (at_eq x1 (by simp) (by simp))) k c))
      (isWeight10 x0 x1 x2 x5 x6 x7 x8 x9 x10 x11 x12 x13 x14 x15 start hx1 hx2 hx5) _ (tile50 _ _) i l))
    (fun i l => at_column (params x5 x6 x7 x8 x9 x10 x11 x12 x13 x14 x15) (blk x0 x1 x2 start 1) 0 1 _ _ i l (by simp; try omega) (attend_of _ _ (params x5 x6 x7 x8 x9 x10 x11 x12 x13 x14 x15) (blk x0 x1 x2 start 1) 0 1 (cut x1 ![0, 640] S128x128.size inb_S256x4864_S128x128_0_640) (cut x1 ![128, 640] S128x128.size inb_S256x4864_S128x128_128_640) (dup15 _ _)
      (fun k c => (keys_second x0 x1 x2 start 128 (by omega) (cut x1 ![0, 640] S128x128.size inb_S256x4864_S128x128_0_640) (cut x1 ![128, 640] S128x128.size inb_S256x4864_S128x128_128_640) (fun i l => (cut2 x1 _ _ _ i l).trans (at_eq x1 (by simp) (by simp))) (fun i l => (cut2 x1 _ _ _ i l).trans (at_eq x1 (by simp) (by simp))) k c))
      (isWeight10 x0 x1 x2 x5 x6 x7 x8 x9 x10 x11 x12 x13 x14 x15 start hx1 hx2 hx5) _ (tile51 _ _) i l))
    (fun i l => at_column (params x5 x6 x7 x8 x9 x10 x11 x12 x13 x14 x15) (blk x0 x1 x2 start 1) 1 0 _ _ i l (by simp; try omega) (attend_of _ _ (params x5 x6 x7 x8 x9 x10 x11 x12 x13 x14 x15) (blk x0 x1 x2 start 1) 1 0 (cut x1 ![0, 640] S128x128.size inb_S256x4864_S128x128_0_640) (cut x1 ![128, 640] S128x128.size inb_S256x4864_S128x128_128_640) (dup19 _ _)
      (fun k c => (keys_second x0 x1 x2 start 128 (by omega) (cut x1 ![0, 640] S128x128.size inb_S256x4864_S128x128_0_640) (cut x1 ![128, 640] S128x128.size inb_S256x4864_S128x128_128_640) (fun i l => (cut2 x1 _ _ _ i l).trans (at_eq x1 (by simp) (by simp))) (fun i l => (cut2 x1 _ _ _ i l).trans (at_eq x1 (by simp) (by simp))) k c))
      (isWeight11 x0 x1 x2 x5 x6 x7 x8 x9 x10 x11 x12 x13 x14 x15 start hx1 hx2 hx5) _ (tile53 _ _ _ _ _ _ _) i l))
    (fun i l => at_column (params x5 x6 x7 x8 x9 x10 x11 x12 x13 x14 x15) (blk x0 x1 x2 start 1) 1 1 _ _ i l (by simp; try omega) (attend_of _ _ (params x5 x6 x7 x8 x9 x10 x11 x12 x13 x14 x15) (blk x0 x1 x2 start 1) 1 1 (cut x1 ![0, 640] S128x128.size inb_S256x4864_S128x128_0_640) (cut x1 ![128, 640] S128x128.size inb_S256x4864_S128x128_128_640) (dup19 _ _)
      (fun k c => (keys_second x0 x1 x2 start 128 (by omega) (cut x1 ![0, 640] S128x128.size inb_S256x4864_S128x128_0_640) (cut x1 ![128, 640] S128x128.size inb_S256x4864_S128x128_128_640) (fun i l => (cut2 x1 _ _ _ i l).trans (at_eq x1 (by simp) (by simp))) (fun i l => (cut2 x1 _ _ _ i l).trans (at_eq x1 (by simp) (by simp))) k c))
      (isWeight11 x0 x1 x2 x5 x6 x7 x8 x9 x10 x11 x12 x13 x14 x15 start hx1 hx2 hx5) _ (tile54 _ _ _ _ _ _ _) i l))
    o i c

omit hx2 hx5
theorem mixing_apply (o : Fin 2) (i : Fin 128) (c : Fin 512) : mixing x1 x6 x7 x8 x9 (ix2 (rowOf o i) c) = Layer.mixed (params x5 x6 x7 x8 x9 x10 x11 x12 x13 x14 x15) (blk x0 x1 x2 start o) i c :=
  assemble _ (fun o i c => Layer.mixed (params x5 x6 x7 x8 x9 x10 x11 x12 x13 x14 x15) (blk x0 x1 x2 start o) i c) _ _ _ _ _ _ _ _
    (fun i l => (mixed_of _ _ (params x5 x6 x7 x8 x9 x10 x11 x12 x13 x14 x15) (blk x0 x1 x2 start 0) 0 0 (cut x1 ![0, 1792] S256x512.size inb_S256x4864_S256x512_0_1792) x6 x7 (fun _ => hx1 _)
      (fun i c => (cut2 x1 _ _ _ _ c).trans (at_eq x1 (by simp) (by simp))) (fun _ => rfl) (fun _ => rfl) (fun i k => plane x8 0 _ i k)
      (fun i l => (cut2 x9 _ _ _ i l).trans (congrArg x9 (by congr 1 <;> apply Fin.ext <;> simp)))
      _ (mix78 _ _ _) i l).trans (congrArg _ (Fin.ext (by simp))))
    (fun i l => (mixed_of _ _ (params x5 x6 x7 x8 x9 x10 x11 x12 x13 x14 x15) (blk x0 x1 x2 start 0) 0 1 (cut x1 ![0, 1792] S256x512.size inb_S256x4864_S256x512_0_1792) x6 x7 (fun _ => hx1 _)
      (fun i c => (cut2 x1 _ _ _ _ c).trans (at_eq x1 (by simp) (by simp))) (fun _ => rfl) (fun _ => rfl) (fun i k => plane x8 1 _ i k)
      (fun i l => (cut2 x9 _ _ _ i l).trans (congrArg x9 (by congr 1 <;> apply Fin.ext <;> simp)))
      _ (mix79 _ _ _) i l).trans (congrArg _ (Fin.ext (by simp))))
    (fun i l => (mixed_of _ _ (params x5 x6 x7 x8 x9 x10 x11 x12 x13 x14 x15) (blk x0 x1 x2 start 0) 0 2 (cut x1 ![0, 1792] S256x512.size inb_S256x4864_S256x512_0_1792) x6 x7 (fun _ => hx1 _)
      (fun i c => (cut2 x1 _ _ _ _ c).trans (at_eq x1 (by simp) (by simp))) (fun _ => rfl) (fun _ => rfl) (fun i k => plane x8 2 _ i k)
      (fun i l => (cut2 x9 _ _ _ i l).trans (congrArg x9 (by congr 1 <;> apply Fin.ext <;> simp)))
      _ (mix81 _ _ _) i l).trans (congrArg _ (Fin.ext (by simp))))
    (fun i l => (mixed_of _ _ (params x5 x6 x7 x8 x9 x10 x11 x12 x13 x14 x15) (blk x0 x1 x2 start 0) 0 3 (cut x1 ![0, 1792] S256x512.size inb_S256x4864_S256x512_0_1792) x6 x7 (fun _ => hx1 _)
      (fun i c => (cut2 x1 _ _ _ _ c).trans (at_eq x1 (by simp) (by simp))) (fun _ => rfl) (fun _ => rfl) (fun i k => plane x8 3 _ i k)
      (fun i l => (cut2 x9 _ _ _ i l).trans (congrArg x9 (by congr 1 <;> apply Fin.ext <;> simp)))
      _ (mix82 _ _ _) i l).trans (congrArg _ (Fin.ext (by simp))))
    (fun i l => (mixed_of _ _ (params x5 x6 x7 x8 x9 x10 x11 x12 x13 x14 x15) (blk x0 x1 x2 start 1) 1 0 (cut x1 ![0, 1792] S256x512.size inb_S256x4864_S256x512_0_1792) x6 x7 (fun _ => hx1 _)
      (fun i c => (cut2 x1 _ _ _ _ c).trans (at_eq x1 (by simp) (by simp))) (fun _ => rfl) (fun _ => rfl) (fun i k => plane x8 0 _ i k)
      (fun i l => (cut2 x9 _ _ _ i l).trans (congrArg x9 (by congr 1 <;> apply Fin.ext <;> simp)))
      _ (mix83 _ _ _) i l).trans (congrArg _ (Fin.ext (by simp))))
    (fun i l => (mixed_of _ _ (params x5 x6 x7 x8 x9 x10 x11 x12 x13 x14 x15) (blk x0 x1 x2 start 1) 1 1 (cut x1 ![0, 1792] S256x512.size inb_S256x4864_S256x512_0_1792) x6 x7 (fun _ => hx1 _)
      (fun i c => (cut2 x1 _ _ _ _ c).trans (at_eq x1 (by simp) (by simp))) (fun _ => rfl) (fun _ => rfl) (fun i k => plane x8 1 _ i k)
      (fun i l => (cut2 x9 _ _ _ i l).trans (congrArg x9 (by congr 1 <;> apply Fin.ext <;> simp)))
      _ (mix84 _ _ _) i l).trans (congrArg _ (Fin.ext (by simp))))
    (fun i l => (mixed_of _ _ (params x5 x6 x7 x8 x9 x10 x11 x12 x13 x14 x15) (blk x0 x1 x2 start 1) 1 2 (cut x1 ![0, 1792] S256x512.size inb_S256x4864_S256x512_0_1792) x6 x7 (fun _ => hx1 _)
      (fun i c => (cut2 x1 _ _ _ _ c).trans (at_eq x1 (by simp) (by simp))) (fun _ => rfl) (fun _ => rfl) (fun i k => plane x8 2 _ i k)
      (fun i l => (cut2 x9 _ _ _ i l).trans (congrArg x9 (by congr 1 <;> apply Fin.ext <;> simp)))
      _ (mix85 _ _ _) i l).trans (congrArg _ (Fin.ext (by simp))))
    (fun i l => (mixed_of _ _ (params x5 x6 x7 x8 x9 x10 x11 x12 x13 x14 x15) (blk x0 x1 x2 start 1) 1 3 (cut x1 ![0, 1792] S256x512.size inb_S256x4864_S256x512_0_1792) x6 x7 (fun _ => hx1 _)
      (fun i c => (cut2 x1 _ _ _ _ c).trans (at_eq x1 (by simp) (by simp))) (fun _ => rfl) (fun _ => rfl) (fun i k => plane x8 3 _ i k)
      (fun i l => (cut2 x9 _ _ _ i l).trans (congrArg x9 (by congr 1 <;> apply Fin.ext <;> simp)))
      _ (mix86 _ _ _) i l).trans (congrArg _ (Fin.ext (by simp))))
    o i c

include hx2 hx5

/-- The rows a point computes are the layer's. -/
theorem rows_apply (o : Fin 2) (i : Fin 128) (c : Fin 1024) :
    rows x0 x1 x2 x5 x6 x7 x8 x9 x10 x11 x12 x13 x14 x15 start (ix2 (rowOf o i) c) = Layer.result (params x5 x6 x7 x8 x9 x10 x11 x12 x13 x14 x15) (blk x0 x1 x2 start o) i c :=
  result_of (params x5 x6 x7 x8 x9 x10 x11 x12 x13 x14 x15) (blk x0 x1 x2 start o) o x0 _ _ _ _ _ _ _ x10 x11 x12 x13 x14 x15 (fun _ => hx1 _) (fun _ _ => rfl)
    (fun i c => (cut2 x1 _ _ _ _ c).trans (at_eq x1 (by simp) (by simp)))
    (fun i c => (cut2 x1 _ _ _ _ c).trans (at_eq x1 (by simp) (by simp)))
    (fun i c => (cut2 x1 _ _ _ _ c).trans (at_eq x1 (by simp) (by simp)))
    (fun i c => (cut2 x1 _ _ _ _ c).trans (at_eq x1 (by simp) (by simp)))
    (fun i c => (cut2 x1 _ _ _ _ c).trans (at_eq x1 (by simp) (by simp)))
    (attention_apply x0 x1 x2 x5 x6 x7 x8 x9 x10 x11 x12 x13 x14 x15 start hx1 hx2 hx5 o)
    (mixing_apply x0 x1 x2 x5 x6 x7 x8 x9 x10 x11 x12 x13 x14 x15 start hx1 o)
    (fun _ _ => rfl) (fun _ _ => rfl) (fun _ _ => rfl) (fun _ => rfl) (fun _ => rfl) (fun _ => rfl) i c

end

end Cert.ForwardIdeal.Block

end
-- ==== Proof.ForwardReference.lean ====
/- What the forward reference computes, read off at a row: the layer of the row's block, and its projection. -/
module

public import proofs.«01_k».proof.Defs
public import proofs.«01_k».proof.Proof.LayerSpec
public import proofs.«01_k».proof.Proof.LayerFinite
public import proofs.«01_k».proof.Proof.Gen.ForwardReferenceIdeal
public import proofs.«01_k».proof.Proof.Gen.ForwardReferenceIdeal.Run
public import proofs.«01_k».proof.Proof.Gen.ForwardReferenceIdeal.Read
public import Idealize.ShloMosaic.Lib.Pipeline.ValueKit
public import Idealize.ShloMosaic.Lib.Pointwise
public import Idealize.ShloMosaic.Lib.WordCmp

@[expose] public section

set_option maxRecDepth 16384
set_option maxHeartbeats 1000000

noncomputable section

open Idealize.ShloMosaic Idealize.ShloMosaic.TcCoe Idealize.SL.Sem

namespace Cert.ForwardReferenceIdeal.Rows

open Cert.ForwardReferenceIdeal Cert.ForwardReferenceIdeal.Gen Cert.ForwardReferenceIdeal.Read
open Idealize.ShloMosaic.WordCmp

variable (x0 : Vec Ideal S8192x1024 .f32) (x1 : Vec Ideal S8192x4864 .f32) (x2 : Vec Ideal S8 .f32) (x3 x4 : Vec Ideal S512 .f32)
  (x5 : Vec Ideal S4x128x128 .f32) (x6 : Vec Ideal S4x128 .f32) (x7 x8 : Vec Ideal S512x1024 .f32) (x9 : Vec Ideal S1024x1024 .f32)
  (x10 x11 x12 : Vec Ideal S1024 .f32) (x13 : Vec Ideal S1024x4864 .f32) (x14 : Vec Ideal S4864 .f32)

/-- Row `i` of block `n`. -/
abbrev rowAt (n : Fin 64) (i : Fin 128) : Fin 8192 := ⟨n.val * 128 + i.val, by omega⟩

/-- The layer's parameters, read off the arguments. -/
def params : Layer.Params where
  sinks k := x2 (ix1 k)
  vnG c := x3 (ix1 c)
  vnB c := x4 (ix1 c)
  ws q i k := x5 (ix3 q i k)
  bs i c := x6 (ix2 ⟨c.val / 128, by omega⟩ i)
  pa k c := x7 (ix2 k c)
  pb k c := x8 (ix2 k c)
  wout k c := x9 (ix2 k c)
  bout c := x10 (ix1 c)
  lnG c := x11 (ix1 c)
  lnB c := x12 (ix1 c)

/-- Block `n` of 64; a sequence has 32. -/
def block (n : Fin 64) : Layer.Block where
  x i c := x0 (ix2 (rowAt n i) c)
  h i c := x1 (ix2 (rowAt n i) c)
  before i c := x1 (ix2 ⟨(n.val - 1) * 128 + i.val, by omega⟩ ⟨512 + c.val, by omega⟩)
  first := n.val % 32 = 0

theorem sel_bool {α : Type} (p : Prop) [Decidable p] (a b : α) : Scalar.select (BitVec.ofBool (decide p)) a b = if p then a else b := by
  by_cases h : p <;> simp [h, Scalar.select]

/-- The product of a row's query with a key; before the first row the keys are zero. -/
theorem product_at (n : Fin 64) (h : Fin 8) (i : Fin 128) (k : Fin 256) :
    val_main_v30 (F := Ideal) x1 (ix4 n h i k) = (∑ d : Fin 64, x1 (ix2 (rowAt n i) ⟨h.val * 64 + d.val, by omega⟩)
      * (if k.val < 128 ∧ n.val < 1 then 0 else Layer.keys (block x0 x1 n) k ⟨h.val / 4 * 64 + d.val, by omega⟩)) * Layer.eighth := by
  have e : ∀ d : Fin 64, (if k.val < 128 ∧ n.val < 1 then 0 else Layer.keys (block x0 x1 n) k ⟨h.val / 4 * 64 + d.val, by omega⟩)
      = if hk : k.val < 128 then if n.val < 1 then 0 else x1 (ix2 ⟨(n.val - 1) * 128 + k.val, by omega⟩ ⟨512 + (h.val / 4 * 64 + d.val), by omega⟩)
        else x1 (ix2 ⟨n.val * 128 + (k.val - 128), by omega⟩ ⟨512 + (h.val / 4 * 64 + d.val), by omega⟩) := by
    intro d
    by_cases h1 : k.val < 128 <;> by_cases h2 : n.val < 1 <;> simp only [h1, h2, Layer.keys, block, and_true, and_false, true_and, false_and, if_true, if_false, dif_pos, dif_neg, not_false_iff]
  simp only [e]
  unfold Layer.eighth
  pointwise [val_main_v30, val_main_v29, val_main_cst_1, val_main_v28, val_main_v9, val_main_v0, val_main_v18, val_main_v17, val_main_v16, val_main_v15, val_main_v14, val_main_v13, val_main_v12, val_main_v11, val_main_v10, val_main_v1, val_main_cst, val_main_cst_0]
  rfl

theorem value_at (n : Fin 64) (h : Fin 8) (d : Fin 64) (k : Fin 256) :
    val_main_v27 (F := Ideal) x1 (ix4 n k h d)
      = if k.val < 128 ∧ n.val < 1 then 0 else Layer.keys (block x0 x1 n) k ⟨128 + (h.val / 4 * 64 + d.val), by omega⟩ := by
  have e : (if k.val < 128 ∧ n.val < 1 then 0 else Layer.keys (block x0 x1 n) k ⟨128 + (h.val / 4 * 64 + d.val), by omega⟩)
      = if hk : k.val < 128 then if n.val < 1 then 0 else x1 (ix2 ⟨(n.val - 1) * 128 + k.val, by omega⟩ ⟨640 + (h.val / 4 * 64 + d.val), by omega⟩)
        else x1 (ix2 ⟨n.val * 128 + (k.val - 128), by omega⟩ ⟨640 + (h.val / 4 * 64 + d.val), by omega⟩) := by
    by_cases h1 : k.val < 128 <;> by_cases h2 : n.val < 1 <;> simp only [h1, h2, Layer.keys, block, and_true, and_false, true_and, false_and, if_true, if_false, dif_pos, dif_neg, not_false_iff]
      <;> congr 2 <;> apply Fin.ext <;> simp only <;> omega
  rw [e]
  pointwise [val_main_v27, val_main_v26, val_main_v25, val_main_v24, val_main_v23, val_main_v22, val_main_v21, val_main_v20, val_main_v19, val_main_v2, val_main_cst, val_main_cst_0]
  rfl

theorem score_at (n : Fin 64) (h : Fin 8) (i : Fin 128) (k : Fin 256) :
    val_main_v64 (F := Ideal) x1 (ix4 n h i k) = Layer.score (block x0 x1 n) h i k := by
  have e := product_at x0 x1 n h i k
  have e' : val_main_v64 (F := Ideal) x1 (ix4 n h i k)
      = if (k.val ≤ i.val + 128 ∧ i.val < k.val) ∧ (0 < n.val % 32 ∨ 128 ≤ k.val) then val_main_v30 (F := Ideal) x1 (ix4 n h i k) else ⊥ := by
    generalize hz : val_main_v30 (F := Ideal) x1 (ix4 n h i k) = z
    pointwise [val_main_v64, val_main_call0_v0, val_main_call0_v1, val_main_call0_v2, val_main_cst_5, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_c, val_main_c_2, val_main_c_3, val_main_c_4]
    rw [hz]
    rw [show IntOp.addi (BitVec.ofNat 32 i.val) 128#32 = BitVec.ofNat 32 (i.val + 128) from (BitVec.ofNat_add ..).symm,
      show IntOp.subi (BitVec.ofNat 32 (i.val + 128)) 128#32 = BitVec.ofNat 32 i.val by rw [BitVec.ofNat_add]; exact BitVec.add_sub_cancel _ _,
      cmpi_sle_ofNat (by omega) (by omega), cmpi_sgt_ofNat (by omega) (by omega), cmpi_sgt_ofNat (by omega) (by omega),
      cmpi_sge_ofNat (by omega) (by omega), show (id (constant (F := Ideal) S_ FTy.f32 4286578688#32) ix0 : EReal) = ⊥ from Layer.lowest_eq]
    by_cases h1 : k.val ≤ i.val + 128 <;> by_cases h2 : i.val < k.val <;> by_cases h3 : 0 < n.val % 32 <;> by_cases h4 : 128 ≤ k.val <;>
      simp [h1, h2, h3, h4] <;> rfl
  rw [e', e]
  unfold Layer.score
  by_cases hs : Layer.sees (block x0 x1 n) i k
  · have hs' := hs
    unfold Layer.sees block at hs'
    dsimp only at hs'
    rw [if_pos hs, if_pos (by omega)]
    refine congrArg (· * _) (Finset.sum_congr rfl fun d _ => ?_)
    rw [if_neg (by omega)]
    rfl
  · have hs' := hs
    unfold Layer.sees block at hs'
    dsimp only at hs'
    rw [if_neg hs, if_neg (by omega)]

theorem max_at (z : Vec Ideal S64x8x128x256 .f32) (w : Vec Ideal S_ .f32) (n : Fin 64) (h : Fin 8) (i : Fin 128) :
    (Host.reduce (FloatOps.maximumf (F := Ideal) (φ := .f32)) z w reducesTo_S64x8x128x256_S64x8x128_d3 h_S_ : Vec Ideal S64x8x128 .f32) (ix3 n h i)
      = Finset.univ.fold max (w (Shape.Idx.first h_S_)) fun k : Fin 256 => z (ix4 n h i k) := by
  pointwise []

theorem v67_at (n : Fin 64) (h : Fin 8) (i : Fin 128) (u : Fin 1) :
    val_main_v67 (F := Ideal) x1 (ix4 n h i u) = val_main_v66 (F := Ideal) x1 (ix3 n h i) := by
  rw [val_main_v67_apply]
  refine congrArg _ (funext fun a => ?_)
  match a with
  | 0 => rfl
  | 1 => rfl
  | 2 => rfl

theorem v68_at (n : Fin 64) (h : Fin 8) (i : Fin 128) (u : Fin 1) :
    val_main_v68 (F := Ideal) x2 (ix4 n h i u) = x2 (ix1 h) := by
  rw [val_main_v68_apply, val_main_v65_apply]
  refine congrArg _ (funext fun a => ?_)
  match a with
  | 0 => rfl

theorem peak_at (n : Fin 64) (h : Fin 8) (i : Fin 128) (u : Fin 1) :
    val_main_v69 (F := Ideal) x1 x2 (ix4 n h i u) = Layer.peak (fun k => val_main_v64 (F := Ideal) x1 (ix4 n h i k)) (x2 (ix1 h)) := by
  rw [val_main_v69_apply, v67_at, v68_at]
  unfold val_main_v66 Layer.peak
  rw [max_at, show val_main_cst_6 (F := Ideal) (Shape.Idx.first h_S_) = Ideal.ofBits .f32 0xFF800000#32 from rfl]
  generalize Finset.univ.fold max (Ideal.ofBits .f32 0xFF800000#32) (fun k : Fin 256 => val_main_v64 (F := Ideal) x1 (ix4 n h i k)) = z
  rfl

theorem exp_at (n : Fin 64) (h : Fin 8) (i : Fin 128) (k : Fin 256) :
    val_main_v72 (F := Ideal) x1 x2 (ix4 n h i k)
      = Ideal.exp (val_main_v64 (F := Ideal) x1 (ix4 n h i k) - val_main_v69 (F := Ideal) x1 x2 (ix4 n h i 0)) := by
  pointwise [val_main_v72, val_main_v71, val_main_v70]

theorem mass_at (n : Fin 64) (h : Fin 8) (i : Fin 128) (u : Fin 1) :
    val_main_v78 (F := Ideal) x1 x2 (ix4 n h i u)
      = (∑ k : Fin 256, val_main_v72 (F := Ideal) x1 x2 (ix4 n h i k)) + Ideal.exp (x2 (ix1 h) - val_main_v69 (F := Ideal) x1 x2 (ix4 n h i u)) := by
  pointwise [val_main_v78, val_main_v77, val_main_v76, val_main_v75, val_main_v74, val_main_v73, val_main_v65, val_main_cst_7]

theorem ratio_at (n : Fin 64) (h : Fin 8) (i : Fin 128) (k : Fin 256) :
    val_main_v80 (F := Ideal) x1 x2 (ix4 n h i k)
      = Ideal.div (val_main_v72 (F := Ideal) x1 x2 (ix4 n h i k)) (val_main_v78 (F := Ideal) x1 x2 (ix4 n h i 0)) := by
  pointwise [val_main_v80, val_main_v79]

theorem weight_at (n : Fin 64) (h : Fin 8) (i : Fin 128) (k : Fin 256) :
    val_main_v80 (F := Ideal) x1 x2 (ix4 n h i k) = Layer.weight (Layer.score (block x0 x1 n) h i) (x2 (ix1 h)) k := by
  rw [show Layer.score (block x0 x1 n) h i = fun k => val_main_v64 (F := Ideal) x1 (ix4 n h i k) from funext fun k => (score_at x0 x1 n h i k).symm]
  rw [ratio_at, mass_at]
  simp only [exp_at, peak_at]
  rfl

theorem cast_at (z : Vec Ideal S64x128x8x64 .f32) (r : Fin 8192) (c : Fin 512) :
  shapeCast S8192x512 z shapeCasts_S64x128x8x64_S8192x512 (ix2 r c) = z (ix4 ⟨r.val / 128, by omega⟩ ⟨r.val % 128, by omega⟩ ⟨c.val / 64, by omega⟩ ⟨c.val % 64, by omega⟩) := by
  pointwise []

theorem swap_at (z : Vec Ideal S64x8x64x128 .f32) (n : Fin 64) (i : Fin 128) (h : Fin 8) (d : Fin 64) :
    transpose S64x128x8x64 [0, 3, 1, 2] z transposes_S64x8x64x128_S64x128x8x64_0_3_1_2 (ix4 n i h d) = z (ix4 n h d i) := by
  pointwise []

theorem attention_rows (r : Fin 8192) (c : Fin 512) : val_main_v83 (F := Ideal) x1 x2 (ix2 r c)
    = val_main_v81 (F := Ideal) x1 x2 (ix4 ⟨r.val / 128, by omega⟩ ⟨c.val / 64, by omega⟩ ⟨c.val % 64, by omega⟩ ⟨r.val % 128, by omega⟩) := by
  unfold val_main_v83
  rw [cast_at]
  unfold val_main_v82
  rw [swap_at]

section
variable (hm : ∀ n h i, Layer.mass (Layer.score (block x0 x1 n) h i) (x2 (ix1 h)) ≠ 0)
include hm

theorem attend_at (n : Fin 64) (h : Fin 8) (d : Fin 64) (i : Fin 128) : val_main_v81 (F := Ideal) x1 x2 (ix4 n h d i)
    = Layer.attend (params x2 x3 x4 x5 x6 x7 x8 x9 x10 x11 x12) (block x0 x1 n) h i d := by
  have e : val_main_v81 (F := Ideal) x1 x2 (ix4 n h d i)
      = ∑ k : Fin 256, val_main_v27 (F := Ideal) x1 (ix4 n k h d) * val_main_v80 (F := Ideal) x1 x2 (ix4 n h i k) := by
    pointwise [val_main_v81]
  rw [e]
  unfold Layer.attend
  refine Finset.sum_congr rfl fun k _ => ?_
  rw [value_at x0, weight_at x0]
  by_cases hk : k.val < 128 ∧ n.val < 1
  · have hb : Layer.score (block x0 x1 n) h i k = ⊥ := by
      unfold Layer.score Layer.sees block
      exact if_neg (by dsimp only; omega)
    rw [show (params x2 x3 x4 x5 x6 x7 x8 x9 x10 x11 x12).sinks h = x2 (ix1 h) from rfl,
      Layer.weight_eq_zero _ _ _ hb (hm n h i), mul_zero, mul_zero]
  · rw [if_neg hk]
    rfl
end

theorem silu_at (r : Fin 8192) (c : Fin 512) : val_main_v84 (F := Ideal) x1 (ix2 r c) = Layer.silu (x1 (ix2 r ⟨768 + c.val, by omega⟩)) := by
  unfold Layer.silu
  pointwise [val_main_v84, val_main_v3, val_main_call1_v5, val_main_call1_v4, val_main_call1_v3, val_main_call1_v2, val_main_call1_v1, val_main_call1_v0, val_main_call1_cst, val_main_call1_cst_0]
  rfl

theorem silu_at' (r : Fin 8192) (c : Fin 512) : val_main_v150 (F := Ideal) x1 (ix2 r c) = Layer.silu (x1 (ix2 r ⟨2304 + c.val, by omega⟩)) := by
  unfold Layer.silu
  pointwise [val_main_v150, val_main_v6, val_main_call3_v5, val_main_call3_v4, val_main_call3_v3, val_main_call3_v2, val_main_call3_v1, val_main_call3_v0, val_main_call3_cst, val_main_call3_cst_0]
  rfl

theorem gelu_at (r : Fin 8192) (c : Fin 512) : val_main_v98 (F := Ideal) x1 (ix2 r c) = Layer.gelu (x1 (ix2 r ⟨1280 + c.val, by omega⟩)) := by
  unfold Layer.gelu Layer.half Layer.outer Layer.cubic
  pointwise [val_main_v98, val_main_v97, val_main_v96, val_main_v95, val_main_v94, val_main_v93, val_main_v92, val_main_v91, val_main_v90, val_main_v89, val_main_v88, val_main_v87, val_main_v86, val_main_v4, val_main_cst_8, val_main_cst_9, val_main_cst_10, val_main_cst_11]

theorem gelu_at' (r : Fin 8192) (c : Fin 512) : val_main_v111 (F := Ideal) x1 (ix2 r c) = Layer.gelu (x1 (ix2 r ⟨1792 + c.val, by omega⟩)) := by
  unfold Layer.gelu Layer.half Layer.outer Layer.cubic
  pointwise [val_main_v111, val_main_v110, val_main_v109, val_main_v108, val_main_v107, val_main_v106, val_main_v105, val_main_v104, val_main_v103, val_main_v102, val_main_v101, val_main_v100, val_main_v99, val_main_v5, val_main_cst_12, val_main_cst_13, val_main_cst_14, val_main_cst_15]

theorem norm_at (r : Fin 8192) (c : Fin 512) : val_main_v135 (F := Ideal) x1 x3 x4 (ix2 r c)
    = Layer.norm Layer.wide (fun c : Fin 512 => Layer.gelu (x1 (ix2 r ⟨1792 + c.val, by omega⟩))) (fun c => x3 (ix1 c)) (fun c => x4 (ix1 c)) c := by
  simp only [← gelu_at']
  unfold Layer.norm Layer.wide Layer.eps
  pointwise [val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_cst_16, val_main_cst_17, val_main_cst_18, val_main_cst_19, val_main_cst_20]

/-! ## The mixing -/

theorem cast_mix (z : Vec Ideal S64x128x4x128 .f32) (r : Fin 8192) (c : Fin 512) :
    shapeCast S8192x512 z shapeCasts_S64x128x4x128_S8192x512 (ix2 r c)
      = z (ix4 ⟨r.val / 128, by omega⟩ ⟨r.val % 128, by omega⟩ ⟨c.val / 128, by omega⟩ ⟨c.val % 128, by omega⟩) := by
  pointwise []

theorem uncast_mix (z : Vec Ideal S8192x512 .f32) (n : Fin 64) (i : Fin 128) (q : Fin 4) (l : Fin 128) :
    shapeCast S64x128x4x128 z shapeCasts_S8192x512_S64x128x4x128 (ix4 n i q l) = z (ix2 (rowAt n i) ⟨q.val * 128 + l.val, by omega⟩) := by
  pointwise []

theorem mix_at (n : Fin 64) (i : Fin 128) (q : Fin 4) (l : Fin 128) :
    val_main_v147 (F := Ideal) x1 x3 x4 x5 x6 (ix4 n i q l)
      = (∑ k : Fin 128, (if k.val ≤ i.val then x5 (ix3 q i k) else 0) * val_main_v136 (F := Ideal) x1 x3 x4 (ix4 n k q l)) + x6 (ix2 q i) := by
  generalize hz : val_main_v136 (F := Ideal) x1 x3 x4 = z
  pointwise [val_main_v147, val_main_v146, val_main_v145, val_main_v144, val_main_v143, val_main_v142, val_main_v141, val_main_v140, val_main_v139, val_main_v138, val_main_v137, val_main_call2_v0, val_main_call2_c, val_main_call2_v1, val_main_call2_v2, val_main_call2_v3, val_main_call2_v4, val_main_call2_cst, val_main_call2_v5, val_main_cst_21]
  rw [hz]
  refine congrArg (· + _) (Finset.sum_congr rfl fun k _ => ?_)
  rw [show IntOp.addi (BitVec.ofNat 32 i.val) 0#32 = BitVec.ofNat 32 i.val from BitVec.add_zero _, cmpi_sge_ofNat (by omega) (by omega), sel_bool]
  by_cases h : k.val ≤ i.val
  · rw [if_pos h, if_pos h, mul_comm]
  · rw [if_neg h, if_neg h, zero_mul]

theorem gate_at (r : Fin 8192) (c : Fin 1024) : val_main_v157 (F := Ideal) x1 (ix2 r c) = Ideal.logistic (x1 (ix2 r ⟨2816 + c.val, by omega⟩)) := by
  pointwise [val_main_v157, val_main_v156, val_main_v155, val_main_v154, val_main_v153, val_main_v152, val_main_v7, val_main_cst_22, val_main_cst_23]
  rfl

theorem gate_at' (r : Fin 8192) (c : Fin 1024) : val_main_v165 (F := Ideal) x1 (ix2 r c) = Ideal.logistic (x1 (ix2 r ⟨3840 + c.val, by omega⟩)) := by
  pointwise [val_main_v165, val_main_v164, val_main_v163, val_main_v162, val_main_v161, val_main_v160, val_main_v8, val_main_cst_24, val_main_cst_25]
  rfl

theorem sum_at (r : Fin 8192) (c : Fin 1024) : val_main_v175 (F := Ideal) x0 x1 x2 x3 x4 x5 x6 x7 x8 x9 x10 (ix2 r c)
    = Layer.alpha * x0 (ix2 r c) + ((∑ k : Fin 1024, val_main_v168 (F := Ideal) x1 x2 x3 x4 x5 x6 x7 x8 (ix2 r k) * x9 (ix2 k c)) + x10 (ix1 c)) := by
  unfold Layer.alpha
  pointwise [val_main_v175, val_main_v174, val_main_v173, val_main_v172, val_main_v171, val_main_v170, val_main_v169, val_main_cst_26]

theorem merged_at (r : Fin 8192) (c : Fin 1024) : val_main_v168 (F := Ideal) x1 x2 x3 x4 x5 x6 x7 x8 (ix2 r c)
    = val_main_v157 (F := Ideal) x1 (ix2 r c)
        * (∑ k : Fin 512, val_main_v83 (F := Ideal) x1 x2 (ix2 r k) * val_main_v84 (F := Ideal) x1 (ix2 r k) * x7 (ix2 k c))
      + val_main_v165 (F := Ideal) x1 (ix2 r c)
        * (∑ k : Fin 512, val_main_v98 (F := Ideal) x1 (ix2 r k) * val_main_v148 (F := Ideal) x1 x3 x4 x5 x6 (ix2 r k)
            * val_main_v150 (F := Ideal) x1 (ix2 r k) * x8 (ix2 k c)) := by
  pointwise [val_main_v168, val_main_v167, val_main_v166, val_main_v159, val_main_v158, val_main_v151, val_main_v149, val_main_v85]

theorem result_norm_at (r : Fin 8192) (c : Fin 1024) : val_main_v199 (F := Ideal) x0 x1 x2 x3 x4 x5 x6 x7 x8 x9 x10 x11 x12 (ix2 r c)
    = Layer.norm Layer.full (fun c => val_main_v175 (F := Ideal) x0 x1 x2 x3 x4 x5 x6 x7 x8 x9 x10 (ix2 r c)) (fun c => x11 (ix1 c)) (fun c => x12 (ix1 c)) c := by
  unfold Layer.norm Layer.full Layer.eps
  pointwise [val_main_v199, val_main_v198, val_main_v197, val_main_v196, val_main_v195, val_main_v194, val_main_v193, val_main_v192, val_main_v191, val_main_v190, val_main_v189, val_main_v188, val_main_v187, val_main_v186, val_main_v185, val_main_v184, val_main_v183, val_main_v182, val_main_v181, val_main_v180, val_main_v179, val_main_v178, val_main_v177, val_main_v176, val_main_cst_27, val_main_cst_28, val_main_cst_29, val_main_cst_30, val_main_cst_31]

theorem projected_at (r : Fin 8192) (c : Fin 4864) : val_main_v203 (F := Ideal) x0 x1 x2 x3 x4 x5 x6 x7 x8 x9 x10 x11 x12 x13 x14 (ix2 r c)
    = (∑ k : Fin 1024, val_main_v199 (F := Ideal) x0 x1 x2 x3 x4 x5 x6 x7 x8 x9 x10 x11 x12 (ix2 r k) * x13 (ix2 k c)) + x14 (ix1 c) := by
  pointwise [val_main_v203, val_main_v202, val_main_v201, val_main_v200]

/-! ## A row of a block -/

theorem row_div (n : Fin 64) (i : Fin 128) : (⟨(rowAt n i).val / 128, by omega⟩ : Fin 64) = n := Fin.ext (by simp; omega)
theorem row_mod (n : Fin 64) (i : Fin 128) : (⟨(rowAt n i).val % 128, by omega⟩ : Fin 128) = i := Fin.ext (by simp only; omega)

theorem mixed_at (n : Fin 64) (i : Fin 128) (c : Fin 512) : val_main_v148 (F := Ideal) x1 x3 x4 x5 x6 (ix2 (rowAt n i) c)
    = Layer.mixed (params x2 x3 x4 x5 x6 x7 x8 x9 x10 x11 x12) (block x0 x1 n) i c := by
  unfold val_main_v148
  rw [cast_mix, row_div, row_mod, mix_at]
  unfold Layer.mixed
  refine congrArg₂ (· + ·) (Finset.sum_congr rfl fun k _ => congrArg _ ?_) rfl
  unfold val_main_v136
  rw [uncast_mix, norm_at]
  unfold Layer.mixIn
  rw [show (⟨c.val / 128 * 128 + c.val % 128, by omega⟩ : Fin 512) = c from Fin.ext (Nat.div_add_mod' _ _)]
  rfl

section
variable (hm : ∀ n h i, Layer.mass (Layer.score (block x0 x1 n) h i) (x2 (ix1 h)) ≠ 0)
include hm

theorem attention_row (n : Fin 64) (i : Fin 128) (c : Fin 512) : val_main_v83 (F := Ideal) x1 x2 (ix2 (rowAt n i) c)
    = Layer.attend (params x2 x3 x4 x5 x6 x7 x8 x9 x10 x11 x12) (block x0 x1 n) ⟨c.val / 64, by omega⟩ i ⟨c.val % 64, by omega⟩ := by
  rw [attention_rows, row_div, row_mod, attend_at x0 x1 x2 x3 x4 x5 x6 x7 x8 x9 x10 x11 x12 hm]

theorem merged_row (n : Fin 64) (i : Fin 128) (c : Fin 1024) :
    val_main_v168 (F := Ideal) x1 x2 x3 x4 x5 x6 x7 x8 (ix2 (rowAt n i) c)
      = Layer.merged (params x2 x3 x4 x5 x6 x7 x8 x9 x10 x11 x12) (block x0 x1 n) i c := by
  rw [merged_at]
  unfold Layer.merged Layer.branchA Layer.branchB
  simp only [silu_at, silu_at', gelu_at, gate_at, gate_at', mixed_at x0 x1 x2 x3 x4 x5 x6 x7 x8 x9 x10 x11 x12,
    attention_row x0 x1 x2 x3 x4 x5 x6 x7 x8 x9 x10 x11 x12 hm]
  rfl

/-- A row of the reference's first result is the layer's. -/
theorem result_at (n : Fin 64) (i : Fin 128) (c : Fin 1024) :
    val_main_v199 (F := Ideal) x0 x1 x2 x3 x4 x5 x6 x7 x8 x9 x10 x11 x12 (ix2 (rowAt n i) c)
      = Layer.result (params x2 x3 x4 x5 x6 x7 x8 x9 x10 x11 x12) (block x0 x1 n) i c := by
  rw [result_norm_at]
  simp only [sum_at, merged_row x0 x1 x2 x3 x4 x5 x6 x7 x8 x9 x10 x11 x12 hm]
  rfl
end

end Cert.ForwardReferenceIdeal.Rows

end
-- ==== Proof.ForwardValue.lean ====
/- The two results of the forward kernel: the layer of every block of rows, and its projection for the next layer. -/
module

public import proofs.«01_k».proof.Defs
public import proofs.«01_k».proof.Proof.LayerSpec
public import proofs.«01_k».proof.Proof.LayerFinite
public import proofs.«01_k».proof.Proof.ForwardRows
public import proofs.«01_k».proof.Proof.ForwardPoint
public import proofs.«01_k».proof.Proof.ForwardBlock
public import proofs.«01_k».proof.Proof.ForwardReference
public import proofs.«01_k».proof.Proof.Gen.ForwardIdeal
public import proofs.«01_k».proof.Proof.Gen.ForwardIdeal.Frame
public import proofs.«01_k».proof.Proof.Gen.ForwardIdeal.Value
public import Idealize.ShloMosaic.Lib.Pipeline.Value
public import Idealize.ShloMosaic.Lib.Pipeline.ValueKit
public import Idealize.ShloMosaic.Lib.Pointwise
public import Idealize.ShloMosaic.Lib.Pipeline.ReadBack

@[expose] public section

set_option maxRecDepth 16384
set_option maxHeartbeats 2000000

noncomputable section

open Idealize.ShloMosaic Idealize.ShloMosaic.TcCoe Idealize.SL.Sem
open Idealize.ShloMosaic.Pipeline (Dat)

namespace Cert.ForwardIdeal.Results

open Cert.ForwardIdeal Cert.ForwardIdeal.Gen Rows Block

theorem rows0 : ∀ t : Fin cfg0.N, win0_0.index t = ![min t.val 31, 0] := (by decide +kernel : ∀ t : Fin grid0.N, _)
theorem rows1 : ∀ t : Fin cfg0.N, win0_1.index t = ![min t.val 31, 0] := (by decide +kernel : ∀ t : Fin grid0.N, _)
theorem rows2 : ∀ t : Fin cfg0.N, win0_2.index t = ![2 * min t.val 31 - 1, 2] := (by decide +kernel : ∀ t : Fin grid0.N, _)
theorem rows3 : ∀ t : Fin cfg0.N, win0_3.index t = ![0, 0] := (by decide +kernel : ∀ t : Fin grid0.N, _)
theorem rows4 : ∀ t : Fin cfg0.N, win0_4.index t = ![0, 0] := (by decide +kernel : ∀ t : Fin grid0.N, _)
theorem rows5 : ∀ t : Fin cfg0.N, win0_5.index t = ![0] := (by decide +kernel : ∀ t : Fin grid0.N, _)
theorem rows6 : ∀ t : Fin cfg0.N, win0_6.index t = ![0, 0] := (by decide +kernel : ∀ t : Fin grid0.N, _)
theorem rows7 : ∀ t : Fin cfg0.N, win0_7.index t = ![0, 0] := (by decide +kernel : ∀ t : Fin grid0.N, _)
theorem rows8 : ∀ t : Fin cfg0.N, win0_8.index t = ![0, 0, 0] := (by decide +kernel : ∀ t : Fin grid0.N, _)
theorem rows9 : ∀ t : Fin cfg0.N, win0_9.index t = ![0, 0] := (by decide +kernel : ∀ t : Fin grid0.N, _)
theorem rows10 : ∀ t : Fin cfg0.N, win0_10.index t = ![0, 0] := (by decide +kernel : ∀ t : Fin grid0.N, _)
theorem rows11 : ∀ t : Fin cfg0.N, win0_11.index t = ![0, 0] := (by decide +kernel : ∀ t : Fin grid0.N, _)
theorem rows12 : ∀ t : Fin cfg0.N, win0_12.index t = ![0, 0] := (by decide +kernel : ∀ t : Fin grid0.N, _)
theorem rows13 : ∀ t : Fin cfg0.N, win0_13.index t = ![0, 0] := (by decide +kernel : ∀ t : Fin grid0.N, _)
theorem rows14 : ∀ t : Fin cfg0.N, win0_14.index t = ![0, 0] := (by decide +kernel : ∀ t : Fin grid0.N, _)
theorem rows15 : ∀ t : Fin cfg0.N, win0_15.index t = ![0, 0] := (by decide +kernel : ∀ t : Fin grid0.N, _)
theorem rows16 : ∀ t : Fin cfg0.N, win0_16.index t = ![min t.val 31, 0] := (by decide +kernel : ∀ t : Fin grid0.N, _)
theorem rows17 : ∀ t : Fin cfg0.N, win0_17.index t = ![t.val - 1, 0] := (by decide +kernel : ∀ t : Fin grid0.N, _)

variable (m : (ℓ : Loc nD τ sig) → Buf (Elt Ideal) ℓ) (c : Dev nD) (t : Fin cfg0.N)

/-! ## The arguments -/

abbrev argX : Vec Ideal S8192x1024 .f32 := m (c.tc.loc main_arg0)
abbrev argH : Vec Ideal S8192x4864 .f32 := m (c.tc.loc main_arg1)
abbrev argSinks : Vec Ideal S8 .f32 := m (c.tc.loc main_arg2)

/-- The layer's parameters, read off the arguments. -/
abbrev parameters : Layer.Params :=
  Cert.ForwardReferenceIdeal.Rows.params (argSinks m c) (m (c.tc.loc main_arg3)) (m (c.tc.loc main_arg4)) (m (c.tc.loc main_arg5)) (m (c.tc.loc main_arg6))
    (m (c.tc.loc main_arg7)) (m (c.tc.loc main_arg8)) (m (c.tc.loc main_arg9)) (m (c.tc.loc main_arg10)) (m (c.tc.loc main_arg11)) (m (c.tc.loc main_arg12))

/-- Block `n` of the arguments' rows. -/
abbrev blockOf (n : Fin 64) : Layer.Block := Cert.ForwardReferenceIdeal.Rows.block (argX m c) (argH m c) n

theorem at0 (r : Fin 256) (k : Fin 1024) : iblk m c 0 t (ix2 r k) = argX m c (ix2 ⟨min t.val 31 * 256 + r.val, by omega⟩ k) := by
  blk_point [iblk, V, rows0 t]
theorem at1 (r : Fin 256) (k : Fin 4864) : iblk m c 1 t (ix2 r k) = argH m c (ix2 ⟨min t.val 31 * 256 + r.val, by omega⟩ k) := by
  blk_point [iblk, V, rows1 t]
theorem at2 (r : Fin 128) (k : Fin 256) :
    iblk m c 2 t (ix2 r k) = argH m c (ix2 ⟨(2 * min t.val 31 - 1) * 128 + r.val, by omega⟩ ⟨512 + k.val, by omega⟩) := by
  blk_point [iblk, V, rows2 t]
theorem at3 (r : Fin 4864) (k : Fin 1024) : iblk m c 3 t (ix2 r k) = (m (c.tc.loc main_arg13) : Vec Ideal S1024x4864 .f32) (ix2 k r) := by
  blk_point [iblk, V, rows3 t]
theorem at4 (k : Fin 4864) : iblk m c 4 t (ix2 0 k) = (m (c.tc.loc main_arg14) : Vec Ideal S4864 .f32) (ix1 k) := by
  blk_point [iblk, V, rows4 t]
theorem at5 (k : Fin 8) : iblk m c 5 t (ix1 k) = argSinks m c (ix1 k) := by
  blk_point [iblk, V, rows5 t]
theorem at6 (k : Fin 512) : iblk m c 6 t (ix2 0 k) = (m (c.tc.loc main_arg3) : Vec Ideal S512 .f32) (ix1 k) := by
  blk_point [iblk, V, rows6 t]
theorem at7 (k : Fin 512) : iblk m c 7 t (ix2 0 k) = (m (c.tc.loc main_arg4) : Vec Ideal S512 .f32) (ix1 k) := by
  blk_point [iblk, V, rows7 t]
theorem at8 (q : Fin 4) (i k : Fin 128) : iblk m c 8 t (ix3 q i k) = (m (c.tc.loc main_arg5) : Vec Ideal S4x128x128 .f32) (ix3 q i k) := by
  blk_point [iblk, V, rows8 t]
theorem at9 (i : Fin 128) (k : Fin 512) : iblk m c 9 t (ix2 i k) = (m (c.tc.loc main_arg6) : Vec Ideal S4x128 .f32) (ix2 ⟨k.val / 128, by omega⟩ i) := by
  blk_point [iblk, V, rows9 t]
theorem at10 (r : Fin 512) (k : Fin 1024) : iblk m c 10 t (ix2 r k) = (m (c.tc.loc main_arg7) : Vec Ideal S512x1024 .f32) (ix2 r k) := by
  blk_point [iblk, V, rows10 t]
theorem at11 (r : Fin 512) (k : Fin 1024) : iblk m c 11 t (ix2 r k) = (m (c.tc.loc main_arg8) : Vec Ideal S512x1024 .f32) (ix2 r k) := by
  blk_point [iblk, V, rows11 t]
theorem at12 (r k : Fin 1024) : iblk m c 12 t (ix2 r k) = (m (c.tc.loc main_arg9) : Vec Ideal S1024x1024 .f32) (ix2 r k) := by
  blk_point [iblk, V, rows12 t]
theorem at13 (k : Fin 1024) : iblk m c 13 t (ix2 0 k) = (m (c.tc.loc main_arg10) : Vec Ideal S1024 .f32) (ix1 k) := by
  blk_point [iblk, V, rows13 t]
theorem at14 (k : Fin 1024) : iblk m c 14 t (ix2 0 k) = (m (c.tc.loc main_arg11) : Vec Ideal S1024 .f32) (ix1 k) := by
  blk_point [iblk, V, rows14 t]
theorem at15 (k : Fin 1024) : iblk m c 15 t (ix2 0 k) = (m (c.tc.loc main_arg12) : Vec Ideal S1024 .f32) (ix1 k) := by
  blk_point [iblk, V, rows15 t]

/-- A point's block of rows, as one of the 64. -/
abbrev blockNo (o : Fin 2) : Fin 64 := ⟨2 * min t.val 31 + o.val, by omega⟩

theorem parameters_eq : Block.params (iblk m c 5 t) (iblk m c 6 t) (iblk m c 7 t) (iblk m c 8 t) (iblk m c 9 t) (iblk m c 10 t) (iblk m c 11 t)
    (iblk m c 12 t) (iblk m c 13 t) (iblk m c 14 t) (iblk m c 15 t) = parameters m c := by
  unfold Block.params parameters Cert.ForwardReferenceIdeal.Rows.params
  congr 1
  · exact funext fun k => at5 m c t k
  · exact funext fun k => at6 m c t k
  · exact funext fun k => at7 m c t k
  · exact funext fun q => funext fun i => funext fun k => at8 m c t q i k
  · exact funext fun i => funext fun k => at9 m c t i k
  · exact funext fun r => funext fun k => at10 m c t r k
  · exact funext fun r => funext fun k => at11 m c t r k
  · exact funext fun r => funext fun k => at12 m c t r k
  · exact funext fun k => at13 m c t k
  · exact funext fun k => at14 m c t k
  · exact funext fun k => at15 m c t k

theorem cell {R C : ℕ} (x : Vec Ideal ⟨2, ![R, C]⟩ .f32) {r r' : Fin R} {k k' : Fin C} (hr : r.val = r'.val) (hk : k.val = k'.val) :
    x (ix2 r k) = x (ix2 r' k') := by
  rw [Fin.ext hr, Fin.ext hk]

theorem block_eq (o : Fin 2) : Block.blk (iblk m c 0 t) (iblk m c 1 t) (iblk m c 2 t) (startAt t) o = blockOf m c (blockNo t o) := by
  unfold Block.blk blockOf Cert.ForwardReferenceIdeal.Rows.block
  congr 1
  · exact funext fun i => funext fun k => (at0 m c t _ _).trans (cell (argX m c) (by simp only; omega) rfl)
  · exact funext fun i => funext fun k => (at1 m c t _ _).trans (cell (argH m c) (by simp only; omega) rfl)
  · refine funext fun i => funext fun k => ?_
    rcases (by omega : o.val = 0 ∨ o.val = 1) with ho | ho
    · rw [if_pos (Fin.ext ho)]
      exact (at2 m c t _ _).trans (cell (argH m c) (by simp only; omega) rfl)
    · rw [if_neg (fun h => by rw [h] at ho; exact absurd ho (by decide))]
      exact (at1 m c t _ _).trans (cell (argH m c) (by simp only; omega) rfl)
  · refine propext ?_
    rw [startAt_iff t]
    constructor
    · rintro ⟨h, h'⟩
      rw [h]
      simp only [Fin.val_zero]
      omega
    · intro h
      have := o.isLt
      exact ⟨Fin.ext (by simp only [Fin.val_zero]; simp only at h; omega), by simp only at h; omega⟩

section
variable (hH : Finite (argH m c)) (hS : Finite (argSinks m c))
include hH hS

theorem rowsAt_eq (o : Fin 2) (i : Fin 128) (k : Fin 1024) :
    rowsAt m c t (ix2 (rowOf o i) k) = Layer.result (parameters m c) (blockOf m c (blockNo t o)) i k := by
  unfold rowsAt
  have h1 : Finite (iblk m c 1 t : Vec Ideal S256x4864 .f32) := by
    intro j
    idx_vars j
    rw [at1]
    exact hH _
  have h2 : Finite (iblk m c 2 t : Vec Ideal S128x256 .f32) := by
    intro j
    idx_vars j
    rw [at2]
    exact hH _
  have h5 : Finite (iblk m c 5 t : Vec Ideal S8 .f32) := by
    intro j
    idx_vars j
    rw [at5]
    exact hS _
  rw [rows_apply _ _ _ _ _ _ _ _ _ _ _ _ _ _ _ h1 h2 h5, parameters_eq, block_eq]
end

/-- The layer of every row. -/
def layer (P : Layer.Params) (B : Fin 64 → Layer.Block) : Vec Ideal S8192x1024 .f32 :=
  fun j => Layer.result P (B ⟨(j 0).val / 128, by have : (j 0).val < 8192 := (j 0).isLt; omega⟩) ⟨(j 0).val % 128, by omega⟩ (j 1)

/-- Its projection for the next layer. -/
def projected (y : Vec Ideal S8192x1024 .f32) (w : Vec Ideal S1024x4864 .f32) (b : Vec Ideal S4864 .f32) : Vec Ideal S8192x4864 .f32 :=
  fun j => (∑ k : Fin 1024, y (ix2 (j 0) k) * w (ix2 k (j 1))) + b (ix1 (j 1))

/-- What a point after the first writes to the projection: the projection of the rows the point before it computed. -/
theorem next_value (h : ¬ t.val % 33 = 0) (r : Fin 256) (b : Fin 4864) :
    (outsAt0 m c t.val t.isLt).2.1 (ix2 r b)
      = (∑ k : Fin 1024, (outsAt0 m c (t.val - 1) (by have := t.isLt; omega)).2.2 (ix2 r k) * iblk m c 3 t (ix2 b k)) + iblk m c 4 t (ix2 0 b) := by
  obtain ⟨b, hlt⟩ := b
  rw [outsAt0_B m c t h]
  generalize (outsAt0 m c (t.val - 1) (by have := t.isLt; omega)).2.2 = prev
  generalize iblk m c 0 t = x0
  generalize iblk m c 1 t = x1
  generalize iblk m c 2 t = x2
  generalize iblk m c 3 t = x3
  generalize iblk m c 4 t = x4
  frame_out
  simp only [read_unread_whole]
  generalize hy : (ix2 r ⟨b, hlt⟩ : S256x4864.Idx) = y
  have hr : (y 0).val = r.val := by rw [← hy]; rfl
  have hb : (y 1).val = b := by rw [← hy]; rfl
  clear hy
  canon_tiles x h using (View.cover_of_tiledBy _ ![256, 256] (by sl_kernel_rfl) _)
  all_goals
    idx_vars x
    pointwise [k0_pay46, k0_pay49, k0_pay52, k0_pay55, k0_pay58, k0_pay60, k0_pay61, k0_pay62, k0_pay64, k0_pay87, k0_pay90, k0_pay91, k0_pay93, View.ld_apply]
    obtain rfl : x0 = r := Fin.ext (h0.symm.trans hr)
    have e : b = _ := hb.symm.trans h1
    subst e
    rfl

section
variable (hH : Finite (argH m c)) (hS : Finite (argSinks m c))
include hH hS

theorem rowsAt_row (r : Fin 256) (k : Fin 1024) :
    rowsAt m c t (ix2 r k) = layer (parameters m c) (blockOf m c) (ix2 ⟨min t.val 31 * 256 + r.val, by omega⟩ k) := by
  have e := rowsAt_eq m c t hH hS ⟨r.val / 128, by omega⟩ ⟨r.val % 128, by omega⟩ k
  rw [show rowOf ⟨r.val / 128, by omega⟩ ⟨r.val % 128, by omega⟩ = r from Fin.ext (Nat.div_add_mod r.val 128)] at e
  rw [e]
  unfold layer
  refine congr (congr (congrArg (Layer.result _) (congrArg _ (Fin.ext ?_))) (Fin.ext ?_)) rfl
  · show 2 * min t.val 31 + r.val / 128 = (min t.val 31 * 256 + r.val) / 128
    omega
  · show r.val % 128 = (min t.val 31 * 256 + r.val) % 128
    omega

end
end Cert.ForwardIdeal.Results
end
-- ==== Proof.ForwardResults.lean ====
/- The arrays the forward kernel ends with, those its reference ends with, and what the precondition says of the arguments. -/
module

public import proofs.«01_k».proof.Defs
public import proofs.«01_k».proof.Proof.LayerSpec
public import proofs.«01_k».proof.Proof.LayerFinite
public import proofs.«01_k».proof.Proof.ForwardRows
public import proofs.«01_k».proof.Proof.ForwardPoint
public import proofs.«01_k».proof.Proof.ForwardBlock
public import proofs.«01_k».proof.Proof.ForwardReference
public import proofs.«01_k».proof.Pre_columns_finite
public import proofs.«01_k».proof.Proof.Gen.ForwardIdeal
public import proofs.«01_k».proof.Proof.Gen.ForwardIdeal.Frame
public import proofs.«01_k».proof.Proof.Gen.ForwardIdeal.Value
public import proofs.«01_k».proof.Proof.ForwardValue
public import Idealize.ShloMosaic.Lib.Pipeline.Value
public import Idealize.ShloMosaic.Lib.Pipeline.ValueKit
public import Idealize.ShloMosaic.Lib.Pointwise
public import Idealize.ShloMosaic.Lib.Pointwise.Select
public import Idealize.ShloMosaic.Lib.Pipeline.ReadBack

@[expose] public section

set_option maxRecDepth 16384
set_option maxHeartbeats 2000000

noncomputable section

open Idealize.ShloMosaic Idealize.ShloMosaic.TcCoe Idealize.SL.Sem
open Idealize.ShloMosaic.Pipeline (Dat)

namespace Cert.ForwardIdeal.Results

open Cert.ForwardIdeal Cert.ForwardIdeal.Gen Rows Block

variable (m : (ℓ : Loc nD τ sig) → Buf (Elt Ideal) ℓ) (c : Dev nD) (t : Fin cfg0.N)
/-- The first point's projection isn't kept. -/
theorem last17 : ∀ t : Fin cfg0.N, (win0 17).flush t = true → ¬ t.val % 33 = 0 := (by decide +kernel : ∀ t : Fin grid0.N, _)

section
variable (hH : Finite (argH m c)) (hS : Finite (argSinks m c))
include hH hS

/-- The first result is the layer of every row. -/
theorem final_layer : (dats m 0 c).arrAt 16 cfg0.N = layer (parameters m c) (blockOf m c) := by
  refine (dats m 0 c).arrAt_eq_of_covers 16 _ (by decide +kernel) fun t hf y => ?_
  blk_simp
  rw [after0_16, result_at]
  idx_vars y
  rw [rowsAt_row m c t hH hS]
  generalize layer (parameters m c) (blockOf m c) = G
  blk_point [rows16 t]

/-- The second is its projection. -/
theorem final_projected : (dats m 0 c).arrAt 17 cfg0.N
    = projected (layer (parameters m c) (blockOf m c)) (m (c.tc.loc main_arg13)) (m (c.tc.loc main_arg14)) := by
  refine (dats m 0 c).arrAt_eq_of_covers 17 _ (by decide +kernel) fun t hf y => ?_
  blk_simp
  have ht : ¬ t.val % 33 = 0 := last17 t hf
  have hN : t.val < 33 := t.isLt
  have hp : t.val - 1 < cfg0.N := lt_of_le_of_lt (Nat.sub_le _ _) t.isLt
  have hc : (outsAt0 m c (t.val - 1) hp).2.2 = rowsAt m c ⟨t.val - 1, hp⟩ := carried_at m c ⟨t.val - 1, hp⟩
  have hr := rowsAt_row m c ⟨t.val - 1, hp⟩ hH hS
  rw [after0_17]
  idx_vars y
  rw [next_value m c t ht, hc, at4]
  simp only [at3, hr]
  generalize layer (parameters m c) (blockOf m c) = G
  unfold projected
  blk_point [rows17 t]
end
end Cert.ForwardIdeal.Results

namespace Cert.ForwardReferenceIdeal.Results

open Cert.ForwardReferenceIdeal Cert.ForwardReferenceIdeal.Gen Cert.ForwardReferenceIdeal.Read Cert.ForwardReferenceIdeal.Rows
open Cert.ForwardIdeal.Results (layer projected)
open Cert.ForwardIdeal.Rows (Finite)

variable (x0 : Vec Ideal S8192x1024 .f32) (x1 : Vec Ideal S8192x4864 .f32) (x2 : Vec Ideal S8 .f32) (x3 x4 : Vec Ideal S512 .f32)
  (x5 : Vec Ideal S4x128x128 .f32) (x6 : Vec Ideal S4x128 .f32) (x7 x8 : Vec Ideal S512x1024 .f32) (x9 : Vec Ideal S1024x1024 .f32)
  (x10 x11 x12 : Vec Ideal S1024 .f32) (x13 : Vec Ideal S1024x4864 .f32) (x14 : Vec Ideal S4864 .f32)
  (hH : Finite x1) (hS : Finite x2)

include hH hS in
/-- The reference's first result is the layer of every row. -/
theorem first_eq : val_main_v199 (F := Ideal) x0 x1 x2 x3 x4 x5 x6 x7 x8 x9 x10 x11 x12
    = layer (params x2 x3 x4 x5 x6 x7 x8 x9 x10 x11 x12) fun n => block x0 x1 n := by
  funext j
  idx_vars j
  have e : j0 = rowAt ⟨j0.val / 128, by omega⟩ ⟨j0.val % 128, by omega⟩ := Fin.ext (by simp only; omega)
  have hm : ∀ (n : Fin 64) (h : Fin 8) (i : Fin 128), Layer.mass (Layer.score (block x0 x1 n) h i) (x2 (ix1 h)) ≠ 0 := fun n h i =>
    Layer.mass_ne (params x2 x3 x4 x5 x6 x7 x8 x9 x10 x11 x12) (block x0 x1 n) (fun _ _ => hH _) (fun _ _ => hH _) (fun _ => hS _) h i
  exact (congrArg (fun r => val_main_v199 (F := Ideal) x0 x1 x2 x3 x4 x5 x6 x7 x8 x9 x10 x11 x12 (ix2 r j1)) e).trans
    (result_at x0 x1 x2 x3 x4 x5 x6 x7 x8 x9 x10 x11 x12 hm _ _ j1)

/-- Its second is the first's projection. -/
theorem second_eq : val_main_v203 (F := Ideal) x0 x1 x2 x3 x4 x5 x6 x7 x8 x9 x10 x11 x12 x13 x14
    = projected (val_main_v199 (F := Ideal) x0 x1 x2 x3 x4 x5 x6 x7 x8 x9 x10 x11 x12) x13 x14 := by
  funext j
  idx_vars j
  exact projected_at x0 x1 x2 x3 x4 x5 x6 x7 x8 x9 x10 x11 x12 x13 x14 j0 j1

/-- A number whose size is below infinity is a real number. -/
theorem real_of_below (x : EReal) (h : Ideal.cmp .olt (max x (-x)) (Ideal.ofBits .f32 0x7F800000#32) = 1) : ∃ q : ℝ, x = q := by
  rw [show Ideal.ofBits .f32 0x7F800000#32 = ⊤ by simp [Ideal.ofBits, Ideal.ieee], Ideal.cmp_olt_eq_one, max_lt_iff] at h
  induction x with
  | bot => exact absurd h.2 (by simp)
  | coe q => exact ⟨q, rfl⟩
  | top => exact absurd h.1 (by simp)

variable [Cert.Pre_columns_finite.Facts]

theorem columns_real (h : (Cert.Pre_columns_finite.fn (F := Ideal) x0 x1 x2 x3 x4 x5 x6 x7 x8 x9 x10 x11 x12 x13 x14).1 = fun _ => 1#1) : Finite x1 :=
  fun j => real_of_below _ (congrFun h j)

theorem sinks_real (h : (Cert.Pre_columns_finite.fn (F := Ideal) x0 x1 x2 x3 x4 x5 x6 x7 x8 x9 x10 x11 x12 x13 x14).2 = fun _ => 1#1) : Finite x2 :=
  fun j => real_of_below _ (congrFun h j)

end Cert.ForwardReferenceIdeal.Results
end
-- ==== Proof.ProjectValue.lean ====
module

public import proofs.«01_k».proof.Defs
public import proofs.«01_k».proof.Proof.Gen.ProjectIdeal
public import proofs.«01_k».proof.Proof.Gen.ProjectIdeal.Frame
public import proofs.«01_k».proof.Proof.Gen.ProjectIdeal.Value
public import proofs.«01_k».proof.Proof.Gen.ProjectReferenceIdeal
public import proofs.«01_k».proof.Proof.Gen.ProjectReferenceIdeal.Run
public import proofs.«01_k».proof.Proof.Gen.ProjectReferenceIdeal.Read
public import Idealize.ShloMosaic.Lib.Pipeline.Value
public import Idealize.ShloMosaic.Lib.Pipeline.ValueKit
public import Idealize.ShloMosaic.Lib.Pointwise
public import Idealize.ShloMosaic.Lib.StableHlo.Run
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.ProjectIdeal.Proj

open Cert.ProjectIdeal Cert.ProjectIdeal.Gen

variable (m : (ℓ : Loc nD τ sig) → Buf (Elt Ideal) ℓ) (ρ : Dev nD → PrngReg)

/-- The projection of the layer's input: at `(r, b)` the product of row `r` of `x` and column `b` of the weights, plus the bias. -/
def project (x : Vec Ideal S8192x1024 .f32) (w : Vec Ideal S1024x4864 .f32) (b : Vec Ideal S4864 .f32) : Vec Ideal S8192x4864 .f32 :=
  fun j => (∑ k : Fin 1024, x (ix2 (j 0) k) * w (ix2 k (j 1))) + b (ix1 (j 1))

theorem rows0 : ∀ t : Fin cfg0.N, win0_0.index t = ![t.val, 0] := (by decide +kernel : ∀ t : Fin grid0.N, _)
theorem rows1 : ∀ t : Fin cfg0.N, win0_1.index t = ![0, 0] := (by decide +kernel : ∀ t : Fin grid0.N, _)
theorem rows2 : ∀ t : Fin cfg0.N, win0_2.index t = ![0, 0] := (by decide +kernel : ∀ t : Fin grid0.N, _)
theorem rows3 : ∀ t : Fin cfg0.N, win0_3.index t = ![t.val, 0] := (by decide +kernel : ∀ t : Fin grid0.N, _)

/-- What a point writes, whichever of its ten stores an index falls in. -/
theorem block_value (c : Dev nD) (t : Fin cfg0.N) (X : Vec Ideal S512x1024 .f32) (W : Vec Ideal S4864x1024 .bf16) (B : Vec Ideal S1x4864 .f32)
    (y : S512x4864.Idx) :
    out0_A_3 c (grid0.coords t) (ms0_0 t) (hs0_0 t) (ms0_1 t) (hs0_1 t) (ms0_2 t) (hs0_2 t) (ms0_3 t) (hs0_3 t) X W B y
      = (∑ k : Fin 1024, X (ix2 (y 0) k) * W (ix2 (y 1) k)) + B (ix2 0 (y 1)) := by
  frame_out
  canon_tiles x h using (View.cover_of_tiledBy _ ![512, 256] (by sl_kernel_rfl) _)
  all_goals
    idx_vars x
    pointwise [k0_pay1, k0_pay2, k0_pay3, k0_pay4, k0_pay5, k0_pay6, k0_pay7, k0_pay8, k0_pay9, k0_pay10, k0_pay11, k0_pay12, View.ld_apply]
    obtain rfl : y 0 = x0 := Fin.ext h0
    first
      | (simp only [← h1]; rfl)
      | (obtain rfl : y 1 = x1 := Fin.ext h1; rfl)

theorem final_project (c : Dev nD) :
    (dats m 0 c).arrAt 3 cfg0.N = project (m (c.tc.loc main_arg0)) (m (c.tc.loc main_arg1)) (m (c.tc.loc main_arg2)) := by
  refine (dats m 0 c).arrAt_eq_of_covers 3 _ (by decide +kernel) fun t hf y => ?_
  blk_simp
  rw [after0_3]
  unfold outsAt0
  rw [block_value]
  unfold project
  blk_point [iblk, V, rows0 t, rows1 t, rows2 t, rows3 t]

end Cert.ProjectIdeal.Proj

namespace Cert.ProjectReferenceIdeal.Proj

open Cert.ProjectReferenceIdeal Cert.ProjectReferenceIdeal.Gen Cert.ProjectReferenceIdeal.Read

theorem project_eq (x0 : Vec Ideal S8192x1024 .f32) (x1 : Vec Ideal S1024x4864 .f32) (x2 : Vec Ideal S4864 .f32) :
    val_main_v3 x0 x1 x2 = Cert.ProjectIdeal.Proj.project x0 x1 x2 := by
  funext j
  unfold Cert.ProjectIdeal.Proj.project
  idx_vars j
  pointwise [val_main_v3, val_main_v2, val_main_v1, val_main_v0]

end Cert.ProjectReferenceIdeal.Proj
end
-- ==== Proof.NormSpec.lean ====
/- The gradient of a row's normalisation with respect to the row, in the kernel's form and in the form that differentiating gives,
   and that the two are equal wherever the gradient coming in is finite. -/
module

public import proofs.«01_k».proof.Proof.LayerSpec

@[expose] public section

noncomputable section

open Idealize.ShloMosaic

namespace Norm

open Layer (full eps)

/-- The mean of a row. -/
def mean (f : Fin 1024 → EReal) : EReal := Ideal.div (∑ k, f k) full

variable (x d : Fin 1024 → EReal)

/-- A row shifted to mean nought. -/
def centred (j : Fin 1024) : EReal := x j - mean x

/-- Its variance. -/
def spread : EReal := mean fun k => centred x k * centred x k

/-- One over its standard deviation. -/
def inv : EReal := Ideal.rsqrt (spread x + eps)

/-- The gradient of the row, in the kernel's form; `d` is the gradient coming in, scaled. -/
def grad (j : Fin 1024) : EReal :=
  inv x * (d j - mean d - centred x j * inv x * mean fun k => d k * (centred x k * inv x))

def two : EReal := Ideal.ofBits .f32 0x40000000#32
def minusHalf : EReal := Ideal.ofBits .f32 0xBF000000#32

/-- The gradient of the variance over the row's length. -/
def pull : EReal := Ideal.div ((∑ k, centred x k * d k) * (minusHalf * Ideal.div (inv x) (spread x + eps))) full

/-- The gradient of the row as differentiating the normalisation gives it. -/
def pulled (j : Fin 1024) : EReal :=
  d j * inv x + pull x d * (two * centred x j)
    + Ideal.div ((∑ k, -(d k * inv x)) + ∑ k, -(pull x d * (two * centred x k))) full

/-! ## The constants -/

theorem full_eq : full = ((1024 : ℝ) : EReal) := by
  unfold full
  simp [Ideal.ofBits, Ideal.ieee, -EReal.coe_mul]
  norm_num [Nat.shiftRight_eq_div_pow]

theorem two_eq : two = ((2 : ℝ) : EReal) := by
  unfold two
  simp [Ideal.ofBits, Ideal.ieee, -EReal.coe_mul]
  try norm_num [Nat.shiftRight_eq_div_pow]

theorem minusHalf_eq : minusHalf = ((-1 / 2 : ℝ) : EReal) := by
  unfold minusHalf
  simp [Ideal.ofBits, Ideal.ieee, -EReal.coe_mul]
  try norm_num [Nat.shiftRight_eq_div_pow]

theorem eps_pos : ∃ e : ℝ, 0 < e ∧ eps = e := by
  refine ⟨2748779 / 274877906944, by norm_num, ?_⟩
  unfold eps
  simp [Ideal.ofBits, Ideal.ieee, -EReal.coe_mul]
  norm_num [Nat.shiftRight_eq_div_pow]

/-! ## A row of finite numbers -/

theorem coe_sum {n : ℕ} (f : Fin n → ℝ) : ∑ i, (f i : EReal) = ((∑ i, f i : ℝ) : EReal) := by
  induction (Finset.univ : Finset (Fin n)) using Finset.induction_on with
  | empty => simp
  | insert a s ha ih => rw [Finset.sum_insert ha, Finset.sum_insert ha, ih, EReal.coe_add]

theorem div_full (r : ℝ) : Ideal.div (r : EReal) full = ((r / 1024 : ℝ) : EReal) := by
  rw [full_eq, Ideal.div_coe (by norm_num), ← EReal.coe_mul, mul_one_div]

theorem mean_coe (f : Fin 1024 → ℝ) : mean (fun k => (f k : EReal)) = (((∑ k, f k) / 1024 : ℝ) : EReal) := by
  unfold mean
  rw [coe_sum, div_full]

theorem finite_row (X D : Fin 1024 → ℝ) (j : Fin 1024) : pulled (fun k => (X k : EReal)) (fun k => (D k : EReal)) j
    = grad (fun k => (X k : EReal)) (fun k => (D k : EReal)) j := by
  obtain ⟨e, he, heps⟩ := eps_pos
  obtain ⟨C, hC⟩ : ∃ C : Fin 1024 → ℝ, C = fun k => X k - (∑ l, X l) / 1024 := ⟨_, rfl⟩
  have hc : ∀ k, centred (fun k => (X k : EReal)) k = (C k : EReal) := fun k => by
    unfold centred
    rw [mean_coe, hC, ← EReal.coe_sub]
  have hC0 : ∑ k, C k = 0 := by
    rw [hC, Finset.sum_sub_distrib, Finset.sum_const, Finset.card_univ, Fintype.card_fin]
    simp only [nsmul_eq_mul]
    push_cast
    ring
  obtain ⟨V, hV⟩ : ∃ V : ℝ, V = (∑ k, C k * C k) / 1024 + e := ⟨_, rfl⟩
  have hV0 : 0 < V := by
    rw [hV]
    have : 0 ≤ ∑ k, C k * C k := Finset.sum_nonneg fun k _ => mul_self_nonneg _
    positivity
  have hv : spread (fun k => (X k : EReal)) + eps = (V : EReal) := by
    unfold spread
    simp only [hc, ← EReal.coe_mul]
    rw [mean_coe, heps, hV, EReal.coe_add]
  obtain ⟨R, hR⟩ : ∃ R : ℝ, R = (Real.sqrt V)⁻¹ := ⟨_, rfl⟩
  have hr : inv (fun k => (X k : EReal)) = (R : EReal) := by
    unfold inv
    rw [hv, Ideal.rsqrt_coe, if_neg (not_lt.mpr hV0.le), if_neg hV0.ne', hR]
  have hRV : R / V = R * R * R := by
    have : R * R = 1 / V := by
      rw [hR, ← mul_inv, Real.mul_self_sqrt hV0.le, one_div]
    rw [this, div_eq_mul_one_div]
    ring
  unfold pulled grad pull
  rw [hv]
  simp only [hc, hr, two_eq, minusHalf_eq, ← EReal.coe_mul, ← EReal.coe_neg, coe_sum, Ideal.div_coe hV0.ne', mean_coe, ← EReal.coe_sub,
    ← EReal.coe_add, div_full]
  refine congrArg _ ?_
  rw [mul_one_div, hRV]
  have h1 : ∑ k, -(D k * R) = -(R * ∑ k, D k) := by
    rw [Finset.sum_neg_distrib, Finset.mul_sum]
    exact congrArg _ (Finset.sum_congr rfl fun k _ => mul_comm _ _)
  have h2 : ∀ p : ℝ, ∑ k, -(p * (2 * C k)) = 0 := fun p => by
    rw [Finset.sum_neg_distrib, ← Finset.mul_sum, ← Finset.mul_sum, hC0]
    ring
  have h3 : ∑ k, D k * (C k * R) = R * ∑ k, C k * D k := by
    rw [Finset.mul_sum]
    exact Finset.sum_congr rfl fun k _ => by ring
  rw [h1, h2, h3]
  ring

/-! ## A row with an infinity -/

theorem real_of_add {a b : EReal} (h : ∃ q : ℝ, a + b = q) : (∃ q : ℝ, a = q) ∧ ∃ q : ℝ, b = q := by
  obtain ⟨q, h⟩ := h
  induction a with
  | bot => simp at h
  | top => induction b with
    | bot => simp at h
    | top => simp at h
    | coe r => simp at h
  | coe p => induction b with
    | bot => simp at h
    | top => simp at h
    | coe r => exact ⟨⟨p, rfl⟩, ⟨r, rfl⟩⟩

theorem real_of_sum {n : ℕ} (f : Fin n → EReal) (h : ∃ q : ℝ, ∑ k, f k = q) (k : Fin n) : ∃ q : ℝ, f k = q := by
  rw [← Finset.add_sum_erase _ _ (Finset.mem_univ k)] at h
  exact (real_of_add h).1

theorem mean_infinite {k : Fin 1024} (h : ¬ ∃ q : ℝ, x k = q) : mean x = ⊤ ∨ mean x = ⊥ := by
  have hs : ¬ ∃ q : ℝ, ∑ k, x k = q := fun hq => h (real_of_sum x hq k)
  unfold mean
  rw [full_eq, Ideal.div_coe (by norm_num)]
  generalize ∑ k, x k = s at hs
  induction s with
  | bot => exact Or.inr (EReal.bot_mul_coe_of_pos (by norm_num))
  | top => exact Or.inl (EReal.top_mul_coe_of_pos (by norm_num))
  | coe r => exact absurd ⟨r, rfl⟩ hs

theorem inv_infinite {k : Fin 1024} (h : ¬ ∃ q : ℝ, x k = q) : spread x + eps = ⊤ ∧ inv x = 0 := by
  have hc : ∀ j, centred x j * centred x j = ⊤ := fun j => by
    unfold centred
    rcases mean_infinite x h with e | e
    · rw [e, sub_eq_add_neg]
      simp
    · rw [e, sub_eq_add_neg]
      induction x j with
      | bot => simp
      | top => simp
      | coe r => simp
  have hs : spread x = ⊤ := by
    unfold spread mean
    simp only [hc]
    rw [full_eq, Ideal.div_coe (by norm_num), Finset.sum_const, Finset.card_univ, Fintype.card_fin, EReal.nsmul_eq_mul]
    rw [show ((1024 : ℕ) : EReal) = ((1024 : ℝ) : EReal) by norm_cast, EReal.coe_mul_top_of_pos (by norm_num), EReal.top_mul_coe_of_pos (by norm_num)]
  obtain ⟨e, -, heps⟩ := eps_pos
  have hv : spread x + eps = ⊤ := by rw [hs, heps, EReal.top_add_coe]
  exact ⟨hv, by unfold inv; rw [hv, Ideal.rsqrt_top]⟩

theorem infinite_row {k : Fin 1024} (h : ¬ ∃ q : ℝ, x k = q) (j : Fin 1024) : pulled x d j = grad x d j := by
  obtain ⟨hv, hr⟩ := inv_infinite x h
  have hz : Ideal.div (0 : EReal) full = 0 := by rw [full_eq, Ideal.div_coe (by norm_num), zero_mul]
  have hp : pull x d = 0 := by
    unfold pull
    rw [hv, hr, show Ideal.div (0 : EReal) ⊤ = 0 by unfold Ideal.div; simp, mul_zero, mul_zero, hz]
  unfold pulled grad
  rw [hp, hr]
  simp [hz]

/-- The two forms are equal. -/
theorem pulled_eq (hd : ∀ k, ∃ q : ℝ, d k = q) (j : Fin 1024) : pulled x d j = grad x d j := by
  by_cases h : ∀ k, ∃ q : ℝ, x k = q
  · choose X hX using h
    choose D hD using hd
    obtain rfl : x = fun k => (X k : EReal) := funext hX
    obtain rfl : d = fun k => (D k : EReal) := funext hD
    exact finite_row X D j
  · obtain ⟨k, hk⟩ := not_forall.mp h
    exact infinite_row x d hk j

end Norm

end
-- ==== Proof.NormValue.lean ====
/- What the two norm calls compute, against the norm and its gradient by differentiating. -/
module

public import proofs.«01_k».proof.Defs
public import proofs.«01_k».proof.Proof.NormSpec
public import proofs.«01_k».proof.Proof.Gen.NormIdeal
public import proofs.«01_k».proof.Proof.Gen.NormIdeal.Frame
public import proofs.«01_k».proof.Proof.Gen.NormIdeal.Value
public import proofs.«01_k».proof.Proof.Gen.NormReferenceIdeal
public import proofs.«01_k».proof.Proof.Gen.NormReferenceIdeal.Run
public import proofs.«01_k».proof.Proof.Gen.NormReferenceIdeal.Read
public import proofs.«01_k».proof.Proof.Gen.NormBackwardIdeal
public import proofs.«01_k».proof.Proof.Gen.NormBackwardIdeal.Frame
public import proofs.«01_k».proof.Proof.Gen.NormBackwardIdeal.Value
public import proofs.«01_k».proof.Proof.Gen.NormBackwardReferenceIdeal
public import proofs.«01_k».proof.Proof.Gen.NormBackwardReferenceIdeal.Run
public import proofs.«01_k».proof.Proof.Gen.NormBackwardReferenceIdeal.Read
public import proofs.«01_k».proof.Proof.Gen.Pre_gradient_finite
public import Idealize.ShloMosaic.Lib.Pipeline.Value
public import Idealize.ShloMosaic.Lib.Pipeline.ValueKit
public import Idealize.ShloMosaic.Lib.Pointwise
public import Idealize.ShloMosaic.Lib.StableHlo.Run
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

/-! ## The norm -/

namespace Cert.NormIdeal.Fwd

open Cert.NormIdeal Cert.NormIdeal.Gen

variable (m : (ℓ : Loc nD τ sig) → Buf (Elt Ideal) ℓ) (ρ : Dev nD → PrngReg)

/-- Every row of `x` normalised, scaled by `g` and shifted by `b`. -/
def normed (x : Vec Ideal S8192x1024 .f32) (g b : Vec Ideal S1024 .f32) : Vec Ideal S8192x1024 .f32 :=
  fun j => Layer.norm Layer.full (fun k : Fin 1024 => x (ix2 (j 0) k)) (fun k => g (ix1 k)) (fun k => b (ix1 k)) (j 1)

theorem rows0 : ∀ t : Fin cfg0.N, win0_0.index t = ![t.val, 0] := (by decide +kernel : ∀ t : Fin grid0.N, _)
theorem rows1 : ∀ t : Fin cfg0.N, win0_1.index t = ![0, 0] := (by decide +kernel : ∀ t : Fin grid0.N, _)
theorem rows2 : ∀ t : Fin cfg0.N, win0_2.index t = ![0, 0] := (by decide +kernel : ∀ t : Fin grid0.N, _)
theorem rows3 : ∀ t : Fin cfg0.N, win0_3.index t = ![t.val, 0] := (by decide +kernel : ∀ t : Fin grid0.N, _)

/-- What a point writes. -/
theorem step (x : Vec Ideal S512x1024 .f32) (g b : Vec Ideal S1x1024 .f32) (j : S512x1024.Idx) :
    k0_pay1 x g b j = Layer.norm Layer.full (fun k : Fin 1024 => x (ix2 (j 0) k)) (fun k => g (ix2 0 k)) (fun k => b (ix2 0 k)) (j 1) := by
  unfold Layer.norm Layer.full Layer.eps
  idx_vars j
  pointwise [k0_pay1]

theorem block_value (x : Vec Ideal S512x1024 .f32) (g b : Vec Ideal S1x1024 .f32) (j : S512x1024.Idx) :
    out0_3 x g b j = Layer.norm Layer.full (fun k : Fin 1024 => x (ix2 (j 0) k)) (fun k => g (ix2 0 k)) (fun k => b (ix2 0 k)) (j 1) := by
  rw [← step]
  frame_out

theorem final (c : Dev nD) :
    (dats m 0 c).arrAt 3 cfg0.N = normed (m (c.tc.loc main_arg0)) (m (c.tc.loc main_arg1)) (m (c.tc.loc main_arg2)) := by
  refine (dats m 0 c).arrAt_eq_of_covers 3 _ (by decide +kernel) fun t hf y => ?_
  blk_simp
  rw [after0_3, block_value]
  unfold normed
  blk_point [iblk, V, rows0 t, rows1 t, rows2 t, rows3 t]

end Cert.NormIdeal.Fwd

namespace Cert.NormReferenceIdeal.Fwd

open Cert.NormReferenceIdeal Cert.NormReferenceIdeal.Gen Cert.NormReferenceIdeal.Read

theorem normed_eq (x : Vec Ideal S8192x1024 .f32) (g b : Vec Ideal S1024 .f32) : val_main_v23 x g b = Cert.NormIdeal.Fwd.normed x g b := by
  funext j
  unfold Cert.NormIdeal.Fwd.normed Layer.norm Layer.full Layer.eps
  idx_vars j
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]

end Cert.NormReferenceIdeal.Fwd

/-! ## Its gradient -/

namespace Cert.NormBackwardIdeal.Bwd

open Cert.NormBackwardIdeal Cert.NormBackwardIdeal.Gen

variable (m : (ℓ : Loc nD τ sig) → Buf (Elt Ideal) ℓ) (ρ : Dev nD → PrngReg)

theorem rows0 : ∀ t : Fin cfg0.N, win0_0.index t = ![t.val, 0] := (by decide +kernel : ∀ t : Fin grid0.N, _)
theorem rows1 : ∀ t : Fin cfg0.N, win0_1.index t = ![t.val, 0] := (by decide +kernel : ∀ t : Fin grid0.N, _)
theorem rows2 : ∀ t : Fin cfg0.N, win0_2.index t = ![0] := (by decide +kernel : ∀ t : Fin grid0.N, _)
theorem rows3 : ∀ t : Fin cfg0.N, win0_3.index t = ![t.val, 0] := (by decide +kernel : ∀ t : Fin grid0.N, _)

/-- The last point of the grid. -/
def lastPt : Fin cfg0.N := ⟨15, by rw [show cfg0.N = 16 from N_0]; decide⟩

/-- The gradient of the norm's input: row `r` from row `r` of `x` and of `dy * g`. -/
def inputGrad (x dy : Vec Ideal S8192x1024 .f32) (g : Vec Ideal S1024 .f32) : Vec Ideal S8192x1024 .f32 :=
  fun j => Norm.grad (fun k => x (ix2 (j 0) k)) (fun k => dy (ix2 (j 0) k) * g (ix1 k)) (j 1)

/-- The gradient of the scale: at `b` the sum over the 8192 rows of `dy (r, b)` times the normalised `x (r, b)`. -/
def scaleGrad (x dy : Vec Ideal S8192x1024 .f32) : Vec Ideal S1x1024 .f32 :=
  fun j => ∑ r : Fin 8192, dy (ix2 r (j 1)) * (Norm.centred (fun k => x (ix2 r k)) (j 1) * Norm.inv fun k => x (ix2 r k))

/-- The gradient of the shift: at `b` the sum over the 8192 rows of `dy (r, b)`. -/
def shiftGrad (dy : Vec Ideal S8192x1024 .f32) : Vec Ideal S1x1024 .f32 := fun j => ∑ r : Fin 8192, dy (ix2 r (j 1))

theorem unit_step (x : Vec Ideal S512x1024 .f32) (j : S512x1024.Idx) :
    k0_pay7 x j = Norm.centred (fun k => x (ix2 (j 0) k)) (j 1) * Norm.inv fun k => x (ix2 (j 0) k) := by
  unfold Norm.centred Norm.inv Norm.spread Norm.centred Norm.mean Layer.full Layer.eps
  idx_vars j
  pointwise [k0_pay7, k0_pay6, k0_pay5]

theorem input_step (dy x : Vec Ideal S512x1024 .f32) (g : Vec Ideal S1024 .f32) (j : S512x1024.Idx) :
    k0_pay8 dy x g j = Norm.grad (fun k => x (ix2 (j 0) k)) (fun k => dy (ix2 (j 0) k) * g (ix1 k)) (j 1) := by
  unfold Norm.grad Norm.inv Norm.spread Norm.centred Norm.mean Layer.full Layer.eps
  idx_vars j
  pointwise [k0_pay8, k0_pay7, k0_pay6, k0_pay5]

/-- What a point adds to the gradient of the scale … -/
theorem scale_step (dy u : Vec Ideal S512x1024 .f32) (acc : Vec Ideal S1x1024 .f32) (j : S1x1024.Idx) :
    k0_pay1 dy u acc j = acc j + ∑ r : Fin 512, dy (ix2 r (j 1)) * u (ix2 r (j 1)) := by
  idx_vars j
  pointwise [k0_pay1]

/-- … and to that of the shift. -/
theorem shift_step (dy : Vec Ideal S512x1024 .f32) (acc : Vec Ideal S1x1024 .f32) (j : S1x1024.Idx) :
    k0_pay2 dy acc j = acc j + ∑ r : Fin 512, dy (ix2 r (j 1)) := by
  idx_vars j
  pointwise [k0_pay2]

theorem zero_scale (j : S1x1024.Idx) : k0_pay3 (F := Ideal) j = 0 := by
  pointwise [k0_pay3]

theorem zero_shift (j : S1x1024.Idx) : k0_pay4 (F := Ideal) j = 0 := by
  pointwise [k0_pay4]

theorem final_input (c : Dev nD) :
    (dats m 0 c).arrAt 3 cfg0.N = inputGrad (m (c.tc.loc main_arg0)) (m (c.tc.loc main_arg1)) (m (c.tc.loc main_arg2)) := by
  refine (dats m 0 c).arrAt_eq_of_covers 3 _ (by decide +kernel) fun t hf y => ?_
  blk_simp
  rw [after0_3]
  have e : (outsAt0 m c t.val t.isLt).1 = k0_pay8 (iblk m c 1 t) (iblk m c 0 t) (iblk m c 2 t) := by
    by_cases h : t.val % 16 = 0
    · rw [outsAt0_A m c t h]; frame_out
    · rw [outsAt0_B m c t h]; frame_out
  rw [e, input_step]
  unfold inputGrad
  blk_point [iblk, V, rows0 t, rows1 t, rows2 t, rows3 t]

theorem final_scale (c : Dev nD) :
    (dats m 0 c).arrAt 4 cfg0.N = scaleGrad (m (c.tc.loc main_arg0)) (m (c.tc.loc main_arg1)) := by
  funext j
  refine ((dats m 0 c).arrAt_emb_eq_after_last 4 lastPt (by decide +kernel) j).trans ?_
  blk_simp
  rw [after0_4, Pipeline.eq_sum_fin_of_reset_step_apply_last (fun n h => (outsAt0 m c n h).2.1) 16 (fun _ => (0 : EReal)) _
    (fun t h j => by rw [outsAt0_A m c t h]; frame_out; rw [scale_step, zero_scale])
    (fun t h j => by rw [outsAt0_B m c t h]; frame_out; rw [scale_step])
    (le_of_eq N_0) lastPt rfl j, zero_add]
  refine (Fin.sum_mul_add_congr (n := 512) (fun t k hl => ?_) (by rw [show cfg0.N = 16 from N_0]))
  rw [unit_step]
  refine congrArg₂ (· * ·) (by blk_ext [iblk, V, rows1 t]) ?_
  have e : ∀ q : Fin 1024, iblk m c 0 t (ix2 k q) = m (c.tc.loc main_arg0) (ix2 ⟨t.val * 512 + k.val, hl⟩ q) :=
    fun q => by blk_ext [iblk, V, rows0 t]
  show Norm.centred (fun q => iblk m c 0 t (ix2 k q)) (j 1) * Norm.inv (fun q => iblk m c 0 t (ix2 k q)) = _
  simp only [e]

theorem final_shift (c : Dev nD) : (dats m 0 c).arrAt 5 cfg0.N = shiftGrad (m (c.tc.loc main_arg1)) := by
  funext j
  refine ((dats m 0 c).arrAt_emb_eq_after_last 5 lastPt (by decide +kernel) j).trans ?_
  blk_simp
  rw [after0_5, Pipeline.eq_sum_fin_of_reset_step_apply_last (fun n h => (outsAt0 m c n h).2.2) 16 (fun _ => (0 : EReal)) _
    (fun t h j => by rw [outsAt0_A m c t h]; frame_out; rw [shift_step, zero_shift])
    (fun t h j => by rw [outsAt0_B m c t h]; frame_out; rw [shift_step])
    (le_of_eq N_0) lastPt rfl j, zero_add]
  refine Fin.sum_mul_add_congr (fun t k hl => ?_) (by rw [show cfg0.N = 16 from N_0])
  blk_ext [iblk, V, rows1 t]

end Cert.NormBackwardIdeal.Bwd

namespace Cert.NormBackwardReferenceIdeal.Bwd

open Cert.NormBackwardReferenceIdeal Cert.NormBackwardReferenceIdeal.Gen Cert.NormBackwardReferenceIdeal.Read
open Cert.NormBackwardIdeal.Bwd (inputGrad scaleGrad shiftGrad)

variable (x dy : Vec Ideal S8192x1024 .f32) (g : Vec Ideal S1024 .f32)

theorem centred_at (r : Fin 8192) (j : Fin 1024) : val_main_v15 (F := Ideal) x (ix2 r j) = Norm.centred (fun k => x (ix2 r k)) j := by
  unfold Norm.centred Norm.mean Layer.full
  pointwise [val_main_v15, val_main_v14, val_main_v4, val_main_v3, val_main_v2, val_main_v1, val_main_cst_0, val_main_cst_1]

theorem doubled_at (r : Fin 8192) (j : Fin 1024) : val_main_v9 (F := Ideal) x (ix2 r j) = Norm.two * Norm.centred (fun k => x (ix2 r k)) j := by
  unfold Norm.centred Norm.mean Layer.full Norm.two
  pointwise [val_main_v9, val_main_v8, val_main_v6, val_main_v5, val_main_v4, val_main_v3, val_main_v2, val_main_v1, val_main_cst_0, val_main_cst_1, val_main_cst_2]

theorem spread_at (r : Fin 8192) : val_main_v17 (F := Ideal) x (ix2 r 0) = Norm.spread (fun k => x (ix2 r k)) + Layer.eps := by
  unfold Norm.spread Norm.centred Norm.mean Layer.full Layer.eps
  pointwise [val_main_v17, val_main_v16, val_main_v13, val_main_v12, val_main_v11, val_main_v10, val_main_v7, val_main_v6, val_main_v5, val_main_v4, val_main_v3, val_main_v2, val_main_v1, val_main_cst_0, val_main_cst_1, val_main_cst_3, val_main_cst_4, val_main_cst_5]

theorem inv_at (r : Fin 8192) : val_main_v18 (F := Ideal) x (ix2 r 0) = Norm.inv fun k => x (ix2 r k) := by
  unfold Norm.inv
  rw [← spread_at]
  rfl

theorem scaled_at (r : Fin 8192) (j : Fin 1024) : val_main_v38 (F := Ideal) dy g (ix2 r j) = dy (ix2 r j) * g (ix1 j) := by
  pointwise [val_main_v38, val_main_v37, val_main_v30, val_main_v24]

/-- The reference's gradient of a row. -/
theorem pulled_at (r : Fin 8192) (j : Fin 1024) : val_main_v63 (F := Ideal) x dy g (ix2 r j)
    = Norm.pulled (fun k => x (ix2 r k)) (fun k => dy (ix2 r k) * g (ix1 k)) j := by
  pointwise [val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v21, val_main_v20, val_main_v19, val_main_cst_6, val_main_cst_11, val_main_cst_12, val_main_cst_13, val_main_cst_14, val_main_cst_15, val_main_cst_16, val_main_cst_17]
  simp only [Finset.univ_unique, Finset.sum_singleton, Fin.default_eq_zero, scaled_at, doubled_at, inv_at, spread_at, centred_at]
  rfl

/-- The reference's first result, where `dy` and `g` are finite … -/
theorem input_eq (hdy : ∀ j, ∃ q : ℝ, dy j = q) (hg : ∀ j, ∃ q : ℝ, g j = q) : val_main_v63 (F := Ideal) x dy g = inputGrad x dy g := by
  funext j
  unfold inputGrad
  obtain ⟨r, i, rfl⟩ : ∃ (r : Fin 8192) (i : Fin 1024), j = ix2 r i := ⟨j 0, j 1, by funext a; match a with | ⟨0, _⟩ => rfl | ⟨1, _⟩ => rfl⟩
  refine (pulled_at x dy g r i).trans (Norm.pulled_eq _ _ (fun k => ?_) i)
  obtain ⟨p, hp⟩ := hdy (ix2 r k)
  obtain ⟨q, hq⟩ := hg (ix1 k)
  exact ⟨p * q, by rw [hp, hq, EReal.coe_mul]⟩

theorem unit_at (r : Fin 8192) (j : Fin 1024) : val_main_v23 (F := Ideal) x (ix2 r j)
    = Norm.centred (fun k => x (ix2 r k)) j * Norm.inv fun k => x (ix2 r k) := by
  rw [← centred_at, ← inv_at]
  pointwise [val_main_v23, val_main_v22]

/-- … its second … -/
theorem scale_eq : val_main_v64 (F := Ideal) x dy = scaleGrad x dy := by
  funext j
  unfold scaleGrad
  idx_vars j
  pointwise [val_main_v64, val_main_v39, val_main_v36, val_main_v35, val_main_v34, val_main_v30, val_main_cst_9, val_main_cst_10]
  simp only [Finset.univ_unique, Finset.sum_singleton, unit_at]
  exact Finset.sum_congr rfl fun r _ => mul_comm _ _

/-- … and its third. -/
theorem shift_eq : val_main_v65 (F := Ideal) dy = shiftGrad dy := by
  funext j
  unfold shiftGrad
  idx_vars j
  pointwise [val_main_v65, val_main_v33, val_main_v32, val_main_v31, val_main_cst_7, val_main_cst_8]
  simp only [Finset.univ_unique, Finset.sum_singleton]

end Cert.NormBackwardReferenceIdeal.Bwd

end
-- ==== Proof.AdamValue.lean ====
/- What AdamW's call on the small weights computes, against AdamW. -/
module

public import proofs.«01_k».proof.Defs
public import proofs.«01_k».proof.Proof.Gen.AdamIdeal
public import proofs.«01_k».proof.Proof.Gen.AdamIdeal.Frame
public import proofs.«01_k».proof.Proof.Gen.AdamIdeal.Value
public import proofs.«01_k».proof.Proof.Gen.AdamTwoIdeal
public import proofs.«01_k».proof.Proof.Gen.AdamTwoIdeal.Frame
public import proofs.«01_k».proof.Proof.Gen.AdamTwoIdeal.Value
public import proofs.«01_k».proof.Proof.Gen.AdamThreeIdeal
public import proofs.«01_k».proof.Proof.Gen.AdamThreeIdeal.Frame
public import proofs.«01_k».proof.Proof.Gen.AdamThreeIdeal.Value
public import proofs.«01_k».proof.Proof.Gen.AdamFourIdeal
public import proofs.«01_k».proof.Proof.Gen.AdamFourIdeal.Frame
public import proofs.«01_k».proof.Proof.Gen.AdamFourIdeal.Value
public import Idealize.ShloMosaic.Lib.Pipeline.Value
public import Idealize.ShloMosaic.Lib.Pipeline.ValueKit
public import Idealize.ShloMosaic.Lib.Pointwise
public import Idealize.ShloMosaic.Lib.StableHlo.Run
public import Idealize.ShloMosaic.Lib.Tactic

@[expose] public section

set_option maxRecDepth 16384

noncomputable section

open Idealize.ShloMosaic Idealize.ShloMosaic.TcCoe Idealize.SL.Sem
open Idealize.ShloMosaic.Pipeline (Dat)

/-! ## The step -/

namespace AdamStep

variable {s : Shape} {α : Type}

/-- What the first moment is divided by: one minus the tenth power of its decay. -/
def firstBias : EReal := Ideal.ofBits .f32 0x3F26BD02#32

/-- The same of the second moment. -/
def secondBias : EReal := Ideal.ofBits .f32 0x3C231ACC#32

/-- The first moment after the step. -/
def first (g m : Vec Ideal s .f32) : Vec Ideal s .f32 :=
  fun j => Ideal.ofBits .f32 0x3F666666#32 * m j + Ideal.ofBits .f32 0x3DCCCCCD#32 * g j

/-- The second moment after the step. -/
def second (g v : Vec Ideal s .f32) : Vec Ideal s .f32 :=
  fun j => Ideal.ofBits .f32 0x3F7FBE77#32 * v j + Ideal.ofBits .f32 0x3A83126F#32 * (g j * g j)

/-- The change of a weight, from the two moments without their bias. -/
def move (w m v : EReal) : EReal :=
  Ideal.ofBits .f32 0xBA83126F#32 *
    (Ideal.div m (Ideal.sqrt v + Ideal.ofBits .f32 0x322BCC77#32) + Ideal.ofBits .f32 0x3C23D70A#32 * w)

/-- The change of the weights, from the gradient and the moments before the step. -/
def change (w g m v : Vec Ideal s .f32) : Vec Ideal s .f32 :=
  fun j => move (w j) (Ideal.div (first g m j) firstBias) (Ideal.div (second g v j) secondBias)

/-- A vector as an array of one row. -/
def row (a : Vec Ideal ⟨1, ![1024]⟩ .f32) : Vec Ideal ⟨2, ![1, 1024]⟩ .f32 := fun j => a (ix1 (j 1))

theorem firstBias_eq : firstBias = ((5463681 / 8388608 : ℝ) : EReal) := by
  unfold firstBias
  simp [Ideal.ofBits, Ideal.ieee, -EReal.coe_mul]
  norm_num [Nat.shiftRight_eq_div_pow]

theorem secondBias_eq : secondBias = ((2672307 / 268435456 : ℝ) : EReal) := by
  unfold secondBias
  simp [Ideal.ofBits, Ideal.ieee, -EReal.coe_mul]
  norm_num [Nat.shiftRight_eq_div_pow]

/-- The change with each division a product with the reciprocal. -/
theorem change_eq (w g m v : Vec Ideal s .f32) : change w g m v = fun j =>
    move (w j) (first g m j * ((8388608 / 5463681 : ℝ) : EReal)) (second g v j * ((268435456 / 2672307 : ℝ) : EReal)) := by
  funext j
  unfold change
  rw [firstBias_eq, secondBias_eq, Ideal.div_coe (by norm_num), Ideal.div_coe (by norm_num), one_div_div, one_div_div]

/-- An array read along indices that are themselves. -/
theorem read_whole (f : s.Idx → α) (g : s.Idx → s.Idx) (h : ∀ y a, (g y a).val = (y a).val) : (fun y => f (g y)) = f :=
  funext fun y => congrArg f (funext fun a => Fin.ext (h y a))

theorem row_cast (x : Vec Ideal ⟨1, ![1024]⟩ .f32) (h : Shape.ShapeCasts ⟨1, ![1024]⟩ ⟨2, ![1, 1024]⟩) :
    shapeCast ⟨2, ![1, 1024]⟩ x h = row x := by
  funext j
  refine shapeCast_apply _ _ _ _ ?_
  rw [Shape.rowMajor_val_one, Shape.rowMajor_val_two]
  have := (j 0).isLt
  simp only [ix1, Matrix.cons_val_zero, Matrix.cons_val_one] at this ⊢
  omega

theorem row_broadcast (x : Vec Ideal ⟨1, ![1024]⟩ .f32) (h : Shape.BroadcastsInDim ⟨1, ![1024]⟩ ⟨2, ![1, 1024]⟩ ![1]) :
    broadcastInDim ⟨2, ![1, 1024]⟩ ![1] h x = row x := by
  funext j
  refine broadcastInDim_apply _ _ _ _ _ fun a => ?_
  obtain rfl : a = 0 := Subsingleton.elim _ _
  rfl

end AdamStep

/-! ## The first three weights -/

namespace Cert.AdamIdeal.Upd

open Cert.AdamIdeal Cert.AdamIdeal.Gen Cert.AdamIdeal.Value AdamStep

variable (m : (ℓ : Loc nD τ sig) → Buf (Elt Ideal) ℓ)

/-- Every block is a whole array. -/
theorem origin : ∀ (w : Fin cfg0.W) (t : Fin cfg0.N), (cfg0.win w).index t = fun _ => 0 := by
  decide +kernel

theorem whole (w : Fin cfg0.W) (t : Fin cfg0.N) (y) (a) : (((cfg0.win w).rect t).emb y a).val = (y a).val :=
  Pipeline.Window.rect_emb_val_of_index_zero _ t a (congrFun (origin w t) a) y

/-- The two vectors among the weights, with their gradients and moments, are made rows before the call. -/
theorem rows (c : Dev nD) :
    V m c main_v0 = row (m (c.tc.loc main_arg1))
    ∧ V m c main_v1 = row (m (c.tc.loc main_arg2))
    ∧ V m c main_v2 = row (m (c.tc.loc main_arg4))
    ∧ V m c main_v3 = row (m (c.tc.loc main_arg5))
    ∧ V m c main_v4 = row (m (c.tc.loc main_arg7))
    ∧ V m c main_v5 = row (m (c.tc.loc main_arg8))
    ∧ V m c main_v6 = row (m (c.tc.loc main_arg10))
    ∧ V m c main_v7 = row (m (c.tc.loc main_arg11)) := by
  refine ⟨?_, ?_, ?_, ?_, ?_, ?_, ?_, ?_⟩ <;> show StableHlo.after hostOps0 _ _ = _ <;> after_results <;> exact row_cast _ _

theorem blocks (c : Dev nD) (t : Fin cfg0.N) :
    iblk m c 0 t = m (c.tc.loc main_arg0)
    ∧ iblk m c 1 t = row (m (c.tc.loc main_arg1))
    ∧ iblk m c 2 t = row (m (c.tc.loc main_arg2))
    ∧ iblk m c 3 t = m (c.tc.loc main_arg3)
    ∧ iblk m c 4 t = row (m (c.tc.loc main_arg4))
    ∧ iblk m c 5 t = row (m (c.tc.loc main_arg5))
    ∧ iblk m c 6 t = m (c.tc.loc main_arg6)
    ∧ iblk m c 7 t = row (m (c.tc.loc main_arg7))
    ∧ iblk m c 8 t = row (m (c.tc.loc main_arg8))
    ∧ iblk m c 9 t = m (c.tc.loc main_arg9)
    ∧ iblk m c 10 t = row (m (c.tc.loc main_arg10))
    ∧ iblk m c 11 t = row (m (c.tc.loc main_arg11)) := by
  obtain ⟨r1, r2, r4, r5, r7, r8, r10, r11⟩ := rows m c
  exact ⟨(read_whole _ _ (whole 0 t)).trans (V_main_arg0 m c),
    (read_whole _ _ (whole 1 t)).trans r1,
    (read_whole _ _ (whole 2 t)).trans r2,
    (read_whole _ _ (whole 3 t)).trans (V_main_arg3 m c),
    (read_whole _ _ (whole 4 t)).trans r4,
    (read_whole _ _ (whole 5 t)).trans r5,
    (read_whole _ _ (whole 6 t)).trans (V_main_arg6 m c),
    (read_whole _ _ (whole 7 t)).trans r7,
    (read_whole _ _ (whole 8 t)).trans r8,
    (read_whole _ _ (whole 9 t)).trans (V_main_arg9 m c),
    (read_whole _ _ (whole 10 t)).trans r10,
    (read_whole _ _ (whole 11 t)).trans r11⟩

/-- The results: of each weight the change, the new first moment and the new second moment. -/
theorem finals (c : Dev nD) :
    (dats m 0 c).arrAt 12 cfg0.N = change (m (c.tc.loc main_arg0)) (m (c.tc.loc main_arg3)) (m (c.tc.loc main_arg6)) (m (c.tc.loc main_arg9))
    ∧ (dats m 0 c).arrAt 13 cfg0.N = change (row (m (c.tc.loc main_arg1))) (row (m (c.tc.loc main_arg4))) (row (m (c.tc.loc main_arg7))) (row (m (c.tc.loc main_arg10)))
    ∧ (dats m 0 c).arrAt 14 cfg0.N = change (row (m (c.tc.loc main_arg2))) (row (m (c.tc.loc main_arg5))) (row (m (c.tc.loc main_arg8))) (row (m (c.tc.loc main_arg11)))
    ∧ (dats m 0 c).arrAt 15 cfg0.N = first (m (c.tc.loc main_arg3)) (m (c.tc.loc main_arg6))
    ∧ (dats m 0 c).arrAt 16 cfg0.N = first (row (m (c.tc.loc main_arg4))) (row (m (c.tc.loc main_arg7)))
    ∧ (dats m 0 c).arrAt 17 cfg0.N = first (row (m (c.tc.loc main_arg5))) (row (m (c.tc.loc main_arg8)))
    ∧ (dats m 0 c).arrAt 18 cfg0.N = second (m (c.tc.loc main_arg3)) (m (c.tc.loc main_arg9))
    ∧ (dats m 0 c).arrAt 19 cfg0.N = second (row (m (c.tc.loc main_arg4))) (row (m (c.tc.loc main_arg10)))
    ∧ (dats m 0 c).arrAt 20 cfg0.N = second (row (m (c.tc.loc main_arg5))) (row (m (c.tc.loc main_arg11))) := by
  refine ⟨?_, ?_, ?_, ?_, ?_, ?_, ?_, ?_, ?_⟩
  all_goals
    refine (dats m 0 c).arrAt_eq_of_covers _ _ (by decide +kernel) fun t hf y => ?_
    obtain ⟨b0, b1, b2, b3, b4, b5, b6, b7, b8, b9, b10, b11⟩ := blocks m c t
    blk_simp
    simp only [after0_12, after0_13, after0_14, after0_15, after0_16, after0_17, after0_18, after0_19, after0_20,
      b0, b1, b2, b3, b4, b5, b6, b7, b8, b9, b10, b11]
    refine Eq.trans (congrFun ?_ y) (congrArg _ (funext fun a => Fin.ext (whole _ t y a).symm))
    funext j
    frame_out
    try rw [change_eq]
    simp only [k0_pay1, k0_pay2, k0_pay3, k0_pay4, k0_pay5, k0_pay6, k0_pay7, k0_pay8, k0_pay9, k0_pay10, k0_pay11, k0_pay12, k0_pay13, k0_pay14, shapeCast_self]
    rfl

end Cert.AdamIdeal.Upd

/-! ## The next three -/

namespace Cert.AdamTwoIdeal.Upd

open Cert.AdamTwoIdeal Cert.AdamTwoIdeal.Gen Cert.AdamTwoIdeal.Value AdamStep

variable (m : (ℓ : Loc nD τ sig) → Buf (Elt Ideal) ℓ)

/-- Every block is a whole array. -/
theorem origin : ∀ (w : Fin cfg0.W) (t : Fin cfg0.N), (cfg0.win w).index t = fun _ => 0 := by
  decide +kernel

theorem whole (w : Fin cfg0.W) (t : Fin cfg0.N) (y) (a) : (((cfg0.win w).rect t).emb y a).val = (y a).val :=
  Pipeline.Window.rect_emb_val_of_index_zero _ t a (congrFun (origin w t) a) y

theorem blocks (c : Dev nD) (t : Fin cfg0.N) :
    iblk m c 0 t = m (c.tc.loc main_arg0)
    ∧ iblk m c 1 t = m (c.tc.loc main_arg1)
    ∧ iblk m c 2 t = m (c.tc.loc main_arg2)
    ∧ iblk m c 3 t = m (c.tc.loc main_arg3)
    ∧ iblk m c 4 t = m (c.tc.loc main_arg4)
    ∧ iblk m c 5 t = m (c.tc.loc main_arg5)
    ∧ iblk m c 6 t = m (c.tc.loc main_arg6)
    ∧ iblk m c 7 t = m (c.tc.loc main_arg7)
    ∧ iblk m c 8 t = m (c.tc.loc main_arg8)
    ∧ iblk m c 9 t = m (c.tc.loc main_arg9)
    ∧ iblk m c 10 t = m (c.tc.loc main_arg10)
    ∧ iblk m c 11 t = m (c.tc.loc main_arg11) :=
  ⟨read_whole _ _ (whole 0 t),
    read_whole _ _ (whole 1 t),
    read_whole _ _ (whole 2 t),
    read_whole _ _ (whole 3 t),
    read_whole _ _ (whole 4 t),
    read_whole _ _ (whole 5 t),
    read_whole _ _ (whole 6 t),
    read_whole _ _ (whole 7 t),
    read_whole _ _ (whole 8 t),
    read_whole _ _ (whole 9 t),
    read_whole _ _ (whole 10 t),
    read_whole _ _ (whole 11 t)⟩

/-- The results: of each weight the change, the new first moment and the new second moment. -/
theorem finals (c : Dev nD) :
    (dats m 0 c).arrAt 12 cfg0.N = change (m (c.tc.loc main_arg0)) (m (c.tc.loc main_arg3)) (m (c.tc.loc main_arg6)) (m (c.tc.loc main_arg9))
    ∧ (dats m 0 c).arrAt 13 cfg0.N = change (m (c.tc.loc main_arg1)) (m (c.tc.loc main_arg4)) (m (c.tc.loc main_arg7)) (m (c.tc.loc main_arg10))
    ∧ (dats m 0 c).arrAt 14 cfg0.N = change (m (c.tc.loc main_arg2)) (m (c.tc.loc main_arg5)) (m (c.tc.loc main_arg8)) (m (c.tc.loc main_arg11))
    ∧ (dats m 0 c).arrAt 15 cfg0.N = first (m (c.tc.loc main_arg3)) (m (c.tc.loc main_arg6))
    ∧ (dats m 0 c).arrAt 16 cfg0.N = first (m (c.tc.loc main_arg4)) (m (c.tc.loc main_arg7))
    ∧ (dats m 0 c).arrAt 17 cfg0.N = first (m (c.tc.loc main_arg5)) (m (c.tc.loc main_arg8))
    ∧ (dats m 0 c).arrAt 18 cfg0.N = second (m (c.tc.loc main_arg3)) (m (c.tc.loc main_arg9))
    ∧ (dats m 0 c).arrAt 19 cfg0.N = second (m (c.tc.loc main_arg4)) (m (c.tc.loc main_arg10))
    ∧ (dats m 0 c).arrAt 20 cfg0.N = second (m (c.tc.loc main_arg5)) (m (c.tc.loc main_arg11)) := by
  refine ⟨?_, ?_, ?_, ?_, ?_, ?_, ?_, ?_, ?_⟩
  all_goals
    refine (dats m 0 c).arrAt_eq_of_covers _ _ (by decide +kernel) fun t hf y => ?_
    obtain ⟨b0, b1, b2, b3, b4, b5, b6, b7, b8, b9, b10, b11⟩ := blocks m c t
    blk_simp
    simp only [after0_12, after0_13, after0_14, after0_15, after0_16, after0_17, after0_18, after0_19, after0_20,
      b0, b1, b2, b3, b4, b5, b6, b7, b8, b9, b10, b11]
    refine Eq.trans (congrFun ?_ y) (congrArg _ (funext fun a => Fin.ext (whole _ t y a).symm))
    funext j
    frame_out
    try rw [change_eq]
    simp only [k0_pay1, k0_pay2, k0_pay3, k0_pay4, k0_pay5, k0_pay6, k0_pay7, k0_pay8, k0_pay9, shapeCast_self]
    rfl

end Cert.AdamTwoIdeal.Upd

/-! ## The three after -/

namespace Cert.AdamThreeIdeal.Upd

open Cert.AdamThreeIdeal Cert.AdamThreeIdeal.Gen Cert.AdamThreeIdeal.Value AdamStep

variable (m : (ℓ : Loc nD τ sig) → Buf (Elt Ideal) ℓ)

/-- Every block is a whole array. -/
theorem origin : ∀ (w : Fin cfg0.W) (t : Fin cfg0.N), (cfg0.win w).index t = fun _ => 0 := by
  decide +kernel

theorem whole (w : Fin cfg0.W) (t : Fin cfg0.N) (y) (a) : (((cfg0.win w).rect t).emb y a).val = (y a).val :=
  Pipeline.Window.rect_emb_val_of_index_zero _ t a (congrFun (origin w t) a) y

theorem blocks (c : Dev nD) (t : Fin cfg0.N) :
    iblk m c 0 t = m (c.tc.loc main_arg0)
    ∧ iblk m c 1 t = m (c.tc.loc main_arg1)
    ∧ iblk m c 2 t = m (c.tc.loc main_arg2)
    ∧ iblk m c 3 t = m (c.tc.loc main_arg3)
    ∧ iblk m c 4 t = m (c.tc.loc main_arg4)
    ∧ iblk m c 5 t = m (c.tc.loc main_arg5)
    ∧ iblk m c 6 t = m (c.tc.loc main_arg6)
    ∧ iblk m c 7 t = m (c.tc.loc main_arg7)
    ∧ iblk m c 8 t = m (c.tc.loc main_arg8)
    ∧ iblk m c 9 t = m (c.tc.loc main_arg9)
    ∧ iblk m c 10 t = m (c.tc.loc main_arg10)
    ∧ iblk m c 11 t = m (c.tc.loc main_arg11) :=
  ⟨read_whole _ _ (whole 0 t),
    read_whole _ _ (whole 1 t),
    read_whole _ _ (whole 2 t),
    read_whole _ _ (whole 3 t),
    read_whole _ _ (whole 4 t),
    read_whole _ _ (whole 5 t),
    read_whole _ _ (whole 6 t),
    read_whole _ _ (whole 7 t),
    read_whole _ _ (whole 8 t),
    read_whole _ _ (whole 9 t),
    read_whole _ _ (whole 10 t),
    read_whole _ _ (whole 11 t)⟩

/-- The results: of each weight the change, the new first moment and the new second moment. -/
theorem finals (c : Dev nD) :
    (dats m 0 c).arrAt 12 cfg0.N = change (m (c.tc.loc main_arg0)) (m (c.tc.loc main_arg3)) (m (c.tc.loc main_arg6)) (m (c.tc.loc main_arg9))
    ∧ (dats m 0 c).arrAt 13 cfg0.N = change (m (c.tc.loc main_arg1)) (m (c.tc.loc main_arg4)) (m (c.tc.loc main_arg7)) (m (c.tc.loc main_arg10))
    ∧ (dats m 0 c).arrAt 14 cfg0.N = change (m (c.tc.loc main_arg2)) (m (c.tc.loc main_arg5)) (m (c.tc.loc main_arg8)) (m (c.tc.loc main_arg11))
    ∧ (dats m 0 c).arrAt 15 cfg0.N = first (m (c.tc.loc main_arg3)) (m (c.tc.loc main_arg6))
    ∧ (dats m 0 c).arrAt 16 cfg0.N = first (m (c.tc.loc main_arg4)) (m (c.tc.loc main_arg7))
    ∧ (dats m 0 c).arrAt 17 cfg0.N = first (m (c.tc.loc main_arg5)) (m (c.tc.loc main_arg8))
    ∧ (dats m 0 c).arrAt 18 cfg0.N = second (m (c.tc.loc main_arg3)) (m (c.tc.loc main_arg9))
    ∧ (dats m 0 c).arrAt 19 cfg0.N = second (m (c.tc.loc main_arg4)) (m (c.tc.loc main_arg10))
    ∧ (dats m 0 c).arrAt 20 cfg0.N = second (m (c.tc.loc main_arg5)) (m (c.tc.loc main_arg11)) := by
  refine ⟨?_, ?_, ?_, ?_, ?_, ?_, ?_, ?_, ?_⟩
  all_goals
    refine (dats m 0 c).arrAt_eq_of_covers _ _ (by decide +kernel) fun t hf y => ?_
    obtain ⟨b0, b1, b2, b3, b4, b5, b6, b7, b8, b9, b10, b11⟩ := blocks m c t
    blk_simp
    simp only [after0_12, after0_13, after0_14, after0_15, after0_16, after0_17, after0_18, after0_19, after0_20,
      b0, b1, b2, b3, b4, b5, b6, b7, b8, b9, b10, b11]
    refine Eq.trans (congrFun ?_ y) (congrArg _ (funext fun a => Fin.ext (whole _ t y a).symm))
    funext j
    frame_out
    try rw [change_eq]
    simp only [k0_pay1, k0_pay2, k0_pay3, k0_pay4, k0_pay5, k0_pay6, k0_pay7, k0_pay8, k0_pay9, shapeCast_self]
    rfl

end Cert.AdamThreeIdeal.Upd

/-! ## The last two -/

namespace Cert.AdamFourIdeal.Upd

open Cert.AdamFourIdeal Cert.AdamFourIdeal.Gen Cert.AdamFourIdeal.Value AdamStep

variable (m : (ℓ : Loc nD τ sig) → Buf (Elt Ideal) ℓ)

/-- Every block is a whole array. -/
theorem origin : ∀ (w : Fin cfg0.W) (t : Fin cfg0.N), (cfg0.win w).index t = fun _ => 0 := by
  decide +kernel

theorem whole (w : Fin cfg0.W) (t : Fin cfg0.N) (y) (a) : (((cfg0.win w).rect t).emb y a).val = (y a).val :=
  Pipeline.Window.rect_emb_val_of_index_zero _ t a (congrFun (origin w t) a) y

theorem blocks (c : Dev nD) (t : Fin cfg0.N) :
    iblk m c 0 t = m (c.tc.loc main_arg0)
    ∧ iblk m c 1 t = m (c.tc.loc main_arg1)
    ∧ iblk m c 2 t = m (c.tc.loc main_arg2)
    ∧ iblk m c 3 t = m (c.tc.loc main_arg3)
    ∧ iblk m c 4 t = m (c.tc.loc main_arg4)
    ∧ iblk m c 5 t = m (c.tc.loc main_arg5)
    ∧ iblk m c 6 t = m (c.tc.loc main_arg6)
    ∧ iblk m c 7 t = m (c.tc.loc main_arg7) :=
  ⟨read_whole _ _ (whole 0 t),
    read_whole _ _ (whole 1 t),
    read_whole _ _ (whole 2 t),
    read_whole _ _ (whole 3 t),
    read_whole _ _ (whole 4 t),
    read_whole _ _ (whole 5 t),
    read_whole _ _ (whole 6 t),
    read_whole _ _ (whole 7 t)⟩

/-- The results: of each weight the change, the new first moment and the new second moment. -/
theorem finals (c : Dev nD) :
    (dats m 0 c).arrAt 8 cfg0.N = change (m (c.tc.loc main_arg0)) (m (c.tc.loc main_arg2)) (m (c.tc.loc main_arg4)) (m (c.tc.loc main_arg6))
    ∧ (dats m 0 c).arrAt 9 cfg0.N = change (m (c.tc.loc main_arg1)) (m (c.tc.loc main_arg3)) (m (c.tc.loc main_arg5)) (m (c.tc.loc main_arg7))
    ∧ (dats m 0 c).arrAt 10 cfg0.N = first (m (c.tc.loc main_arg2)) (m (c.tc.loc main_arg4))
    ∧ (dats m 0 c).arrAt 11 cfg0.N = first (m (c.tc.loc main_arg3)) (m (c.tc.loc main_arg5))
    ∧ (dats m 0 c).arrAt 12 cfg0.N = second (m (c.tc.loc main_arg2)) (m (c.tc.loc main_arg6))
    ∧ (dats m 0 c).arrAt 13 cfg0.N = second (m (c.tc.loc main_arg3)) (m (c.tc.loc main_arg7)) := by
  refine ⟨?_, ?_, ?_, ?_, ?_, ?_⟩
  all_goals
    refine (dats m 0 c).arrAt_eq_of_covers _ _ (by decide +kernel) fun t hf y => ?_
    obtain ⟨b0, b1, b2, b3, b4, b5, b6, b7⟩ := blocks m c t
    blk_simp
    simp only [after0_8, after0_9, after0_10, after0_11, after0_12, after0_13,
      b0, b1, b2, b3, b4, b5, b6, b7]
    refine Eq.trans (congrFun ?_ y) (congrArg _ (funext fun a => Fin.ext (whole _ t y a).symm))
    funext j
    frame_out
    try rw [change_eq]
    simp only [k0_pay1, k0_pay2, k0_pay3, k0_pay4, k0_pay5, k0_pay6, shapeCast_self]
    rfl

end Cert.AdamFourIdeal.Upd

end

end
-- ==== Proof.lean ====
/- The proof of the claims of this directory. -/
module

public import proofs.«01_k».proof.Defs
public import proofs.«01_k».proof.Proof.Gen.Input
public import proofs.«01_k».proof.Proof.Gen.Input.Frame
public import proofs.«01_k».proof.Proof.Gen.InputIdeal
public import proofs.«01_k».proof.Proof.Gen.InputIdeal.Frame
public import proofs.«01_k».proof.Proof.Gen.InputIdeal.Value
public import proofs.«01_k».proof.Proof.Gen.InputReferenceIdeal
public import proofs.«01_k».proof.Proof.Gen.InputReferenceIdeal.Run
public import proofs.«01_k».proof.Proof.Gen.InputReferenceIdeal.Read
public import proofs.«01_k».proof.Proof.InputValue
public import proofs.«01_k».proof.Proof.Gen.Forward
public import proofs.«01_k».proof.Proof.Gen.Forward.Frame
public import proofs.«01_k».proof.Proof.Gen.ForwardIdeal
public import proofs.«01_k».proof.Proof.Gen.ForwardIdeal.Frame
public import proofs.«01_k».proof.Proof.Gen.ForwardIdeal.Value
public import proofs.«01_k».proof.Proof.Gen.ForwardReferenceIdeal
public import proofs.«01_k».proof.Proof.Gen.ForwardReferenceIdeal.Run
public import proofs.«01_k».proof.Proof.Gen.ForwardReferenceIdeal.Read
public import proofs.«01_k».proof.Proof.Gen.Pre_columns_finite
public import proofs.«01_k».proof.Proof.ForwardResults
public import proofs.«01_k».proof.Proof.Gen.Project
public import proofs.«01_k».proof.Proof.Gen.Project.Frame
public import proofs.«01_k».proof.Proof.Gen.ProjectIdeal
public import proofs.«01_k».proof.Proof.Gen.ProjectIdeal.Frame
public import proofs.«01_k».proof.Proof.Gen.ProjectIdeal.Value
public import proofs.«01_k».proof.Proof.Gen.ProjectReferenceIdeal
public import proofs.«01_k».proof.Proof.Gen.ProjectReferenceIdeal.Run
public import proofs.«01_k».proof.Proof.Gen.ProjectReferenceIdeal.Read
public import proofs.«01_k».proof.Proof.ProjectValue
public import proofs.«01_k».proof.Proof.Gen.NormBackward
public import proofs.«01_k».proof.Proof.Gen.NormBackward.Frame
public import proofs.«01_k».proof.Proof.Gen.NormBackwardIdeal
public import proofs.«01_k».proof.Proof.Gen.NormBackwardIdeal.Frame
public import proofs.«01_k».proof.Proof.Gen.NormBackwardIdeal.Value
public import proofs.«01_k».proof.Proof.Gen.NormBackwardReferenceIdeal
public import proofs.«01_k».proof.Proof.Gen.NormBackwardReferenceIdeal.Run
public import proofs.«01_k».proof.Proof.Gen.NormBackwardReferenceIdeal.Read
public import proofs.«01_k».proof.Proof.Gen.Pre_gradient_finite
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Value
public import proofs.«01_k».proof.Proof.Gen.NormReferenceIdeal
public import proofs.«01_k».proof.Proof.Gen.NormReferenceIdeal.Run
public import proofs.«01_k».proof.Proof.Gen.NormReferenceIdeal.Read
public import proofs.«01_k».proof.Proof.NormValue
public import proofs.«01_k».proof.Proof.AdamValue
public import proofs.«01_k».proof.Proof.Gen.Adam
public import proofs.«01_k».proof.Proof.Gen.Adam.Frame
public import proofs.«01_k».proof.Proof.Gen.AdamIdeal
public import proofs.«01_k».proof.Proof.Gen.AdamIdeal.Frame
public import proofs.«01_k».proof.Proof.Gen.AdamIdeal.Value
public import proofs.«01_k».proof.Proof.Gen.AdamReferenceIdeal
public import proofs.«01_k».proof.Proof.Gen.AdamReferenceIdeal.Run
public import proofs.«01_k».proof.Proof.Gen.AdamReferenceIdeal.Read
public import proofs.«01_k».proof.Proof.Gen.AdamTwo
public import proofs.«01_k».proof.Proof.Gen.AdamTwo.Frame
public import proofs.«01_k».proof.Proof.Gen.AdamTwoIdeal
public import proofs.«01_k».proof.Proof.Gen.AdamTwoIdeal.Frame
public import proofs.«01_k».proof.Proof.Gen.AdamTwoIdeal.Value
public import proofs.«01_k».proof.Proof.Gen.AdamTwoReferenceIdeal
public import proofs.«01_k».proof.Proof.Gen.AdamTwoReferenceIdeal.Run
public import proofs.«01_k».proof.Proof.Gen.AdamTwoReferenceIdeal.Read
public import proofs.«01_k».proof.Proof.Gen.AdamThree
public import proofs.«01_k».proof.Proof.Gen.AdamThree.Frame
public import proofs.«01_k».proof.Proof.Gen.AdamThreeIdeal
public import proofs.«01_k».proof.Proof.Gen.AdamThreeIdeal.Frame
public import proofs.«01_k».proof.Proof.Gen.AdamThreeIdeal.Value
public import proofs.«01_k».proof.Proof.Gen.AdamThreeReferenceIdeal
public import proofs.«01_k».proof.Proof.Gen.AdamThreeReferenceIdeal.Run
public import proofs.«01_k».proof.Proof.Gen.AdamThreeReferenceIdeal.Read
public import proofs.«01_k».proof.Proof.Gen.AdamFour
public import proofs.«01_k».proof.Proof.Gen.AdamFour.Frame
public import proofs.«01_k».proof.Proof.Gen.AdamFourIdeal
public import proofs.«01_k».proof.Proof.Gen.AdamFourIdeal.Frame
public import proofs.«01_k».proof.Proof.Gen.AdamFourIdeal.Value
public import proofs.«01_k».proof.Proof.Gen.AdamFourReferenceIdeal
public import proofs.«01_k».proof.Proof.Gen.AdamFourReferenceIdeal.Run
public import proofs.«01_k».proof.Proof.Gen.AdamFourReferenceIdeal.Read
public import Idealize.ShloMosaic.Adequacy
public import Idealize.ShloMosaic.Init

@[expose] public section

open Idealize.ShloMosaic Idealize.ShloMosaic.TcCoe Idealize.SL.Sem

namespace Cert.Proof

/-- The reference of the gradient through the input projection runs, and leaves its arguments as they were. -/
theorem input_reference_frame : Cert.quiescent_InputReferenceIdeal (hInputReferenceIdeal := Cert.InputReferenceIdeal.Gen.facts) :=
  fun m ρ _ => (θ_run Cert.InputReferenceIdeal.defs _ _).mono
    (fun r h => ⟨fun c => (h c).2.2, sem_eq_zero_of_no_sems (by decide) r.2⟩)
    (Cert.InputReferenceIdeal.Value.run (F := Ideal) m ρ)

/-- The gradient through the input projection: kernel and reference end with the same two arrays. -/
theorem input_value : Cert.algebraic_InputIdeal_InputReferenceIdeal
    (hInputIdeal := Cert.InputIdeal.Gen.facts) (hInputReferenceIdeal := Cert.InputReferenceIdeal.Gen.facts) := by
  intro m g m' g' _ hagree
  refine ⟨_, _, (θ_run Cert.InputIdeal.defs _ _).mono (fun _ h c => ⟨(h c).1.trans (Cert.InputIdeal.Grads.final_input m c),
    (h c).2.1.trans (Cert.InputIdeal.Grads.final_weights m c), (h c).2.2⟩) (Cert.InputIdeal.Value.run_blocks m g), ?_⟩
  refine (θ_run Cert.InputReferenceIdeal.defs _ _).mono (fun _ h c => ⟨(h c).1.trans ?_, (h c).2.1.trans ?_, (h c).2.2⟩)
    (Cert.InputReferenceIdeal.Value.run m' g')
  · rw [(hagree c).1, (hagree c).2.1, (hagree c).2.2.2]
    exact (Cert.InputReferenceIdeal.Read.val_main_v5_eq ..).trans (Cert.InputReferenceIdeal.Grads.input_eq ..)
  · rw [(hagree c).2.1, (hagree c).2.2.1]
    exact (Cert.InputReferenceIdeal.Read.val_main_v6_eq ..).trans (Cert.InputReferenceIdeal.Grads.weights_eq ..)

/-- The reference of the forward kernel, likewise. -/
theorem forward_reference_frame : Cert.quiescent_ForwardReferenceIdeal (hForwardReferenceIdeal := Cert.ForwardReferenceIdeal.Gen.facts) :=
  fun m ρ _ => (θ_run Cert.ForwardReferenceIdeal.defs _ _).mono
    (fun r h => ⟨fun c => (h c).2.2, sem_eq_zero_of_no_sems (by decide) r.2⟩)
    (Cert.ForwardReferenceIdeal.Value.run (F := Ideal) m ρ)

/-- The same, of arguments the precondition holds of. -/
theorem forward_reference_frame_finite : Cert.quiescent_ForwardReferenceIdeal_pre_columns_finite
    (hForwardReferenceIdeal := Cert.ForwardReferenceIdeal.Gen.facts) (hPre_columns_finite := Cert.Pre_columns_finite.Gen.facts) :=
  fun m ρ _ => forward_reference_frame m ρ trivial

/-- The reference of the first projection, likewise. -/
theorem project_reference_frame : Cert.quiescent_ProjectReferenceIdeal (hProjectReferenceIdeal := Cert.ProjectReferenceIdeal.Gen.facts) :=
  fun m ρ _ => (θ_run Cert.ProjectReferenceIdeal.defs _ _).mono
    (fun r h => ⟨fun c => (h c).2, sem_eq_zero_of_no_sems (by decide) r.2⟩)
    (Cert.ProjectReferenceIdeal.Value.run (F := Ideal) m ρ)

/-- The first projection: kernel and reference end with the same array. -/
theorem project_value : Cert.algebraic_ProjectIdeal_ProjectReferenceIdeal
    (hProjectIdeal := Cert.ProjectIdeal.Gen.facts) (hProjectReferenceIdeal := Cert.ProjectReferenceIdeal.Gen.facts) := by
  intro m g m' g' _ hagree
  refine ⟨_, (θ_run Cert.ProjectIdeal.defs _ _).mono (fun _ h c => ⟨(h c).1.trans (Cert.ProjectIdeal.Proj.final_project m c),
    (h c).2⟩) (Cert.ProjectIdeal.Value.run_blocks m g), ?_⟩
  refine (θ_run Cert.ProjectReferenceIdeal.defs _ _).mono (fun _ h c => ⟨(h c).1.trans ?_, (h c).2⟩)
    (Cert.ProjectReferenceIdeal.Value.run m' g')
  rw [(hagree c).1, (hagree c).2.1, (hagree c).2.2]
  exact (Cert.ProjectReferenceIdeal.Read.val_main_v3_eq ..).trans (Cert.ProjectReferenceIdeal.Proj.project_eq ..)

/-- A layer forward with the next layer's projection: from finite columns and sinks, kernel and reference end with the same two arrays. -/
theorem forward_value : Cert.algebraic_ForwardIdeal_ForwardReferenceIdeal_pre_columns_finite (hForwardIdeal := Cert.ForwardIdeal.Gen.facts)
    (hForwardReferenceIdeal := Cert.ForwardReferenceIdeal.Gen.facts) (hPre_columns_finite := Cert.Pre_columns_finite.Gen.facts) := by
  haveI := Cert.Pre_columns_finite.Gen.facts
  intro m g m' g' hpre hagree
  have hH := fun c => Cert.ForwardReferenceIdeal.Results.columns_real _ _ _ _ _ _ _ _ _ _ _ _ _ _ _ (hpre c).1
  have hS := fun c => Cert.ForwardReferenceIdeal.Results.sinks_real _ _ _ _ _ _ _ _ _ _ _ _ _ _ _ (hpre c).2
  refine ⟨_, _, (θ_run Cert.ForwardIdeal.defs _ _).mono (fun _ h c => ⟨(h c).1.trans (Cert.ForwardIdeal.Results.final_layer m c (hH c) (hS c)),
    (h c).2.1.trans (Cert.ForwardIdeal.Results.final_projected m c (hH c) (hS c)), (h c).2.2⟩) (Cert.ForwardIdeal.Value.run_blocks m g), ?_⟩
  refine (θ_run Cert.ForwardReferenceIdeal.defs _ _).mono (fun _ h c => ⟨(h c).1.trans ?_, (h c).2.1.trans ?_, (h c).2.2⟩)
    (Cert.ForwardReferenceIdeal.Value.run m' g')
  · obtain ⟨e0, e1, e2, e3, e4, e5, e6, e7, e8, e9, e10, e11, e12, e13, e14⟩ := hagree c
    refine (Cert.ForwardReferenceIdeal.Read.val_main_v199_eq ..).trans (?_ : Cert.ForwardReferenceIdeal.Read.val_main_v199 (F := Ideal)
      (m' (c.tc.loc Cert.ForwardReferenceIdeal.main_arg0)) (m' (c.tc.loc Cert.ForwardReferenceIdeal.main_arg1))
      (m' (c.tc.loc Cert.ForwardReferenceIdeal.main_arg2)) (m' (c.tc.loc Cert.ForwardReferenceIdeal.main_arg3))
      (m' (c.tc.loc Cert.ForwardReferenceIdeal.main_arg4)) (m' (c.tc.loc Cert.ForwardReferenceIdeal.main_arg5))
      (m' (c.tc.loc Cert.ForwardReferenceIdeal.main_arg6)) (m' (c.tc.loc Cert.ForwardReferenceIdeal.main_arg7))
      (m' (c.tc.loc Cert.ForwardReferenceIdeal.main_arg8)) (m' (c.tc.loc Cert.ForwardReferenceIdeal.main_arg9))
      (m' (c.tc.loc Cert.ForwardReferenceIdeal.main_arg10)) (m' (c.tc.loc Cert.ForwardReferenceIdeal.main_arg11))
      (m' (c.tc.loc Cert.ForwardReferenceIdeal.main_arg12)) = _)
    rw [e0, e1, e2, e3, e4, e5, e6, e7, e8, e9, e10, e11, e12]
    exact (Cert.ForwardReferenceIdeal.Results.first_eq _ _ _ _ _ _ _ _ _ _ _ _ _ (hH c) (hS c))
  · obtain ⟨e0, e1, e2, e3, e4, e5, e6, e7, e8, e9, e10, e11, e12, e13, e14⟩ := hagree c
    refine (Cert.ForwardReferenceIdeal.Read.val_main_v203_eq ..).trans (?_ : Cert.ForwardReferenceIdeal.Read.val_main_v203 (F := Ideal)
      (m' (c.tc.loc Cert.ForwardReferenceIdeal.main_arg0)) (m' (c.tc.loc Cert.ForwardReferenceIdeal.main_arg1))
      (m' (c.tc.loc Cert.ForwardReferenceIdeal.main_arg2)) (m' (c.tc.loc Cert.ForwardReferenceIdeal.main_arg3))
      (m' (c.tc.loc Cert.ForwardReferenceIdeal.main_arg4)) (m' (c.tc.loc Cert.ForwardReferenceIdeal.main_arg5))
      (m' (c.tc.loc Cert.ForwardReferenceIdeal.main_arg6)) (m' (c.tc.loc Cert.ForwardReferenceIdeal.main_arg7))
      (m' (c.tc.loc Cert.ForwardReferenceIdeal.main_arg8)) (m' (c.tc.loc Cert.ForwardReferenceIdeal.main_arg9))
      (m' (c.tc.loc Cert.ForwardReferenceIdeal.main_arg10)) (m' (c.tc.loc Cert.ForwardReferenceIdeal.main_arg11))
      (m' (c.tc.loc Cert.ForwardReferenceIdeal.main_arg12)) (m' (c.tc.loc Cert.ForwardReferenceIdeal.main_arg13))
      (m' (c.tc.loc Cert.ForwardReferenceIdeal.main_arg14)) = _)
    rw [e0, e1, e2, e3, e4, e5, e6, e7, e8, e9, e10, e11, e12, e13, e14]
    refine ((Cert.ForwardReferenceIdeal.Results.second_eq ..).trans ?_)
    rw [Cert.ForwardReferenceIdeal.Results.first_eq _ _ _ _ _ _ _ _ _ _ _ _ _ (hH c) (hS c)]

/-- The constants the forward kernel's idealization names. -/
theorem forward_preserves : Cert.preserves_Forward_ForwardIdeal :=
  ⟨IdealRules.named_const.statement Cert.ForwardIdeal.κ "mask" .f32 0xFF7F0000#32 ⊥ rfl,
    IdealRules.named_const.statement Cert.ForwardIdeal.κ "gelu_ca" .f32 0x3D122279#32 ((80338380498831 / 2251799813685248 : ℝ) : EReal) rfl⟩

/-- The reference of the norm's gradient runs, and leaves its arguments as they were. -/
theorem norm_backward_reference_frame : Cert.quiescent_NormBackwardReferenceIdeal (hNormBackwardReferenceIdeal := Cert.NormBackwardReferenceIdeal.Gen.facts) :=
  fun m ρ _ => (θ_run Cert.NormBackwardReferenceIdeal.defs _ _).mono
    (fun r h => ⟨fun c => (h c).2.2.2, sem_eq_zero_of_no_sems (by decide) r.2⟩)
    (Cert.NormBackwardReferenceIdeal.Value.run (F := Ideal) m ρ)

/-- The norm's gradient: from finite `dy` and `g`, kernel and reference end with the same three arrays. -/
theorem norm_backward_value : Cert.algebraic_NormBackwardIdeal_NormBackwardReferenceIdeal_pre_gradient_finite
    (hNormBackwardIdeal := Cert.NormBackwardIdeal.Gen.facts) (hNormBackwardReferenceIdeal := Cert.NormBackwardReferenceIdeal.Gen.facts)
    (hPre_gradient_finite := Cert.Pre_gradient_finite.Gen.facts) := by
  haveI := Cert.Pre_gradient_finite.Gen.facts
  intro m g m' g' hpre hagree
  have hdy := fun c j => Cert.ForwardReferenceIdeal.Results.real_of_below _ (congrFun (hpre c).1 j)
  have hg := fun c j => Cert.ForwardReferenceIdeal.Results.real_of_below _ (congrFun (hpre c).2 j)
  refine ⟨_, _, _, (θ_run Cert.NormBackwardIdeal.defs _ _).mono (fun _ h c => ⟨(h c).1.trans (Cert.NormBackwardIdeal.Bwd.final_input m c),
    (h c).2.1.trans (Cert.NormBackwardIdeal.Bwd.final_scale m c), (h c).2.2.1.trans (Cert.NormBackwardIdeal.Bwd.final_shift m c), (h c).2.2.2⟩)
    (Cert.NormBackwardIdeal.Value.run_blocks m g), ?_⟩
  refine (θ_run Cert.NormBackwardReferenceIdeal.defs _ _).mono (fun _ h c => ⟨(h c).1.trans ?_, (h c).2.1.trans ?_, (h c).2.2.1.trans ?_, (h c).2.2.2⟩)
    (Cert.NormBackwardReferenceIdeal.Value.run m' g')
  · refine (Cert.NormBackwardReferenceIdeal.Read.val_main_v63_eq m' c).trans ?_
    rw [(hagree c).1, (hagree c).2.1, (hagree c).2.2]
    exact Cert.NormBackwardReferenceIdeal.Bwd.input_eq _ _ _ (hdy c) (hg c)
  · rw [(hagree c).1, (hagree c).2.1]
    exact (Cert.NormBackwardReferenceIdeal.Read.val_main_v64_eq ..).trans (Cert.NormBackwardReferenceIdeal.Bwd.scale_eq ..)
  · rw [(hagree c).2.1]
    exact (Cert.NormBackwardReferenceIdeal.Read.val_main_v65_eq ..).trans (Cert.NormBackwardReferenceIdeal.Bwd.shift_eq ..)

/-- The reference of the norm runs, and leaves its arguments as they were. -/
theorem norm_reference_frame : Cert.quiescent_NormReferenceIdeal (hNormReferenceIdeal := Cert.NormReferenceIdeal.Gen.facts) :=
  fun m ρ _ => (θ_run Cert.NormReferenceIdeal.defs _ _).mono
    (fun r h => ⟨fun c => (h c).2, sem_eq_zero_of_no_sems (by decide) r.2⟩)
    (Cert.NormReferenceIdeal.Value.run (F := Ideal) m ρ)

/-- The norm: kernel and reference end with the same array. -/
theorem norm_value : Cert.algebraic_NormIdeal_NormReferenceIdeal
    (hNormIdeal := Cert.NormIdeal.Gen.facts) (hNormReferenceIdeal := Cert.NormReferenceIdeal.Gen.facts) := by
  intro m g m' g' _ hagree
  refine ⟨_, (θ_run Cert.NormIdeal.defs _ _).mono (fun _ h c => ⟨(h c).1.trans (Cert.NormIdeal.Fwd.final m c),
    (h c).2⟩) (Cert.NormIdeal.Value.run_blocks m g), ?_⟩
  refine (θ_run Cert.NormReferenceIdeal.defs _ _).mono (fun _ h c => ⟨(h c).1.trans ?_, (h c).2⟩)
    (Cert.NormReferenceIdeal.Value.run m' g')
  rw [(hagree c).1, (hagree c).2.1, (hagree c).2.2]
  exact (Cert.NormReferenceIdeal.Read.val_main_v23_eq ..).trans (Cert.NormReferenceIdeal.Fwd.normed_eq ..)

/-- The reference of AdamW on the first three small weights runs, and leaves its arguments as they were. -/
theorem adam_reference_frame : Cert.quiescent_AdamReferenceIdeal (hAdamReferenceIdeal := Cert.AdamReferenceIdeal.Gen.facts) :=
  fun m ρ _ => (θ_run Cert.AdamReferenceIdeal.defs _ _).mono
    (fun r h => ⟨fun c => (h c).2.2.2.2.2.2.2.2.2, sem_eq_zero_of_no_sems (by decide) r.2⟩)
    (Cert.AdamReferenceIdeal.Value.run (F := Ideal) m ρ)

/-- The two named constants: what the moments are divided by, inverted. -/
theorem adam_preserves : Cert.preserves_Adam_AdamIdeal :=
  ⟨IdealRules.named_const.statement Cert.AdamIdeal.κ "first_unbias" .f32 0x3FC48605#32 ((8388608 / 5463681 : ℝ) : EReal) rfl,
    IdealRules.named_const.statement Cert.AdamIdeal.κ "second_unbias" .f32 0x42C8E6D3#32 ((268435456 / 2672307 : ℝ) : EReal) rfl⟩

/-- AdamW on the first three small weights: kernel and reference end with the same changes and moments. -/
theorem adam_value : Cert.algebraic_AdamIdeal_AdamReferenceIdeal
    (hAdamIdeal := Cert.AdamIdeal.Gen.facts) (hAdamReferenceIdeal := Cert.AdamReferenceIdeal.Gen.facts) := by
  intro m g m' g' _ hagree
  refine ⟨_, _, _, _, _, _, _, _, _, (θ_run Cert.AdamIdeal.defs _ _).mono (fun _ h c =>
    have f := Cert.AdamIdeal.Upd.finals m c
    ⟨(h c).1.trans f.1, (h c).2.1.trans f.2.1, (h c).2.2.1.trans f.2.2.1, (h c).2.2.2.1.trans f.2.2.2.1, (h c).2.2.2.2.1.trans f.2.2.2.2.1, (h c).2.2.2.2.2.1.trans f.2.2.2.2.2.1, (h c).2.2.2.2.2.2.1.trans f.2.2.2.2.2.2.1, (h c).2.2.2.2.2.2.2.1.trans f.2.2.2.2.2.2.2.1, (h c).2.2.2.2.2.2.2.2.1.trans f.2.2.2.2.2.2.2.2, (h c).2.2.2.2.2.2.2.2.2⟩)
    (Cert.AdamIdeal.Value.run_blocks m g), ?_⟩
  refine (θ_run Cert.AdamReferenceIdeal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩)
    (Cert.AdamReferenceIdeal.Value.run m' g')
  all_goals
    simp only [hagree c]
    first | rfl | exact (AdamStep.row_broadcast _ _).trans rfl

/-- The reference of AdamW on the next three runs, and leaves its arguments as they were. -/
theorem adam_two_reference_frame : Cert.quiescent_AdamTwoReferenceIdeal (hAdamTwoReferenceIdeal := Cert.AdamTwoReferenceIdeal.Gen.facts) :=
  fun m ρ _ => (θ_run Cert.AdamTwoReferenceIdeal.defs _ _).mono
    (fun r h => ⟨fun c => (h c).2.2.2.2.2.2.2.2.2, sem_eq_zero_of_no_sems (by decide) r.2⟩)
    (Cert.AdamTwoReferenceIdeal.Value.run (F := Ideal) m ρ)

/-- The two named constants: what the moments are divided by, inverted. -/
theorem adam_two_preserves : Cert.preserves_AdamTwo_AdamTwoIdeal :=
  ⟨IdealRules.named_const.statement Cert.AdamTwoIdeal.κ "first_unbias" .f32 0x3FC48605#32 ((8388608 / 5463681 : ℝ) : EReal) rfl,
    IdealRules.named_const.statement Cert.AdamTwoIdeal.κ "second_unbias" .f32 0x42C8E6D3#32 ((268435456 / 2672307 : ℝ) : EReal) rfl⟩

/-- AdamW on the next three: kernel and reference end with the same changes and moments. -/
theorem adam_two_value : Cert.algebraic_AdamTwoIdeal_AdamTwoReferenceIdeal
    (hAdamTwoIdeal := Cert.AdamTwoIdeal.Gen.facts) (hAdamTwoReferenceIdeal := Cert.AdamTwoReferenceIdeal.Gen.facts) := by
  intro m g m' g' _ hagree
  refine ⟨_, _, _, _, _, _, _, _, _, (θ_run Cert.AdamTwoIdeal.defs _ _).mono (fun _ h c =>
    have f := Cert.AdamTwoIdeal.Upd.finals m c
    ⟨(h c).1.trans f.1, (h c).2.1.trans f.2.1, (h c).2.2.1.trans f.2.2.1, (h c).2.2.2.1.trans f.2.2.2.1, (h c).2.2.2.2.1.trans f.2.2.2.2.1, (h c).2.2.2.2.2.1.trans f.2.2.2.2.2.1, (h c).2.2.2.2.2.2.1.trans f.2.2.2.2.2.2.1, (h c).2.2.2.2.2.2.2.1.trans f.2.2.2.2.2.2.2.1, (h c).2.2.2.2.2.2.2.2.1.trans f.2.2.2.2.2.2.2.2, (h c).2.2.2.2.2.2.2.2.2⟩)
    (Cert.AdamTwoIdeal.Value.run_blocks m g), ?_⟩
  refine (θ_run Cert.AdamTwoReferenceIdeal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩)
    (Cert.AdamTwoReferenceIdeal.Value.run m' g')
  all_goals
    simp only [hagree c]
    rfl

/-- The reference of AdamW on the three after runs, and leaves its arguments as they were. -/
theorem adam_three_reference_frame : Cert.quiescent_AdamThreeReferenceIdeal (hAdamThreeReferenceIdeal := Cert.AdamThreeReferenceIdeal.Gen.facts) :=
  fun m ρ _ => (θ_run Cert.AdamThreeReferenceIdeal.defs _ _).mono
    (fun r h => ⟨fun c => (h c).2.2.2.2.2.2.2.2.2, sem_eq_zero_of_no_sems (by decide) r.2⟩)
    (Cert.AdamThreeReferenceIdeal.Value.run (F := Ideal) m ρ)

/-- The two named constants: what the moments are divided by, inverted. -/
theorem adam_three_preserves : Cert.preserves_AdamThree_AdamThreeIdeal :=
  ⟨IdealRules.named_const.statement Cert.AdamThreeIdeal.κ "first_unbias" .f32 0x3FC48605#32 ((8388608 / 5463681 : ℝ) : EReal) rfl,
    IdealRules.named_const.statement Cert.AdamThreeIdeal.κ "second_unbias" .f32 0x42C8E6D3#32 ((268435456 / 2672307 : ℝ) : EReal) rfl⟩

/-- AdamW on the three after: kernel and reference end with the same changes and moments. -/
theorem adam_three_value : Cert.algebraic_AdamThreeIdeal_AdamThreeReferenceIdeal
    (hAdamThreeIdeal := Cert.AdamThreeIdeal.Gen.facts) (hAdamThreeReferenceIdeal := Cert.AdamThreeReferenceIdeal.Gen.facts) := by
  intro m g m' g' _ hagree
  refine ⟨_, _, _, _, _, _, _, _, _, (θ_run Cert.AdamThreeIdeal.defs _ _).mono (fun _ h c =>
    have f := Cert.AdamThreeIdeal.Upd.finals m c
    ⟨(h c).1.trans f.1, (h c).2.1.trans f.2.1, (h c).2.2.1.trans f.2.2.1, (h c).2.2.2.1.trans f.2.2.2.1, (h c).2.2.2.2.1.trans f.2.2.2.2.1, (h c).2.2.2.2.2.1.trans f.2.2.2.2.2.1, (h c).2.2.2.2.2.2.1.trans f.2.2.2.2.2.2.1, (h c).2.2.2.2.2.2.2.1.trans f.2.2.2.2.2.2.2.1, (h c).2.2.2.2.2.2.2.2.1.trans f.2.2.2.2.2.2.2.2, (h c).2.2.2.2.2.2.2.2.2⟩)
    (Cert.AdamThreeIdeal.Value.run_blocks m g), ?_⟩
  refine (θ_run Cert.AdamThreeReferenceIdeal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩)
    (Cert.AdamThreeReferenceIdeal.Value.run m' g')
  all_goals
    simp only [hagree c]
    rfl

/-- The reference of AdamW on the last two runs, and leaves its arguments as they were. -/
theorem adam_four_reference_frame : Cert.quiescent_AdamFourReferenceIdeal (hAdamFourReferenceIdeal := Cert.AdamFourReferenceIdeal.Gen.facts) :=
  fun m ρ _ => (θ_run Cert.AdamFourReferenceIdeal.defs _ _).mono
    (fun r h => ⟨fun c => (h c).2.2.2.2.2.2, sem_eq_zero_of_no_sems (by decide) r.2⟩)
    (Cert.AdamFourReferenceIdeal.Value.run (F := Ideal) m ρ)

/-- The two named constants: what the moments are divided by, inverted. -/
theorem adam_four_preserves : Cert.preserves_AdamFour_AdamFourIdeal :=
  ⟨IdealRules.named_const.statement Cert.AdamFourIdeal.κ "first_unbias" .f32 0x3FC48605#32 ((8388608 / 5463681 : ℝ) : EReal) rfl,
    IdealRules.named_const.statement Cert.AdamFourIdeal.κ "second_unbias" .f32 0x42C8E6D3#32 ((268435456 / 2672307 : ℝ) : EReal) rfl⟩

/-- AdamW on the last two: kernel and reference end with the same changes and moments. -/
theorem adam_four_value : Cert.algebraic_AdamFourIdeal_AdamFourReferenceIdeal
    (hAdamFourIdeal := Cert.AdamFourIdeal.Gen.facts) (hAdamFourReferenceIdeal := Cert.AdamFourReferenceIdeal.Gen.facts) := by
  intro m g m' g' _ hagree
  refine ⟨_, _, _, _, _, _, (θ_run Cert.AdamFourIdeal.defs _ _).mono (fun _ h c =>
    have f := Cert.AdamFourIdeal.Upd.finals m c
    ⟨(h c).1.trans f.1, (h c).2.1.trans f.2.1, (h c).2.2.1.trans f.2.2.1, (h c).2.2.2.1.trans f.2.2.2.1, (h c).2.2.2.2.1.trans f.2.2.2.2.1, (h c).2.2.2.2.2.1.trans f.2.2.2.2.2, (h c).2.2.2.2.2.2⟩)
    (Cert.AdamFourIdeal.Value.run_blocks m g), ?_⟩
  refine (θ_run Cert.AdamFourReferenceIdeal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩)
    (Cert.AdamFourReferenceIdeal.Value.run m' g')
  all_goals
    simp only [hagree c]
    rfl

end Cert.Proof

/-- Everything claimed of this directory. -/
theorem Cert.Proof.claim : Cert.Claim :=
  ⟨Cert.Input.Gen.facts, Cert.InputIdeal.Gen.facts, Cert.InputReferenceIdeal.Gen.facts,
    Cert.Forward.Gen.facts, Cert.ForwardIdeal.Gen.facts, Cert.ForwardReferenceIdeal.Gen.facts,
    Cert.Project.Gen.facts, Cert.ProjectIdeal.Gen.facts, Cert.ProjectReferenceIdeal.Gen.facts,
    Cert.NormBackward.Gen.facts, Cert.NormBackwardIdeal.Gen.facts, Cert.NormBackwardReferenceIdeal.Gen.facts,
    Cert.Norm.Gen.facts, Cert.NormIdeal.Gen.facts, Cert.NormReferenceIdeal.Gen.facts,
    Cert.Adam.Gen.facts, Cert.AdamIdeal.Gen.facts, Cert.AdamReferenceIdeal.Gen.facts,
    Cert.AdamTwo.Gen.facts, Cert.AdamTwoIdeal.Gen.facts, Cert.AdamTwoReferenceIdeal.Gen.facts,
    Cert.AdamThree.Gen.facts, Cert.AdamThreeIdeal.Gen.facts, Cert.AdamThreeReferenceIdeal.Gen.facts,
    Cert.AdamFour.Gen.facts, Cert.AdamFourIdeal.Gen.facts, Cert.AdamFourReferenceIdeal.Gen.facts,
    Cert.Pre_columns_finite.Gen.facts, Cert.Pre_gradient_finite.Gen.facts,
    fun m ρ _ => Cert.Input.Gen.frame m ρ, fun m ρ _ => Cert.InputIdeal.Gen.frame m ρ, Cert.Proof.input_reference_frame,
    fun m ρ _ => Cert.Forward.Gen.frame m ρ, fun m ρ _ => Cert.ForwardIdeal.Gen.frame m ρ, fun m ρ _ => Cert.ForwardIdeal.Gen.frame m ρ,
    Cert.Proof.forward_reference_frame, Cert.Proof.forward_reference_frame_finite,
    fun m ρ _ => Cert.Project.Gen.frame m ρ, fun m ρ _ => Cert.ProjectIdeal.Gen.frame m ρ, Cert.Proof.project_reference_frame,
    fun m ρ _ => Cert.NormBackward.Gen.frame m ρ, fun m ρ _ => Cert.NormBackwardIdeal.Gen.frame m ρ, fun m ρ _ => Cert.NormBackwardIdeal.Gen.frame m ρ,
    Cert.Proof.norm_backward_reference_frame, fun m ρ _ => Cert.Proof.norm_backward_reference_frame m ρ trivial,
    fun m ρ _ => Cert.Norm.Gen.frame m ρ, fun m ρ _ => Cert.NormIdeal.Gen.frame m ρ, Cert.Proof.norm_reference_frame,
    fun m ρ _ => Cert.Adam.Gen.frame m ρ, fun m ρ _ => Cert.AdamIdeal.Gen.frame m ρ, Cert.Proof.adam_reference_frame,
    fun m ρ _ => Cert.AdamTwo.Gen.frame m ρ, fun m ρ _ => Cert.AdamTwoIdeal.Gen.frame m ρ, Cert.Proof.adam_two_reference_frame,
    fun m ρ _ => Cert.AdamThree.Gen.frame m ρ, fun m ρ _ => Cert.AdamThreeIdeal.Gen.frame m ρ, Cert.Proof.adam_three_reference_frame,
    fun m ρ _ => Cert.AdamFour.Gen.frame m ρ, fun m ρ _ => Cert.AdamFourIdeal.Gen.frame m ρ, Cert.Proof.adam_four_reference_frame,
    trivial, Cert.Proof.input_value, Cert.Proof.forward_preserves, Cert.Proof.forward_value, trivial, Cert.Proof.project_value,
    trivial, Cert.Proof.norm_backward_value, trivial, Cert.Proof.norm_value,
    Cert.Proof.adam_preserves, Cert.Proof.adam_value,
    Cert.Proof.adam_two_preserves, Cert.Proof.adam_two_value,
    Cert.Proof.adam_three_preserves, Cert.Proof.adam_three_value,
    Cert.Proof.adam_four_preserves, Cert.Proof.adam_four_value⟩

end
